-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInReferenceIdeal (m : (ℓ : Loc Cert.GwInReferenceIdeal.nD Cert.GwInReferenceIdeal.τ Cert.GwInReferenceIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHReferenceIdeal (m : (ℓ : Loc Cert.DHReferenceIdeal.nD Cert.DHReferenceIdeal.τ Cert.DHReferenceIdeal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_GwOutReferenceIdeal (m : (ℓ : Loc Cert.GwOutReferenceIdeal.nD Cert.GwOutReferenceIdeal.τ Cert.GwOutReferenceIdeal.sig) → Buf (Elt Ideal) ℓ) : Prop :=
  True

def Pre_DY (m : (ℓ : Loc Cert.DY.nD Cert.DY.τ Cert.DY.sig) → Buf (Elt Bits) ℓ) : Prop :=
  True

def Pre_DYIdeal (m : (ℓ : Loc Cert.DYIdeal.nD Cert.DYIdeal.τ Cert.DYIdeal.sig) → Buf (Elt Ideal) ℓ) : Prop :=
  True

def Pre_DYReferenceIdeal (m : (ℓ : Loc Cert.DYReferenceIdeal.nD Cert.DYReferenceIdeal.τ Cert.DYReferenceIdeal.sig) → Buf (Elt Ideal) ℓ) : Prop :=
  True

def Pre_ProjF (m : (ℓ : Loc Cert.ProjF.nD Cert.ProjF.τ Cert.ProjF.sig) → Buf (Elt Bits) ℓ) : Prop :=
  True

def Pre_ProjFIdeal (m : (ℓ : Loc Cert.ProjFIdeal.nD Cert.ProjFIdeal.τ Cert.ProjFIdeal.sig) → Buf (Elt Ideal) ℓ) : Prop :=
  True

def Pre_ProjFReferenceIdeal (m : (ℓ : Loc Cert.ProjFReferenceIdeal.nD Cert.ProjFReferenceIdeal.τ Cert.ProjFReferenceIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBReferenceIdeal (m : (ℓ : Loc Cert.ProjBReferenceIdeal.nD Cert.ProjBReferenceIdeal.τ Cert.ProjBReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdReferenceIdeal (m : (ℓ : Loc Cert.RmsBwdReferenceIdeal.nD Cert.RmsBwdReferenceIdeal.τ Cert.RmsBwdReferenceIdeal.sig) → Buf (Elt Ideal) ℓ) : Prop :=
  True

def Pre_MemKvBwd (m : (ℓ : Loc Cert.MemKvBwd.nD Cert.MemKvBwd.τ Cert.MemKvBwd.sig) → Buf (Elt Bits) ℓ) : Prop :=
  True

def Pre_MemKvBwdIdeal (m : (ℓ : Loc Cert.MemKvBwdIdeal.nD Cert.MemKvBwdIdeal.τ Cert.MemKvBwdIdeal.sig) → Buf (Elt Ideal) ℓ) : Prop :=
  True

def Pre_MemKvBwdReferenceIdeal (m : (ℓ : Loc Cert.MemKvBwdReferenceIdeal.nD Cert.MemKvBwdReferenceIdeal.τ Cert.MemKvBwdReferenceIdeal.sig) → Buf (Elt Ideal) ℓ) : Prop :=
  True

def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemBwdIdeal_finite_mem [hPre_finite_mem : Cert.Pre_finite_mem.Facts] (m : (ℓ : Loc Cert.MemBwdIdeal.nD Cert.MemBwdIdeal.τ Cert.MemBwdIdeal.sig) → Buf (Elt Ideal) ℓ) : Prop :=
  ∀ c : Dev Cert.MemBwdIdeal.nD,
    (Cert.Pre_finite_mem.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2)) (m ((c.tc : Thread Cert.MemBwdIdeal.nD Cert.MemBwdIdeal.τ).loc Cert.MemBwdIdeal.main_arg3))) = (fun _ => 1#1)

def Pre_MemBwdReferenceIdeal (m : (ℓ : Loc Cert.MemBwdReferenceIdeal.nD Cert.MemBwdReferenceIdeal.τ Cert.MemBwdReferenceIdeal.sig) → Buf (Elt Ideal) ℓ) : Prop :=
  True

def Pre_MemBwdReferenceIdeal_finite_mem [hPre_finite_mem : Cert.Pre_finite_mem.Facts] (m : (ℓ : Loc Cert.MemBwdReferenceIdeal.nD Cert.MemBwdReferenceIdeal.τ Cert.MemBwdReferenceIdeal.sig) → Buf (Elt Ideal) ℓ) : Prop :=
  ∀ c : Dev Cert.MemBwdReferenceIdeal.nD,
    (Cert.Pre_finite_mem.fn (F := Ideal) (m ((c.tc : Thread Cert.MemBwdReferenceIdeal.nD Cert.MemBwdReferenceIdeal.τ).loc Cert.MemBwdReferenceIdeal.main_arg0)) (m ((c.tc : Thread Cert.MemBwdReferenceIdeal.nD Cert.MemBwdReferenceIdeal.τ).loc Cert.MemBwdReferenceIdeal.main_arg1)) (m ((c.tc : Thread Cert.MemBwdReferenceIdeal.nD Cert.MemBwdReferenceIdeal.τ).loc Cert.MemBwdReferenceIdeal.main_arg2)) (m ((c.tc : Thread Cert.MemBwdReferenceIdeal.nD Cert.MemBwdReferenceIdeal.τ).loc Cert.MemBwdReferenceIdeal.main_arg3))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_prep [hPre_finite_prep : Cert.Pre_finite_prep.Facts] (m : (ℓ : Loc Cert.PrepIdeal.nD Cert.PrepIdeal.τ Cert.PrepIdeal.sig) → Buf (Elt Ideal) ℓ) : Prop :=
  ∀ c : Dev Cert.PrepIdeal.nD,
    (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))) = (fun _ => 1#1)

def Pre_PrepReferenceIdeal (m : (ℓ : Loc Cert.PrepReferenceIdeal.nD Cert.PrepReferenceIdeal.τ Cert.PrepReferenceIdeal.sig) → Buf (Elt Ideal) ℓ) : Prop :=
  True

def Pre_PrepReferenceIdeal_finite_prep [hPre_finite_prep : Cert.Pre_finite_prep.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_finite_prep.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5))) = (fun _ => 1#1)

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdReferenceIdeal (m : (ℓ : Loc Cert.MemFwdReferenceIdeal.nD Cert.MemFwdReferenceIdeal.τ Cert.MemFwdReferenceIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdReferenceIdeal (m : (ℓ : Loc Cert.RmsFwdReferenceIdeal.nD Cert.RmsFwdReferenceIdeal.τ Cert.RmsFwdReferenceIdeal.sig) → Buf (Elt Ideal) ℓ) : Prop :=
  True

def Pre_MemKvFwd (m : (ℓ : Loc Cert.MemKvFwd.nD Cert.MemKvFwd.τ Cert.MemKvFwd.sig) → Buf (Elt Bits) ℓ) : Prop :=
  True

def Pre_MemKvFwdIdeal (m : (ℓ : Loc Cert.MemKvFwdIdeal.nD Cert.MemKvFwdIdeal.τ Cert.MemKvFwdIdeal.sig) → Buf (Elt Ideal) ℓ) : Prop :=
  True

def Pre_MemKvFwdReferenceIdeal (m : (ℓ : Loc Cert.MemKvFwdReferenceIdeal.nD Cert.MemKvFwdReferenceIdeal.τ Cert.MemKvFwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_GwInReferenceIdeal [hGwInReferenceIdeal : Cert.GwInReferenceIdeal.Facts] : Prop :=
  ∀ (m : (ℓ : Loc Cert.GwInReferenceIdeal.nD Cert.GwInReferenceIdeal.τ Cert.GwInReferenceIdeal.sig) → Buf (Elt Ideal) ℓ) (g : Dev Cert.GwInReferenceIdeal.nD → PrngReg), Pre_GwInReferenceIdeal m →
    θ_run (Cert.GwInReferenceIdeal.defs (F := Ideal)) (onTc (τ := Cert.GwInReferenceIdeal.τ) (Cert.GwInReferenceIdeal.main (F := Ideal))) ⟨m, fun _ => 0, g⟩ (fun r => (∀ c : Dev Cert.GwInReferenceIdeal.nD,
      r.2.mem ((c.tc : Thread Cert.GwInReferenceIdeal.nD Cert.GwInReferenceIdeal.τ).loc Cert.GwInReferenceIdeal.main_arg0) = m ((c.tc : Thread Cert.GwInReferenceIdeal.nD Cert.GwInReferenceIdeal.τ).loc Cert.GwInReferenceIdeal.main_arg0)
      ∧ r.2.mem ((c.tc : Thread Cert.GwInReferenceIdeal.nD Cert.GwInReferenceIdeal.τ).loc Cert.GwInReferenceIdeal.main_arg1) = m ((c.tc : Thread Cert.GwInReferenceIdeal.nD Cert.GwInReferenceIdeal.τ).loc Cert.GwInReferenceIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1)
      ∧ r.2.mem ((c.tc : Thread Cert.DH.nD Cert.DH.τ).loc Cert.DH.main_arg2) = m ((c.tc : Thread Cert.DH.nD Cert.DH.τ).loc Cert.DH.main_arg2))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
      ∧ r.2.mem ((c.tc : Thread Cert.DHIdeal.nD Cert.DHIdeal.τ).loc Cert.DHIdeal.main_arg2) = m ((c.tc : Thread Cert.DHIdeal.nD Cert.DHIdeal.τ).loc Cert.DHIdeal.main_arg2))
      ∧ r.2.sem = fun _ => 0)

def quiescent_DHReferenceIdeal [hDHReferenceIdeal : Cert.DHReferenceIdeal.Facts] : Prop :=
  ∀ (m : (ℓ : Loc Cert.DHReferenceIdeal.nD Cert.DHReferenceIdeal.τ Cert.DHReferenceIdeal.sig) → Buf (Elt Ideal) ℓ) (g : Dev Cert.DHReferenceIdeal.nD → PrngReg), Pre_DHReferenceIdeal m →
    θ_run (Cert.DHReferenceIdeal.defs (F := Ideal)) (onTc (τ := Cert.DHReferenceIdeal.τ) (Cert.DHReferenceIdeal.main (F := Ideal))) ⟨m, fun _ => 0, g⟩ (fun r => (∀ c : Dev Cert.DHReferenceIdeal.nD,
      r.2.mem ((c.tc : Thread Cert.DHReferenceIdeal.nD Cert.DHReferenceIdeal.τ).loc Cert.DHReferenceIdeal.main_arg0) = m ((c.tc : Thread Cert.DHReferenceIdeal.nD Cert.DHReferenceIdeal.τ).loc Cert.DHReferenceIdeal.main_arg0)
      ∧ r.2.mem ((c.tc : Thread Cert.DHReferenceIdeal.nD Cert.DHReferenceIdeal.τ).loc Cert.DHReferenceIdeal.main_arg1) = m ((c.tc : Thread Cert.DHReferenceIdeal.nD Cert.DHReferenceIdeal.τ).loc Cert.DHReferenceIdeal.main_arg1)
      ∧ r.2.mem ((c.tc : Thread Cert.DHReferenceIdeal.nD Cert.DHReferenceIdeal.τ).loc Cert.DHReferenceIdeal.main_arg2) = m ((c.tc : Thread Cert.DHReferenceIdeal.nD Cert.DHReferenceIdeal.τ).loc Cert.DHReferenceIdeal.main_arg2))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_GwOutReferenceIdeal [hGwOutReferenceIdeal : Cert.GwOutReferenceIdeal.Facts] : Prop :=
  ∀ (m : (ℓ : Loc Cert.GwOutReferenceIdeal.nD Cert.GwOutReferenceIdeal.τ Cert.GwOutReferenceIdeal.sig) → Buf (Elt Ideal) ℓ) (g : Dev Cert.GwOutReferenceIdeal.nD → PrngReg), Pre_GwOutReferenceIdeal m →
    θ_run (Cert.GwOutReferenceIdeal.defs (F := Ideal)) (onTc (τ := Cert.GwOutReferenceIdeal.τ) (Cert.GwOutReferenceIdeal.main (F := Ideal))) ⟨m, fun _ => 0, g⟩ (fun r => (∀ c : Dev Cert.GwOutReferenceIdeal.nD,
      r.2.mem ((c.tc : Thread Cert.GwOutReferenceIdeal.nD Cert.GwOutReferenceIdeal.τ).loc Cert.GwOutReferenceIdeal.main_arg0) = m ((c.tc : Thread Cert.GwOutReferenceIdeal.nD Cert.GwOutReferenceIdeal.τ).loc Cert.GwOutReferenceIdeal.main_arg0)
      ∧ r.2.mem ((c.tc : Thread Cert.GwOutReferenceIdeal.nD Cert.GwOutReferenceIdeal.τ).loc Cert.GwOutReferenceIdeal.main_arg1) = m ((c.tc : Thread Cert.GwOutReferenceIdeal.nD Cert.GwOutReferenceIdeal.τ).loc Cert.GwOutReferenceIdeal.main_arg1))
      ∧ r.2.sem = fun _ => 0)

def quiescent_DY [hDY : Cert.DY.Facts] : Prop :=
  ∀ (m : (ℓ : Loc Cert.DY.nD Cert.DY.τ Cert.DY.sig) → Buf (Elt Bits) ℓ) (g : Dev Cert.DY.nD → PrngReg), Pre_DY m →
    θ_run (Cert.DY.defs (F := Bits)) (onTc (τ := Cert.DY.τ) (Cert.DY.main (F := Bits))) ⟨m, fun _ => 0, g⟩ (fun r => (∀ c : Dev Cert.DY.nD,
      r.2.mem ((c.tc : Thread Cert.DY.nD Cert.DY.τ).loc Cert.DY.main_arg0) = m ((c.tc : Thread Cert.DY.nD Cert.DY.τ).loc Cert.DY.main_arg0)
      ∧ r.2.mem ((c.tc : Thread Cert.DY.nD Cert.DY.τ).loc Cert.DY.main_arg1) = m ((c.tc : Thread Cert.DY.nD Cert.DY.τ).loc Cert.DY.main_arg1))
      ∧ r.2.sem = fun _ => 0)

def quiescent_DYIdeal [hDYIdeal : Cert.DYIdeal.Facts] : Prop :=
  ∀ (m : (ℓ : Loc Cert.DYIdeal.nD Cert.DYIdeal.τ Cert.DYIdeal.sig) → Buf (Elt Ideal) ℓ) (g : Dev Cert.DYIdeal.nD → PrngReg), Pre_DYIdeal m →
    θ_run (Cert.DYIdeal.defs (F := Ideal)) (onTc (τ := Cert.DYIdeal.τ) (Cert.DYIdeal.main (F := Ideal))) ⟨m, fun _ => 0, g⟩ (fun r => (∀ c : Dev Cert.DYIdeal.nD,
      r.2.mem ((c.tc : Thread Cert.DYIdeal.nD Cert.DYIdeal.τ).loc Cert.DYIdeal.main_arg0) = m ((c.tc : Thread Cert.DYIdeal.nD Cert.DYIdeal.τ).loc Cert.DYIdeal.main_arg0)
      ∧ r.2.mem ((c.tc : Thread Cert.DYIdeal.nD Cert.DYIdeal.τ).loc Cert.DYIdeal.main_arg1) = m ((c.tc : Thread Cert.DYIdeal.nD Cert.DYIdeal.τ).loc Cert.DYIdeal.main_arg1))
      ∧ r.2.sem = fun _ => 0)

def quiescent_DYReferenceIdeal [hDYReferenceIdeal : Cert.DYReferenceIdeal.Facts] : Prop :=
  ∀ (m : (ℓ : Loc Cert.DYReferenceIdeal.nD Cert.DYReferenceIdeal.τ Cert.DYReferenceIdeal.sig) → Buf (Elt Ideal) ℓ) (g : Dev Cert.DYReferenceIdeal.nD → PrngReg), Pre_DYReferenceIdeal m →
    θ_run (Cert.DYReferenceIdeal.defs (F := Ideal)) (onTc (τ := Cert.DYReferenceIdeal.τ) (Cert.DYReferenceIdeal.main (F := Ideal))) ⟨m, fun _ => 0, g⟩ (fun r => (∀ c : Dev Cert.DYReferenceIdeal.nD,
      r.2.mem ((c.tc : Thread Cert.DYReferenceIdeal.nD Cert.DYReferenceIdeal.τ).loc Cert.DYReferenceIdeal.main_arg0) = m ((c.tc : Thread Cert.DYReferenceIdeal.nD Cert.DYReferenceIdeal.τ).loc Cert.DYReferenceIdeal.main_arg0)
      ∧ r.2.mem ((c.tc : Thread Cert.DYReferenceIdeal.nD Cert.DYReferenceIdeal.τ).loc Cert.DYReferenceIdeal.main_arg1) = m ((c.tc : Thread Cert.DYReferenceIdeal.nD Cert.DYReferenceIdeal.τ).loc Cert.DYReferenceIdeal.main_arg1))
      ∧ r.2.sem = fun _ => 0)

def quiescent_ProjF [hProjF : Cert.ProjF.Facts] : Prop :=
  ∀ (m : (ℓ : Loc Cert.ProjF.nD Cert.ProjF.τ Cert.ProjF.sig) → Buf (Elt Bits) ℓ) (g : Dev Cert.ProjF.nD → PrngReg), Pre_ProjF m →
    θ_run (Cert.ProjF.defs (F := Bits)) (onTc (τ := Cert.ProjF.τ) (Cert.ProjF.main (F := Bits))) ⟨m, fun _ => 0, g⟩ (fun r => (∀ c : Dev Cert.ProjF.nD,
      r.2.mem ((c.tc : Thread Cert.ProjF.nD Cert.ProjF.τ).loc Cert.ProjF.main_arg0) = m ((c.tc : Thread Cert.ProjF.nD Cert.ProjF.τ).loc Cert.ProjF.main_arg0)
      ∧ r.2.mem ((c.tc : Thread Cert.ProjF.nD Cert.ProjF.τ).loc Cert.ProjF.main_arg1) = m ((c.tc : Thread Cert.ProjF.nD Cert.ProjF.τ).loc Cert.ProjF.main_arg1))
      ∧ r.2.sem = fun _ => 0)

def quiescent_ProjFIdeal [hProjFIdeal : Cert.ProjFIdeal.Facts] : Prop :=
  ∀ (m : (ℓ : Loc Cert.ProjFIdeal.nD Cert.ProjFIdeal.τ Cert.ProjFIdeal.sig) → Buf (Elt Ideal) ℓ) (g : Dev Cert.ProjFIdeal.nD → PrngReg), Pre_ProjFIdeal m →
    θ_run (Cert.ProjFIdeal.defs (F := Ideal)) (onTc (τ := Cert.ProjFIdeal.τ) (Cert.ProjFIdeal.main (F := Ideal))) ⟨m, fun _ => 0, g⟩ (fun r => (∀ c : Dev Cert.ProjFIdeal.nD,
      r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
      ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ r.2.sem = fun _ => 0)

def quiescent_ProjFReferenceIdeal [hProjFReferenceIdeal : Cert.ProjFReferenceIdeal.Facts] : Prop :=
  ∀ (m : (ℓ : Loc Cert.ProjFReferenceIdeal.nD Cert.ProjFReferenceIdeal.τ Cert.ProjFReferenceIdeal.sig) → Buf (Elt Ideal) ℓ) (g : Dev Cert.ProjFReferenceIdeal.nD → PrngReg), Pre_ProjFReferenceIdeal m →
    θ_run (Cert.ProjFReferenceIdeal.defs (F := Ideal)) (onTc (τ := Cert.ProjFReferenceIdeal.τ) (Cert.ProjFReferenceIdeal.main (F := Ideal))) ⟨m, fun _ => 0, g⟩ (fun r => (∀ c : Dev Cert.ProjFReferenceIdeal.nD,
      r.2.mem ((c.tc : Thread Cert.ProjFReferenceIdeal.nD Cert.ProjFReferenceIdeal.τ).loc Cert.ProjFReferenceIdeal.main_arg0) = m ((c.tc : Thread Cert.ProjFReferenceIdeal.nD Cert.ProjFReferenceIdeal.τ).loc Cert.ProjFReferenceIdeal.main_arg0)
      ∧ r.2.mem ((c.tc : Thread Cert.ProjFReferenceIdeal.nD Cert.ProjFReferenceIdeal.τ).loc Cert.ProjFReferenceIdeal.main_arg1) = m ((c.tc : Thread Cert.ProjFReferenceIdeal.nD Cert.ProjFReferenceIdeal.τ).loc Cert.ProjFReferenceIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBReferenceIdeal [hProjBReferenceIdeal : Cert.ProjBReferenceIdeal.Facts] : Prop :=
  ∀ (m : (ℓ : Loc Cert.ProjBReferenceIdeal.nD Cert.ProjBReferenceIdeal.τ Cert.ProjBReferenceIdeal.sig) → Buf (Elt Ideal) ℓ) (g : Dev Cert.ProjBReferenceIdeal.nD → PrngReg), Pre_ProjBReferenceIdeal m →
    θ_run (Cert.ProjBReferenceIdeal.defs (F := Ideal)) (onTc (τ := Cert.ProjBReferenceIdeal.τ) (Cert.ProjBReferenceIdeal.main (F := Ideal))) ⟨m, fun _ => 0, g⟩ (fun r => (∀ c : Dev Cert.ProjBReferenceIdeal.nD,
      r.2.mem ((c.tc : Thread Cert.ProjBReferenceIdeal.nD Cert.ProjBReferenceIdeal.τ).loc Cert.ProjBReferenceIdeal.main_arg0) = m ((c.tc : Thread Cert.ProjBReferenceIdeal.nD Cert.ProjBReferenceIdeal.τ).loc Cert.ProjBReferenceIdeal.main_arg0)
      ∧ r.2.mem ((c.tc : Thread Cert.ProjBReferenceIdeal.nD Cert.ProjBReferenceIdeal.τ).loc Cert.ProjBReferenceIdeal.main_arg1) = m ((c.tc : Thread Cert.ProjBReferenceIdeal.nD Cert.ProjBReferenceIdeal.τ).loc Cert.ProjBReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdReferenceIdeal [hRmsBwdReferenceIdeal : Cert.RmsBwdReferenceIdeal.Facts] : Prop :=
  ∀ (m : (ℓ : Loc Cert.RmsBwdReferenceIdeal.nD Cert.RmsBwdReferenceIdeal.τ Cert.RmsBwdReferenceIdeal.sig) → Buf (Elt Ideal) ℓ) (g : Dev Cert.RmsBwdReferenceIdeal.nD → PrngReg), Pre_RmsBwdReferenceIdeal m →
    θ_run (Cert.RmsBwdReferenceIdeal.defs (F := Ideal)) (onTc (τ := Cert.RmsBwdReferenceIdeal.τ) (Cert.RmsBwdReferenceIdeal.main (F := Ideal))) ⟨m, fun _ => 0, g⟩ (fun r => (∀ c : Dev Cert.RmsBwdReferenceIdeal.nD,
      r.2.mem ((c.tc : Thread Cert.RmsBwdReferenceIdeal.nD Cert.RmsBwdReferenceIdeal.τ).loc Cert.RmsBwdReferenceIdeal.main_arg0) = m ((c.tc : Thread Cert.RmsBwdReferenceIdeal.nD Cert.RmsBwdReferenceIdeal.τ).loc Cert.RmsBwdReferenceIdeal.main_arg0)
      ∧ r.2.mem ((c.tc : Thread Cert.RmsBwdReferenceIdeal.nD Cert.RmsBwdReferenceIdeal.τ).loc Cert.RmsBwdReferenceIdeal.main_arg1) = m ((c.tc : Thread Cert.RmsBwdReferenceIdeal.nD Cert.RmsBwdReferenceIdeal.τ).loc Cert.RmsBwdReferenceIdeal.main_arg1)
      ∧ r.2.mem ((c.tc : Thread Cert.RmsBwdReferenceIdeal.nD Cert.RmsBwdReferenceIdeal.τ).loc Cert.RmsBwdReferenceIdeal.main_arg2) = m ((c.tc : Thread Cert.RmsBwdReferenceIdeal.nD Cert.RmsBwdReferenceIdeal.τ).loc Cert.RmsBwdReferenceIdeal.main_arg2)
      ∧ r.2.mem ((c.tc : Thread Cert.RmsBwdReferenceIdeal.nD Cert.RmsBwdReferenceIdeal.τ).loc Cert.RmsBwdReferenceIdeal.main_arg3) = m ((c.tc : Thread Cert.RmsBwdReferenceIdeal.nD Cert.RmsBwdReferenceIdeal.τ).loc Cert.RmsBwdReferenceIdeal.main_arg3))
      ∧ r.2.sem = fun _ => 0)

def quiescent_MemKvBwd [hMemKvBwd : Cert.MemKvBwd.Facts] : Prop :=
  ∀ (m : (ℓ : Loc Cert.MemKvBwd.nD Cert.MemKvBwd.τ Cert.MemKvBwd.sig) → Buf (Elt Bits) ℓ) (g : Dev Cert.MemKvBwd.nD → PrngReg), Pre_MemKvBwd m →
    θ_run (Cert.MemKvBwd.defs (F := Bits)) (onTc (τ := Cert.MemKvBwd.τ) (Cert.MemKvBwd.main (F := Bits))) ⟨m, fun _ => 0, g⟩ (fun r => (∀ c : Dev Cert.MemKvBwd.nD,
      r.2.mem ((c.tc : Thread Cert.MemKvBwd.nD Cert.MemKvBwd.τ).loc Cert.MemKvBwd.main_arg0) = m ((c.tc : Thread Cert.MemKvBwd.nD Cert.MemKvBwd.τ).loc Cert.MemKvBwd.main_arg0)
      ∧ r.2.mem ((c.tc : Thread Cert.MemKvBwd.nD Cert.MemKvBwd.τ).loc Cert.MemKvBwd.main_arg1) = m ((c.tc : Thread Cert.MemKvBwd.nD Cert.MemKvBwd.τ).loc Cert.MemKvBwd.main_arg1)
      ∧ r.2.mem ((c.tc : Thread Cert.MemKvBwd.nD Cert.MemKvBwd.τ).loc Cert.MemKvBwd.main_arg2) = m ((c.tc : Thread Cert.MemKvBwd.nD Cert.MemKvBwd.τ).loc Cert.MemKvBwd.main_arg2)
      ∧ r.2.mem ((c.tc : Thread Cert.MemKvBwd.nD Cert.MemKvBwd.τ).loc Cert.MemKvBwd.main_arg3) = m ((c.tc : Thread Cert.MemKvBwd.nD Cert.MemKvBwd.τ).loc Cert.MemKvBwd.main_arg3))
      ∧ r.2.sem = fun _ => 0)

def quiescent_MemKvBwdIdeal [hMemKvBwdIdeal : Cert.MemKvBwdIdeal.Facts] : Prop :=
  ∀ (m : (ℓ : Loc Cert.MemKvBwdIdeal.nD Cert.MemKvBwdIdeal.τ Cert.MemKvBwdIdeal.sig) → Buf (Elt Ideal) ℓ) (g : Dev Cert.MemKvBwdIdeal.nD → PrngReg), Pre_MemKvBwdIdeal m →
    θ_run (Cert.MemKvBwdIdeal.defs (F := Ideal)) (onTc (τ := Cert.MemKvBwdIdeal.τ) (Cert.MemKvBwdIdeal.main (F := Ideal))) ⟨m, fun _ => 0, g⟩ (fun r => (∀ c : Dev Cert.MemKvBwdIdeal.nD,
      r.2.mem ((c.tc : Thread Cert.MemKvBwdIdeal.nD Cert.MemKvBwdIdeal.τ).loc Cert.MemKvBwdIdeal.main_arg0) = m ((c.tc : Thread Cert.MemKvBwdIdeal.nD Cert.MemKvBwdIdeal.τ).loc Cert.MemKvBwdIdeal.main_arg0)
      ∧ r.2.mem ((c.tc : Thread Cert.MemKvBwdIdeal.nD Cert.MemKvBwdIdeal.τ).loc Cert.MemKvBwdIdeal.main_arg1) = m ((c.tc : Thread Cert.MemKvBwdIdeal.nD Cert.MemKvBwdIdeal.τ).loc Cert.MemKvBwdIdeal.main_arg1)
      ∧ r.2.mem ((c.tc : Thread Cert.MemKvBwdIdeal.nD Cert.MemKvBwdIdeal.τ).loc Cert.MemKvBwdIdeal.main_arg2) = m ((c.tc : Thread Cert.MemKvBwdIdeal.nD Cert.MemKvBwdIdeal.τ).loc Cert.MemKvBwdIdeal.main_arg2)
      ∧ r.2.mem ((c.tc : Thread Cert.MemKvBwdIdeal.nD Cert.MemKvBwdIdeal.τ).loc Cert.MemKvBwdIdeal.main_arg3) = m ((c.tc : Thread Cert.MemKvBwdIdeal.nD Cert.MemKvBwdIdeal.τ).loc Cert.MemKvBwdIdeal.main_arg3))
      ∧ r.2.sem = fun _ => 0)

def quiescent_MemKvBwdReferenceIdeal [hMemKvBwdReferenceIdeal : Cert.MemKvBwdReferenceIdeal.Facts] : Prop :=
  ∀ (m : (ℓ : Loc Cert.MemKvBwdReferenceIdeal.nD Cert.MemKvBwdReferenceIdeal.τ Cert.MemKvBwdReferenceIdeal.sig) → Buf (Elt Ideal) ℓ) (g : Dev Cert.MemKvBwdReferenceIdeal.nD → PrngReg), Pre_MemKvBwdReferenceIdeal m →
    θ_run (Cert.MemKvBwdReferenceIdeal.defs (F := Ideal)) (onTc (τ := Cert.MemKvBwdReferenceIdeal.τ) (Cert.MemKvBwdReferenceIdeal.main (F := Ideal))) ⟨m, fun _ => 0, g⟩ (fun r => (∀ c : Dev Cert.MemKvBwdReferenceIdeal.nD,
      r.2.mem ((c.tc : Thread Cert.MemKvBwdReferenceIdeal.nD Cert.MemKvBwdReferenceIdeal.τ).loc Cert.MemKvBwdReferenceIdeal.main_arg0) = m ((c.tc : Thread Cert.MemKvBwdReferenceIdeal.nD Cert.MemKvBwdReferenceIdeal.τ).loc Cert.MemKvBwdReferenceIdeal.main_arg0)
      ∧ r.2.mem ((c.tc : Thread Cert.MemKvBwdReferenceIdeal.nD Cert.MemKvBwdReferenceIdeal.τ).loc Cert.MemKvBwdReferenceIdeal.main_arg1) = m ((c.tc : Thread Cert.MemKvBwdReferenceIdeal.nD Cert.MemKvBwdReferenceIdeal.τ).loc Cert.MemKvBwdReferenceIdeal.main_arg1)
      ∧ r.2.mem ((c.tc : Thread Cert.MemKvBwdReferenceIdeal.nD Cert.MemKvBwdReferenceIdeal.τ).loc Cert.MemKvBwdReferenceIdeal.main_arg2) = m ((c.tc : Thread Cert.MemKvBwdReferenceIdeal.nD Cert.MemKvBwdReferenceIdeal.τ).loc Cert.MemKvBwdReferenceIdeal.main_arg2)
      ∧ r.2.mem ((c.tc : Thread Cert.MemKvBwdReferenceIdeal.nD Cert.MemKvBwdReferenceIdeal.τ).loc Cert.MemKvBwdReferenceIdeal.main_arg3) = m ((c.tc : Thread Cert.MemKvBwdReferenceIdeal.nD Cert.MemKvBwdReferenceIdeal.τ).loc Cert.MemKvBwdReferenceIdeal.main_arg3))
      ∧ r.2.sem = fun _ => 0)

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1)
      ∧ r.2.mem ((c.tc : Thread Cert.MemBwd.nD Cert.MemBwd.τ).loc Cert.MemBwd.main_arg2) = m ((c.tc : Thread Cert.MemBwd.nD Cert.MemBwd.τ).loc Cert.MemBwd.main_arg2)
      ∧ r.2.mem ((c.tc : Thread Cert.MemBwd.nD Cert.MemBwd.τ).loc Cert.MemBwd.main_arg3) = m ((c.tc : Thread Cert.MemBwd.nD Cert.MemBwd.τ).loc Cert.MemBwd.main_arg3))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
      ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ r.2.sem = fun _ => 0)

def quiescent_MemBwdIdeal_pre_finite_mem [hMemBwdIdeal : Cert.MemBwdIdeal.Facts] [hPre_finite_mem : Cert.Pre_finite_mem.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal_finite_mem m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
      ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ r.2.sem = fun _ => 0)

def quiescent_MemBwdReferenceIdeal [hMemBwdReferenceIdeal : Cert.MemBwdReferenceIdeal.Facts] : Prop :=
  ∀ (m : (ℓ : Loc Cert.MemBwdReferenceIdeal.nD Cert.MemBwdReferenceIdeal.τ Cert.MemBwdReferenceIdeal.sig) → Buf (Elt Ideal) ℓ) (g : Dev Cert.MemBwdReferenceIdeal.nD → PrngReg), Pre_MemBwdReferenceIdeal m →
    θ_run (Cert.MemBwdReferenceIdeal.defs (F := Ideal)) (onTc (τ := Cert.MemBwdReferenceIdeal.τ) (Cert.MemBwdReferenceIdeal.main (F := Ideal))) ⟨m, fun _ => 0, g⟩ (fun r => (∀ c : Dev Cert.MemBwdReferenceIdeal.nD,
      r.2.mem ((c.tc : Thread Cert.MemBwdReferenceIdeal.nD Cert.MemBwdReferenceIdeal.τ).loc Cert.MemBwdReferenceIdeal.main_arg0) = m ((c.tc : Thread Cert.MemBwdReferenceIdeal.nD Cert.MemBwdReferenceIdeal.τ).loc Cert.MemBwdReferenceIdeal.main_arg0)
      ∧ r.2.mem ((c.tc : Thread Cert.MemBwdReferenceIdeal.nD Cert.MemBwdReferenceIdeal.τ).loc Cert.MemBwdReferenceIdeal.main_arg1) = m ((c.tc : Thread Cert.MemBwdReferenceIdeal.nD Cert.MemBwdReferenceIdeal.τ).loc Cert.MemBwdReferenceIdeal.main_arg1)
      ∧ r.2.mem ((c.tc : Thread Cert.MemBwdReferenceIdeal.nD Cert.MemBwdReferenceIdeal.τ).loc Cert.MemBwdReferenceIdeal.main_arg2) = m ((c.tc : Thread Cert.MemBwdReferenceIdeal.nD Cert.MemBwdReferenceIdeal.τ).loc Cert.MemBwdReferenceIdeal.main_arg2)
      ∧ r.2.mem ((c.tc : Thread Cert.MemBwdReferenceIdeal.nD Cert.MemBwdReferenceIdeal.τ).loc Cert.MemBwdReferenceIdeal.main_arg3) = m ((c.tc : Thread Cert.MemBwdReferenceIdeal.nD Cert.MemBwdReferenceIdeal.τ).loc Cert.MemBwdReferenceIdeal.main_arg3))
      ∧ r.2.sem = fun _ => 0)

def quiescent_MemBwdReferenceIdeal_pre_finite_mem [hMemBwdReferenceIdeal : Cert.MemBwdReferenceIdeal.Facts] [hPre_finite_mem : Cert.Pre_finite_mem.Facts] : Prop :=
  ∀ (m : (ℓ : Loc Cert.MemBwdReferenceIdeal.nD Cert.MemBwdReferenceIdeal.τ Cert.MemBwdReferenceIdeal.sig) → Buf (Elt Ideal) ℓ) (g : Dev Cert.MemBwdReferenceIdeal.nD → PrngReg), Pre_MemBwdReferenceIdeal_finite_mem m →
    θ_run (Cert.MemBwdReferenceIdeal.defs (F := Ideal)) (onTc (τ := Cert.MemBwdReferenceIdeal.τ) (Cert.MemBwdReferenceIdeal.main (F := Ideal))) ⟨m, fun _ => 0, g⟩ (fun r => (∀ c : Dev Cert.MemBwdReferenceIdeal.nD,
      r.2.mem ((c.tc : Thread Cert.MemBwdReferenceIdeal.nD Cert.MemBwdReferenceIdeal.τ).loc Cert.MemBwdReferenceIdeal.main_arg0) = m ((c.tc : Thread Cert.MemBwdReferenceIdeal.nD Cert.MemBwdReferenceIdeal.τ).loc Cert.MemBwdReferenceIdeal.main_arg0)
      ∧ r.2.mem ((c.tc : Thread Cert.MemBwdReferenceIdeal.nD Cert.MemBwdReferenceIdeal.τ).loc Cert.MemBwdReferenceIdeal.main_arg1) = m ((c.tc : Thread Cert.MemBwdReferenceIdeal.nD Cert.MemBwdReferenceIdeal.τ).loc Cert.MemBwdReferenceIdeal.main_arg1)
      ∧ r.2.mem ((c.tc : Thread Cert.MemBwdReferenceIdeal.nD Cert.MemBwdReferenceIdeal.τ).loc Cert.MemBwdReferenceIdeal.main_arg2) = m ((c.tc : Thread Cert.MemBwdReferenceIdeal.nD Cert.MemBwdReferenceIdeal.τ).loc Cert.MemBwdReferenceIdeal.main_arg2)
      ∧ r.2.mem ((c.tc : Thread Cert.MemBwdReferenceIdeal.nD Cert.MemBwdReferenceIdeal.τ).loc Cert.MemBwdReferenceIdeal.main_arg3) = m ((c.tc : Thread Cert.MemBwdReferenceIdeal.nD Cert.MemBwdReferenceIdeal.τ).loc Cert.MemBwdReferenceIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepIdeal_pre_finite_prep [hPrepIdeal : Cert.PrepIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_prep m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5))
      ∧ r.2.sem = fun _ => 0)

def quiescent_PrepReferenceIdeal_pre_finite_prep [hPrepReferenceIdeal : Cert.PrepReferenceIdeal.Facts] [hPre_finite_prep : Cert.Pre_finite_prep.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal_finite_prep m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1)
      ∧ r.2.mem ((c.tc : Thread Cert.MemFwd.nD Cert.MemFwd.τ).loc Cert.MemFwd.main_arg2) = m ((c.tc : Thread Cert.MemFwd.nD Cert.MemFwd.τ).loc Cert.MemFwd.main_arg2)
      ∧ r.2.mem ((c.tc : Thread Cert.MemFwd.nD Cert.MemFwd.τ).loc Cert.MemFwd.main_arg3) = m ((c.tc : Thread Cert.MemFwd.nD Cert.MemFwd.τ).loc Cert.MemFwd.main_arg3))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
      ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2)
      ∧ r.2.mem ((c.tc : Thread Cert.MemFwdIdeal.nD Cert.MemFwdIdeal.τ).loc Cert.MemFwdIdeal.main_arg3) = m ((c.tc : Thread Cert.MemFwdIdeal.nD Cert.MemFwdIdeal.τ).loc Cert.MemFwdIdeal.main_arg3))
      ∧ r.2.sem = fun _ => 0)

def quiescent_MemFwdReferenceIdeal [hMemFwdReferenceIdeal : Cert.MemFwdReferenceIdeal.Facts] : Prop :=
  ∀ (m : (ℓ : Loc Cert.MemFwdReferenceIdeal.nD Cert.MemFwdReferenceIdeal.τ Cert.MemFwdReferenceIdeal.sig) → Buf (Elt Ideal) ℓ) (g : Dev Cert.MemFwdReferenceIdeal.nD → PrngReg), Pre_MemFwdReferenceIdeal m →
    θ_run (Cert.MemFwdReferenceIdeal.defs (F := Ideal)) (onTc (τ := Cert.MemFwdReferenceIdeal.τ) (Cert.MemFwdReferenceIdeal.main (F := Ideal))) ⟨m, fun _ => 0, g⟩ (fun r => (∀ c : Dev Cert.MemFwdReferenceIdeal.nD,
      r.2.mem ((c.tc : Thread Cert.MemFwdReferenceIdeal.nD Cert.MemFwdReferenceIdeal.τ).loc Cert.MemFwdReferenceIdeal.main_arg0) = m ((c.tc : Thread Cert.MemFwdReferenceIdeal.nD Cert.MemFwdReferenceIdeal.τ).loc Cert.MemFwdReferenceIdeal.main_arg0)
      ∧ r.2.mem ((c.tc : Thread Cert.MemFwdReferenceIdeal.nD Cert.MemFwdReferenceIdeal.τ).loc Cert.MemFwdReferenceIdeal.main_arg1) = m ((c.tc : Thread Cert.MemFwdReferenceIdeal.nD Cert.MemFwdReferenceIdeal.τ).loc Cert.MemFwdReferenceIdeal.main_arg1)
      ∧ r.2.mem ((c.tc : Thread Cert.MemFwdReferenceIdeal.nD Cert.MemFwdReferenceIdeal.τ).loc Cert.MemFwdReferenceIdeal.main_arg2) = m ((c.tc : Thread Cert.MemFwdReferenceIdeal.nD Cert.MemFwdReferenceIdeal.τ).loc Cert.MemFwdReferenceIdeal.main_arg2)
      ∧ r.2.mem ((c.tc : Thread Cert.MemFwdReferenceIdeal.nD Cert.MemFwdReferenceIdeal.τ).loc Cert.MemFwdReferenceIdeal.main_arg3) = m ((c.tc : Thread Cert.MemFwdReferenceIdeal.nD Cert.MemFwdReferenceIdeal.τ).loc Cert.MemFwdReferenceIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdReferenceIdeal [hRmsFwdReferenceIdeal : Cert.RmsFwdReferenceIdeal.Facts] : Prop :=
  ∀ (m : (ℓ : Loc Cert.RmsFwdReferenceIdeal.nD Cert.RmsFwdReferenceIdeal.τ Cert.RmsFwdReferenceIdeal.sig) → Buf (Elt Ideal) ℓ) (g : Dev Cert.RmsFwdReferenceIdeal.nD → PrngReg), Pre_RmsFwdReferenceIdeal m →
    θ_run (Cert.RmsFwdReferenceIdeal.defs (F := Ideal)) (onTc (τ := Cert.RmsFwdReferenceIdeal.τ) (Cert.RmsFwdReferenceIdeal.main (F := Ideal))) ⟨m, fun _ => 0, g⟩ (fun r => (∀ c : Dev Cert.RmsFwdReferenceIdeal.nD,
      r.2.mem ((c.tc : Thread Cert.RmsFwdReferenceIdeal.nD Cert.RmsFwdReferenceIdeal.τ).loc Cert.RmsFwdReferenceIdeal.main_arg0) = m ((c.tc : Thread Cert.RmsFwdReferenceIdeal.nD Cert.RmsFwdReferenceIdeal.τ).loc Cert.RmsFwdReferenceIdeal.main_arg0)
      ∧ r.2.mem ((c.tc : Thread Cert.RmsFwdReferenceIdeal.nD Cert.RmsFwdReferenceIdeal.τ).loc Cert.RmsFwdReferenceIdeal.main_arg1) = m ((c.tc : Thread Cert.RmsFwdReferenceIdeal.nD Cert.RmsFwdReferenceIdeal.τ).loc Cert.RmsFwdReferenceIdeal.main_arg1))
      ∧ r.2.sem = fun _ => 0)

def quiescent_MemKvFwd [hMemKvFwd : Cert.MemKvFwd.Facts] : Prop :=
  ∀ (m : (ℓ : Loc Cert.MemKvFwd.nD Cert.MemKvFwd.τ Cert.MemKvFwd.sig) → Buf (Elt Bits) ℓ) (g : Dev Cert.MemKvFwd.nD → PrngReg), Pre_MemKvFwd m →
    θ_run (Cert.MemKvFwd.defs (F := Bits)) (onTc (τ := Cert.MemKvFwd.τ) (Cert.MemKvFwd.main (F := Bits))) ⟨m, fun _ => 0, g⟩ (fun r => (∀ c : Dev Cert.MemKvFwd.nD,
      r.2.mem ((c.tc : Thread Cert.MemKvFwd.nD Cert.MemKvFwd.τ).loc Cert.MemKvFwd.main_arg0) = m ((c.tc : Thread Cert.MemKvFwd.nD Cert.MemKvFwd.τ).loc Cert.MemKvFwd.main_arg0)
      ∧ r.2.mem ((c.tc : Thread Cert.MemKvFwd.nD Cert.MemKvFwd.τ).loc Cert.MemKvFwd.main_arg1) = m ((c.tc : Thread Cert.MemKvFwd.nD Cert.MemKvFwd.τ).loc Cert.MemKvFwd.main_arg1)
      ∧ r.2.mem ((c.tc : Thread Cert.MemKvFwd.nD Cert.MemKvFwd.τ).loc Cert.MemKvFwd.main_arg2) = m ((c.tc : Thread Cert.MemKvFwd.nD Cert.MemKvFwd.τ).loc Cert.MemKvFwd.main_arg2))
      ∧ r.2.sem = fun _ => 0)

def quiescent_MemKvFwdIdeal [hMemKvFwdIdeal : Cert.MemKvFwdIdeal.Facts] : Prop :=
  ∀ (m : (ℓ : Loc Cert.MemKvFwdIdeal.nD Cert.MemKvFwdIdeal.τ Cert.MemKvFwdIdeal.sig) → Buf (Elt Ideal) ℓ) (g : Dev Cert.MemKvFwdIdeal.nD → PrngReg), Pre_MemKvFwdIdeal m →
    θ_run (Cert.MemKvFwdIdeal.defs (F := Ideal)) (onTc (τ := Cert.MemKvFwdIdeal.τ) (Cert.MemKvFwdIdeal.main (F := Ideal))) ⟨m, fun _ => 0, g⟩ (fun r => (∀ c : Dev Cert.MemKvFwdIdeal.nD,
      r.2.mem ((c.tc : Thread Cert.MemKvFwdIdeal.nD Cert.MemKvFwdIdeal.τ).loc Cert.MemKvFwdIdeal.main_arg0) = m ((c.tc : Thread Cert.MemKvFwdIdeal.nD Cert.MemKvFwdIdeal.τ).loc Cert.MemKvFwdIdeal.main_arg0)
      ∧ r.2.mem ((c.tc : Thread Cert.MemKvFwdIdeal.nD Cert.MemKvFwdIdeal.τ).loc Cert.MemKvFwdIdeal.main_arg1) = m ((c.tc : Thread Cert.MemKvFwdIdeal.nD Cert.MemKvFwdIdeal.τ).loc Cert.MemKvFwdIdeal.main_arg1)
      ∧ r.2.mem ((c.tc : Thread Cert.MemKvFwdIdeal.nD Cert.MemKvFwdIdeal.τ).loc Cert.MemKvFwdIdeal.main_arg2) = m ((c.tc : Thread Cert.MemKvFwdIdeal.nD Cert.MemKvFwdIdeal.τ).loc Cert.MemKvFwdIdeal.main_arg2))
      ∧ r.2.sem = fun _ => 0)

def quiescent_MemKvFwdReferenceIdeal [hMemKvFwdReferenceIdeal : Cert.MemKvFwdReferenceIdeal.Facts] : Prop :=
  ∀ (m : (ℓ : Loc Cert.MemKvFwdReferenceIdeal.nD Cert.MemKvFwdReferenceIdeal.τ Cert.MemKvFwdReferenceIdeal.sig) → Buf (Elt Ideal) ℓ) (g : Dev Cert.MemKvFwdReferenceIdeal.nD → PrngReg), Pre_MemKvFwdReferenceIdeal m →
    θ_run (Cert.MemKvFwdReferenceIdeal.defs (F := Ideal)) (onTc (τ := Cert.MemKvFwdReferenceIdeal.τ) (Cert.MemKvFwdReferenceIdeal.main (F := Ideal))) ⟨m, fun _ => 0, g⟩ (fun r => (∀ c : Dev Cert.MemKvFwdReferenceIdeal.nD,
      r.2.mem ((c.tc : Thread Cert.MemKvFwdReferenceIdeal.nD Cert.MemKvFwdReferenceIdeal.τ).loc Cert.MemKvFwdReferenceIdeal.main_arg0) = m ((c.tc : Thread Cert.MemKvFwdReferenceIdeal.nD Cert.MemKvFwdReferenceIdeal.τ).loc Cert.MemKvFwdReferenceIdeal.main_arg0)
      ∧ r.2.mem ((c.tc : Thread Cert.MemKvFwdReferenceIdeal.nD Cert.MemKvFwdReferenceIdeal.τ).loc Cert.MemKvFwdReferenceIdeal.main_arg1) = m ((c.tc : Thread Cert.MemKvFwdReferenceIdeal.nD Cert.MemKvFwdReferenceIdeal.τ).loc Cert.MemKvFwdReferenceIdeal.main_arg1)
      ∧ r.2.mem ((c.tc : Thread Cert.MemKvFwdReferenceIdeal.nD Cert.MemKvFwdReferenceIdeal.τ).loc Cert.MemKvFwdReferenceIdeal.main_arg2) = m ((c.tc : Thread Cert.MemKvFwdReferenceIdeal.nD Cert.MemKvFwdReferenceIdeal.τ).loc Cert.MemKvFwdReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)) (v3 : (c : Dev Cert.KernelIdeal.nD) → Buf (Elt Ideal) ((c.tc : Thread Cert.KernelIdeal.nD Cert.KernelIdeal.τ).loc Cert.KernelIdeal.main_v47_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_v47_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GwIn_GwInIdeal : Prop :=
  True

def algebraic_GwInIdeal_GwInReferenceIdeal [hGwInIdeal : Cert.GwInIdeal.Facts] [hGwInReferenceIdeal : Cert.GwInReferenceIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInReferenceIdeal.nD Cert.GwInReferenceIdeal.τ Cert.GwInReferenceIdeal.sig) → Buf (Elt Ideal) ℓ) (g' : Dev Cert.GwInReferenceIdeal.nD → PrngReg), Pre_GwInIdeal m →
    (∀ c : Dev Cert.GwInIdeal.nD,
      m' ((c.tc : Thread Cert.GwInReferenceIdeal.nD Cert.GwInReferenceIdeal.τ).loc Cert.GwInReferenceIdeal.main_arg0) = m ((c.tc : Thread Cert.GwInIdeal.nD Cert.GwInIdeal.τ).loc Cert.GwInIdeal.main_arg0)
      ∧ m' ((c.tc : Thread Cert.GwInReferenceIdeal.nD Cert.GwInReferenceIdeal.τ).loc Cert.GwInReferenceIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v0)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v0) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.GwInReferenceIdeal.defs (F := Ideal)) (onTc (τ := Cert.GwInReferenceIdeal.τ) (Cert.GwInReferenceIdeal.main (F := Ideal))) ⟨m', fun _ => 0, g'⟩ (fun r => ∀ c : Dev Cert.GwInReferenceIdeal.nD,
          r.2.mem ((c.tc : Thread Cert.GwInReferenceIdeal.nD Cert.GwInReferenceIdeal.τ).loc Cert.GwInReferenceIdeal.main_v6) = v0 c
          ∧ r.2.mem ((c.tc : Thread Cert.GwInReferenceIdeal.nD Cert.GwInReferenceIdeal.τ).loc Cert.GwInReferenceIdeal.main_arg0) = m' ((c.tc : Thread Cert.GwInReferenceIdeal.nD Cert.GwInReferenceIdeal.τ).loc Cert.GwInReferenceIdeal.main_arg0)
          ∧ r.2.mem ((c.tc : Thread Cert.GwInReferenceIdeal.nD Cert.GwInReferenceIdeal.τ).loc Cert.GwInReferenceIdeal.main_arg1) = m' ((c.tc : Thread Cert.GwInReferenceIdeal.nD Cert.GwInReferenceIdeal.τ).loc Cert.GwInReferenceIdeal.main_arg1))

def preserves_DH_DHIdeal : Prop :=
  True

def algebraic_DHIdeal_DHReferenceIdeal [hDHIdeal : Cert.DHIdeal.Facts] [hDHReferenceIdeal : Cert.DHReferenceIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHReferenceIdeal.nD Cert.DHReferenceIdeal.τ Cert.DHReferenceIdeal.sig) → Buf (Elt Ideal) ℓ) (g' : Dev Cert.DHReferenceIdeal.nD → PrngReg), Pre_DHIdeal m →
    (∀ c : Dev Cert.DHIdeal.nD,
      m' ((c.tc : Thread Cert.DHReferenceIdeal.nD Cert.DHReferenceIdeal.τ).loc Cert.DHReferenceIdeal.main_arg0) = m ((c.tc : Thread Cert.DHIdeal.nD Cert.DHIdeal.τ).loc Cert.DHIdeal.main_arg0)
      ∧ m' ((c.tc : Thread Cert.DHReferenceIdeal.nD Cert.DHReferenceIdeal.τ).loc Cert.DHReferenceIdeal.main_arg1) = m ((c.tc : Thread Cert.DHIdeal.nD Cert.DHIdeal.τ).loc Cert.DHIdeal.main_arg1)
      ∧ m' ((c.tc : Thread Cert.DHReferenceIdeal.nD Cert.DHReferenceIdeal.τ).loc Cert.DHReferenceIdeal.main_arg2) = m ((c.tc : Thread Cert.DHIdeal.nD Cert.DHIdeal.τ).loc Cert.DHIdeal.main_arg2)) →
    ∃ (v0 : (c : Dev Cert.DHIdeal.nD) → Buf (Elt Ideal) ((c.tc : Thread Cert.DHIdeal.nD Cert.DHIdeal.τ).loc Cert.DHIdeal.main_v0)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v0) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
          ∧ r.2.mem ((c.tc : Thread Cert.DHIdeal.nD Cert.DHIdeal.τ).loc Cert.DHIdeal.main_arg2) = m ((c.tc : Thread Cert.DHIdeal.nD Cert.DHIdeal.τ).loc Cert.DHIdeal.main_arg2))
      ∧ θ_run (Cert.DHReferenceIdeal.defs (F := Ideal)) (onTc (τ := Cert.DHReferenceIdeal.τ) (Cert.DHReferenceIdeal.main (F := Ideal))) ⟨m', fun _ => 0, g'⟩ (fun r => ∀ c : Dev Cert.DHReferenceIdeal.nD,
          r.2.mem ((c.tc : Thread Cert.DHReferenceIdeal.nD Cert.DHReferenceIdeal.τ).loc Cert.DHReferenceIdeal.main_v4) = v0 c
          ∧ r.2.mem ((c.tc : Thread Cert.DHReferenceIdeal.nD Cert.DHReferenceIdeal.τ).loc Cert.DHReferenceIdeal.main_arg0) = m' ((c.tc : Thread Cert.DHReferenceIdeal.nD Cert.DHReferenceIdeal.τ).loc Cert.DHReferenceIdeal.main_arg0)
          ∧ r.2.mem ((c.tc : Thread Cert.DHReferenceIdeal.nD Cert.DHReferenceIdeal.τ).loc Cert.DHReferenceIdeal.main_arg1) = m' ((c.tc : Thread Cert.DHReferenceIdeal.nD Cert.DHReferenceIdeal.τ).loc Cert.DHReferenceIdeal.main_arg1)
          ∧ r.2.mem ((c.tc : Thread Cert.DHReferenceIdeal.nD Cert.DHReferenceIdeal.τ).loc Cert.DHReferenceIdeal.main_arg2) = m' ((c.tc : Thread Cert.DHReferenceIdeal.nD Cert.DHReferenceIdeal.τ).loc Cert.DHReferenceIdeal.main_arg2))

def preserves_GwOut_GwOutIdeal : Prop :=
  True

def algebraic_GwOutIdeal_GwOutReferenceIdeal [hGwOutIdeal : Cert.GwOutIdeal.Facts] [hGwOutReferenceIdeal : Cert.GwOutReferenceIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.GwOutReferenceIdeal.nD Cert.GwOutReferenceIdeal.τ Cert.GwOutReferenceIdeal.sig) → Buf (Elt Ideal) ℓ) (g' : Dev Cert.GwOutReferenceIdeal.nD → PrngReg), Pre_GwOutIdeal m →
    (∀ c : Dev Cert.GwOutIdeal.nD,
      m' ((c.tc : Thread Cert.GwOutReferenceIdeal.nD Cert.GwOutReferenceIdeal.τ).loc Cert.GwOutReferenceIdeal.main_arg0) = m ((c.tc : Thread Cert.GwOutIdeal.nD Cert.GwOutIdeal.τ).loc Cert.GwOutIdeal.main_arg0)
      ∧ m' ((c.tc : Thread Cert.GwOutReferenceIdeal.nD Cert.GwOutReferenceIdeal.τ).loc Cert.GwOutReferenceIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v0)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v0) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.GwOutReferenceIdeal.defs (F := Ideal)) (onTc (τ := Cert.GwOutReferenceIdeal.τ) (Cert.GwOutReferenceIdeal.main (F := Ideal))) ⟨m', fun _ => 0, g'⟩ (fun r => ∀ c : Dev Cert.GwOutReferenceIdeal.nD,
          r.2.mem ((c.tc : Thread Cert.GwOutReferenceIdeal.nD Cert.GwOutReferenceIdeal.τ).loc Cert.GwOutReferenceIdeal.main_v5) = v0 c
          ∧ r.2.mem ((c.tc : Thread Cert.GwOutReferenceIdeal.nD Cert.GwOutReferenceIdeal.τ).loc Cert.GwOutReferenceIdeal.main_arg0) = m' ((c.tc : Thread Cert.GwOutReferenceIdeal.nD Cert.GwOutReferenceIdeal.τ).loc Cert.GwOutReferenceIdeal.main_arg0)
          ∧ r.2.mem ((c.tc : Thread Cert.GwOutReferenceIdeal.nD Cert.GwOutReferenceIdeal.τ).loc Cert.GwOutReferenceIdeal.main_arg1) = m' ((c.tc : Thread Cert.GwOutReferenceIdeal.nD Cert.GwOutReferenceIdeal.τ).loc Cert.GwOutReferenceIdeal.main_arg1))

def preserves_DY_DYIdeal : Prop :=
  True

def algebraic_DYIdeal_DYReferenceIdeal [hDYIdeal : Cert.DYIdeal.Facts] [hDYReferenceIdeal : Cert.DYReferenceIdeal.Facts] : Prop :=
  ∀ (m : (ℓ : Loc Cert.DYIdeal.nD Cert.DYIdeal.τ Cert.DYIdeal.sig) → Buf (Elt Ideal) ℓ) (g : Dev Cert.DYIdeal.nD → PrngReg)
    (m' : (ℓ : Loc Cert.DYReferenceIdeal.nD Cert.DYReferenceIdeal.τ Cert.DYReferenceIdeal.sig) → Buf (Elt Ideal) ℓ) (g' : Dev Cert.DYReferenceIdeal.nD → PrngReg), Pre_DYIdeal m →
    (∀ c : Dev Cert.DYIdeal.nD,
      m' ((c.tc : Thread Cert.DYReferenceIdeal.nD Cert.DYReferenceIdeal.τ).loc Cert.DYReferenceIdeal.main_arg0) = m ((c.tc : Thread Cert.DYIdeal.nD Cert.DYIdeal.τ).loc Cert.DYIdeal.main_arg0)
      ∧ m' ((c.tc : Thread Cert.DYReferenceIdeal.nD Cert.DYReferenceIdeal.τ).loc Cert.DYReferenceIdeal.main_arg1) = m ((c.tc : Thread Cert.DYIdeal.nD Cert.DYIdeal.τ).loc Cert.DYIdeal.main_arg1)) →
    ∃ (v0 : (c : Dev Cert.DYIdeal.nD) → Buf (Elt Ideal) ((c.tc : Thread Cert.DYIdeal.nD Cert.DYIdeal.τ).loc Cert.DYIdeal.main_v0)),
      θ_run (Cert.DYIdeal.defs (F := Ideal)) (onTc (τ := Cert.DYIdeal.τ) (Cert.DYIdeal.main (F := Ideal))) ⟨m, fun _ => 0, g⟩ (fun r => ∀ c : Dev Cert.DYIdeal.nD,
          r.2.mem ((c.tc : Thread Cert.DYIdeal.nD Cert.DYIdeal.τ).loc Cert.DYIdeal.main_v0) = v0 c
          ∧ r.2.mem ((c.tc : Thread Cert.DYIdeal.nD Cert.DYIdeal.τ).loc Cert.DYIdeal.main_arg0) = m ((c.tc : Thread Cert.DYIdeal.nD Cert.DYIdeal.τ).loc Cert.DYIdeal.main_arg0)
          ∧ r.2.mem ((c.tc : Thread Cert.DYIdeal.nD Cert.DYIdeal.τ).loc Cert.DYIdeal.main_arg1) = m ((c.tc : Thread Cert.DYIdeal.nD Cert.DYIdeal.τ).loc Cert.DYIdeal.main_arg1))
      ∧ θ_run (Cert.DYReferenceIdeal.defs (F := Ideal)) (onTc (τ := Cert.DYReferenceIdeal.τ) (Cert.DYReferenceIdeal.main (F := Ideal))) ⟨m', fun _ => 0, g'⟩ (fun r => ∀ c : Dev Cert.DYReferenceIdeal.nD,
          r.2.mem ((c.tc : Thread Cert.DYReferenceIdeal.nD Cert.DYReferenceIdeal.τ).loc Cert.DYReferenceIdeal.main_v3) = v0 c
          ∧ r.2.mem ((c.tc : Thread Cert.DYReferenceIdeal.nD Cert.DYReferenceIdeal.τ).loc Cert.DYReferenceIdeal.main_arg0) = m' ((c.tc : Thread Cert.DYReferenceIdeal.nD Cert.DYReferenceIdeal.τ).loc Cert.DYReferenceIdeal.main_arg0)
          ∧ r.2.mem ((c.tc : Thread Cert.DYReferenceIdeal.nD Cert.DYReferenceIdeal.τ).loc Cert.DYReferenceIdeal.main_arg1) = m' ((c.tc : Thread Cert.DYReferenceIdeal.nD Cert.DYReferenceIdeal.τ).loc Cert.DYReferenceIdeal.main_arg1))

def preserves_ProjF_ProjFIdeal : Prop :=
  True

def algebraic_ProjFIdeal_ProjFReferenceIdeal [hProjFIdeal : Cert.ProjFIdeal.Facts] [hProjFReferenceIdeal : Cert.ProjFReferenceIdeal.Facts] : Prop :=
  ∀ (m : (ℓ : Loc Cert.ProjFIdeal.nD Cert.ProjFIdeal.τ Cert.ProjFIdeal.sig) → Buf (Elt Ideal) ℓ) (g : Dev Cert.ProjFIdeal.nD → PrngReg)
    (m' : (ℓ : Loc Cert.ProjFReferenceIdeal.nD Cert.ProjFReferenceIdeal.τ Cert.ProjFReferenceIdeal.sig) → Buf (Elt Ideal) ℓ) (g' : Dev Cert.ProjFReferenceIdeal.nD → PrngReg), Pre_ProjFIdeal m →
    (∀ c : Dev Cert.ProjFIdeal.nD,
      m' ((c.tc : Thread Cert.ProjFReferenceIdeal.nD Cert.ProjFReferenceIdeal.τ).loc Cert.ProjFReferenceIdeal.main_arg0) = m ((c.tc : Thread Cert.ProjFIdeal.nD Cert.ProjFIdeal.τ).loc Cert.ProjFIdeal.main_arg0)
      ∧ m' ((c.tc : Thread Cert.ProjFReferenceIdeal.nD Cert.ProjFReferenceIdeal.τ).loc Cert.ProjFReferenceIdeal.main_arg1) = m ((c.tc : Thread Cert.ProjFIdeal.nD Cert.ProjFIdeal.τ).loc Cert.ProjFIdeal.main_arg1)) →
    ∃ (v0 : (c : Dev Cert.ProjFIdeal.nD) → Buf (Elt Ideal) ((c.tc : Thread Cert.ProjFIdeal.nD Cert.ProjFIdeal.τ).loc Cert.ProjFIdeal.main_v0)),
      θ_run (Cert.ProjFIdeal.defs (F := Ideal)) (onTc (τ := Cert.ProjFIdeal.τ) (Cert.ProjFIdeal.main (F := Ideal))) ⟨m, fun _ => 0, g⟩ (fun r => ∀ c : Dev Cert.ProjFIdeal.nD,
          r.2.mem ((c.tc : Thread Cert.ProjFIdeal.nD Cert.ProjFIdeal.τ).loc Cert.ProjFIdeal.main_v0) = v0 c
          ∧ r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
          ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ θ_run (Cert.ProjFReferenceIdeal.defs (F := Ideal)) (onTc (τ := Cert.ProjFReferenceIdeal.τ) (Cert.ProjFReferenceIdeal.main (F := Ideal))) ⟨m', fun _ => 0, g'⟩ (fun r => ∀ c : Dev Cert.ProjFReferenceIdeal.nD,
          r.2.mem ((c.tc : Thread Cert.ProjFReferenceIdeal.nD Cert.ProjFReferenceIdeal.τ).loc Cert.ProjFReferenceIdeal.main_v3) = v0 c
          ∧ r.2.mem ((c.tc : Thread Cert.ProjFReferenceIdeal.nD Cert.ProjFReferenceIdeal.τ).loc Cert.ProjFReferenceIdeal.main_arg0) = m' ((c.tc : Thread Cert.ProjFReferenceIdeal.nD Cert.ProjFReferenceIdeal.τ).loc Cert.ProjFReferenceIdeal.main_arg0)
          ∧ r.2.mem ((c.tc : Thread Cert.ProjFReferenceIdeal.nD Cert.ProjFReferenceIdeal.τ).loc Cert.ProjFReferenceIdeal.main_arg1) = m' ((c.tc : Thread Cert.ProjFReferenceIdeal.nD Cert.ProjFReferenceIdeal.τ).loc Cert.ProjFReferenceIdeal.main_arg1))

def preserves_ProjB_ProjBIdeal : Prop :=
  True

def algebraic_ProjBIdeal_ProjBReferenceIdeal [hProjBIdeal : Cert.ProjBIdeal.Facts] [hProjBReferenceIdeal : Cert.ProjBReferenceIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBReferenceIdeal.nD Cert.ProjBReferenceIdeal.τ Cert.ProjBReferenceIdeal.sig) → Buf (Elt Ideal) ℓ) (g' : Dev Cert.ProjBReferenceIdeal.nD → PrngReg), Pre_ProjBIdeal m →
    (∀ c : Dev Cert.ProjBIdeal.nD,
      m' ((c.tc : Thread Cert.ProjBReferenceIdeal.nD Cert.ProjBReferenceIdeal.τ).loc Cert.ProjBReferenceIdeal.main_arg0) = m ((c.tc : Thread Cert.ProjBIdeal.nD Cert.ProjBIdeal.τ).loc Cert.ProjBIdeal.main_arg0)
      ∧ m' ((c.tc : Thread Cert.ProjBReferenceIdeal.nD Cert.ProjBReferenceIdeal.τ).loc Cert.ProjBReferenceIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBReferenceIdeal.defs (F := Ideal)) (onTc (τ := Cert.ProjBReferenceIdeal.τ) (Cert.ProjBReferenceIdeal.main (F := Ideal))) ⟨m', fun _ => 0, g'⟩ (fun r => ∀ c : Dev Cert.ProjBReferenceIdeal.nD,
          r.2.mem ((c.tc : Thread Cert.ProjBReferenceIdeal.nD Cert.ProjBReferenceIdeal.τ).loc Cert.ProjBReferenceIdeal.main_v4) = v0 c
          ∧ r.2.mem ((c.tc : Thread Cert.ProjBReferenceIdeal.nD Cert.ProjBReferenceIdeal.τ).loc Cert.ProjBReferenceIdeal.main_arg0) = m' ((c.tc : Thread Cert.ProjBReferenceIdeal.nD Cert.ProjBReferenceIdeal.τ).loc Cert.ProjBReferenceIdeal.main_arg0)
          ∧ r.2.mem ((c.tc : Thread Cert.ProjBReferenceIdeal.nD Cert.ProjBReferenceIdeal.τ).loc Cert.ProjBReferenceIdeal.main_arg1) = m' ((c.tc : Thread Cert.ProjBReferenceIdeal.nD Cert.ProjBReferenceIdeal.τ).loc Cert.ProjBReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1))

def preserves_RmsBwd_RmsBwdIdeal : Prop :=
  True

def algebraic_RmsBwdIdeal_RmsBwdReferenceIdeal [hRmsBwdIdeal : Cert.RmsBwdIdeal.Facts] [hRmsBwdReferenceIdeal : Cert.RmsBwdReferenceIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdReferenceIdeal.nD Cert.RmsBwdReferenceIdeal.τ Cert.RmsBwdReferenceIdeal.sig) → Buf (Elt Ideal) ℓ) (g' : Dev Cert.RmsBwdReferenceIdeal.nD → PrngReg), Pre_RmsBwdIdeal m →
    (∀ c : Dev Cert.RmsBwdIdeal.nD,
      m' ((c.tc : Thread Cert.RmsBwdReferenceIdeal.nD Cert.RmsBwdReferenceIdeal.τ).loc Cert.RmsBwdReferenceIdeal.main_arg0) = m ((c.tc : Thread Cert.RmsBwdIdeal.nD Cert.RmsBwdIdeal.τ).loc Cert.RmsBwdIdeal.main_arg0)
      ∧ m' ((c.tc : Thread Cert.RmsBwdReferenceIdeal.nD Cert.RmsBwdReferenceIdeal.τ).loc Cert.RmsBwdReferenceIdeal.main_arg1) = m ((c.tc : Thread Cert.RmsBwdIdeal.nD Cert.RmsBwdIdeal.τ).loc Cert.RmsBwdIdeal.main_arg1)
      ∧ m' ((c.tc : Thread Cert.RmsBwdReferenceIdeal.nD Cert.RmsBwdReferenceIdeal.τ).loc Cert.RmsBwdReferenceIdeal.main_arg2) = m ((c.tc : Thread Cert.RmsBwdIdeal.nD Cert.RmsBwdIdeal.τ).loc Cert.RmsBwdIdeal.main_arg2)
      ∧ m' ((c.tc : Thread Cert.RmsBwdReferenceIdeal.nD Cert.RmsBwdReferenceIdeal.τ).loc Cert.RmsBwdReferenceIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v8_0)) (v1 : (c : Dev Cert.RmsBwdIdeal.nD) → Buf (Elt Ideal) ((c.tc : Thread Cert.RmsBwdIdeal.nD Cert.RmsBwdIdeal.τ).loc Cert.RmsBwdIdeal.main_v8_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v8_0) = v0 c
          ∧ r.2.mem ((c.tc : Thread Cert.RmsBwdIdeal.nD Cert.RmsBwdIdeal.τ).loc Cert.RmsBwdIdeal.main_v8_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdReferenceIdeal.defs (F := Ideal)) (onTc (τ := Cert.RmsBwdReferenceIdeal.τ) (Cert.RmsBwdReferenceIdeal.main (F := Ideal))) ⟨m', fun _ => 0, g'⟩ (fun r => ∀ c : Dev Cert.RmsBwdReferenceIdeal.nD,
          r.2.mem ((c.tc : Thread Cert.RmsBwdReferenceIdeal.nD Cert.RmsBwdReferenceIdeal.τ).loc Cert.RmsBwdReferenceIdeal.main_v34) = v0 c
          ∧ r.2.mem ((c.tc : Thread Cert.RmsBwdReferenceIdeal.nD Cert.RmsBwdReferenceIdeal.τ).loc Cert.RmsBwdReferenceIdeal.main_v17) = v1 c
          ∧ r.2.mem ((c.tc : Thread Cert.RmsBwdReferenceIdeal.nD Cert.RmsBwdReferenceIdeal.τ).loc Cert.RmsBwdReferenceIdeal.main_arg0) = m' ((c.tc : Thread Cert.RmsBwdReferenceIdeal.nD Cert.RmsBwdReferenceIdeal.τ).loc Cert.RmsBwdReferenceIdeal.main_arg0)
          ∧ r.2.mem ((c.tc : Thread Cert.RmsBwdReferenceIdeal.nD Cert.RmsBwdReferenceIdeal.τ).loc Cert.RmsBwdReferenceIdeal.main_arg1) = m' ((c.tc : Thread Cert.RmsBwdReferenceIdeal.nD Cert.RmsBwdReferenceIdeal.τ).loc Cert.RmsBwdReferenceIdeal.main_arg1)
          ∧ r.2.mem ((c.tc : Thread Cert.RmsBwdReferenceIdeal.nD Cert.RmsBwdReferenceIdeal.τ).loc Cert.RmsBwdReferenceIdeal.main_arg2) = m' ((c.tc : Thread Cert.RmsBwdReferenceIdeal.nD Cert.RmsBwdReferenceIdeal.τ).loc Cert.RmsBwdReferenceIdeal.main_arg2)
          ∧ r.2.mem ((c.tc : Thread Cert.RmsBwdReferenceIdeal.nD Cert.RmsBwdReferenceIdeal.τ).loc Cert.RmsBwdReferenceIdeal.main_arg3) = m' ((c.tc : Thread Cert.RmsBwdReferenceIdeal.nD Cert.RmsBwdReferenceIdeal.τ).loc Cert.RmsBwdReferenceIdeal.main_arg3))

def preserves_MemKvBwd_MemKvBwdIdeal : Prop :=
  True

def algebraic_MemKvBwdIdeal_MemKvBwdReferenceIdeal [hMemKvBwdIdeal : Cert.MemKvBwdIdeal.Facts] [hMemKvBwdReferenceIdeal : Cert.MemKvBwdReferenceIdeal.Facts] : Prop :=
  ∀ (m : (ℓ : Loc Cert.MemKvBwdIdeal.nD Cert.MemKvBwdIdeal.τ Cert.MemKvBwdIdeal.sig) → Buf (Elt Ideal) ℓ) (g : Dev Cert.MemKvBwdIdeal.nD → PrngReg)
    (m' : (ℓ : Loc Cert.MemKvBwdReferenceIdeal.nD Cert.MemKvBwdReferenceIdeal.τ Cert.MemKvBwdReferenceIdeal.sig) → Buf (Elt Ideal) ℓ) (g' : Dev Cert.MemKvBwdReferenceIdeal.nD → PrngReg), Pre_MemKvBwdIdeal m →
    (∀ c : Dev Cert.MemKvBwdIdeal.nD,
      m' ((c.tc : Thread Cert.MemKvBwdReferenceIdeal.nD Cert.MemKvBwdReferenceIdeal.τ).loc Cert.MemKvBwdReferenceIdeal.main_arg0) = m ((c.tc : Thread Cert.MemKvBwdIdeal.nD Cert.MemKvBwdIdeal.τ).loc Cert.MemKvBwdIdeal.main_arg0)
      ∧ m' ((c.tc : Thread Cert.MemKvBwdReferenceIdeal.nD Cert.MemKvBwdReferenceIdeal.τ).loc Cert.MemKvBwdReferenceIdeal.main_arg1) = m ((c.tc : Thread Cert.MemKvBwdIdeal.nD Cert.MemKvBwdIdeal.τ).loc Cert.MemKvBwdIdeal.main_arg1)
      ∧ m' ((c.tc : Thread Cert.MemKvBwdReferenceIdeal.nD Cert.MemKvBwdReferenceIdeal.τ).loc Cert.MemKvBwdReferenceIdeal.main_arg2) = m ((c.tc : Thread Cert.MemKvBwdIdeal.nD Cert.MemKvBwdIdeal.τ).loc Cert.MemKvBwdIdeal.main_arg2)
      ∧ m' ((c.tc : Thread Cert.MemKvBwdReferenceIdeal.nD Cert.MemKvBwdReferenceIdeal.τ).loc Cert.MemKvBwdReferenceIdeal.main_arg3) = m ((c.tc : Thread Cert.MemKvBwdIdeal.nD Cert.MemKvBwdIdeal.τ).loc Cert.MemKvBwdIdeal.main_arg3)) →
    ∃ (v0 : (c : Dev Cert.MemKvBwdIdeal.nD) → Buf (Elt Ideal) ((c.tc : Thread Cert.MemKvBwdIdeal.nD Cert.MemKvBwdIdeal.τ).loc Cert.MemKvBwdIdeal.main_v10_0)) (v1 : (c : Dev Cert.MemKvBwdIdeal.nD) → Buf (Elt Ideal) ((c.tc : Thread Cert.MemKvBwdIdeal.nD Cert.MemKvBwdIdeal.τ).loc Cert.MemKvBwdIdeal.main_v10_1)),
      θ_run (Cert.MemKvBwdIdeal.defs (F := Ideal)) (onTc (τ := Cert.MemKvBwdIdeal.τ) (Cert.MemKvBwdIdeal.main (F := Ideal))) ⟨m, fun _ => 0, g⟩ (fun r => ∀ c : Dev Cert.MemKvBwdIdeal.nD,
          r.2.mem ((c.tc : Thread Cert.MemKvBwdIdeal.nD Cert.MemKvBwdIdeal.τ).loc Cert.MemKvBwdIdeal.main_v10_0) = v0 c
          ∧ r.2.mem ((c.tc : Thread Cert.MemKvBwdIdeal.nD Cert.MemKvBwdIdeal.τ).loc Cert.MemKvBwdIdeal.main_v10_1) = v1 c
          ∧ r.2.mem ((c.tc : Thread Cert.MemKvBwdIdeal.nD Cert.MemKvBwdIdeal.τ).loc Cert.MemKvBwdIdeal.main_arg0) = m ((c.tc : Thread Cert.MemKvBwdIdeal.nD Cert.MemKvBwdIdeal.τ).loc Cert.MemKvBwdIdeal.main_arg0)
          ∧ r.2.mem ((c.tc : Thread Cert.MemKvBwdIdeal.nD Cert.MemKvBwdIdeal.τ).loc Cert.MemKvBwdIdeal.main_arg1) = m ((c.tc : Thread Cert.MemKvBwdIdeal.nD Cert.MemKvBwdIdeal.τ).loc Cert.MemKvBwdIdeal.main_arg1)
          ∧ r.2.mem ((c.tc : Thread Cert.MemKvBwdIdeal.nD Cert.MemKvBwdIdeal.τ).loc Cert.MemKvBwdIdeal.main_arg2) = m ((c.tc : Thread Cert.MemKvBwdIdeal.nD Cert.MemKvBwdIdeal.τ).loc Cert.MemKvBwdIdeal.main_arg2)
          ∧ r.2.mem ((c.tc : Thread Cert.MemKvBwdIdeal.nD Cert.MemKvBwdIdeal.τ).loc Cert.MemKvBwdIdeal.main_arg3) = m ((c.tc : Thread Cert.MemKvBwdIdeal.nD Cert.MemKvBwdIdeal.τ).loc Cert.MemKvBwdIdeal.main_arg3))
      ∧ θ_run (Cert.MemKvBwdReferenceIdeal.defs (F := Ideal)) (onTc (τ := Cert.MemKvBwdReferenceIdeal.τ) (Cert.MemKvBwdReferenceIdeal.main (F := Ideal))) ⟨m', fun _ => 0, g'⟩ (fun r => ∀ c : Dev Cert.MemKvBwdReferenceIdeal.nD,
          r.2.mem ((c.tc : Thread Cert.MemKvBwdReferenceIdeal.nD Cert.MemKvBwdReferenceIdeal.τ).loc Cert.MemKvBwdReferenceIdeal.main_v20) = v0 c
          ∧ r.2.mem ((c.tc : Thread Cert.MemKvBwdReferenceIdeal.nD Cert.MemKvBwdReferenceIdeal.τ).loc Cert.MemKvBwdReferenceIdeal.main_v19) = v1 c
          ∧ r.2.mem ((c.tc : Thread Cert.MemKvBwdReferenceIdeal.nD Cert.MemKvBwdReferenceIdeal.τ).loc Cert.MemKvBwdReferenceIdeal.main_arg0) = m' ((c.tc : Thread Cert.MemKvBwdReferenceIdeal.nD Cert.MemKvBwdReferenceIdeal.τ).loc Cert.MemKvBwdReferenceIdeal.main_arg0)
          ∧ r.2.mem ((c.tc : Thread Cert.MemKvBwdReferenceIdeal.nD Cert.MemKvBwdReferenceIdeal.τ).loc Cert.MemKvBwdReferenceIdeal.main_arg1) = m' ((c.tc : Thread Cert.MemKvBwdReferenceIdeal.nD Cert.MemKvBwdReferenceIdeal.τ).loc Cert.MemKvBwdReferenceIdeal.main_arg1)
          ∧ r.2.mem ((c.tc : Thread Cert.MemKvBwdReferenceIdeal.nD Cert.MemKvBwdReferenceIdeal.τ).loc Cert.MemKvBwdReferenceIdeal.main_arg2) = m' ((c.tc : Thread Cert.MemKvBwdReferenceIdeal.nD Cert.MemKvBwdReferenceIdeal.τ).loc Cert.MemKvBwdReferenceIdeal.main_arg2)
          ∧ r.2.mem ((c.tc : Thread Cert.MemKvBwdReferenceIdeal.nD Cert.MemKvBwdReferenceIdeal.τ).loc Cert.MemKvBwdReferenceIdeal.main_arg3) = m' ((c.tc : Thread Cert.MemKvBwdReferenceIdeal.nD Cert.MemKvBwdReferenceIdeal.τ).loc Cert.MemKvBwdReferenceIdeal.main_arg3))

def preserves_MemBwd_MemBwdIdeal : Prop :=
  True

def algebraic_MemBwdIdeal_MemBwdReferenceIdeal_pre_finite_mem [hMemBwdIdeal : Cert.MemBwdIdeal.Facts] [hMemBwdReferenceIdeal : Cert.MemBwdReferenceIdeal.Facts] [hPre_finite_mem : Cert.Pre_finite_mem.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemBwdReferenceIdeal.nD Cert.MemBwdReferenceIdeal.τ Cert.MemBwdReferenceIdeal.sig) → Buf (Elt Ideal) ℓ) (g' : Dev Cert.MemBwdReferenceIdeal.nD → PrngReg), Pre_MemBwdIdeal_finite_mem m →
    (∀ c : Dev Cert.MemBwdIdeal.nD,
      m' ((c.tc : Thread Cert.MemBwdReferenceIdeal.nD Cert.MemBwdReferenceIdeal.τ).loc Cert.MemBwdReferenceIdeal.main_arg0) = m ((c.tc : Thread Cert.MemBwdIdeal.nD Cert.MemBwdIdeal.τ).loc Cert.MemBwdIdeal.main_arg0)
      ∧ m' ((c.tc : Thread Cert.MemBwdReferenceIdeal.nD Cert.MemBwdReferenceIdeal.τ).loc Cert.MemBwdReferenceIdeal.main_arg1) = m ((c.tc : Thread Cert.MemBwdIdeal.nD Cert.MemBwdIdeal.τ).loc Cert.MemBwdIdeal.main_arg1)
      ∧ m' ((c.tc : Thread Cert.MemBwdReferenceIdeal.nD Cert.MemBwdReferenceIdeal.τ).loc Cert.MemBwdReferenceIdeal.main_arg2) = m ((c.tc : Thread Cert.MemBwdIdeal.nD Cert.MemBwdIdeal.τ).loc Cert.MemBwdIdeal.main_arg2)
      ∧ m' ((c.tc : Thread Cert.MemBwdReferenceIdeal.nD Cert.MemBwdReferenceIdeal.τ).loc Cert.MemBwdReferenceIdeal.main_arg3) = m ((c.tc : Thread Cert.MemBwdIdeal.nD Cert.MemBwdIdeal.τ).loc Cert.MemBwdIdeal.main_arg3)) →
    ∃ (v0 : (c : Dev Cert.MemBwdIdeal.nD) → Buf (Elt Ideal) ((c.tc : Thread Cert.MemBwdIdeal.nD Cert.MemBwdIdeal.τ).loc Cert.MemBwdIdeal.main_v0_0)) (v1 : (c : Dev Cert.MemBwdIdeal.nD) → Buf (Elt Ideal) ((c.tc : Thread Cert.MemBwdIdeal.nD Cert.MemBwdIdeal.τ).loc Cert.MemBwdIdeal.main_v0_1)) (v2 : (c : Dev Cert.MemBwdIdeal.nD) → Buf (Elt Ideal) ((c.tc : Thread Cert.MemBwdIdeal.nD Cert.MemBwdIdeal.τ).loc Cert.MemBwdIdeal.main_v0_2)) (v3 : (c : Dev Cert.MemBwdIdeal.nD) → Buf (Elt Ideal) ((c.tc : Thread Cert.MemBwdIdeal.nD Cert.MemBwdIdeal.τ).loc Cert.MemBwdIdeal.main_v0_3)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          r.2.mem ((c.tc : Thread Cert.MemBwdIdeal.nD Cert.MemBwdIdeal.τ).loc Cert.MemBwdIdeal.main_v0_0) = v0 c
          ∧ r.2.mem ((c.tc : Thread Cert.MemBwdIdeal.nD Cert.MemBwdIdeal.τ).loc Cert.MemBwdIdeal.main_v0_1) = v1 c
          ∧ r.2.mem ((c.tc : Thread Cert.MemBwdIdeal.nD Cert.MemBwdIdeal.τ).loc Cert.MemBwdIdeal.main_v0_2) = v2 c
          ∧ r.2.mem ((c.tc : Thread Cert.MemBwdIdeal.nD Cert.MemBwdIdeal.τ).loc Cert.MemBwdIdeal.main_v0_3) = v3 c
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
          ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
          ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3))
      ∧ θ_run (Cert.MemBwdReferenceIdeal.defs (F := Ideal)) (onTc (τ := Cert.MemBwdReferenceIdeal.τ) (Cert.MemBwdReferenceIdeal.main (F := Ideal))) ⟨m', fun _ => 0, g'⟩ (fun r => ∀ c : Dev Cert.MemBwdReferenceIdeal.nD,
          r.2.mem ((c.tc : Thread Cert.MemBwdReferenceIdeal.nD Cert.MemBwdReferenceIdeal.τ).loc Cert.MemBwdReferenceIdeal.main_v73) = v0 c
          ∧ r.2.mem ((c.tc : Thread Cert.MemBwdReferenceIdeal.nD Cert.MemBwdReferenceIdeal.τ).loc Cert.MemBwdReferenceIdeal.main_v74) = v1 c
          ∧ r.2.mem ((c.tc : Thread Cert.MemBwdReferenceIdeal.nD Cert.MemBwdReferenceIdeal.τ).loc Cert.MemBwdReferenceIdeal.main_v75) = v2 c
          ∧ r.2.mem ((c.tc : Thread Cert.MemBwdReferenceIdeal.nD Cert.MemBwdReferenceIdeal.τ).loc Cert.MemBwdReferenceIdeal.main_v76) = v3 c
          ∧ r.2.mem ((c.tc : Thread Cert.MemBwdReferenceIdeal.nD Cert.MemBwdReferenceIdeal.τ).loc Cert.MemBwdReferenceIdeal.main_arg0) = m' ((c.tc : Thread Cert.MemBwdReferenceIdeal.nD Cert.MemBwdReferenceIdeal.τ).loc Cert.MemBwdReferenceIdeal.main_arg0)
          ∧ r.2.mem ((c.tc : Thread Cert.MemBwdReferenceIdeal.nD Cert.MemBwdReferenceIdeal.τ).loc Cert.MemBwdReferenceIdeal.main_arg1) = m' ((c.tc : Thread Cert.MemBwdReferenceIdeal.nD Cert.MemBwdReferenceIdeal.τ).loc Cert.MemBwdReferenceIdeal.main_arg1)
          ∧ r.2.mem ((c.tc : Thread Cert.MemBwdReferenceIdeal.nD Cert.MemBwdReferenceIdeal.τ).loc Cert.MemBwdReferenceIdeal.main_arg2) = m' ((c.tc : Thread Cert.MemBwdReferenceIdeal.nD Cert.MemBwdReferenceIdeal.τ).loc Cert.MemBwdReferenceIdeal.main_arg2)
          ∧ r.2.mem ((c.tc : Thread Cert.MemBwdReferenceIdeal.nD Cert.MemBwdReferenceIdeal.τ).loc Cert.MemBwdReferenceIdeal.main_arg3) = m' ((c.tc : Thread Cert.MemBwdReferenceIdeal.nD Cert.MemBwdReferenceIdeal.τ).loc Cert.MemBwdReferenceIdeal.main_arg3))

def preserves_Prep_PrepIdeal : Prop :=
  True

def algebraic_PrepIdeal_PrepReferenceIdeal_pre_finite_prep [hPrepIdeal : Cert.PrepIdeal.Facts] [hPrepReferenceIdeal : Cert.PrepReferenceIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal_finite_prep m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)) (v2 : (c : Dev Cert.PrepIdeal.nD) → Buf (Elt Ideal) ((c.tc : Thread Cert.PrepIdeal.nD Cert.PrepIdeal.τ).loc Cert.PrepIdeal.main_v0_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_v0_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v18) = v0 c
          ∧ r.2.mem ((c.tc : Thread Cert.PrepReferenceIdeal.nD Cert.PrepReferenceIdeal.τ).loc Cert.PrepReferenceIdeal.main_v22) = v1 c
          ∧ r.2.mem ((c.tc : Thread Cert.PrepReferenceIdeal.nD Cert.PrepReferenceIdeal.τ).loc Cert.PrepReferenceIdeal.main_v17) = v2 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5))

def preserves_MemFwd_MemFwdIdeal : Prop :=
  True

def algebraic_MemFwdIdeal_MemFwdReferenceIdeal [hMemFwdIdeal : Cert.MemFwdIdeal.Facts] [hMemFwdReferenceIdeal : Cert.MemFwdReferenceIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdReferenceIdeal.nD Cert.MemFwdReferenceIdeal.τ Cert.MemFwdReferenceIdeal.sig) → Buf (Elt Ideal) ℓ) (g' : Dev Cert.MemFwdReferenceIdeal.nD → PrngReg), Pre_MemFwdIdeal m →
    (∀ c : Dev Cert.MemFwdIdeal.nD,
      m' ((c.tc : Thread Cert.MemFwdReferenceIdeal.nD Cert.MemFwdReferenceIdeal.τ).loc Cert.MemFwdReferenceIdeal.main_arg0) = m ((c.tc : Thread Cert.MemFwdIdeal.nD Cert.MemFwdIdeal.τ).loc Cert.MemFwdIdeal.main_arg0)
      ∧ m' ((c.tc : Thread Cert.MemFwdReferenceIdeal.nD Cert.MemFwdReferenceIdeal.τ).loc Cert.MemFwdReferenceIdeal.main_arg1) = m ((c.tc : Thread Cert.MemFwdIdeal.nD Cert.MemFwdIdeal.τ).loc Cert.MemFwdIdeal.main_arg1)
      ∧ m' ((c.tc : Thread Cert.MemFwdReferenceIdeal.nD Cert.MemFwdReferenceIdeal.τ).loc Cert.MemFwdReferenceIdeal.main_arg2) = m ((c.tc : Thread Cert.MemFwdIdeal.nD Cert.MemFwdIdeal.τ).loc Cert.MemFwdIdeal.main_arg2)
      ∧ m' ((c.tc : Thread Cert.MemFwdReferenceIdeal.nD Cert.MemFwdReferenceIdeal.τ).loc Cert.MemFwdReferenceIdeal.main_arg3) = m ((c.tc : Thread Cert.MemFwdIdeal.nD Cert.MemFwdIdeal.τ).loc Cert.MemFwdIdeal.main_arg3)) →
    ∃ (v0 : (c : Dev Cert.MemFwdIdeal.nD) → Buf (Elt Ideal) ((c.tc : Thread Cert.MemFwdIdeal.nD Cert.MemFwdIdeal.τ).loc Cert.MemFwdIdeal.main_v0)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1)
          ∧ r.2.mem ((c.tc : Thread Cert.MemFwdIdeal.nD Cert.MemFwdIdeal.τ).loc Cert.MemFwdIdeal.main_arg2) = m ((c.tc : Thread Cert.MemFwdIdeal.nD Cert.MemFwdIdeal.τ).loc Cert.MemFwdIdeal.main_arg2)
          ∧ r.2.mem ((c.tc : Thread Cert.MemFwdIdeal.nD Cert.MemFwdIdeal.τ).loc Cert.MemFwdIdeal.main_arg3) = m ((c.tc : Thread Cert.MemFwdIdeal.nD Cert.MemFwdIdeal.τ).loc Cert.MemFwdIdeal.main_arg3))
      ∧ θ_run (Cert.MemFwdReferenceIdeal.defs (F := Ideal)) (onTc (τ := Cert.MemFwdReferenceIdeal.τ) (Cert.MemFwdReferenceIdeal.main (F := Ideal))) ⟨m', fun _ => 0, g'⟩ (fun r => ∀ c : Dev Cert.MemFwdReferenceIdeal.nD,
          r.2.mem ((c.tc : Thread Cert.MemFwdReferenceIdeal.nD Cert.MemFwdReferenceIdeal.τ).loc Cert.MemFwdReferenceIdeal.main_v30) = v0 c
          ∧ r.2.mem ((c.tc : Thread Cert.MemFwdReferenceIdeal.nD Cert.MemFwdReferenceIdeal.τ).loc Cert.MemFwdReferenceIdeal.main_arg0) = m' ((c.tc : Thread Cert.MemFwdReferenceIdeal.nD Cert.MemFwdReferenceIdeal.τ).loc Cert.MemFwdReferenceIdeal.main_arg0)
          ∧ r.2.mem ((c.tc : Thread Cert.MemFwdReferenceIdeal.nD Cert.MemFwdReferenceIdeal.τ).loc Cert.MemFwdReferenceIdeal.main_arg1) = m' ((c.tc : Thread Cert.MemFwdReferenceIdeal.nD Cert.MemFwdReferenceIdeal.τ).loc Cert.MemFwdReferenceIdeal.main_arg1)
          ∧ r.2.mem ((c.tc : Thread Cert.MemFwdReferenceIdeal.nD Cert.MemFwdReferenceIdeal.τ).loc Cert.MemFwdReferenceIdeal.main_arg2) = m' ((c.tc : Thread Cert.MemFwdReferenceIdeal.nD Cert.MemFwdReferenceIdeal.τ).loc Cert.MemFwdReferenceIdeal.main_arg2)
          ∧ r.2.mem ((c.tc : Thread Cert.MemFwdReferenceIdeal.nD Cert.MemFwdReferenceIdeal.τ).loc Cert.MemFwdReferenceIdeal.main_arg3) = m' ((c.tc : Thread Cert.MemFwdReferenceIdeal.nD Cert.MemFwdReferenceIdeal.τ).loc Cert.MemFwdReferenceIdeal.main_arg3))

def preserves_RmsFwd_RmsFwdIdeal : Prop :=
  True

def algebraic_RmsFwdIdeal_RmsFwdReferenceIdeal [hRmsFwdIdeal : Cert.RmsFwdIdeal.Facts] [hRmsFwdReferenceIdeal : Cert.RmsFwdReferenceIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdReferenceIdeal.nD Cert.RmsFwdReferenceIdeal.τ Cert.RmsFwdReferenceIdeal.sig) → Buf (Elt Ideal) ℓ) (g' : Dev Cert.RmsFwdReferenceIdeal.nD → PrngReg), Pre_RmsFwdIdeal m →
    (∀ c : Dev Cert.RmsFwdIdeal.nD,
      m' ((c.tc : Thread Cert.RmsFwdReferenceIdeal.nD Cert.RmsFwdReferenceIdeal.τ).loc Cert.RmsFwdReferenceIdeal.main_arg0) = m ((c.tc : Thread Cert.RmsFwdIdeal.nD Cert.RmsFwdIdeal.τ).loc Cert.RmsFwdIdeal.main_arg0)
      ∧ m' ((c.tc : Thread Cert.RmsFwdReferenceIdeal.nD Cert.RmsFwdReferenceIdeal.τ).loc Cert.RmsFwdReferenceIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0_0)) (v1 : (c : Dev Cert.RmsFwdIdeal.nD) → Buf (Elt Ideal) ((c.tc : Thread Cert.RmsFwdIdeal.nD Cert.RmsFwdIdeal.τ).loc Cert.RmsFwdIdeal.main_v0_1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0_0) = v0 c
          ∧ r.2.mem ((c.tc : Thread Cert.RmsFwdIdeal.nD Cert.RmsFwdIdeal.τ).loc Cert.RmsFwdIdeal.main_v0_1) = v1 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdReferenceIdeal.defs (F := Ideal)) (onTc (τ := Cert.RmsFwdReferenceIdeal.τ) (Cert.RmsFwdReferenceIdeal.main (F := Ideal))) ⟨m', fun _ => 0, g'⟩ (fun r => ∀ c : Dev Cert.RmsFwdReferenceIdeal.nD,
          r.2.mem ((c.tc : Thread Cert.RmsFwdReferenceIdeal.nD Cert.RmsFwdReferenceIdeal.τ).loc Cert.RmsFwdReferenceIdeal.main_v20) = v0 c
          ∧ r.2.mem ((c.tc : Thread Cert.RmsFwdReferenceIdeal.nD Cert.RmsFwdReferenceIdeal.τ).loc Cert.RmsFwdReferenceIdeal.main_v7) = v1 c
          ∧ r.2.mem ((c.tc : Thread Cert.RmsFwdReferenceIdeal.nD Cert.RmsFwdReferenceIdeal.τ).loc Cert.RmsFwdReferenceIdeal.main_arg0) = m' ((c.tc : Thread Cert.RmsFwdReferenceIdeal.nD Cert.RmsFwdReferenceIdeal.τ).loc Cert.RmsFwdReferenceIdeal.main_arg0)
          ∧ r.2.mem ((c.tc : Thread Cert.RmsFwdReferenceIdeal.nD Cert.RmsFwdReferenceIdeal.τ).loc Cert.RmsFwdReferenceIdeal.main_arg1) = m' ((c.tc : Thread Cert.RmsFwdReferenceIdeal.nD Cert.RmsFwdReferenceIdeal.τ).loc Cert.RmsFwdReferenceIdeal.main_arg1))

def preserves_MemKvFwd_MemKvFwdIdeal : Prop :=
  True

def algebraic_MemKvFwdIdeal_MemKvFwdReferenceIdeal [hMemKvFwdIdeal : Cert.MemKvFwdIdeal.Facts] [hMemKvFwdReferenceIdeal : Cert.MemKvFwdReferenceIdeal.Facts] : Prop :=
  ∀ (m : (ℓ : Loc Cert.MemKvFwdIdeal.nD Cert.MemKvFwdIdeal.τ Cert.MemKvFwdIdeal.sig) → Buf (Elt Ideal) ℓ) (g : Dev Cert.MemKvFwdIdeal.nD → PrngReg)
    (m' : (ℓ : Loc Cert.MemKvFwdReferenceIdeal.nD Cert.MemKvFwdReferenceIdeal.τ Cert.MemKvFwdReferenceIdeal.sig) → Buf (Elt Ideal) ℓ) (g' : Dev Cert.MemKvFwdReferenceIdeal.nD → PrngReg), Pre_MemKvFwdIdeal m →
    (∀ c : Dev Cert.MemKvFwdIdeal.nD,
      m' ((c.tc : Thread Cert.MemKvFwdReferenceIdeal.nD Cert.MemKvFwdReferenceIdeal.τ).loc Cert.MemKvFwdReferenceIdeal.main_arg0) = m ((c.tc : Thread Cert.MemKvFwdIdeal.nD Cert.MemKvFwdIdeal.τ).loc Cert.MemKvFwdIdeal.main_arg0)
      ∧ m' ((c.tc : Thread Cert.MemKvFwdReferenceIdeal.nD Cert.MemKvFwdReferenceIdeal.τ).loc Cert.MemKvFwdReferenceIdeal.main_arg1) = m ((c.tc : Thread Cert.MemKvFwdIdeal.nD Cert.MemKvFwdIdeal.τ).loc Cert.MemKvFwdIdeal.main_arg1)
      ∧ m' ((c.tc : Thread Cert.MemKvFwdReferenceIdeal.nD Cert.MemKvFwdReferenceIdeal.τ).loc Cert.MemKvFwdReferenceIdeal.main_arg2) = m ((c.tc : Thread Cert.MemKvFwdIdeal.nD Cert.MemKvFwdIdeal.τ).loc Cert.MemKvFwdIdeal.main_arg2)) →
    ∃ (v0 : (c : Dev Cert.MemKvFwdIdeal.nD) → Buf (Elt Ideal) ((c.tc : Thread Cert.MemKvFwdIdeal.nD Cert.MemKvFwdIdeal.τ).loc Cert.MemKvFwdIdeal.main_v0_0)) (v1 : (c : Dev Cert.MemKvFwdIdeal.nD) → Buf (Elt Ideal) ((c.tc : Thread Cert.MemKvFwdIdeal.nD Cert.MemKvFwdIdeal.τ).loc Cert.MemKvFwdIdeal.main_v0_1)),
      θ_run (Cert.MemKvFwdIdeal.defs (F := Ideal)) (onTc (τ := Cert.MemKvFwdIdeal.τ) (Cert.MemKvFwdIdeal.main (F := Ideal))) ⟨m, fun _ => 0, g⟩ (fun r => ∀ c : Dev Cert.MemKvFwdIdeal.nD,
          r.2.mem ((c.tc : Thread Cert.MemKvFwdIdeal.nD Cert.MemKvFwdIdeal.τ).loc Cert.MemKvFwdIdeal.main_v0_0) = v0 c
          ∧ r.2.mem ((c.tc : Thread Cert.MemKvFwdIdeal.nD Cert.MemKvFwdIdeal.τ).loc Cert.MemKvFwdIdeal.main_v0_1) = v1 c
          ∧ r.2.mem ((c.tc : Thread Cert.MemKvFwdIdeal.nD Cert.MemKvFwdIdeal.τ).loc Cert.MemKvFwdIdeal.main_arg0) = m ((c.tc : Thread Cert.MemKvFwdIdeal.nD Cert.MemKvFwdIdeal.τ).loc Cert.MemKvFwdIdeal.main_arg0)
          ∧ r.2.mem ((c.tc : Thread Cert.MemKvFwdIdeal.nD Cert.MemKvFwdIdeal.τ).loc Cert.MemKvFwdIdeal.main_arg1) = m ((c.tc : Thread Cert.MemKvFwdIdeal.nD Cert.MemKvFwdIdeal.τ).loc Cert.MemKvFwdIdeal.main_arg1)
          ∧ r.2.mem ((c.tc : Thread Cert.MemKvFwdIdeal.nD Cert.MemKvFwdIdeal.τ).loc Cert.MemKvFwdIdeal.main_arg2) = m ((c.tc : Thread Cert.MemKvFwdIdeal.nD Cert.MemKvFwdIdeal.τ).loc Cert.MemKvFwdIdeal.main_arg2))
      ∧ θ_run (Cert.MemKvFwdReferenceIdeal.defs (F := Ideal)) (onTc (τ := Cert.MemKvFwdReferenceIdeal.τ) (Cert.MemKvFwdReferenceIdeal.main (F := Ideal))) ⟨m', fun _ => 0, g'⟩ (fun r => ∀ c : Dev Cert.MemKvFwdReferenceIdeal.nD,
          r.2.mem ((c.tc : Thread Cert.MemKvFwdReferenceIdeal.nD Cert.MemKvFwdReferenceIdeal.τ).loc Cert.MemKvFwdReferenceIdeal.main_v24) = v0 c
          ∧ r.2.mem ((c.tc : Thread Cert.MemKvFwdReferenceIdeal.nD Cert.MemKvFwdReferenceIdeal.τ).loc Cert.MemKvFwdReferenceIdeal.main_v9) = v1 c
          ∧ r.2.mem ((c.tc : Thread Cert.MemKvFwdReferenceIdeal.nD Cert.MemKvFwdReferenceIdeal.τ).loc Cert.MemKvFwdReferenceIdeal.main_arg0) = m' ((c.tc : Thread Cert.MemKvFwdReferenceIdeal.nD Cert.MemKvFwdReferenceIdeal.τ).loc Cert.MemKvFwdReferenceIdeal.main_arg0)
          ∧ r.2.mem ((c.tc : Thread Cert.MemKvFwdReferenceIdeal.nD Cert.MemKvFwdReferenceIdeal.τ).loc Cert.MemKvFwdReferenceIdeal.main_arg1) = m' ((c.tc : Thread Cert.MemKvFwdReferenceIdeal.nD Cert.MemKvFwdReferenceIdeal.τ).loc Cert.MemKvFwdReferenceIdeal.main_arg1)
          ∧ r.2.mem ((c.tc : Thread Cert.MemKvFwdReferenceIdeal.nD Cert.MemKvFwdReferenceIdeal.τ).loc Cert.MemKvFwdReferenceIdeal.main_arg2) = m' ((c.tc : Thread Cert.MemKvFwdReferenceIdeal.nD Cert.MemKvFwdReferenceIdeal.τ).loc Cert.MemKvFwdReferenceIdeal.main_arg2))

def Claim : Prop :=
  ∃ (hKernel : Cert.Kernel.Facts) (hKernelIdeal : Cert.KernelIdeal.Facts) (hReferenceIdeal : Cert.ReferenceIdeal.Facts) (hGwIn : Cert.GwIn.Facts) (hGwInIdeal : Cert.GwInIdeal.Facts) (hGwInReferenceIdeal : Cert.GwInReferenceIdeal.Facts) (hDH : Cert.DH.Facts) (hDHIdeal : Cert.DHIdeal.Facts) (hDHReferenceIdeal : Cert.DHReferenceIdeal.Facts) (hGwOut : Cert.GwOut.Facts) (hGwOutIdeal : Cert.GwOutIdeal.Facts) (hGwOutReferenceIdeal : Cert.GwOutReferenceIdeal.Facts) (hDY : Cert.DY.Facts) (hDYIdeal : Cert.DYIdeal.Facts) (hDYReferenceIdeal : Cert.DYReferenceIdeal.Facts) (hProjF : Cert.ProjF.Facts) (hProjFIdeal : Cert.ProjFIdeal.Facts) (hProjFReferenceIdeal : Cert.ProjFReferenceIdeal.Facts) (hProjB : Cert.ProjB.Facts) (hProjBIdeal : Cert.ProjBIdeal.Facts) (hProjBReferenceIdeal : Cert.ProjBReferenceIdeal.Facts) (hOutProj : Cert.OutProj.Facts) (hOutProjIdeal : Cert.OutProjIdeal.Facts) (hOutProjReferenceIdeal : Cert.OutProjReferenceIdeal.Facts) (hRmsBwd : Cert.RmsBwd.Facts) (hRmsBwdIdeal : Cert.RmsBwdIdeal.Facts) (hRmsBwdReferenceIdeal : Cert.RmsBwdReferenceIdeal.Facts) (hMemKvBwd : Cert.MemKvBwd.Facts) (hMemKvBwdIdeal : Cert.MemKvBwdIdeal.Facts) (hMemKvBwdReferenceIdeal : Cert.MemKvBwdReferenceIdeal.Facts) (hMemBwd : Cert.MemBwd.Facts) (hMemBwdIdeal : Cert.MemBwdIdeal.Facts) (hMemBwdReferenceIdeal : Cert.MemBwdReferenceIdeal.Facts) (hPrep : Cert.Prep.Facts) (hPrepIdeal : Cert.PrepIdeal.Facts) (hPrepReferenceIdeal : Cert.PrepReferenceIdeal.Facts) (hMemFwd : Cert.MemFwd.Facts) (hMemFwdIdeal : Cert.MemFwdIdeal.Facts) (hMemFwdReferenceIdeal : Cert.MemFwdReferenceIdeal.Facts) (hRmsFwd : Cert.RmsFwd.Facts) (hRmsFwdIdeal : Cert.RmsFwdIdeal.Facts) (hRmsFwdReferenceIdeal : Cert.RmsFwdReferenceIdeal.Facts) (hMemKvFwd : Cert.MemKvFwd.Facts) (hMemKvFwdIdeal : Cert.MemKvFwdIdeal.Facts) (hMemKvFwdReferenceIdeal : Cert.MemKvFwdReferenceIdeal.Facts) (hPre_finite : Cert.Pre_finite.Facts) (hPre_finite_mem : Cert.Pre_finite_mem.Facts) (hPre_finite_prep : Cert.Pre_finite_prep.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GwIn (hGwIn := hGwIn)
    ∧ quiescent_GwInIdeal (hGwInIdeal := hGwInIdeal)
    ∧ quiescent_GwInReferenceIdeal (hGwInReferenceIdeal := hGwInReferenceIdeal)
    ∧ quiescent_DH (hDH := hDH)
    ∧ quiescent_DHIdeal (hDHIdeal := hDHIdeal)
    ∧ quiescent_DHReferenceIdeal (hDHReferenceIdeal := hDHReferenceIdeal)
    ∧ quiescent_GwOut (hGwOut := hGwOut)
    ∧ quiescent_GwOutIdeal (hGwOutIdeal := hGwOutIdeal)
    ∧ quiescent_GwOutReferenceIdeal (hGwOutReferenceIdeal := hGwOutReferenceIdeal)
    ∧ quiescent_DY (hDY := hDY)
    ∧ quiescent_DYIdeal (hDYIdeal := hDYIdeal)
    ∧ quiescent_DYReferenceIdeal (hDYReferenceIdeal := hDYReferenceIdeal)
    ∧ quiescent_ProjF (hProjF := hProjF)
    ∧ quiescent_ProjFIdeal (hProjFIdeal := hProjFIdeal)
    ∧ quiescent_ProjFReferenceIdeal (hProjFReferenceIdeal := hProjFReferenceIdeal)
    ∧ quiescent_ProjB (hProjB := hProjB)
    ∧ quiescent_ProjBIdeal (hProjBIdeal := hProjBIdeal)
    ∧ quiescent_ProjBReferenceIdeal (hProjBReferenceIdeal := hProjBReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_RmsBwd (hRmsBwd := hRmsBwd)
    ∧ quiescent_RmsBwdIdeal (hRmsBwdIdeal := hRmsBwdIdeal)
    ∧ quiescent_RmsBwdReferenceIdeal (hRmsBwdReferenceIdeal := hRmsBwdReferenceIdeal)
    ∧ quiescent_MemKvBwd (hMemKvBwd := hMemKvBwd)
    ∧ quiescent_MemKvBwdIdeal (hMemKvBwdIdeal := hMemKvBwdIdeal)
    ∧ quiescent_MemKvBwdReferenceIdeal (hMemKvBwdReferenceIdeal := hMemKvBwdReferenceIdeal)
    ∧ quiescent_MemBwd (hMemBwd := hMemBwd)
    ∧ quiescent_MemBwdIdeal (hMemBwdIdeal := hMemBwdIdeal)
    ∧ quiescent_MemBwdIdeal_pre_finite_mem (hMemBwdIdeal := hMemBwdIdeal) (hPre_finite_mem := hPre_finite_mem)
    ∧ quiescent_MemBwdReferenceIdeal (hMemBwdReferenceIdeal := hMemBwdReferenceIdeal)
    ∧ quiescent_MemBwdReferenceIdeal_pre_finite_mem (hMemBwdReferenceIdeal := hMemBwdReferenceIdeal) (hPre_finite_mem := hPre_finite_mem)
    ∧ quiescent_Prep (hPrep := hPrep)
    ∧ quiescent_PrepIdeal (hPrepIdeal := hPrepIdeal)
    ∧ quiescent_PrepIdeal_pre_finite_prep (hPrepIdeal := hPrepIdeal) (hPre_finite_prep := hPre_finite_prep)
    ∧ quiescent_PrepReferenceIdeal (hPrepReferenceIdeal := hPrepReferenceIdeal)
    ∧ quiescent_PrepReferenceIdeal_pre_finite_prep (hPrepReferenceIdeal := hPrepReferenceIdeal) (hPre_finite_prep := hPre_finite_prep)
    ∧ quiescent_MemFwd (hMemFwd := hMemFwd)
    ∧ quiescent_MemFwdIdeal (hMemFwdIdeal := hMemFwdIdeal)
    ∧ quiescent_MemFwdReferenceIdeal (hMemFwdReferenceIdeal := hMemFwdReferenceIdeal)
    ∧ quiescent_RmsFwd (hRmsFwd := hRmsFwd)
    ∧ quiescent_RmsFwdIdeal (hRmsFwdIdeal := hRmsFwdIdeal)
    ∧ quiescent_RmsFwdReferenceIdeal (hRmsFwdReferenceIdeal := hRmsFwdReferenceIdeal)
    ∧ quiescent_MemKvFwd (hMemKvFwd := hMemKvFwd)
    ∧ quiescent_MemKvFwdIdeal (hMemKvFwdIdeal := hMemKvFwdIdeal)
    ∧ quiescent_MemKvFwdReferenceIdeal (hMemKvFwdReferenceIdeal := hMemKvFwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GwIn_GwInIdeal
    ∧ algebraic_GwInIdeal_GwInReferenceIdeal (hGwInIdeal := hGwInIdeal) (hGwInReferenceIdeal := hGwInReferenceIdeal)
    ∧ preserves_DH_DHIdeal
    ∧ algebraic_DHIdeal_DHReferenceIdeal (hDHIdeal := hDHIdeal) (hDHReferenceIdeal := hDHReferenceIdeal)
    ∧ preserves_GwOut_GwOutIdeal
    ∧ algebraic_GwOutIdeal_GwOutReferenceIdeal (hGwOutIdeal := hGwOutIdeal) (hGwOutReferenceIdeal := hGwOutReferenceIdeal)
    ∧ preserves_DY_DYIdeal
    ∧ algebraic_DYIdeal_DYReferenceIdeal (hDYIdeal := hDYIdeal) (hDYReferenceIdeal := hDYReferenceIdeal)
    ∧ preserves_ProjF_ProjFIdeal
    ∧ algebraic_ProjFIdeal_ProjFReferenceIdeal (hProjFIdeal := hProjFIdeal) (hProjFReferenceIdeal := hProjFReferenceIdeal)
    ∧ preserves_ProjB_ProjBIdeal
    ∧ algebraic_ProjBIdeal_ProjBReferenceIdeal (hProjBIdeal := hProjBIdeal) (hProjBReferenceIdeal := hProjBReferenceIdeal)
    ∧ preserves_OutProj_OutProjIdeal
    ∧ algebraic_OutProjIdeal_OutProjReferenceIdeal (hOutProjIdeal := hOutProjIdeal) (hOutProjReferenceIdeal := hOutProjReferenceIdeal)
    ∧ preserves_RmsBwd_RmsBwdIdeal
    ∧ algebraic_RmsBwdIdeal_RmsBwdReferenceIdeal (hRmsBwdIdeal := hRmsBwdIdeal) (hRmsBwdReferenceIdeal := hRmsBwdReferenceIdeal)
    ∧ preserves_MemKvBwd_MemKvBwdIdeal
    ∧ algebraic_MemKvBwdIdeal_MemKvBwdReferenceIdeal (hMemKvBwdIdeal := hMemKvBwdIdeal) (hMemKvBwdReferenceIdeal := hMemKvBwdReferenceIdeal)
    ∧ preserves_MemBwd_MemBwdIdeal
    ∧ algebraic_MemBwdIdeal_MemBwdReferenceIdeal_pre_finite_mem (hMemBwdIdeal := hMemBwdIdeal) (hMemBwdReferenceIdeal := hMemBwdReferenceIdeal) (hPre_finite_mem := hPre_finite_mem)
    ∧ preserves_Prep_PrepIdeal
    ∧ algebraic_PrepIdeal_PrepReferenceIdeal_pre_finite_prep (hPrepIdeal := hPrepIdeal) (hPrepReferenceIdeal := hPrepReferenceIdeal) (hPre_finite_prep := hPre_finite_prep)
    ∧ preserves_MemFwd_MemFwdIdeal
    ∧ algebraic_MemFwdIdeal_MemFwdReferenceIdeal (hMemFwdIdeal := hMemFwdIdeal) (hMemFwdReferenceIdeal := hMemFwdReferenceIdeal)
    ∧ preserves_RmsFwd_RmsFwdIdeal
    ∧ algebraic_RmsFwdIdeal_RmsFwdReferenceIdeal (hRmsFwdIdeal := hRmsFwdIdeal) (hRmsFwdReferenceIdeal := hRmsFwdReferenceIdeal)
    ∧ preserves_MemKvFwd_MemKvFwdIdeal
    ∧ algebraic_MemKvFwdIdeal_MemKvFwdReferenceIdeal (hMemKvFwdIdeal := hMemKvFwdIdeal) (hMemKvFwdReferenceIdeal := hMemKvFwdReferenceIdeal)
-- ==== Pre_finite.lean ====
abbrev S8192x3584 : Shape := ⟨2, ![8192, 3584]⟩
abbrev S8192x1024 : Shape := ⟨2, ![8192, 1024]⟩
abbrev S8x8192x1 : Shape := ⟨3, ![8, 8192, 1]⟩
abbrev S8192x3072 : Shape := ⟨2, ![8192, 3072]⟩
abbrev S8x8192 : Shape := ⟨2, ![8, 8192]⟩
abbrev S8192x8 : Shape := ⟨2, ![8192, 8]⟩
abbrev S8192x4104 : Shape := ⟨2, ![8192, 4104]⟩
abbrev S_ : Shape := ⟨0, ![]⟩

class Facts : Prop where
  slices_S8192x3584_S8192x3072_0_0 : S8192x3584.Slices ![0, 0] S8192x3072
  bitsLt_bf16_f32 : FTy.bits .bf16 < FTy.bits .f32
  shapeCasts_S8x8192x1_S8x8192 : S8x8192x1.ShapeCasts S8x8192
  transposes_S8x8192_S8192x8_1_0 : S8x8192.Transposes [1, 0] S8192x8
  concatenates_S8192x3072_S8192x1024_S8192x8_S8192x4104_d1 : Shape.Concatenates [S8192x3072, S8192x1024, S8192x8] S8192x4104 1
  bcast_S_S8192x4104 : S_.BroadcastsInDim S8192x4104 (![] : Fin 0 → Fin S8192x4104.rank)

variable [Facts]

def fn {F : FTy → Type} [FloatOps F] (main_arg0 : FVec F S8192x3584 .bf16) (main_arg1 : FVec F S8192x1024 .bf16) (main_arg2 : FVec F S8x8192x1 .f32) : IVec S8192x4104 1 :=
  let main_v0 : FVec F S8192x3072 .bf16 := (extractStridedSlice S8192x3072 ![0, 0] · slices_S8192x3584_S8192x3072_0_0) main_arg0
  let main_v1 : FVec F S8192x3072 .f32 := (extf .f32 · bitsLt_bf16_f32) main_v0
  let main_v2 : FVec F S8192x1024 .f32 := (extf .f32 · bitsLt_bf16_f32) main_arg1
  let main_v3 : FVec F S8x8192 .f32 := shapeCast S8x8192 main_arg2 shapeCasts_S8x8192x1_S8x8192
  let main_v4 : FVec F S8192x8 .f32 := (transpose S8192x8 [1, 0] · transposes_S8x8192_S8192x8_1_0) main_v3
  let main_v5 : FVec F S8192x4104 .f32 := concatenate S8192x4104 1 [⟨S8192x3072, main_v1⟩, ⟨S8192x1024, main_v2⟩, ⟨S8192x8, main_v4⟩] concatenates_S8192x3072_S8192x1024_S8192x8_S8192x4104_d1
  let main_v6 : FVec F S8192x4104 .f32 := Host.absf main_v5
  let main_cst : FVec F S_ .f32 := constant S_ .f32 0x7F800000#32
  let main_v7 : FVec F S8192x4104 .f32 := broadcastInDim S8192x4104 ![] bcast_S_S8192x4104 main_cst
  let main_v8 : IVec S8192x4104 1 := cmpf .olt main_v6 main_v7
  main_v8
-- ==== Pre_finite_mem.lean ====
abbrev S8192x3584 : Shape := ⟨2, ![8192, 3584]⟩
abbrev S256x1024 : Shape := ⟨2, ![256, 1024]⟩
abbrev S8192x2048 : Shape := ⟨2, ![8192, 2048]⟩
abbrev S8192x512 : Shape := ⟨2, ![8192, 512]⟩
abbrev S8192x1024 : Shape := ⟨2, ![8192, 1024]⟩
abbrev S8448x1024 : Shape := ⟨2, ![8448, 1024]⟩
abbrev S_ : Shape := ⟨0, ![]⟩

class Facts : Prop where
  slices_S8192x3584_S8192x512_0_3072 : S8192x3584.Slices ![0, 3072] S8192x512
  bitsLt_bf16_f32 : FTy.bits .bf16 < FTy.bits .f32
  slices_S8192x2048_S8192x512_0_1536 : S8192x2048.Slices ![0, 1536] S8192x512
  concatenates_S8192x512_S8192x512_S8192x1024_d1 : Shape.Concatenates [S8192x512, S8192x512] S8192x1024 1
  concatenates_S8192x1024_S256x1024_S8448x1024_d0 : Shape.Concatenates [S8192x1024, S256x1024] S8448x1024 0
  bcast_S_S8448x1024 : S_.BroadcastsInDim S8448x1024 (![] : Fin 0 → Fin S8448x1024.rank)

variable [Facts]

def fn {F : FTy → Type} [FloatOps F] (main_arg0 : FVec F S8192x3584 .bf16) (main_arg1 : FVec F S8192x3584 .f32) (main_arg2 : FVec F S256x1024 .bf16) (main_arg3 : FVec F S8192x2048 .f32) : IVec S8448x1024 1 :=
  let main_v0 : FVec F S8192x512 .bf16 := (extractStridedSlice S8192x512 ![0, 3072] · slices_S8192x3584_S8192x512_0_3072) main_arg0
  let main_v1 : FVec F S8192x512 .f32 := (extf .f32 · bitsLt_bf16_f32) main_v0
  let main_v2 : FVec F S8192x512 .f32 := (extractStridedSlice S8192x512 ![0, 1536] · slices_S8192x2048_S8192x512_0_1536) main_arg3
  let main_v3 : FVec F S8192x1024 .f32 := (fun a b => concatenate S8192x1024 1 [⟨S8192x512, a⟩, ⟨S8192x512, b⟩] concatenates_S8192x512_S8192x512_S8192x1024_d1) main_v1 main_v2
  let main_v4 : FVec F S256x1024 .f32 := (extf .f32 · bitsLt_bf16_f32) main_arg2
  let main_v5 : FVec F S8448x1024 .f32 := (fun a b => concatenate S8448x1024 0 [⟨S8192x1024, a⟩, ⟨S256x1024, b⟩] concatenates_S8192x1024_S256x1024_S8448x1024_d0) main_v3 main_v4
  let main_v6 : FVec F S8448x1024 .f32 := Host.absf main_v5
  let main_cst : FVec F S_ .f32 := constant S_ .f32 0x7F800000#32
  let main_v7 : FVec F S8448x1024 .f32 := broadcastInDim S8448x1024 ![] bcast_S_S8448x1024 main_cst
  let main_v8 : IVec S8448x1024 1 := cmpf .olt main_v6 main_v7
  main_v8
-- ==== Pre_finite_prep.lean ====
abbrev S8192x2048 : Shape := ⟨2, ![8192, 2048]⟩
abbrev S8192x3584 : Shape := ⟨2, ![8192, 3584]⟩
abbrev S8192x1024 : Shape := ⟨2, ![8192, 1024]⟩
abbrev S8x8192x1 : Shape := ⟨3, ![8, 8192, 1]⟩
abbrev S8192x7168 : Shape := ⟨2, ![8192, 7168]⟩
abbrev S16384x1024 : Shape := ⟨2, ![16384, 1024]⟩
abbrev S_ : Shape := ⟨0, ![]⟩

class Facts : Prop where
  slices_S8192x2048_S8192x1024_0_512 : S8192x2048.Slices ![0, 512] S8192x1024
  bitsLt_bf16_f32 : FTy.bits .bf16 < FTy.bits .f32
  concatenates_S8192x1024_S8192x1024_S16384x1024_d0 : Shape.Concatenates [S8192x1024, S8192x1024] S16384x1024 0
  bcast_S_S16384x1024 : S_.BroadcastsInDim S16384x1024 (![] : Fin 0 → Fin S16384x1024.rank)

variable [Facts]

def fn {F : FTy → Type} [FloatOps F] (main_arg0 : FVec F S8192x2048 .f32) (main_arg1 : FVec F S8192x3584 .f32) (main_arg2 : FVec F S8192x1024 .bf16) (main_arg3 : FVec F S8x8192x1 .f32) (main_arg4 : FVec F S8x8192x1 .f32) (main_arg5 : FVec F S8192x7168 .bf16) : IVec S16384x1024 1 :=
  let main_v0 : FVec F S8192x1024 .f32 := (extractStridedSlice S8192x1024 ![0, 512] · slices_S8192x2048_S8192x1024_0_512) main_arg0
  let main_v1 : FVec F S8192x1024 .f32 := (extf .f32 · bitsLt_bf16_f32) main_arg2
  let main_v2 : FVec F S16384x1024 .f32 := (fun a b => concatenate S16384x1024 0 [⟨S8192x1024, a⟩, ⟨S8192x1024, b⟩] concatenates_S8192x1024_S8192x1024_S16384x1024_d0) main_v0 main_v1
  let main_v3 : FVec F S16384x1024 .f32 := Host.absf main_v2
  let main_cst : FVec F S_ .f32 := constant S_ .f32 0x7F800000#32
  let main_v4 : FVec F S16384x1024 .f32 := broadcastInDim S16384x1024 ![] bcast_S_S16384x1024 main_cst
  let main_v5 : IVec S16384x1024 1 := cmpf .olt main_v3 main_v4
  main_v5
-- ==== Kernel.lean ====
abbrev S8192x3584 : Shape := ⟨2, ![8192, 3584]⟩
abbrev S8192x1024 : Shape := ⟨2, ![8192, 1024]⟩
abbrev S8x8192x1 : Shape := ⟨3, ![8, 8192, 1]⟩
abbrev S8192x8x128 : Shape := ⟨3, ![8192, 8, 128]⟩
abbrev S8x8192 : Shape := ⟨2, ![8, 8192]⟩
abbrev S8x8192x8192 : Shape := ⟨3, ![8, 8192, 8192]⟩
abbrev S_ : Shape := ⟨0, ![]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8192x8 : Shape := ⟨2, ![8192, 8]⟩
abbrev S8x6x8192 : Shape := ⟨3, ![8, 6, 8192]⟩
abbrev S8x8x8192 : Shape := ⟨3, ![8, 8, 8192]⟩
abbrev S512x128 : Shape := ⟨2, ![512, 128]⟩
abbrev S8192x128 : Shape := ⟨2, ![8192, 128]⟩
abbrev S1x8x8192 : Shape := ⟨3, ![1, 8, 8192]⟩
abbrev S1x512x1 : Shape := ⟨3, ![1, 512, 1]⟩
abbrev S128x8192 : Shape := ⟨2, ![128, 8192]⟩
abbrev S512x512 : Shape := ⟨2, ![512, 512]⟩
abbrev S128x512 : Shape := ⟨2, ![128, 512]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩

abbrev nBuf : Space → Nat
  | .hbm => 63
  | .vmem => 30
  | .smem => 0
  | _ => 0

abbrev bufTy : (tb : Table) → Fin (tcTables nBuf tb) → BufTy
  | .hbm, ⟨0, _⟩ => ⟨S8192x3584, .bf16⟩
  | .hbm, ⟨1, _⟩ => ⟨S8192x1024, .bf16⟩
  | .hbm, ⟨2, _⟩ => ⟨S8x8192x1, .f32⟩
  | .hbm, ⟨3, _⟩ => ⟨S8192x3584, .f32⟩
  | .hbm, ⟨4, _⟩ => ⟨S8192x1024, .f32⟩
  | .hbm, ⟨5, _⟩ => ⟨S8192x8x128, .f32⟩
  | .hbm, ⟨6, _⟩ => ⟨S8192x1024, .f32⟩
  | .hbm, ⟨7, _⟩ => ⟨S8192x8x128, .f32⟩
  | .hbm, ⟨8, _⟩ => ⟨S8192x1024, .f32⟩
  | .hbm, ⟨9, _⟩ => ⟨S8192x8x128, .f32⟩
  | .hbm, ⟨10, _⟩ => ⟨S8x8192, .f32⟩
  | .hbm, ⟨11, _⟩ => ⟨S8x8192x8192, .f32⟩
  | .hbm, ⟨12, _⟩ => ⟨S_, .f32⟩
  | .hbm, ⟨13, _⟩ => ⟨S8x8192x8192, .f32⟩
  | .hbm, ⟨14, _⟩ => ⟨S8x8192x8192, .f32⟩
  | .hbm, ⟨15, _⟩ => ⟨S8x8192x1, .f32⟩
  | .hbm, ⟨16, _⟩ => ⟨S8x1x8192, .f32⟩
  | .hbm, ⟨17, _⟩ => ⟨S8x8192x8192, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S8192, .i32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S8x8192x8192, .i1⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x8192, .f32⟩
  | .hbm, ⟨42, _⟩ => ⟨S8x8192x8192, .f32⟩
  | .hbm, ⟨43, _⟩ => ⟨S8x128x8192, .f32⟩
  | .hbm, ⟨44, _⟩ => ⟨S8192x8x128, .f32⟩
  | .hbm, ⟨45, _⟩ => ⟨S8x8192, .f32⟩
  | .hbm, ⟨46, _⟩ => ⟨S8x8192, .f32⟩
  | .hbm, ⟨47, _⟩ => ⟨S8192x1024, .f32⟩
  | .hbm, ⟨48, _⟩ => ⟨S8192x8x128, .f32⟩
  | .hbm, ⟨49, _⟩ => ⟨S8192x8x128, .f32⟩
  | .hbm, ⟨50, _⟩ => ⟨S_, .f32⟩
  | .hbm, ⟨51, _⟩ => ⟨S8192x8, .f32⟩
  | .hbm, ⟨52, _⟩ => ⟨S8x8192, .f32⟩
  | .hbm, ⟨53, _⟩ => ⟨S8x8192, .f32⟩
  | .hbm, ⟨54, _⟩ => ⟨S8x1x8192, .f32⟩
  | .hbm, ⟨55, _⟩ => ⟨S8x1x8192, .f32⟩
  | .hbm, ⟨56, _⟩ => ⟨S_, .f32⟩
  | .hbm, ⟨57, _⟩ => ⟨S8x6x8192, .f32⟩
  | .hbm, ⟨58, _⟩ => ⟨S8x8x8192, .f32⟩
  | .hbm, ⟨59, _⟩ => ⟨S8192x1024, .bf16⟩
  | .hbm, ⟨60, _⟩ => ⟨S8192x1024, .bf16⟩
  | .hbm, ⟨61, _⟩ => ⟨S8192x1024, .bf16⟩
  | .hbm, ⟨62, _⟩ => ⟨S8x8x8192, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S1x8x8192, .f32⟩
  | .local _ .vmem, ⟨9, _⟩ => ⟨S1x8x8192, .f32⟩
  | .local _ .vmem, ⟨10, _⟩ => ⟨S1x512x1, .f32⟩
  | .local _ .vmem, ⟨11, _⟩ => ⟨S1x512x1, .f32⟩
  | .local _ .vmem, ⟨12, _⟩ => ⟨S8192x128, .bf16⟩
  | .local _ .vmem, ⟨13, _⟩ => ⟨S8192x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S1x8x8192, .f32⟩
  | .local _ .vmem, ⟨19, _⟩ => ⟨S1x8x8192, .f32⟩
  | .local _ .vmem, ⟨20, _⟩ => ⟨S128x8192, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S8x8192, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47_0 : Ref sig .tc := ⟨.hbm, 59, rfl⟩
abbrev main_v47_1 : Ref sig .tc := ⟨.hbm, 60, rfl⟩
abbrev main_v47_2 : Ref sig .tc := ⟨.hbm, 61, rfl⟩
abbrev main_v47_3 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v28 : BitVec 32 := Scalar.muli arg1 c512_i32
  v28
def k0_off1 (i : grid0.Coords) : Fin 2 → Nat :=
  let arg1 : BitVec 32 := BitVec.ofNat 32 (i 1).val
  let c512_i32 : BitVec 32 := 512#32
  let v28 : BitVec 32 := Scalar.muli arg1 c512_i32
  let v29 : BitVec 32 := v28
  let v30 : Index := Scalar.indexCast v29
  let c0_17 : Index := 0#32
  ![v30.toNat, 0]
def k0_off2 (i : grid0.Coords) : Fin 3 → Nat :=
  let c0_20 : Index := 0#32
  let c0_21 : Index := 0#32
  let arg1 : BitVec 32 := BitVec.ofNat 32 (i 1).val
  let c512_i32 : BitVec 32 := 512#32
  let v28 : BitVec 32 := Scalar.muli arg1 c512_i32
  let v29 : BitVec 32 := v28
  let v35 : Index := Scalar.indexCast v29
  ![0, 0, v35.toNat]
def k0_off3 (i : grid0.Coords) : Fin 3 → Nat :=
  let c0_28 : Index := 0#32
  let c1 : Index := 1#32
  let arg1 : BitVec 32 := BitVec.ofNat 32 (i 1).val
  let c512_i32 : BitVec 32 := 512#32
  let v28 : BitVec 32 := Scalar.muli arg1 c512_i32
  let v29 : BitVec 32 := v28
  let v48 : Index := Scalar.indexCast v29
  ![0, 1, v48.toNat]
def k0_cond2 (i : grid0.Coords) : BitVec 1 :=
  let c15_i32 : BitVec 32 := 15#32
  let arg1 : BitVec 32 := BitVec.ofNat 32 (i 1).val
  let v27 : BitVec 32 := Scalar.subi c15_i32 arg1
  let c0_i32_31 : BitVec 32 := 0#32
  let v56 : BitVec 1 := Scalar.cmpi .eq v27 c0_i32_31
  let v57 : BitVec 32 := Scalar.extui v56
  let c0_i32_32 : BitVec 32 := 0#32
  let v58 : BitVec 1 := Scalar.cmpi .ne v57 c0_i32_32
  v58

def k0_mult2 (i : grid0.Coords) : BitVec 32 :=
  let arg1 : BitVec 32 := BitVec.ofNat 32 (i 1).val
  let c512_i32_52 : BitVec 32 := 512#32
  let v85 : BitVec 32 := Scalar.muli arg1 c512_i32_52
  v85
def k0_off4 (i : grid0.Coords) : Fin 2 → Nat :=
  let arg1 : BitVec 32 := BitVec.ofNat 32 (i 1).val
  let c512_i32_52 : BitVec 32 := 512#32
  let v85 : BitVec 32 := Scalar.muli arg1 c512_i32_52
  let v86 : BitVec 32 := v85
  let v96 : Index := Scalar.indexCast v86
  let c0_58 : Index := 0#32
  ![v96.toNat, 0]
def k0_off5 (i : grid0.Coords) : Fin 2 → Nat :=
  let c0_68 : Index := 0#32
  let arg1 : BitVec 32 := BitVec.ofNat 32 (i 1).val
  let c512_i32_52 : BitVec 32 := 512#32
  let v85 : BitVec 32 := Scalar.muli arg1 c512_i32_52
  let v86 : BitVec 32 := v85
  let v117 : Index := Scalar.indexCast v86
  ![0, v117.toNat]
def k0_off6 (i : grid0.Coords) : Fin 2 → Nat :=
  let c0_77 : Index := 0#32
  let arg1 : BitVec 32 := BitVec.ofNat 32 (i 1).val
  let c512_i32_52 : BitVec 32 := 512#32
  let v85 : BitVec 32 := Scalar.muli arg1 c512_i32_52
  let v86 : BitVec 32 := v85
  let v135 : Index := Scalar.indexCast v86
  ![0, v135.toNat]
def k0_cond3 (i : grid0.Coords) : BitVec 1 :=
  let c15_i32 : BitVec 32 := 15#32
  let arg1 : BitVec 32 := BitVec.ofNat 32 (i 1).val
  let v27 : BitVec 32 := Scalar.subi c15_i32 arg1
  let c0_i32_33 : BitVec 32 := 0#32
  let v59 : BitVec 1 := Scalar.cmpi .sgt v27 c0_i32_33
  let v60 : BitVec 32 := Scalar.extui v59
  let c0_i32_34 : BitVec 32 := 0#32
  let v61 : BitVec 1 := Scalar.cmpi .ne v60 c0_i32_34
  v61

def k0_mult3 (i : grid0.Coords) : BitVec 32 :=
  let arg1 : BitVec 32 := BitVec.ofNat 32 (i 1).val
  let c1_i32 : BitVec 32 := 1#32
  let v85 : BitVec 32 := Scalar.addi arg1 c1_i32
  let c512_i32_52 : BitVec 32 := 512#32
  let v86 : BitVec 32 := Scalar.muli v85 c512_i32_52
  v86
def k0_off7 (i : grid0.Coords) : Fin 2 → Nat :=
  let arg1 : BitVec 32 := BitVec.ofNat 32 (i 1).val
  let c1_i32 : BitVec 32 := 1#32
  let v85 : BitVec 32 := Scalar.addi arg1 c1_i32
  let c512_i32_52 : BitVec 32 := 512#32
  let v86 : BitVec 32 := Scalar.muli v85 c512_i32_52
  let v87 : BitVec 32 := v86
  let v88 : Index := Scalar.indexCast v87
  let c0_53 : Index := 0#32
  ![v88.toNat, 0]
def k0_off8 (i : grid0.Coords) : Fin 3 → Nat :=
  let c0_56 : Index := 0#32
  let c0_57 : Index := 0#32
  let arg1 : BitVec 32 := BitVec.ofNat 32 (i 1).val
  let c1_i32 : BitVec 32 := 1#32
  let v85 : BitVec 32 := Scalar.addi arg1 c1_i32
  let c512_i32_52 : BitVec 32 := 512#32
  let v86 : BitVec 32 := Scalar.muli v85 c512_i32_52
  let v87 : BitVec 32 := v86
  let v93 : Index := Scalar.indexCast v87
  ![0, 0, v93.toNat]
def k0_off9 (i : grid0.Coords) : Fin 3 → Nat :=
  let c0_64 : Index := 0#32
  let c1_65 : Index := 1#32
  let arg1 : BitVec 32 := BitVec.ofNat 32 (i 1).val
  let c1_i32 : BitVec 32 := 1#32
  let v85 : BitVec 32 := Scalar.addi arg1 c1_i32
  let c512_i32_52 : BitVec 32 := 512#32
  let v86 : BitVec 32 := Scalar.muli v85 c512_i32_52
  let v87 : BitVec 32 := v86
  let v106 : Index := Scalar.indexCast v87
  ![0, 1, v106.toNat]
def k0_mult4 (i : grid0.Coords) : BitVec 32 :=
  let arg1 : BitVec 32 := BitVec.ofNat 32 (i 1).val
  let c512_i32_68 : BitVec 32 := 512#32
  let v114 : BitVec 32 := Scalar.muli arg1 c512_i32_68
  v114
def k0_off10 (i : grid0.Coords) : Fin 2 → Nat :=
  let arg1 : BitVec 32 := BitVec.ofNat 32 (i 1).val
  let c512_i32_68 : BitVec 32 := 512#32
  let v114 : BitVec 32 := Scalar.muli arg1 c512_i32_68
  let v115 : BitVec 32 := v114
  let v125 : Index := Scalar.indexCast v115
  let c0_74 : Index := 0#32
  ![v125.toNat, 0]
def k0_off11 (i : grid0.Coords) : Fin 2 → Nat :=
  let c0_84 : Index := 0#32
  let arg1 : BitVec 32 := BitVec.ofNat 32 (i 1).val
  let c512_i32_68 : BitVec 32 := 512#32
  let v114 : BitVec 32 := Scalar.muli arg1 c512_i32_68
  let v115 : BitVec 32 := v114
  let v146 : Index := Scalar.indexCast v115
  ![0, v146.toNat]
def k0_off12 (i : grid0.Coords) : Fin 2 → Nat :=
  let c0_93 : Index := 0#32
  let arg1 : BitVec 32 := BitVec.ofNat 32 (i 1).val
  let c512_i32_68 : BitVec 32 := 512#32
  let v114 : BitVec 32 := Scalar.muli arg1 c512_i32_68
  let v115 : BitVec 32 := v114
  let v164 : Index := Scalar.indexCast v115
  ![0, v164.toNat]
@[reducible] def k0_t1_loop (i : grid0.Coords) : Scf.Loop 32 :=
  let c0_i32_104 : BitVec 32 := 0#32
  let c15_i32 : BitVec 32 := 15#32
  let arg1 : BitVec 32 := BitVec.ofNat 32 (i 1).val
  let v27 : BitVec 32 := Scalar.subi c15_i32 arg1
  let c1_i32_96 : BitVec 32 := 1#32
  let v172 : BitVec 32 := Scalar.subi v27 c1_i32_96
  let c0_i32_97 : BitVec 32 := 0#32
  let v174 : BitVec 1 := Scalar.cmpi .sgt v172 c0_i32_97
  let v175 : BitVec 32 := Scalar.extui v174
  let c0_i32_98 : BitVec 32 := 0#32
  let v176 : BitVec 1 := Scalar.cmpi .slt v172 c0_i32_98
  let v177 : BitVec 32 := Scalar.extui v176
  let v178 : BitVec 32 := Scalar.subi v175 v177
  let c2_i32 : BitVec 32 := 2#32
  let c0_i32_99 : BitVec 32 := 0#32
  let v179 : BitVec 1 := Scalar.cmpi .sgt c2_i32 c0_i32_99
  let v180 : BitVec 32 := Scalar.extui v179
  let c0_i32_100 : BitVec 32 := 0#32
  let v181 : BitVec 1 := Scalar.cmpi .slt c2_i32 c0_i32_100
  let v182 : BitVec 32 := Scalar.extui v181
  let v183 : BitVec 32 := Scalar.subi v180 v182
  let v184 : BitVec 1 := Scalar.cmpi .ne v178 v183
  let v185 : BitVec 32 := Scalar.remsi v172 c2_i32
  let c0_i32_101 : BitVec 32 := 0#32
  let v186 : BitVec 1 := Scalar.cmpi .ne v185 c0_i32_101
  let v187 : BitVec 1 := Scalar.andi v184 v186
  let v173 : BitVec 32 := Scalar.divsi v172 c2_i32
  let c1_i32_102 : BitVec 32 := 1#32
  let v188 : BitVec 32 := Scalar.subi v173 c1_i32_102
  let v189 : BitVec 32 := Scalar.select v187 v188 v173
  let v190 : BitVec 32 := Scalar.subi v189 c0_i32_104
  let c1_i32_105 : BitVec 32 := 1#32
  let v192 : BitVec 32 := Scalar.divsi v190 c1_i32_105
  let v193 : BitVec 32 := Scalar.muli v192 c1_i32_105
  let v194 : BitVec 32 := Scalar.addi c0_i32_104 v193
  let c1_i32_106 : BitVec 32 := 1#32
  ⟨c0_i32_104, v194, c1_i32_106⟩
def k0_mult5 (i : grid0.Coords) (k0_t1 : Fin (k0_t1_loop i).trips) : BitVec 32 :=
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c1_i32_106 : BitVec 32 := 1#32
  let arg22 : BitVec 32 := Scf.iv c0_i32_104 c1_i32_106 k0_t1
  let v222 : BitVec 32 := Scalar.muli c2_i32_125 arg22
  let v223 : BitVec 32 := Scalar.addi v221 v222
  let c1_i32_126 : BitVec 32 := 1#32
  let v224 : BitVec 32 := Scalar.addi v223 c1_i32_126
  let c512_i32_127 : BitVec 32 := 512#32
  let v225 : BitVec 32 := Scalar.muli v224 c512_i32_127
  v225
def k0_off13 (i : grid0.Coords) (k0_t1 : Fin (k0_t1_loop i).trips) (c1_i32_126 : BitVec 32) : Fin 2 → Nat :=
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c1_i32_106 : BitVec 32 := 1#32
  let arg22 : BitVec 32 := Scf.iv c0_i32_104 c1_i32_106 k0_t1
  let v222 : BitVec 32 := Scalar.muli c2_i32_125 arg22
  let v223 : BitVec 32 := Scalar.addi v221 v222
  let v224 : BitVec 32 := Scalar.addi v223 c1_i32_126
  let c512_i32_127 : BitVec 32 := 512#32
  let v225 : BitVec 32 := Scalar.muli v224 c512_i32_127
  let v226 : BitVec 32 := v225
  let v227 : Index := Scalar.indexCast v226
  let c0_128 : Index := 0#32
  ![v227.toNat, 0]
def k0_off14 (i : grid0.Coords) (k0_t1 : Fin (k0_t1_loop i).trips) (c1_i32_126 : BitVec 32) : Fin 3 → Nat :=
  let c0_131 : Index := 0#32
  let c0_132 : Index := 0#32
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c1_i32_106 : BitVec 32 := 1#32
  let arg22 : BitVec 32 := Scf.iv c0_i32_104 c1_i32_106 k0_t1
  let v222 : BitVec 32 := Scalar.muli c2_i32_125 arg22
  let v223 : BitVec 32 := Scalar.addi v221 v222
  let v224 : BitVec 32 := Scalar.addi v223 c1_i32_126
  let c512_i32_127 : BitVec 32 := 512#32
  let v225 : BitVec 32 := Scalar.muli v224 c512_i32_127
  let v226 : BitVec 32 := v225
  let v232 : Index := Scalar.indexCast v226
  ![0, 0, v232.toNat]
def k0_off15 (i : grid0.Coords) (k0_t1 : Fin (k0_t1_loop i).trips) (c1_i32_126 : BitVec 32) : Fin 3 → Nat :=
  let c0_139 : Index := 0#32
  let c1_140 : Index := 1#32
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c1_i32_106 : BitVec 32 := 1#32
  let arg22 : BitVec 32 := Scf.iv c0_i32_104 c1_i32_106 k0_t1
  let v222 : BitVec 32 := Scalar.muli c2_i32_125 arg22
  let v223 : BitVec 32 := Scalar.addi v221 v222
  let v224 : BitVec 32 := Scalar.addi v223 c1_i32_126
  let c512_i32_127 : BitVec 32 := 512#32
  let v225 : BitVec 32 := Scalar.muli v224 c512_i32_127
  let v226 : BitVec 32 := v225
  let v245 : Index := Scalar.indexCast v226
  ![0, 1, v245.toNat]
def k0_mult6 (i : grid0.Coords) (k0_t1 : Fin (k0_t1_loop i).trips) : BitVec 32 :=
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c1_i32_106 : BitVec 32 := 1#32
  let arg22 : BitVec 32 := Scf.iv c0_i32_104 c1_i32_106 k0_t1
  let v222 : BitVec 32 := Scalar.muli c2_i32_125 arg22
  let v223 : BitVec 32 := Scalar.addi v221 v222
  let c512_i32_143 : BitVec 32 := 512#32
  let v253 : BitVec 32 := Scalar.muli v223 c512_i32_143
  v253
def k0_off16 (i : grid0.Coords) (k0_t1 : Fin (k0_t1_loop i).trips) : Fin 2 → Nat :=
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c1_i32_106 : BitVec 32 := 1#32
  let arg22 : BitVec 32 := Scf.iv c0_i32_104 c1_i32_106 k0_t1
  let v222 : BitVec 32 := Scalar.muli c2_i32_125 arg22
  let v223 : BitVec 32 := Scalar.addi v221 v222
  let c512_i32_143 : BitVec 32 := 512#32
  let v253 : BitVec 32 := Scalar.muli v223 c512_i32_143
  let v254 : BitVec 32 := v253
  let v259 : Index := Scalar.indexCast v254
  let c0_148 : Index := 0#32
  ![v259.toNat, 0]
def k0_off17 (i : grid0.Coords) (k0_t1 : Fin (k0_t1_loop i).trips) : Fin 2 → Nat :=
  let c0_158 : Index := 0#32
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c1_i32_106 : BitVec 32 := 1#32
  let arg22 : BitVec 32 := Scf.iv c0_i32_104 c1_i32_106 k0_t1
  let v222 : BitVec 32 := Scalar.muli c2_i32_125 arg22
  let v223 : BitVec 32 := Scalar.addi v221 v222
  let c512_i32_143 : BitVec 32 := 512#32
  let v253 : BitVec 32 := Scalar.muli v223 c512_i32_143
  let v254 : BitVec 32 := v253
  let v280 : Index := Scalar.indexCast v254
  ![0, v280.toNat]
def k0_off18 (i : grid0.Coords) (k0_t1 : Fin (k0_t1_loop i).trips) : Fin 2 → Nat :=
  let c0_167 : Index := 0#32
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c1_i32_106 : BitVec 32 := 1#32
  let arg22 : BitVec 32 := Scf.iv c0_i32_104 c1_i32_106 k0_t1
  let v222 : BitVec 32 := Scalar.muli c2_i32_125 arg22
  let v223 : BitVec 32 := Scalar.addi v221 v222
  let c512_i32_143 : BitVec 32 := 512#32
  let v253 : BitVec 32 := Scalar.muli v223 c512_i32_143
  let v254 : BitVec 32 := v253
  let v298 : Index := Scalar.indexCast v254
  ![0, v298.toNat]
def k0_mult7 (i : grid0.Coords) (k0_t1 : Fin (k0_t1_loop i).trips) : BitVec 32 :=
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c1_i32_106 : BitVec 32 := 1#32
  let arg22 : BitVec 32 := Scf.iv c0_i32_104 c1_i32_106 k0_t1
  let v222 : BitVec 32 := Scalar.muli c2_i32_125 arg22
  let v223 : BitVec 32 := Scalar.addi v221 v222
  let c2_i32_170 : BitVec 32 := 2#32
  let v306 : BitVec 32 := Scalar.addi v223 c2_i32_170
  let c512_i32_171 : BitVec 32 := 512#32
  let v307 : BitVec 32 := Scalar.muli v306 c512_i32_171
  v307
def k0_mult8 (i : grid0.Coords) (k0_t1 : Fin (k0_t1_loop i).trips) : BitVec 32 :=
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c1_i32_106 : BitVec 32 := 1#32
  let arg22 : BitVec 32 := Scf.iv c0_i32_104 c1_i32_106 k0_t1
  let v222 : BitVec 32 := Scalar.muli c2_i32_125 arg22
  let v223 : BitVec 32 := Scalar.addi v221 v222
  let c1_i32_187 : BitVec 32 := 1#32
  let v335 : BitVec 32 := Scalar.addi v223 c1_i32_187
  let c512_i32_188 : BitVec 32 := 512#32
  let v336 : BitVec 32 := Scalar.muli v335 c512_i32_188
  v336
def k0_off19 (i : grid0.Coords) (k0_t1 : Fin (k0_t1_loop i).trips) : Fin 2 → Nat :=
  let c0_203 : Index := 0#32
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c1_i32_106 : BitVec 32 := 1#32
  let arg22 : BitVec 32 := Scf.iv c0_i32_104 c1_i32_106 k0_t1
  let v222 : BitVec 32 := Scalar.muli c2_i32_125 arg22
  let v223 : BitVec 32 := Scalar.addi v221 v222
  let c1_i32_187 : BitVec 32 := 1#32
  let v335 : BitVec 32 := Scalar.addi v223 c1_i32_187
  let c512_i32_188 : BitVec 32 := 512#32
  let v336 : BitVec 32 := Scalar.muli v335 c512_i32_188
  let v337 : BitVec 32 := v336
  let v363 : Index := Scalar.indexCast v337
  ![0, v363.toNat]
def k0_off20 (i : grid0.Coords) (k0_t1 : Fin (k0_t1_loop i).trips) : Fin 2 → Nat :=
  let c0_212 : Index := 0#32
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c1_i32_106 : BitVec 32 := 1#32
  let arg22 : BitVec 32 := Scf.iv c0_i32_104 c1_i32_106 k0_t1
  let v222 : BitVec 32 := Scalar.muli c2_i32_125 arg22
  let v223 : BitVec 32 := Scalar.addi v221 v222
  let c1_i32_187 : BitVec 32 := 1#32
  let v335 : BitVec 32 := Scalar.addi v223 c1_i32_187
  let c512_i32_188 : BitVec 32 := 512#32
  let v336 : BitVec 32 := Scalar.muli v335 c512_i32_188
  let v337 : BitVec 32 := v336
  let v381 : Index := Scalar.indexCast v337
  ![0, v381.toNat]
@[reducible] def k0_t2_loop (i : grid0.Coords) : Scf.Loop 32 :=
  let c0_i32_104 : BitVec 32 := 0#32
  let c15_i32 : BitVec 32 := 15#32
  let arg1 : BitVec 32 := BitVec.ofNat 32 (i 1).val
  let v27 : BitVec 32 := Scalar.subi c15_i32 arg1
  let c1_i32_96 : BitVec 32 := 1#32
  let v172 : BitVec 32 := Scalar.subi v27 c1_i32_96
  let c0_i32_97 : BitVec 32 := 0#32
  let v174 : BitVec 1 := Scalar.cmpi .sgt v172 c0_i32_97
  let v175 : BitVec 32 := Scalar.extui v174
  let c0_i32_98 : BitVec 32 := 0#32
  let v176 : BitVec 1 := Scalar.cmpi .slt v172 c0_i32_98
  let v177 : BitVec 32 := Scalar.extui v176
  let v178 : BitVec 32 := Scalar.subi v175 v177
  let c2_i32 : BitVec 32 := 2#32
  let c0_i32_99 : BitVec 32 := 0#32
  let v179 : BitVec 1 := Scalar.cmpi .sgt c2_i32 c0_i32_99
  let v180 : BitVec 32 := Scalar.extui v179
  let c0_i32_100 : BitVec 32 := 0#32
  let v181 : BitVec 1 := Scalar.cmpi .slt c2_i32 c0_i32_100
  let v182 : BitVec 32 := Scalar.extui v181
  let v183 : BitVec 32 := Scalar.subi v180 v182
  let v184 : BitVec 1 := Scalar.cmpi .ne v178 v183
  let v185 : BitVec 32 := Scalar.remsi v172 c2_i32
  let c0_i32_101 : BitVec 32 := 0#32
  let v186 : BitVec 1 := Scalar.cmpi .ne v185 c0_i32_101
  let v187 : BitVec 1 := Scalar.andi v184 v186
  let v173 : BitVec 32 := Scalar.divsi v172 c2_i32
  let c1_i32_102 : BitVec 32 := 1#32
  let v188 : BitVec 32 := Scalar.subi v173 c1_i32_102
  let v189 : BitVec 32 := Scalar.select v187 v188 v173
  let v190 : BitVec 32 := Scalar.subi v189 c0_i32_104
  let c1_i32_105 : BitVec 32 := 1#32
  let v192 : BitVec 32 := Scalar.divsi v190 c1_i32_105
  let v193 : BitVec 32 := Scalar.muli v192 c1_i32_105
  let v194 : BitVec 32 := Scalar.addi c0_i32_104 v193
  let v191 : BitVec 32 := Scalar.addi c0_i32_104 v190
  let c1_i32_107 : BitVec 32 := 1#32
  ⟨v194, v191, c1_i32_107⟩
def k0_mult9 (i : grid0.Coords) (k0_t2 : Fin (k0_t2_loop i).trips) : BitVec 32 :=
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c15_i32 : BitVec 32 := 15#32
  let v27 : BitVec 32 := Scalar.subi c15_i32 arg1
  let c1_i32_96 : BitVec 32 := 1#32
  let v172 : BitVec 32 := Scalar.subi v27 c1_i32_96
  let c0_i32_97 : BitVec 32 := 0#32
  let v174 : BitVec 1 := Scalar.cmpi .sgt v172 c0_i32_97
  let v175 : BitVec 32 := Scalar.extui v174
  let c0_i32_98 : BitVec 32 := 0#32
  let v176 : BitVec 1 := Scalar.cmpi .slt v172 c0_i32_98
  let v177 : BitVec 32 := Scalar.extui v176
  let v178 : BitVec 32 := Scalar.subi v175 v177
  let c2_i32 : BitVec 32 := 2#32
  let c0_i32_99 : BitVec 32 := 0#32
  let v179 : BitVec 1 := Scalar.cmpi .sgt c2_i32 c0_i32_99
  let v180 : BitVec 32 := Scalar.extui v179
  let c0_i32_100 : BitVec 32 := 0#32
  let v181 : BitVec 1 := Scalar.cmpi .slt c2_i32 c0_i32_100
  let v182 : BitVec 32 := Scalar.extui v181
  let v183 : BitVec 32 := Scalar.subi v180 v182
  let v184 : BitVec 1 := Scalar.cmpi .ne v178 v183
  let v185 : BitVec 32 := Scalar.remsi v172 c2_i32
  let c0_i32_101 : BitVec 32 := 0#32
  let v186 : BitVec 1 := Scalar.cmpi .ne v185 c0_i32_101
  let v187 : BitVec 1 := Scalar.andi v184 v186
  let v173 : BitVec 32 := Scalar.divsi v172 c2_i32
  let c1_i32_102 : BitVec 32 := 1#32
  let v188 : BitVec 32 := Scalar.subi v173 c1_i32_102
  let v189 : BitVec 32 := Scalar.select v187 v188 v173
  let v190 : BitVec 32 := Scalar.subi v189 c0_i32_104
  let c1_i32_105 : BitVec 32 := 1#32
  let v192 : BitVec 32 := Scalar.divsi v190 c1_i32_105
  let v193 : BitVec 32 := Scalar.muli v192 c1_i32_105
  let v194 : BitVec 32 := Scalar.addi c0_i32_104 v193
  let c1_i32_107 : BitVec 32 := 1#32
  let arg22 : BitVec 32 := Scf.iv v194 c1_i32_107 k0_t2
  let v222 : BitVec 32 := Scalar.muli c2_i32_125 arg22
  let v223 : BitVec 32 := Scalar.addi v221 v222
  let c1_i32_126 : BitVec 32 := 1#32
  let v224 : BitVec 32 := Scalar.addi v223 c1_i32_126
  let c512_i32_127 : BitVec 32 := 512#32
  let v225 : BitVec 32 := Scalar.muli v224 c512_i32_127
  v225
def k0_off21 (i : grid0.Coords) (k0_t2 : Fin (k0_t2_loop i).trips) (c1_i32_126 : BitVec 32) : Fin 2 → Nat :=
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c15_i32 : BitVec 32 := 15#32
  let v27 : BitVec 32 := Scalar.subi c15_i32 arg1
  let c1_i32_96 : BitVec 32 := 1#32
  let v172 : BitVec 32 := Scalar.subi v27 c1_i32_96
  let c0_i32_97 : BitVec 32 := 0#32
  let v174 : BitVec 1 := Scalar.cmpi .sgt v172 c0_i32_97
  let v175 : BitVec 32 := Scalar.extui v174
  let c0_i32_98 : BitVec 32 := 0#32
  let v176 : BitVec 1 := Scalar.cmpi .slt v172 c0_i32_98
  let v177 : BitVec 32 := Scalar.extui v176
  let v178 : BitVec 32 := Scalar.subi v175 v177
  let c2_i32 : BitVec 32 := 2#32
  let c0_i32_99 : BitVec 32 := 0#32
  let v179 : BitVec 1 := Scalar.cmpi .sgt c2_i32 c0_i32_99
  let v180 : BitVec 32 := Scalar.extui v179
  let c0_i32_100 : BitVec 32 := 0#32
  let v181 : BitVec 1 := Scalar.cmpi .slt c2_i32 c0_i32_100
  let v182 : BitVec 32 := Scalar.extui v181
  let v183 : BitVec 32 := Scalar.subi v180 v182
  let v184 : BitVec 1 := Scalar.cmpi .ne v178 v183
  let v185 : BitVec 32 := Scalar.remsi v172 c2_i32
  let c0_i32_101 : BitVec 32 := 0#32
  let v186 : BitVec 1 := Scalar.cmpi .ne v185 c0_i32_101
  let v187 : BitVec 1 := Scalar.andi v184 v186
  let v173 : BitVec 32 := Scalar.divsi v172 c2_i32
  let c1_i32_102 : BitVec 32 := 1#32
  let v188 : BitVec 32 := Scalar.subi v173 c1_i32_102
  let v189 : BitVec 32 := Scalar.select v187 v188 v173
  let v190 : BitVec 32 := Scalar.subi v189 c0_i32_104
  let c1_i32_105 : BitVec 32 := 1#32
  let v192 : BitVec 32 := Scalar.divsi v190 c1_i32_105
  let v193 : BitVec 32 := Scalar.muli v192 c1_i32_105
  let v194 : BitVec 32 := Scalar.addi c0_i32_104 v193
  let c1_i32_107 : BitVec 32 := 1#32
  let arg22 : BitVec 32 := Scf.iv v194 c1_i32_107 k0_t2
  let v222 : BitVec 32 := Scalar.muli c2_i32_125 arg22
  let v223 : BitVec 32 := Scalar.addi v221 v222
  let v224 : BitVec 32 := Scalar.addi v223 c1_i32_126
  let c512_i32_127 : BitVec 32 := 512#32
  let v225 : BitVec 32 := Scalar.muli v224 c512_i32_127
  let v226 : BitVec 32 := v225
  let v227 : Index := Scalar.indexCast v226
  let c0_128 : Index := 0#32
  ![v227.toNat, 0]
def k0_off22 (i : grid0.Coords) (k0_t2 : Fin (k0_t2_loop i).trips) (c1_i32_126 : BitVec 32) : Fin 3 → Nat :=
  let c0_131 : Index := 0#32
  let c0_132 : Index := 0#32
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c15_i32 : BitVec 32 := 15#32
  let v27 : BitVec 32 := Scalar.subi c15_i32 arg1
  let c1_i32_96 : BitVec 32 := 1#32
  let v172 : BitVec 32 := Scalar.subi v27 c1_i32_96
  let c0_i32_97 : BitVec 32 := 0#32
  let v174 : BitVec 1 := Scalar.cmpi .sgt v172 c0_i32_97
  let v175 : BitVec 32 := Scalar.extui v174
  let c0_i32_98 : BitVec 32 := 0#32
  let v176 : BitVec 1 := Scalar.cmpi .slt v172 c0_i32_98
  let v177 : BitVec 32 := Scalar.extui v176
  let v178 : BitVec 32 := Scalar.subi v175 v177
  let c2_i32 : BitVec 32 := 2#32
  let c0_i32_99 : BitVec 32 := 0#32
  let v179 : BitVec 1 := Scalar.cmpi .sgt c2_i32 c0_i32_99
  let v180 : BitVec 32 := Scalar.extui v179
  let c0_i32_100 : BitVec 32 := 0#32
  let v181 : BitVec 1 := Scalar.cmpi .slt c2_i32 c0_i32_100
  let v182 : BitVec 32 := Scalar.extui v181
  let v183 : BitVec 32 := Scalar.subi v180 v182
  let v184 : BitVec 1 := Scalar.cmpi .ne v178 v183
  let v185 : BitVec 32 := Scalar.remsi v172 c2_i32
  let c0_i32_101 : BitVec 32 := 0#32
  let v186 : BitVec 1 := Scalar.cmpi .ne v185 c0_i32_101
  let v187 : BitVec 1 := Scalar.andi v184 v186
  let v173 : BitVec 32 := Scalar.divsi v172 c2_i32
  let c1_i32_102 : BitVec 32 := 1#32
  let v188 : BitVec 32 := Scalar.subi v173 c1_i32_102
  let v189 : BitVec 32 := Scalar.select v187 v188 v173
  let v190 : BitVec 32 := Scalar.subi v189 c0_i32_104
  let c1_i32_105 : BitVec 32 := 1#32
  let v192 : BitVec 32 := Scalar.divsi v190 c1_i32_105
  let v193 : BitVec 32 := Scalar.muli v192 c1_i32_105
  let v194 : BitVec 32 := Scalar.addi c0_i32_104 v193
  let c1_i32_107 : BitVec 32 := 1#32
  let arg22 : BitVec 32 := Scf.iv v194 c1_i32_107 k0_t2
  let v222 : BitVec 32 := Scalar.muli c2_i32_125 arg22
  let v223 : BitVec 32 := Scalar.addi v221 v222
  let v224 : BitVec 32 := Scalar.addi v223 c1_i32_126
  let c512_i32_127 : BitVec 32 := 512#32
  let v225 : BitVec 32 := Scalar.muli v224 c512_i32_127
  let v226 : BitVec 32 := v225
  let v232 : Index := Scalar.indexCast v226
  ![0, 0, v232.toNat]
def k0_off23 (i : grid0.Coords) (k0_t2 : Fin (k0_t2_loop i).trips) (c1_i32_126 : BitVec 32) : Fin 3 → Nat :=
  let c0_139 : Index := 0#32
  let c1_140 : Index := 1#32
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c15_i32 : BitVec 32 := 15#32
  let v27 : BitVec 32 := Scalar.subi c15_i32 arg1
  let c1_i32_96 : BitVec 32 := 1#32
  let v172 : BitVec 32 := Scalar.subi v27 c1_i32_96
  let c0_i32_97 : BitVec 32 := 0#32
  let v174 : BitVec 1 := Scalar.cmpi .sgt v172 c0_i32_97
  let v175 : BitVec 32 := Scalar.extui v174
  let c0_i32_98 : BitVec 32 := 0#32
  let v176 : BitVec 1 := Scalar.cmpi .slt v172 c0_i32_98
  let v177 : BitVec 32 := Scalar.extui v176
  let v178 : BitVec 32 := Scalar.subi v175 v177
  let c2_i32 : BitVec 32 := 2#32
  let c0_i32_99 : BitVec 32 := 0#32
  let v179 : BitVec 1 := Scalar.cmpi .sgt c2_i32 c0_i32_99
  let v180 : BitVec 32 := Scalar.extui v179
  let c0_i32_100 : BitVec 32 := 0#32
  let v181 : BitVec 1 := Scalar.cmpi .slt c2_i32 c0_i32_100
  let v182 : BitVec 32 := Scalar.extui v181
  let v183 : BitVec 32 := Scalar.subi v180 v182
  let v184 : BitVec 1 := Scalar.cmpi .ne v178 v183
  let v185 : BitVec 32 := Scalar.remsi v172 c2_i32
  let c0_i32_101 : BitVec 32 := 0#32
  let v186 : BitVec 1 := Scalar.cmpi .ne v185 c0_i32_101
  let v187 : BitVec 1 := Scalar.andi v184 v186
  let v173 : BitVec 32 := Scalar.divsi v172 c2_i32
  let c1_i32_102 : BitVec 32 := 1#32
  let v188 : BitVec 32 := Scalar.subi v173 c1_i32_102
  let v189 : BitVec 32 := Scalar.select v187 v188 v173
  let v190 : BitVec 32 := Scalar.subi v189 c0_i32_104
  let c1_i32_105 : BitVec 32 := 1#32
  let v192 : BitVec 32 := Scalar.divsi v190 c1_i32_105
  let v193 : BitVec 32 := Scalar.muli v192 c1_i32_105
  let v194 : BitVec 32 := Scalar.addi c0_i32_104 v193
  let c1_i32_107 : BitVec 32 := 1#32
  let arg22 : BitVec 32 := Scf.iv v194 c1_i32_107 k0_t2
  let v222 : BitVec 32 := Scalar.muli c2_i32_125 arg22
  let v223 : BitVec 32 := Scalar.addi v221 v222
  let v224 : BitVec 32 := Scalar.addi v223 c1_i32_126
  let c512_i32_127 : BitVec 32 := 512#32
  let v225 : BitVec 32 := Scalar.muli v224 c512_i32_127
  let v226 : BitVec 32 := v225
  let v245 : Index := Scalar.indexCast v226
  ![0, 1, v245.toNat]
def k0_mult10 (i : grid0.Coords) (k0_t2 : Fin (k0_t2_loop i).trips) : BitVec 32 :=
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c15_i32 : BitVec 32 := 15#32
  let v27 : BitVec 32 := Scalar.subi c15_i32 arg1
  let c1_i32_96 : BitVec 32 := 1#32
  let v172 : BitVec 32 := Scalar.subi v27 c1_i32_96
  let c0_i32_97 : BitVec 32 := 0#32
  let v174 : BitVec 1 := Scalar.cmpi .sgt v172 c0_i32_97
  let v175 : BitVec 32 := Scalar.extui v174
  let c0_i32_98 : BitVec 32 := 0#32
  let v176 : BitVec 1 := Scalar.cmpi .slt v172 c0_i32_98
  let v177 : BitVec 32 := Scalar.extui v176
  let v178 : BitVec 32 := Scalar.subi v175 v177
  let c2_i32 : BitVec 32 := 2#32
  let c0_i32_99 : BitVec 32 := 0#32
  let v179 : BitVec 1 := Scalar.cmpi .sgt c2_i32 c0_i32_99
  let v180 : BitVec 32 := Scalar.extui v179
  let c0_i32_100 : BitVec 32 := 0#32
  let v181 : BitVec 1 := Scalar.cmpi .slt c2_i32 c0_i32_100
  let v182 : BitVec 32 := Scalar.extui v181
  let v183 : BitVec 32 := Scalar.subi v180 v182
  let v184 : BitVec 1 := Scalar.cmpi .ne v178 v183
  let v185 : BitVec 32 := Scalar.remsi v172 c2_i32
  let c0_i32_101 : BitVec 32 := 0#32
  let v186 : BitVec 1 := Scalar.cmpi .ne v185 c0_i32_101
  let v187 : BitVec 1 := Scalar.andi v184 v186
  let v173 : BitVec 32 := Scalar.divsi v172 c2_i32
  let c1_i32_102 : BitVec 32 := 1#32
  let v188 : BitVec 32 := Scalar.subi v173 c1_i32_102
  let v189 : BitVec 32 := Scalar.select v187 v188 v173
  let v190 : BitVec 32 := Scalar.subi v189 c0_i32_104
  let c1_i32_105 : BitVec 32 := 1#32
  let v192 : BitVec 32 := Scalar.divsi v190 c1_i32_105
  let v193 : BitVec 32 := Scalar.muli v192 c1_i32_105
  let v194 : BitVec 32 := Scalar.addi c0_i32_104 v193
  let c1_i32_107 : BitVec 32 := 1#32
  let arg22 : BitVec 32 := Scf.iv v194 c1_i32_107 k0_t2
  let v222 : BitVec 32 := Scalar.muli c2_i32_125 arg22
  let v223 : BitVec 32 := Scalar.addi v221 v222
  let c512_i32_143 : BitVec 32 := 512#32
  let v253 : BitVec 32 := Scalar.muli v223 c512_i32_143
  v253
def k0_off24 (i : grid0.Coords) (k0_t2 : Fin (k0_t2_loop i).trips) : Fin 2 → Nat :=
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c15_i32 : BitVec 32 := 15#32
  let v27 : BitVec 32 := Scalar.subi c15_i32 arg1
  let c1_i32_96 : BitVec 32 := 1#32
  let v172 : BitVec 32 := Scalar.subi v27 c1_i32_96
  let c0_i32_97 : BitVec 32 := 0#32
  let v174 : BitVec 1 := Scalar.cmpi .sgt v172 c0_i32_97
  let v175 : BitVec 32 := Scalar.extui v174
  let c0_i32_98 : BitVec 32 := 0#32
  let v176 : BitVec 1 := Scalar.cmpi .slt v172 c0_i32_98
  let v177 : BitVec 32 := Scalar.extui v176
  let v178 : BitVec 32 := Scalar.subi v175 v177
  let c2_i32 : BitVec 32 := 2#32
  let c0_i32_99 : BitVec 32 := 0#32
  let v179 : BitVec 1 := Scalar.cmpi .sgt c2_i32 c0_i32_99
  let v180 : BitVec 32 := Scalar.extui v179
  let c0_i32_100 : BitVec 32 := 0#32
  let v181 : BitVec 1 := Scalar.cmpi .slt c2_i32 c0_i32_100
  let v182 : BitVec 32 := Scalar.extui v181
  let v183 : BitVec 32 := Scalar.subi v180 v182
  let v184 : BitVec 1 := Scalar.cmpi .ne v178 v183
  let v185 : BitVec 32 := Scalar.remsi v172 c2_i32
  let c0_i32_101 : BitVec 32 := 0#32
  let v186 : BitVec 1 := Scalar.cmpi .ne v185 c0_i32_101
  let v187 : BitVec 1 := Scalar.andi v184 v186
  let v173 : BitVec 32 := Scalar.divsi v172 c2_i32
  let c1_i32_102 : BitVec 32 := 1#32
  let v188 : BitVec 32 := Scalar.subi v173 c1_i32_102
  let v189 : BitVec 32 := Scalar.select v187 v188 v173
  let v190 : BitVec 32 := Scalar.subi v189 c0_i32_104
  let c1_i32_105 : BitVec 32 := 1#32
  let v192 : BitVec 32 := Scalar.divsi v190 c1_i32_105
  let v193 : BitVec 32 := Scalar.muli v192 c1_i32_105
  let v194 : BitVec 32 := Scalar.addi c0_i32_104 v193
  let c1_i32_107 : BitVec 32 := 1#32
  let arg22 : BitVec 32 := Scf.iv v194 c1_i32_107 k0_t2
  let v222 : BitVec 32 := Scalar.muli c2_i32_125 arg22
  let v223 : BitVec 32 := Scalar.addi v221 v222
  let c512_i32_143 : BitVec 32 := 512#32
  let v253 : BitVec 32 := Scalar.muli v223 c512_i32_143
  let v254 : BitVec 32 := v253
  let v259 : Index := Scalar.indexCast v254
  let c0_148 : Index := 0#32
  ![v259.toNat, 0]
def k0_off25 (i : grid0.Coords) (k0_t2 : Fin (k0_t2_loop i).trips) : Fin 2 → Nat :=
  let c0_158 : Index := 0#32
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c15_i32 : BitVec 32 := 15#32
  let v27 : BitVec 32 := Scalar.subi c15_i32 arg1
  let c1_i32_96 : BitVec 32 := 1#32
  let v172 : BitVec 32 := Scalar.subi v27 c1_i32_96
  let c0_i32_97 : BitVec 32 := 0#32
  let v174 : BitVec 1 := Scalar.cmpi .sgt v172 c0_i32_97
  let v175 : BitVec 32 := Scalar.extui v174
  let c0_i32_98 : BitVec 32 := 0#32
  let v176 : BitVec 1 := Scalar.cmpi .slt v172 c0_i32_98
  let v177 : BitVec 32 := Scalar.extui v176
  let v178 : BitVec 32 := Scalar.subi v175 v177
  let c2_i32 : BitVec 32 := 2#32
  let c0_i32_99 : BitVec 32 := 0#32
  let v179 : BitVec 1 := Scalar.cmpi .sgt c2_i32 c0_i32_99
  let v180 : BitVec 32 := Scalar.extui v179
  let c0_i32_100 : BitVec 32 := 0#32
  let v181 : BitVec 1 := Scalar.cmpi .slt c2_i32 c0_i32_100
  let v182 : BitVec 32 := Scalar.extui v181
  let v183 : BitVec 32 := Scalar.subi v180 v182
  let v184 : BitVec 1 := Scalar.cmpi .ne v178 v183
  let v185 : BitVec 32 := Scalar.remsi v172 c2_i32
  let c0_i32_101 : BitVec 32 := 0#32
  let v186 : BitVec 1 := Scalar.cmpi .ne v185 c0_i32_101
  let v187 : BitVec 1 := Scalar.andi v184 v186
  let v173 : BitVec 32 := Scalar.divsi v172 c2_i32
  let c1_i32_102 : BitVec 32 := 1#32
  let v188 : BitVec 32 := Scalar.subi v173 c1_i32_102
  let v189 : BitVec 32 := Scalar.select v187 v188 v173
  let v190 : BitVec 32 := Scalar.subi v189 c0_i32_104
  let c1_i32_105 : BitVec 32 := 1#32
  let v192 : BitVec 32 := Scalar.divsi v190 c1_i32_105
  let v193 : BitVec 32 := Scalar.muli v192 c1_i32_105
  let v194 : BitVec 32 := Scalar.addi c0_i32_104 v193
  let c1_i32_107 : BitVec 32 := 1#32
  let arg22 : BitVec 32 := Scf.iv v194 c1_i32_107 k0_t2
  let v222 : BitVec 32 := Scalar.muli c2_i32_125 arg22
  let v223 : BitVec 32 := Scalar.addi v221 v222
  let c512_i32_143 : BitVec 32 := 512#32
  let v253 : BitVec 32 := Scalar.muli v223 c512_i32_143
  let v254 : BitVec 32 := v253
  let v280 : Index := Scalar.indexCast v254
  ![0, v280.toNat]
def k0_off26 (i : grid0.Coords) (k0_t2 : Fin (k0_t2_loop i).trips) : Fin 2 → Nat :=
  let c0_167 : Index := 0#32
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c15_i32 : BitVec 32 := 15#32
  let v27 : BitVec 32 := Scalar.subi c15_i32 arg1
  let c1_i32_96 : BitVec 32 := 1#32
  let v172 : BitVec 32 := Scalar.subi v27 c1_i32_96
  let c0_i32_97 : BitVec 32 := 0#32
  let v174 : BitVec 1 := Scalar.cmpi .sgt v172 c0_i32_97
  let v175 : BitVec 32 := Scalar.extui v174
  let c0_i32_98 : BitVec 32 := 0#32
  let v176 : BitVec 1 := Scalar.cmpi .slt v172 c0_i32_98
  let v177 : BitVec 32 := Scalar.extui v176
  let v178 : BitVec 32 := Scalar.subi v175 v177
  let c2_i32 : BitVec 32 := 2#32
  let c0_i32_99 : BitVec 32 := 0#32
  let v179 : BitVec 1 := Scalar.cmpi .sgt c2_i32 c0_i32_99
  let v180 : BitVec 32 := Scalar.extui v179
  let c0_i32_100 : BitVec 32 := 0#32
  let v181 : BitVec 1 := Scalar.cmpi .slt c2_i32 c0_i32_100
  let v182 : BitVec 32 := Scalar.extui v181
  let v183 : BitVec 32 := Scalar.subi v180 v182
  let v184 : BitVec 1 := Scalar.cmpi .ne v178 v183
  let v185 : BitVec 32 := Scalar.remsi v172 c2_i32
  let c0_i32_101 : BitVec 32 := 0#32
  let v186 : BitVec 1 := Scalar.cmpi .ne v185 c0_i32_101
  let v187 : BitVec 1 := Scalar.andi v184 v186
  let v173 : BitVec 32 := Scalar.divsi v172 c2_i32
  let c1_i32_102 : BitVec 32 := 1#32
  let v188 : BitVec 32 := Scalar.subi v173 c1_i32_102
  let v189 : BitVec 32 := Scalar.select v187 v188 v173
  let v190 : BitVec 32 := Scalar.subi v189 c0_i32_104
  let c1_i32_105 : BitVec 32 := 1#32
  let v192 : BitVec 32 := Scalar.divsi v190 c1_i32_105
  let v193 : BitVec 32 := Scalar.muli v192 c1_i32_105
  let v194 : BitVec 32 := Scalar.addi c0_i32_104 v193
  let c1_i32_107 : BitVec 32 := 1#32
  let arg22 : BitVec 32 := Scf.iv v194 c1_i32_107 k0_t2
  let v222 : BitVec 32 := Scalar.muli c2_i32_125 arg22
  let v223 : BitVec 32 := Scalar.addi v221 v222
  let c512_i32_143 : BitVec 32 := 512#32
  let v253 : BitVec 32 := Scalar.muli v223 c512_i32_143
  let v254 : BitVec 32 := v253
  let v298 : Index := Scalar.indexCast v254
  ![0, v298.toNat]
def k0_mult11 (i : grid0.Coords) (k0_t2 : Fin (k0_t2_loop i).trips) : BitVec 32 :=
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c15_i32 : BitVec 32 := 15#32
  let v27 : BitVec 32 := Scalar.subi c15_i32 arg1
  let c1_i32_96 : BitVec 32 := 1#32
  let v172 : BitVec 32 := Scalar.subi v27 c1_i32_96
  let c0_i32_97 : BitVec 32 := 0#32
  let v174 : BitVec 1 := Scalar.cmpi .sgt v172 c0_i32_97
  let v175 : BitVec 32 := Scalar.extui v174
  let c0_i32_98 : BitVec 32 := 0#32
  let v176 : BitVec 1 := Scalar.cmpi .slt v172 c0_i32_98
  let v177 : BitVec 32 := Scalar.extui v176
  let v178 : BitVec 32 := Scalar.subi v175 v177
  let c2_i32 : BitVec 32 := 2#32
  let c0_i32_99 : BitVec 32 := 0#32
  let v179 : BitVec 1 := Scalar.cmpi .sgt c2_i32 c0_i32_99
  let v180 : BitVec 32 := Scalar.extui v179
  let c0_i32_100 : BitVec 32 := 0#32
  let v181 : BitVec 1 := Scalar.cmpi .slt c2_i32 c0_i32_100
  let v182 : BitVec 32 := Scalar.extui v181
  let v183 : BitVec 32 := Scalar.subi v180 v182
  let v184 : BitVec 1 := Scalar.cmpi .ne v178 v183
  let v185 : BitVec 32 := Scalar.remsi v172 c2_i32
  let c0_i32_101 : BitVec 32 := 0#32
  let v186 : BitVec 1 := Scalar.cmpi .ne v185 c0_i32_101
  let v187 : BitVec 1 := Scalar.andi v184 v186
  let v173 : BitVec 32 := Scalar.divsi v172 c2_i32
  let c1_i32_102 : BitVec 32 := 1#32
  let v188 : BitVec 32 := Scalar.subi v173 c1_i32_102
  let v189 : BitVec 32 := Scalar.select v187 v188 v173
  let v190 : BitVec 32 := Scalar.subi v189 c0_i32_104
  let c1_i32_105 : BitVec 32 := 1#32
  let v192 : BitVec 32 := Scalar.divsi v190 c1_i32_105
  let v193 : BitVec 32 := Scalar.muli v192 c1_i32_105
  let v194 : BitVec 32 := Scalar.addi c0_i32_104 v193
  let c1_i32_107 : BitVec 32 := 1#32
  let arg22 : BitVec 32 := Scf.iv v194 c1_i32_107 k0_t2
  let v222 : BitVec 32 := Scalar.muli c2_i32_125 arg22
  let v223 : BitVec 32 := Scalar.addi v221 v222
  let c2_i32_170 : BitVec 32 := 2#32
  let v306 : BitVec 32 := Scalar.addi v223 c2_i32_170
  let c512_i32_171 : BitVec 32 := 512#32
  let v307 : BitVec 32 := Scalar.muli v306 c512_i32_171
  v307
def k0_mult12 (i : grid0.Coords) (k0_t2 : Fin (k0_t2_loop i).trips) : BitVec 32 :=
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c15_i32 : BitVec 32 := 15#32
  let v27 : BitVec 32 := Scalar.subi c15_i32 arg1
  let c1_i32_96 : BitVec 32 := 1#32
  let v172 : BitVec 32 := Scalar.subi v27 c1_i32_96
  let c0_i32_97 : BitVec 32 := 0#32
  let v174 : BitVec 1 := Scalar.cmpi .sgt v172 c0_i32_97
  let v175 : BitVec 32 := Scalar.extui v174
  let c0_i32_98 : BitVec 32 := 0#32
  let v176 : BitVec 1 := Scalar.cmpi .slt v172 c0_i32_98
  let v177 : BitVec 32 := Scalar.extui v176
  let v178 : BitVec 32 := Scalar.subi v175 v177
  let c2_i32 : BitVec 32 := 2#32
  let c0_i32_99 : BitVec 32 := 0#32
  let v179 : BitVec 1 := Scalar.cmpi .sgt c2_i32 c0_i32_99
  let v180 : BitVec 32 := Scalar.extui v179
  let c0_i32_100 : BitVec 32 := 0#32
  let v181 : BitVec 1 := Scalar.cmpi .slt c2_i32 c0_i32_100
  let v182 : BitVec 32 := Scalar.extui v181
  let v183 : BitVec 32 := Scalar.subi v180 v182
  let v184 : BitVec 1 := Scalar.cmpi .ne v178 v183
  let v185 : BitVec 32 := Scalar.remsi v172 c2_i32
  let c0_i32_101 : BitVec 32 := 0#32
  let v186 : BitVec 1 := Scalar.cmpi .ne v185 c0_i32_101
  let v187 : BitVec 1 := Scalar.andi v184 v186
  let v173 : BitVec 32 := Scalar.divsi v172 c2_i32
  let c1_i32_102 : BitVec 32 := 1#32
  let v188 : BitVec 32 := Scalar.subi v173 c1_i32_102
  let v189 : BitVec 32 := Scalar.select v187 v188 v173
  let v190 : BitVec 32 := Scalar.subi v189 c0_i32_104
  let c1_i32_105 : BitVec 32 := 1#32
  let v192 : BitVec 32 := Scalar.divsi v190 c1_i32_105
  let v193 : BitVec 32 := Scalar.muli v192 c1_i32_105
  let v194 : BitVec 32 := Scalar.addi c0_i32_104 v193
  let c1_i32_107 : BitVec 32 := 1#32
  let arg22 : BitVec 32 := Scf.iv v194 c1_i32_107 k0_t2
  let v222 : BitVec 32 := Scalar.muli c2_i32_125 arg22
  let v223 : BitVec 32 := Scalar.addi v221 v222
  let c1_i32_187 : BitVec 32 := 1#32
  let v335 : BitVec 32 := Scalar.addi v223 c1_i32_187
  let c512_i32_188 : BitVec 32 := 512#32
  let v336 : BitVec 32 := Scalar.muli v335 c512_i32_188
  v336
def k0_off27 (i : grid0.Coords) (k0_t2 : Fin (k0_t2_loop i).trips) : Fin 2 → Nat :=
  let c0_203 : Index := 0#32
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c15_i32 : BitVec 32 := 15#32
  let v27 : BitVec 32 := Scalar.subi c15_i32 arg1
  let c1_i32_96 : BitVec 32 := 1#32
  let v172 : BitVec 32 := Scalar.subi v27 c1_i32_96
  let c0_i32_97 : BitVec 32 := 0#32
  let v174 : BitVec 1 := Scalar.cmpi .sgt v172 c0_i32_97
  let v175 : BitVec 32 := Scalar.extui v174
  let c0_i32_98 : BitVec 32 := 0#32
  let v176 : BitVec 1 := Scalar.cmpi .slt v172 c0_i32_98
  let v177 : BitVec 32 := Scalar.extui v176
  let v178 : BitVec 32 := Scalar.subi v175 v177
  let c2_i32 : BitVec 32 := 2#32
  let c0_i32_99 : BitVec 32 := 0#32
  let v179 : BitVec 1 := Scalar.cmpi .sgt c2_i32 c0_i32_99
  let v180 : BitVec 32 := Scalar.extui v179
  let c0_i32_100 : BitVec 32 := 0#32
  let v181 : BitVec 1 := Scalar.cmpi .slt c2_i32 c0_i32_100
  let v182 : BitVec 32 := Scalar.extui v181
  let v183 : BitVec 32 := Scalar.subi v180 v182
  let v184 : BitVec 1 := Scalar.cmpi .ne v178 v183
  let v185 : BitVec 32 := Scalar.remsi v172 c2_i32
  let c0_i32_101 : BitVec 32 := 0#32
  let v186 : BitVec 1 := Scalar.cmpi .ne v185 c0_i32_101
  let v187 : BitVec 1 := Scalar.andi v184 v186
  let v173 : BitVec 32 := Scalar.divsi v172 c2_i32
  let c1_i32_102 : BitVec 32 := 1#32
  let v188 : BitVec 32 := Scalar.subi v173 c1_i32_102
  let v189 : BitVec 32 := Scalar.select v187 v188 v173
  let v190 : BitVec 32 := Scalar.subi v189 c0_i32_104
  let c1_i32_105 : BitVec 32 := 1#32
  let v192 : BitVec 32 := Scalar.divsi v190 c1_i32_105
  let v193 : BitVec 32 := Scalar.muli v192 c1_i32_105
  let v194 : BitVec 32 := Scalar.addi c0_i32_104 v193
  let c1_i32_107 : BitVec 32 := 1#32
  let arg22 : BitVec 32 := Scf.iv v194 c1_i32_107 k0_t2
  let v222 : BitVec 32 := Scalar.muli c2_i32_125 arg22
  let v223 : BitVec 32 := Scalar.addi v221 v222
  let c1_i32_187 : BitVec 32 := 1#32
  let v335 : BitVec 32 := Scalar.addi v223 c1_i32_187
  let c512_i32_188 : BitVec 32 := 512#32
  let v336 : BitVec 32 := Scalar.muli v335 c512_i32_188
  let v337 : BitVec 32 := v336
  let v363 : Index := Scalar.indexCast v337
  ![0, v363.toNat]
def k0_off28 (i : grid0.Coords) (k0_t2 : Fin (k0_t2_loop i).trips) : Fin 2 → Nat :=
  let c0_212 : Index := 0#32
  let arg1 : BitVec 32 := BitVec.ofNat 32 (i 1).val
  let c1_i32_124 : BitVec 32 := 1#32
  let v221 : BitVec 32 := Scalar.addi arg1 c1_i32_124
  let c2_i32_125 : BitVec 32 := 2#32
  let c0_i32_104 : BitVec 32 := 0#32
  let c15_i32 : BitVec 32 := 15#32
  let v27 : BitVec 32 := Scalar.subi c15_i32 arg1
  let c1_i32_96 : BitVec 32 := 1#32
  let v172 : BitVec 32 := Scalar.subi v27 c1_i32_96
  let c0_i32_97 : BitVec 32 := 0#32
  let v174 : BitVec 1 := Scalar.cmpi .sgt v172 c0_i32_97
  let v175 : BitVec 32 := Scalar.extui v174
  let c0_i32_98 : BitVec 32 := 0#32
  let v176 : BitVec 1 := Scalar.cmpi .slt v172 c0_i32_98
  let v177 : BitVec 32 := Scalar.extui v176
  let v178 : BitVec 32 := Scalar.subi v175 v177
  let c2_i32 : BitVec 32 := 2#32
  let c0_i32_99 : BitVec 32 := 0#32
  let v179 : BitVec 1 := Scalar.cmpi .sgt c2_i32 c0_i32_99
  let v180 : BitVec 32 := Scalar.extui v179
  let c0_i32_100 : BitVec 32 := 0#32
  let v181 : BitVec 1 := Scalar.cmpi .slt c2_i32 c0_i32_100
  let v182 : BitVec 32 := Scalar.extui v181
  let v183 : BitVec 32 := Scalar.subi v180 v182
  let v184 : BitVec 1 := Scalar.cmpi .ne v178 v183
  let v185 : BitVec 32 := Scalar.remsi v172 c2_i32
  let c0_i32_101 : BitVec 32 := 0#32
  let v186 : BitVec 1 := Scalar.cmpi .ne v185 c0_i32_101
  let v187 : BitVec 1 := Scalar.andi v184 v186
  let v173 : BitVec 32 := Scalar.divsi v172 c2_i32
  let c1_i32_102 : BitVec 32 := 1#32
  let v188 : BitVec 32 := Scalar.subi v173 c1_i32_102
  let v189 : BitVec 32 := Scalar.select v187 v188 v173
  let v190 : BitVec 32 := Scalar.subi v189 c0_i32_104
  let c1_i32_105 : BitVec 32 := 1#32
  let v192 : BitVec 32 := Scalar.divsi v190 c1_i32_105
  let v193 : BitVec 32 := Scalar.muli v192 c1_i32_105
  let v194 : BitVec 32 := Scalar.addi c0_i32_104 v193
  let c1_i32_107 : BitVec 32 := 1#32
  let arg22 : BitVec 32 := Scf.iv v194 c1_i32_107 k0_t2
  let v222 : BitVec 32 := Scalar.muli c2_i32_125 arg22
  let v223 : BitVec 32 := Scalar.addi v221 v222
  let c1_i32_187 : BitVec 32 := 1#32
  let v335 : BitVec 32 := Scalar.addi v223 c1_i32_187
  let c512_i32_188 : BitVec 32 := 512#32
  let v336 : BitVec 32 := Scalar.muli v335 c512_i32_188
  let v337 : BitVec 32 := v336
  let v381 : Index := Scalar.indexCast v337
  ![0, v381.toNat]
def k0_cond4 (i : grid0.Coords) : BitVec 1 :=
  let c15_i32 : BitVec 32 := 15#32
  let arg1 : BitVec 32 := BitVec.ofNat 32 (i 1).val
  let v27 : BitVec 32 := Scalar.subi c15_i32 arg1
  let c2_i32_108 : BitVec 32 := 2#32
  let c0_i32_109 : BitVec 32 := 0#32
  let v195 : BitVec 1 := Scalar.cmpi .eq c2_i32_108 c0_i32_109
  let c1_i32_110 : BitVec 32 := 1#32
  let v196 : BitVec 32 := Scalar.select v195 c1_i32_110 c2_i32_108
  let v197 : BitVec 32 := Scalar.remsi v27 v196
  let c0_i32_112 : BitVec 32 := 0#32
  let v199 : BitVec 1 := Scalar.cmpi .slt v197 c0_i32_112
  let c0_i32_113 : BitVec 32 := 0#32
  let v200 : BitVec 1 := Scalar.cmpi .slt v196 c0_i32_113
  let v201 : BitVec 1 := Scalar.xori v199 v200
  let c0_i32_111 : BitVec 32 := 0#32
  let v198 : BitVec 1 := Scalar.cmpi .ne v197 c0_i32_111
  let v202 : BitVec 1 := Scalar.andi v201 v198
  let v203 : BitVec 32 := Scalar.addi v197 v196
  let v204 : BitVec 32 := Scalar.select v202 v203 v197
  let c1_i32_114 : BitVec 32 := 1#32
  let v205 : BitVec 1 := Scalar.cmpi .eq v204 c1_i32_114
  let v206 : BitVec 32 := Scalar.extui v205
  let c0_i32_115 : BitVec 32 := 0#32
  let v207 : BitVec 1 := Scalar.cmpi .ne v206 c0_i32_115
  v207

def k0_mult13 : BitVec 32 :=
  let c7680_i32 : BitVec 32 := 7680#32
  c7680_i32
def k0_cond5 (i : grid0.Coords) : BitVec 1 :=
  let c15_i32 : BitVec 32 := 15#32
  let arg1 : BitVec 32 := BitVec.ofNat 32 (i 1).val
  let v27 : BitVec 32 := Scalar.subi c15_i32 arg1
  let c2_i32_116 : BitVec 32 := 2#32
  let c0_i32_117 : BitVec 32 := 0#32
  let v208 : BitVec 1 := Scalar.cmpi .eq c2_i32_116 c0_i32_117
  let c1_i32_118 : BitVec 32 := 1#32
  let v209 : BitVec 32 := Scalar.select v208 c1_i32_118 c2_i32_116
  let v210 : BitVec 32 := Scalar.remsi v27 v209
  let c0_i32_120 : BitVec 32 := 0#32
  let v212 : BitVec 1 := Scalar.cmpi .slt v210 c0_i32_120
  let c0_i32_121 : BitVec 32 := 0#32
  let v213 : BitVec 1 := Scalar.cmpi .slt v209 c0_i32_121
  let v214 : BitVec 1 := Scalar.xori v212 v213
  let c0_i32_119 : BitVec 32 := 0#32
  let v211 : BitVec 1 := Scalar.cmpi .ne v210 c0_i32_119
  let v215 : BitVec 1 := Scalar.andi v214 v211
  let v216 : BitVec 32 := Scalar.addi v210 v209
  let v217 : BitVec 32 := Scalar.select v215 v216 v210
  let c0_i32_122 : BitVec 32 := 0#32
  let v218 : BitVec 1 := Scalar.cmpi .eq v217 c0_i32_122
  let v219 : BitVec 32 := Scalar.extui v218
  let c0_i32_123 : BitVec 32 := 0#32
  let v220 : BitVec 1 := Scalar.cmpi .ne v219 c0_i32_123
  v220

def k0_mult14 : BitVec 32 :=
  let c7680_i32 : BitVec 32 := 7680#32
  c7680_i32
def k0_mult15 : BitVec 32 :=
  let c7168_i32 : BitVec 32 := 7168#32
  c7168_i32
def k0_mult16 : BitVec 32 :=
  let c7680_i32_165 : BitVec 32 := 7680#32
  c7680_i32_165
def k0_mult17 (i : grid0.Coords) : BitVec 32 :=
  let arg1 : BitVec 32 := BitVec.ofNat 32 (i 1).val
  let c512_i32_48 : BitVec 32 := 512#32
  let v76 : BitVec 32 := Scalar.muli arg1 c512_i32_48
  v76
def k0_off29 (i : grid0.Coords) : Fin 2 → Nat :=
  let c1_49 : Index := 1#32
  let arg1 : BitVec 32 := BitVec.ofNat 32 (i 1).val
  let c512_i32_48 : BitVec 32 := 512#32
  let v76 : BitVec 32 := Scalar.muli arg1 c512_i32_48
  let v77 : BitVec 32 := v76
  let v78 : Index := Scalar.indexCast v77
  ![1, v78.toNat]
def k0_cond6 (i : grid0.Coords) : BitVec 1 :=
  let arg1 : BitVec 32 := BitVec.ofNat 32 (i 1).val
  let c15_i32_50 : BitVec 32 := 15#32
  let v82 : BitVec 1 := Scalar.cmpi .eq arg1 c15_i32_50
  let v83 : BitVec 32 := Scalar.extui v82
  let c0_i32_51 : BitVec 32 := 0#32
  let v84 : BitVec 1 := Scalar.cmpi .ne v83 c0_i32_51
  v84

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x3584 : Shape := ⟨2, ![8192, 3584]⟩
abbrev S8192x1024 : Shape := ⟨2, ![8192, 1024]⟩
abbrev S8x8192x1 : Shape := ⟨3, ![8, 8192, 1]⟩
abbrev S8192x3072 : Shape := ⟨2, ![8192, 3072]⟩
abbrev S8192x8x128 : Shape := ⟨3, ![8192, 8, 128]⟩
abbrev S8x8192 : Shape := ⟨2, ![8, 8192]⟩
abbrev S8x8192x8192 : Shape := ⟨3, ![8, 8192, 8192]⟩
abbrev S_ : Shape := ⟨0, ![]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8x8192x128 : Shape := ⟨3, ![8, 8192, 128]⟩
abbrev S8x6x8192 : Shape := ⟨3, ![8, 6, 8192]⟩
abbrev S8x8x8192 : Shape := ⟨3, ![8, 8, 8192]⟩

abbrev nBuf : Space → Nat
  | .hbm => 128
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S8192x1024, .bf16⟩
  | .hbm, ⟨2, _⟩ => ⟨S8x8192x1, .f32⟩
  | .hbm, ⟨3, _⟩ => ⟨S8192x3584, .f32⟩
  | .hbm, ⟨4, _⟩ => ⟨S8192x3072, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x8x128, .f32⟩
  | .hbm, ⟨9, _⟩ => ⟨S8192x8x128, .f32⟩
  | .hbm, ⟨10, _⟩ => ⟨S8192x8x128, .f32⟩
  | .hbm, ⟨11, _⟩ => ⟨S8x8192, .f32⟩
  | .hbm, ⟨12, _⟩ => ⟨S8x8192x8192, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S8x8192x1, .f32⟩
  | .hbm, ⟨17, _⟩ => ⟨S8x1x8192, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S8192, .i32⟩
  | .hbm, ⟨22, _⟩ => ⟨S1x8192, .i32⟩
  | .hbm, ⟨23, _⟩ => ⟨S8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8x8192x8192, .f32⟩
  | .hbm, ⟨29, _⟩ => ⟨S_, .f32⟩
  | .hbm, ⟨30, _⟩ => ⟨S_, .f32⟩
  | .hbm, ⟨31, _⟩ => ⟨S8x8192x8192, .i1⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .i1⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S8x8192, .f32⟩
  | .hbm, ⟨47, _⟩ => ⟨S_, .f32⟩
  | .hbm, ⟨48, _⟩ => ⟨S8x8192, .f32⟩
  | .hbm, ⟨49, _⟩ => ⟨S8x8192, .i1⟩
  | .hbm, ⟨50, _⟩ => ⟨S_, .f32⟩
  | .hbm, ⟨51, _⟩ => ⟨S8x8192, .f32⟩
  | .hbm, ⟨52, _⟩ => ⟨S8x8192, .i1⟩
  | .hbm, ⟨53, _⟩ => ⟨S_, .f32⟩
  | .hbm, ⟨54, _⟩ => ⟨S8x8192, .f32⟩
  | .hbm, ⟨55, _⟩ => ⟨S_, .f32⟩
  | .hbm, ⟨56, _⟩ => ⟨S8x8192, .f32⟩
  | .hbm, ⟨57, _⟩ => ⟨S_, .f32⟩
  | .hbm, ⟨58, _⟩ => ⟨S8x8192, .f32⟩
  | .hbm, ⟨59, _⟩ => ⟨S8x8192, .f32⟩
  | .hbm, ⟨60, _⟩ => ⟨S8x8192, .f32⟩
  | .hbm, ⟨61, _⟩ => ⟨S8x8192x1, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S_, .f32⟩
  | .hbm, ⟨66, _⟩ => ⟨S8x8192, .f32⟩
  | .hbm, ⟨67, _⟩ => ⟨S8x8192x1, .f32⟩
  | .hbm, ⟨68, _⟩ => ⟨S8x8192x8192, .f32⟩
  | .hbm, ⟨69, _⟩ => ⟨S8x8192x8192, .f32⟩
  | .hbm, ⟨70, _⟩ => ⟨S8x8192x1, .f32⟩
  | .hbm, ⟨71, _⟩ => ⟨S_, .f32⟩
  | .hbm, ⟨72, _⟩ => ⟨S8x8192x1, .f32⟩
  | .hbm, ⟨73, _⟩ => ⟨S8x8192x1, .f32⟩
  | .hbm, ⟨74, _⟩ => ⟨S8x128x8192, .f32⟩
  | .hbm, ⟨75, _⟩ => ⟨S8192x8x128, .f32⟩
  | .hbm, ⟨76, _⟩ => ⟨S8192x1024, .f32⟩
  | .hbm, ⟨77, _⟩ => ⟨S8192x8x128, .f32⟩
  | .hbm, ⟨78, _⟩ => ⟨S8x128x8192, .f32⟩
  | .hbm, ⟨79, _⟩ => ⟨S8x8192x8192, .f32⟩
  | .hbm, ⟨80, _⟩ => ⟨S8x128x8192, .f32⟩
  | .hbm, ⟨81, _⟩ => ⟨S8192x8x128, .f32⟩
  | .hbm, ⟨82, _⟩ => ⟨S8x8192x8192, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192, .f32⟩
  | .hbm, ⟨87, _⟩ => ⟨S8x8192x1, .f32⟩
  | .hbm, ⟨88, _⟩ => ⟨S8x8192x1, .f32⟩
  | .hbm, ⟨89, _⟩ => ⟨S8x8192x8192, .f32⟩
  | .hbm, ⟨90, _⟩ => ⟨S8x8192x8192, .f32⟩
  | .hbm, ⟨91, _⟩ => ⟨S_, .f32⟩
  | .hbm, ⟨92, _⟩ => ⟨S8x8192, .f32⟩
  | .hbm, ⟨93, _⟩ => ⟨S8x8192x8192, .f32⟩
  | .hbm, ⟨94, _⟩ => ⟨S8x8192x8192, .f32⟩
  | .hbm, ⟨95, _⟩ => ⟨S8x8192x8192, .f32⟩
  | .hbm, ⟨96, _⟩ => ⟨S_, .f32⟩
  | .hbm, ⟨97, _⟩ => ⟨S8x8192x8192, .f32⟩
  | .hbm, ⟨98, _⟩ => ⟨S8x8192x8192, .f32⟩
  | .hbm, ⟨99, _⟩ => ⟨S_, .f32⟩
  | .hbm, ⟨100, _⟩ => ⟨S8x8192, .f32⟩
  | .hbm, ⟨101, _⟩ => ⟨S8x8192x1, .f32⟩
  | .hbm, ⟨102, _⟩ => ⟨S8x8192x8192, .f32⟩
  | .hbm, ⟨103, _⟩ => ⟨S_, .f32⟩
  | .hbm, ⟨104, _⟩ => ⟨S8x8192, .f32⟩
  | .hbm, ⟨105, _⟩ => ⟨S8x1x8192, .f32⟩
  | .hbm, ⟨106, _⟩ => ⟨S_, .f32⟩
  | .hbm, ⟨107, _⟩ => ⟨S8x8192, .f32⟩
  | .hbm, ⟨108, _⟩ => ⟨S_, .f32⟩
  | .hbm, ⟨109, _⟩ => ⟨S8x8192, .f32⟩
  | .hbm, ⟨110, _⟩ => ⟨S_, .f32⟩
  | .hbm, ⟨111, _⟩ => ⟨S8x8192x8192, .f32⟩
  | .hbm, ⟨112, _⟩ => ⟨S8x8192x8192, .f32⟩
  | .hbm, ⟨113, _⟩ => ⟨S8x8192x128, .f32⟩
  | .hbm, ⟨114, _⟩ => ⟨S8192x8x128, .f32⟩
  | .hbm, ⟨115, _⟩ => ⟨S8x8192x128, .f32⟩
  | .hbm, ⟨116, _⟩ => ⟨S8192x8x128, .f32⟩
  | .hbm, ⟨117, _⟩ => ⟨S8x1x8192, .f32⟩
  | .hbm, ⟨118, _⟩ => ⟨S8x1x8192, .f32⟩
  | .hbm, ⟨119, _⟩ => ⟨S_, .f32⟩
  | .hbm, ⟨120, _⟩ => ⟨S8x6x8192, .f32⟩
  | .hbm, ⟨121, _⟩ => ⟨S8x8x8192, .f32⟩
  | .hbm, ⟨122, _⟩ => ⟨S8192x1024, .f32⟩
  | .hbm, ⟨123, _⟩ => ⟨S8192x1024, .bf16⟩
  | .hbm, ⟨124, _⟩ => ⟨S8192x1024, .f32⟩
  | .hbm, ⟨125, _⟩ => ⟨S8192x1024, .bf16⟩
  | .hbm, ⟨126, _⟩ => ⟨S8192x1024, .f32⟩
  | .hbm, ⟨127, _⟩ => ⟨S8192x1024, .bf16⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_v25_1 : Ref sig .tc := ⟨.hbm, 31, rfl⟩
abbrev main_call0_v2 : Ref sig .tc := ⟨.hbm, 32, rfl⟩
abbrev main_v25_0 : Ref sig .tc := ⟨.hbm, 33, rfl⟩
abbrev main_call0_cst : Ref sig .tc := ⟨.hbm, 34, rfl⟩
abbrev main_v25_2 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_cst : Ref sig .tc := ⟨.hbm, 96, rfl⟩
abbrev main_call1_v0 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_cst_16 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_18 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩

abbrev nD : Nat := 1
abbrev τ : Topo := Topo.v7x

variable {F : FTy → Type} [FloatOps F]
-- ==== GwIn.lean ====
abbrev S8192x2048 : Shape := ⟨2, ![8192, 2048]⟩
abbrev S8192x7168 : Shape := ⟨2, ![8192, 7168]⟩
abbrev S2048x7168 : Shape := ⟨2, ![2048, 7168]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x7168, .bf16⟩
  | .hbm, ⟨2, _⟩ => ⟨S2048x7168, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwInReferenceIdeal.lean ====
abbrev S8192x2048 : Shape := ⟨2, ![8192, 2048]⟩
abbrev S8192x7168 : Shape := ⟨2, ![8192, 7168]⟩
abbrev S_ : Shape := ⟨0, ![]⟩
abbrev S2048x7168 : Shape := ⟨2, ![2048, 7168]⟩
abbrev S7168x2048 : Shape := ⟨2, ![7168, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x7168, .bf16⟩
  | .hbm, ⟨2, _⟩ => ⟨S8192x2048, .f32⟩
  | .hbm, ⟨3, _⟩ => ⟨S8192x7168, .f32⟩
  | .hbm, ⟨4, _⟩ => ⟨S_, .f32⟩
  | .hbm, ⟨5, _⟩ => ⟨S2048x7168, .f32⟩
  | .hbm, ⟨6, _⟩ => ⟨S8192x7168, .f32⟩
  | .hbm, ⟨7, _⟩ => ⟨S7168x2048, .f32⟩
  | .hbm, ⟨8, _⟩ => ⟨S2048x7168, .f32⟩
  | .hbm, ⟨9, _⟩ => ⟨S2048x7168, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DH.lean ====
abbrev S8192x7168 : Shape := ⟨2, ![8192, 7168]⟩
abbrev S2048x7168 : Shape := ⟨2, ![2048, 7168]⟩
abbrev S8x128 : Shape := ⟨2, ![8, 128]⟩
abbrev S8192x2048 : Shape := ⟨2, ![8192, 2048]⟩
abbrev S1024x1792 : Shape := ⟨2, ![1024, 1792]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x7168, .bf16⟩
  | .hbm, ⟨1, _⟩ => ⟨S2048x7168, .bf16⟩
  | .hbm, ⟨2, _⟩ => ⟨S8x128, .f32⟩
  | .hbm, ⟨3, _⟩ => ⟨S8192x2048, .f32⟩
  | .local _ .vmem, ⟨0, _⟩ => ⟨S1024x1792, .bf16⟩
  | .local _ .vmem, ⟨1, _⟩ => ⟨S1024x1792, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHReferenceIdeal.lean ====
abbrev S8192x7168 : Shape := ⟨2, ![8192, 7168]⟩
abbrev S2048x7168 : Shape := ⟨2, ![2048, 7168]⟩
abbrev S8x128 : Shape := ⟨2, ![8, 128]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S2048x7168, .bf16⟩
  | .hbm, ⟨2, _⟩ => ⟨S8x128, .f32⟩
  | .hbm, ⟨3, _⟩ => ⟨S8192x7168, .f32⟩
  | .hbm, ⟨4, _⟩ => ⟨S2048x7168, .f32⟩
  | .hbm, ⟨5, _⟩ => ⟨S_, .f32⟩
  | .hbm, ⟨6, _⟩ => ⟨S8192x2048, .f32⟩
  | .hbm, ⟨7, _⟩ => ⟨S8192x7168, .f32⟩
  | .hbm, ⟨8, _⟩ => ⟨S8192x2048, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GwOut.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GwOutReferenceIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DY.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjF.lean ====
abbrev S8192x2048 : Shape := ⟨2, ![8192, 2048]⟩
abbrev S2048x7168 : Shape := ⟨2, ![2048, 7168]⟩
abbrev S8192x3584 : Shape := ⟨2, ![8192, 3584]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x7168, .bf16⟩
  | .hbm, ⟨2, _⟩ => ⟨S8192x3584, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFReferenceIdeal.lean ====
abbrev S8192x2048 : Shape := ⟨2, ![8192, 2048]⟩
abbrev S2048x7168 : Shape := ⟨2, ![2048, 7168]⟩
abbrev S2048x3584 : Shape := ⟨2, ![2048, 3584]⟩
abbrev S8192x3584 : Shape := ⟨2, ![8192, 3584]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7168, .bf16⟩
  | .hbm, ⟨2, _⟩ => ⟨S8192x2048, .f32⟩
  | .hbm, ⟨3, _⟩ => ⟨S2048x7168, .f32⟩
  | .hbm, ⟨4, _⟩ => ⟨S2048x3584, .f32⟩
  | .hbm, ⟨5, _⟩ => ⟨S8192x3584, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjB.lean ====
abbrev S8192x2048 : Shape := ⟨2, ![8192, 2048]⟩
abbrev S2048x7168 : Shape := ⟨2, ![2048, 7168]⟩
abbrev S8192x3584 : Shape := ⟨2, ![8192, 3584]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x7168, .bf16⟩
  | .hbm, ⟨2, _⟩ => ⟨S8192x3584, .bf16⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBReferenceIdeal.lean ====
abbrev S8192x2048 : Shape := ⟨2, ![8192, 2048]⟩
abbrev S2048x7168 : Shape := ⟨2, ![2048, 7168]⟩
abbrev S2048x3584 : Shape := ⟨2, ![2048, 3584]⟩
abbrev S8192x3584 : Shape := ⟨2, ![8192, 3584]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7168, .bf16⟩
  | .hbm, ⟨2, _⟩ => ⟨S8192x2048, .f32⟩
  | .hbm, ⟨3, _⟩ => ⟨S2048x7168, .f32⟩
  | .hbm, ⟨4, _⟩ => ⟨S2048x3584, .f32⟩
  | .hbm, ⟨5, _⟩ => ⟨S8192x3584, .f32⟩
  | .hbm, ⟨6, _⟩ => ⟨S8192x3584, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjReferenceIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RmsBwd.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 17
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x1, .f32⟩
  | .local _ .vmem, ⟨3, _⟩ => ⟨S256x1, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_13 : BitVec 32 := 0#32
  let v27 : BitVec 1 := Scalar.cmpi .ne v26 c0_i32_13
  v27

def k0_cond2 (i : grid0.Coords) : BitVec 1 :=
  let arg0 : BitVec 32 := BitVec.ofNat 32 (i 0).val
  let c0_i32_14 : BitVec 32 := 0#32
  let v28 : BitVec 1 := Scalar.cmpi .sgt arg0 c0_i32_14
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== MemKvBwd.lean ====
abbrev S256x1024 : Shape := ⟨2, ![256, 1024]⟩
abbrev S256x2048 : Shape := ⟨2, ![256, 2048]⟩
abbrev S1x2048 : Shape := ⟨2, ![1, 2048]⟩
abbrev S2048x1024 : Shape := ⟨2, ![2048, 1024]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 19
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S1x2048, .f32⟩
  | .hbm, ⟨3, _⟩ => ⟨S2048x1024, .bf16⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S2048x1024, .bf16⟩
  | .hbm, ⟨18, _⟩ => ⟨S1x2048, .f32⟩
  | .local _ .vmem, ⟨0, _⟩ => ⟨S256x1024, .f32⟩
  | .local _ .vmem, ⟨1, _⟩ => ⟨S256x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x2048, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MemKvBwdReferenceIdeal.lean ====
abbrev S256x1024 : Shape := ⟨2, ![256, 1024]⟩
abbrev S256x2048 : Shape := ⟨2, ![256, 2048]⟩
abbrev S1x2048 : Shape := ⟨2, ![1, 2048]⟩
abbrev S2048x1024 : Shape := ⟨2, ![2048, 1024]⟩
abbrev S_ : Shape := ⟨0, ![]⟩
abbrev S256 : Shape := ⟨1, ![256]⟩
abbrev S256x1 : Shape := ⟨2, ![256, 1]⟩
abbrev S1024x2048 : Shape := ⟨2, ![1024, 2048]⟩
abbrev S2048 : Shape := ⟨1, ![2048]⟩

abbrev nBuf : Space → Nat
  | .hbm => 29
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S1x2048, .f32⟩
  | .hbm, ⟨3, _⟩ => ⟨S2048x1024, .bf16⟩
  | .hbm, ⟨4, _⟩ => ⟨S2048x1024, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S256x1024, .f32⟩
  | .hbm, ⟨21, _⟩ => ⟨S1024x2048, .f32⟩
  | .hbm, ⟨22, _⟩ => ⟨S2048x1024, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== MemBwd.lean ====
abbrev S8192x3584 : Shape := ⟨2, ![8192, 3584]⟩
abbrev S256x1024 : Shape := ⟨2, ![256, 1024]⟩
abbrev S8192x2048 : Shape := ⟨2, ![8192, 2048]⟩
abbrev S8192x512 : Shape := ⟨2, ![8192, 512]⟩
abbrev S256x512 : Shape := ⟨2, ![256, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x3584, .bf16⟩
  | .hbm, ⟨1, _⟩ => ⟨S8192x3584, .f32⟩
  | .hbm, ⟨2, _⟩ => ⟨S256x1024, .bf16⟩
  | .hbm, ⟨3, _⟩ => ⟨S8192x2048, .f32⟩
  | .hbm, ⟨4, _⟩ => ⟨S8192x512, .bf16⟩
  | .hbm, ⟨5, _⟩ => ⟨S8192x512, .bf16⟩
  | .hbm, ⟨6, _⟩ => ⟨S256x512, .f32⟩
  | .hbm, ⟨7, _⟩ => ⟨S256x512, .f32⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S256x512, .f32⟩
  | .local _ .vmem, ⟨12, _⟩ => ⟨S256x512, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MemBwdReferenceIdeal.lean ====
abbrev S8192x3584 : Shape := ⟨2, ![8192, 3584]⟩
abbrev S256x1024 : Shape := ⟨2, ![256, 1024]⟩
abbrev S8192x2048 : Shape := ⟨2, ![8192, 2048]⟩
abbrev S8192x512 : Shape := ⟨2, ![8192, 512]⟩
abbrev S8192x4x128 : Shape := ⟨3, ![8192, 4, 128]⟩
abbrev S256x512 : Shape := ⟨2, ![256, 512]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 110
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S8192x3584, .f32⟩
  | .hbm, ⟨2, _⟩ => ⟨S256x1024, .bf16⟩
  | .hbm, ⟨3, _⟩ => ⟨S8192x2048, .f32⟩
  | .hbm, ⟨4, _⟩ => ⟨S8192x512, .bf16⟩
  | .hbm, ⟨5, _⟩ => ⟨S8192x512, .f32⟩
  | .hbm, ⟨6, _⟩ => ⟨S8192x4x128, .f32⟩
  | .hbm, ⟨7, _⟩ => ⟨S256x1024, .f32⟩
  | .hbm, ⟨8, _⟩ => ⟨S256x512, .f32⟩
  | .hbm, ⟨9, _⟩ => ⟨S256x512, .f32⟩
  | .hbm, ⟨10, _⟩ => ⟨S256x4x128, .f32⟩
  | .hbm, ⟨11, _⟩ => ⟨S256x4x128, .f32⟩
  | .hbm, ⟨12, _⟩ => ⟨S8192x512, .f32⟩
  | .hbm, ⟨13, _⟩ => ⟨S4x8192x256, .f32⟩
  | .hbm, ⟨14, _⟩ => ⟨S_, .f32⟩
  | .hbm, ⟨15, _⟩ => ⟨S4x8192x256, .f32⟩
  | .hbm, ⟨16, _⟩ => ⟨S4x8192x256, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S4x8192x256, .f32⟩
  | .hbm, ⟨21, _⟩ => ⟨S4x8192x256, .i1⟩
  | .hbm, ⟨22, _⟩ => ⟨S4x8192x256, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .f32⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S4x8192, .i1⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S_, .f32⟩
  | .hbm, ⟨39, _⟩ => ⟨S4x8192, .f32⟩
  | .hbm, ⟨40, _⟩ => ⟨S4x8192, .f32⟩
  | .hbm, ⟨41, _⟩ => ⟨S4x8192, .f32⟩
  | .hbm, ⟨42, _⟩ => ⟨S4x8192x1, .f32⟩
  | .hbm, ⟨43, _⟩ => ⟨S4x8192x256, .f32⟩
  | .hbm, ⟨44, _⟩ => ⟨S4x8192x256, .f32⟩
  | .hbm, ⟨45, _⟩ => ⟨S4x8192x256, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S4x8192x256, .f32⟩
  | .hbm, ⟨50, _⟩ => ⟨S4x8192x256, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S4x128x8192, .f32⟩
  | .hbm, ⟨56, _⟩ => ⟨S8192x4x128, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S_, .f32⟩
  | .hbm, ⟨61, _⟩ => ⟨S8192x512, .f32⟩
  | .hbm, ⟨62, _⟩ => ⟨S8192x512, .f32⟩
  | .hbm, ⟨63, _⟩ => ⟨S_, .f32⟩
  | .hbm, ⟨64, _⟩ => ⟨S8192x512, .f32⟩
  | .hbm, ⟨65, _⟩ => ⟨S8192x512, .f32⟩
  | .hbm, ⟨66, _⟩ => ⟨S_, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x4x128, .f32⟩
  | .hbm, ⟨80, _⟩ => ⟨S4x128x8192, .f32⟩
  | .hbm, ⟨81, _⟩ => ⟨S4x8192x256, .f32⟩
  | .hbm, ⟨82, _⟩ => ⟨S4x128x256, .f32⟩
  | .hbm, ⟨83, _⟩ => ⟨S256x4x128, .f32⟩
  | .hbm, ⟨84, _⟩ => ⟨S4x8192x256, .f32⟩
  | .hbm, ⟨85, _⟩ => ⟨S4x8192x256, .f32⟩
  | .hbm, ⟨86, _⟩ => ⟨S4x8192x256, .f32⟩
  | .hbm, ⟨87, _⟩ => ⟨S_, .f32⟩
  | .hbm, ⟨88, _⟩ => ⟨S4x8192, .f32⟩
  | .hbm, ⟨89, _⟩ => ⟨S4x8192x1, .f32⟩
  | .hbm, ⟨90, _⟩ => ⟨S4x8192x1, .f32⟩
  | .hbm, ⟨91, _⟩ => ⟨S4x8192x256, .f32⟩
  | .hbm, ⟨92, _⟩ => ⟨S4x8192x256, .f32⟩
  | .hbm, ⟨93, _⟩ => ⟨S_, .f32⟩
  | .hbm, ⟨94, _⟩ => ⟨S4x8192, .f32⟩
  | .hbm, ⟨95, _⟩ => ⟨S4x8192x256, .f32⟩
  | .hbm, ⟨96, _⟩ => ⟨S4x8192x256, .f32⟩
  | .hbm, ⟨97, _⟩ => ⟨S4x8192x256, .f32⟩
  | .hbm, ⟨98, _⟩ => ⟨S_, .f32⟩
  | .hbm, ⟨99, _⟩ => ⟨S4x8192x256, .f32⟩
  | .hbm, ⟨100, _⟩ => ⟨S4x8192x256, .f32⟩
  | .hbm, ⟨101, _⟩ => ⟨S4x256x128, .f32⟩
  | .hbm, ⟨102, _⟩ => ⟨S256x4x128, .f32⟩
  | .hbm, ⟨103, _⟩ => ⟨S4x8192x128, .f32⟩
  | .hbm, ⟨104, _⟩ => ⟨S8192x4x128, .f32⟩
  | .hbm, ⟨105, _⟩ => ⟨S8192x512, .f32⟩
  | .hbm, ⟨106, _⟩ => ⟨S8192x512, .bf16⟩
  | .hbm, ⟨107, _⟩ => ⟨S8192x512, .bf16⟩
  | .hbm, ⟨108, _⟩ => ⟨S256x512, .f32⟩
  | .hbm, ⟨109, _⟩ => ⟨S256x512, .f32⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v43_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v43_1 : Ref sig .tc := ⟨.hbm, 69, rfl⟩
abbrev main_v43_0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩

abbrev nD : Nat := 1
abbrev τ : Topo := Topo.v7x

variable {F : FTy → Type} [FloatOps F]
-- ==== Prep.lean ====
abbrev S8192x2048 : Shape := ⟨2, ![8192, 2048]⟩
abbrev S8192x3584 : Shape := ⟨2, ![8192, 3584]⟩
abbrev S8192x1024 : Shape := ⟨2, ![8192, 1024]⟩
abbrev S8x8192x1 : Shape := ⟨3, ![8, 8192, 1]⟩
abbrev S8192x7168 : Shape := ⟨2, ![8192, 7168]⟩
abbrev S8x8x8192 : Shape := ⟨3, ![8, 8, 8192]⟩
abbrev S512x512 : Shape := ⟨2, ![512, 512]⟩
abbrev S4x512x1 : Shape := ⟨3, ![4, 512, 1]⟩
abbrev S4x8x512 : Shape := ⟨3, ![4, 8, 512]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩
abbrev S128x512 : Shape := ⟨2, ![128, 512]⟩
abbrev S8x512 : Shape := ⟨2, ![8, 512]⟩
abbrev S1x8x512 : Shape := ⟨3, ![1, 8, 512]⟩

abbrev nBuf : Space → Nat
  | .hbm => 9
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x3584, .f32⟩
  | .hbm, ⟨2, _⟩ => ⟨S8192x1024, .bf16⟩
  | .hbm, ⟨3, _⟩ => ⟨S8x8192x1, .f32⟩
  | .hbm, ⟨4, _⟩ => ⟨S8x8192x1, .f32⟩
  | .hbm, ⟨5, _⟩ => ⟨S8192x7168, .bf16⟩
  | .hbm, ⟨6, _⟩ => ⟨S8192x1024, .bf16⟩
  | .hbm, ⟨7, _⟩ => ⟨S8192x7168, .bf16⟩
  | .hbm, ⟨8, _⟩ => ⟨S8x8x8192, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S4x512x1, .f32⟩
  | .local _ .vmem, ⟨7, _⟩ => ⟨S4x512x1, .f32⟩
  | .local _ .vmem, ⟨8, _⟩ => ⟨S4x512x1, .f32⟩
  | .local _ .vmem, ⟨9, _⟩ => ⟨S4x512x1, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S4x8x512, .f32⟩
  | .local _ .vmem, ⟨15, _⟩ => ⟨S4x8x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PrepReferenceIdeal.lean ====
abbrev S8192x2048 : Shape := ⟨2, ![8192, 2048]⟩
abbrev S8192x3584 : Shape := ⟨2, ![8192, 3584]⟩
abbrev S8192x1024 : Shape := ⟨2, ![8192, 1024]⟩
abbrev S8x8192x1 : Shape := ⟨3, ![8, 8192, 1]⟩
abbrev S8192x7168 : Shape := ⟨2, ![8192, 7168]⟩
abbrev S_ : Shape := ⟨0, ![]⟩
abbrev S8192x8x128 : Shape := ⟨3, ![8192, 8, 128]⟩
abbrev S8192x8 : Shape := ⟨2, ![8192, 8]⟩
abbrev S8x8192 : Shape := ⟨2, ![8, 8192]⟩
abbrev S8x1x8192 : Shape := ⟨3, ![8, 1, 8192]⟩
abbrev S8x6x8192 : Shape := ⟨3, ![8, 6, 8192]⟩
abbrev S8x8x8192 : Shape := ⟨3, ![8, 8, 8192]⟩
abbrev S8192x1536 : Shape := ⟨2, ![8192, 1536]⟩
abbrev S8192x4608 : Shape := ⟨2, ![8192, 4608]⟩

abbrev nBuf : Space → Nat
  | .hbm => 46
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x3584, .f32⟩
  | .hbm, ⟨2, _⟩ => ⟨S8192x1024, .bf16⟩
  | .hbm, ⟨3, _⟩ => ⟨S8x8192x1, .f32⟩
  | .hbm, ⟨4, _⟩ => ⟨S8x8192x1, .f32⟩
  | .hbm, ⟨5, _⟩ => ⟨S8192x7168, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x8x128, .f32⟩
  | .hbm, ⟨31, _⟩ => ⟨S_, .f32⟩
  | .hbm, ⟨32, _⟩ => ⟨S8192x8, .f32⟩
  | .hbm, ⟨33, _⟩ => ⟨S8x8192, .f32⟩
  | .hbm, ⟨34, _⟩ => ⟨S8x8192x1, .f32⟩
  | .hbm, ⟨35, _⟩ => ⟨S8x8192, .f32⟩
  | .hbm, ⟨36, _⟩ => ⟨S8x1x8192, .f32⟩
  | .hbm, ⟨37, _⟩ => ⟨S8x1x8192, .f32⟩
  | .hbm, ⟨38, _⟩ => ⟨S_, .f32⟩
  | .hbm, ⟨39, _⟩ => ⟨S8x6x8192, .f32⟩
  | .hbm, ⟨40, _⟩ => ⟨S8x8x8192, .f32⟩
  | .hbm, ⟨41, _⟩ => ⟨S8192x1024, .bf16⟩
  | .hbm, ⟨42, _⟩ => ⟨S8192x1536, .bf16⟩
  | .hbm, ⟨43, _⟩ => ⟨S8192x1024, .bf16⟩
  | .hbm, ⟨44, _⟩ => ⟨S8192x4608, .bf16⟩
  | .hbm, ⟨45, _⟩ => ⟨S8192x7168, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v2_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v2_1 : Ref sig .tc := ⟨.hbm, 19, rfl⟩
abbrev main_v2_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩

abbrev nD : Nat := 1
abbrev τ : Topo := Topo.v7x

variable {F : FTy → Type} [FloatOps F]
-- ==== MemFwd.lean ====
abbrev S8192x3584 : Shape := ⟨2, ![8192, 3584]⟩
abbrev S256x1024 : Shape := ⟨2, ![256, 1024]⟩
abbrev S8192x2048 : Shape := ⟨2, ![8192, 2048]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x3584, .bf16⟩
  | .hbm, ⟨1, _⟩ => ⟨S8192x3584, .f32⟩
  | .hbm, ⟨2, _⟩ => ⟨S256x1024, .bf16⟩
  | .hbm, ⟨3, _⟩ => ⟨S8192x2048, .bf16⟩
  | .hbm, ⟨4, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemFwdReferenceIdeal.lean ====
abbrev S8192x3584 : Shape := ⟨2, ![8192, 3584]⟩
abbrev S256x1024 : Shape := ⟨2, ![256, 1024]⟩
abbrev S8192x2048 : Shape := ⟨2, ![8192, 2048]⟩
abbrev S8192x512 : Shape := ⟨2, ![8192, 512]⟩
abbrev S8192x4x128 : Shape := ⟨3, ![8192, 4, 128]⟩
abbrev S256x512 : Shape := ⟨2, ![256, 512]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S8192x1536 : Shape := ⟨2, ![8192, 1536]⟩

abbrev nBuf : Space → Nat
  | .hbm => 47
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S8192x3584, .f32⟩
  | .hbm, ⟨2, _⟩ => ⟨S256x1024, .bf16⟩
  | .hbm, ⟨3, _⟩ => ⟨S8192x2048, .bf16⟩
  | .hbm, ⟨4, _⟩ => ⟨S8192x512, .bf16⟩
  | .hbm, ⟨5, _⟩ => ⟨S8192x512, .f32⟩
  | .hbm, ⟨6, _⟩ => ⟨S8192x4x128, .f32⟩
  | .hbm, ⟨7, _⟩ => ⟨S256x1024, .f32⟩
  | .hbm, ⟨8, _⟩ => ⟨S256x512, .f32⟩
  | .hbm, ⟨9, _⟩ => ⟨S256x512, .f32⟩
  | .hbm, ⟨10, _⟩ => ⟨S256x4x128, .f32⟩
  | .hbm, ⟨11, _⟩ => ⟨S256x4x128, .f32⟩
  | .hbm, ⟨12, _⟩ => ⟨S4x8192x256, .f32⟩
  | .hbm, ⟨13, _⟩ => ⟨S_, .f32⟩
  | .hbm, ⟨14, _⟩ => ⟨S4x8192x256, .f32⟩
  | .hbm, ⟨15, _⟩ => ⟨S4x8192x256, .f32⟩
  | .hbm, ⟨16, _⟩ => ⟨S_, .f32⟩
  | .hbm, ⟨17, _⟩ => ⟨S4x8192, .f32⟩
  | .hbm, ⟨18, _⟩ => ⟨S_, .f32⟩
  | .hbm, ⟨19, _⟩ => ⟨S4x8192, .f32⟩
  | .hbm, ⟨20, _⟩ => ⟨S4x8192, .f32⟩
  | .hbm, ⟨21, _⟩ => ⟨S4x8192x1, .f32⟩
  | .hbm, ⟨22, _⟩ => ⟨S4x8192x256, .f32⟩
  | .hbm, ⟨23, _⟩ => ⟨S4x8192x256, .f32⟩
  | .hbm, ⟨24, _⟩ => ⟨S4x8192x256, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S4x8192x256, .f32⟩
  | .hbm, ⟨29, _⟩ => ⟨S4x8192x256, .f32⟩
  | .hbm, ⟨30, _⟩ => ⟨S4x128x8192, .f32⟩
  | .hbm, ⟨31, _⟩ => ⟨S8192x4x128, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x1536, .bf16⟩
  | .hbm, ⟨45, _⟩ => ⟨S8192x512, .bf16⟩
  | .hbm, ⟨46, _⟩ => ⟨S8192x2048, .bf16⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== RmsFwd.lean ====
abbrev S8192x2048 : Shape := ⟨2, ![8192, 2048]⟩
abbrev S1x2048 : Shape := ⟨2, ![1, 2048]⟩
abbrev S8192x1 : Shape := ⟨2, ![8192, 1]⟩
abbrev S256x2048 : Shape := ⟨2, ![256, 2048]⟩
abbrev S256x1 : Shape := ⟨2, ![256, 1]⟩
abbrev S256 : Shape := ⟨1, ![256]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x1, .f32⟩
  | .local _ .vmem, ⟨6, _⟩ => ⟨S256x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsFwdReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== MemKvFwd.lean ====
abbrev S256x2048 : Shape := ⟨2, ![256, 2048]⟩
abbrev S1x2048 : Shape := ⟨2, ![1, 2048]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x1024, .bf16⟩
  | .hbm, ⟨3, _⟩ => ⟨S256x1024, .bf16⟩
  | .hbm, ⟨4, _⟩ => ⟨S256x2048, .f32⟩
  | .local _ .vmem, ⟨0, _⟩ => ⟨S256x2048, .f32⟩
  | .local _ .vmem, ⟨1, _⟩ => ⟨S1x2048, .f32⟩
  | .local _ .vmem, ⟨2, _⟩ => ⟨S2048x1024, .bf16⟩
  | .local _ .vmem, ⟨3, _⟩ => ⟨S256x1024, .bf16⟩
  | .local _ .vmem, ⟨4, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== MemKvFwdReferenceIdeal.lean ====
abbrev S256x2048 : Shape := ⟨2, ![256, 2048]⟩
abbrev S1x2048 : Shape := ⟨2, ![1, 2048]⟩
abbrev S2048x1024 : Shape := ⟨2, ![2048, 1024]⟩
abbrev S_ : Shape := ⟨0, ![]⟩
abbrev S256 : Shape := ⟨1, ![256]⟩
abbrev S256x1 : Shape := ⟨2, ![256, 1]⟩
abbrev S256x1024 : Shape := ⟨2, ![256, 1024]⟩

abbrev nBuf : Space → Nat
  | .hbm => 34
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x1024, .bf16⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S2048x1024, .f32⟩
  | .hbm, ⟨32, _⟩ => ⟨S256x1024, .f32⟩
  | .hbm, ⟨33, _⟩ => ⟨S256x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.FoxValue.Head.lean ====
/-
  The forgetting attention of one head and its gradients over the real numbers, positions counted by naturals.
-/
module

public import Idealize.ShloMosaic.PureOps.Ideal

@[expose] public section

noncomputable section

namespace Cert.Fox

open Finset

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over the positions of blocks `0 … n` is the sum over the blocks before and the sum over block `n`. -/
theorem sum_block (f : ℕ → ℝ) (n : ℕ) : ∑ t ∈ range (512 * (n + 1)), f t = ∑ t ∈ range (512 * n), f t + ∑ b : Fin 512, f (512 * n + b.val) := by
  rw [Nat.mul_succ, sum_range_add, Fin.sum_univ_eq_sum_range (fun b => f (512 * n + b))]

/-- Positions at which the summand vanishes may be left out. -/
theorem sum_range_of_zero (f : ℕ → ℝ) (m n : ℕ) (h : m ≤ n) (h0 : ∀ t, m ≤ t → f t = 0) : ∑ t ∈ range n, f t = ∑ t ∈ range m, f t := by
  refine (sum_subset (range_mono h) fun t _ ht => h0 t ?_).symm
  simpa using ht

/-- A head's queries, keys, values, output gradients, the logarithm of its forget gates summed up, and the scale. -/
structure Head where
  q : ℕ → Fin 128 → ℝ
  k : ℕ → Fin 128 → ℝ
  v : ℕ → Fin 128 → ℝ
  g : ℕ → Fin 128 → ℝ
  c : ℕ → ℝ
  σ : ℝ

namespace Head

variable (H : Head)

/-- The score of query `t` against key `u`. -/
def s (t u : ℕ) : ℝ := (∑ d, H.q t d * H.k u d) * H.σ + (H.c t - H.c u)
/-- The exponential of the score, of the keys that the query sees. -/
def w (t u : ℕ) : ℝ := if u ≤ t then Real.exp (H.s t u) else 0
/-- Its sum over the keys. -/
def z (t : ℕ) : ℝ := ∑ u ∈ range 8192, H.w t u
/-- The attention's weights. -/
def p (t u : ℕ) : ℝ := H.w t u / H.z t
/-- The output's gradient against the values. -/
def dp (t u : ℕ) : ℝ := ∑ d, H.g t d * H.v u d
/-- The output. -/
def o (t : ℕ) (d : Fin 128) : ℝ := ∑ u ∈ range 8192, H.p t u * H.v u d
/-- The output's gradient against the output. -/
def delta (t : ℕ) : ℝ := ∑ d, H.g t d * H.o t d
/-- The scores' gradient. -/
def ds (t u : ℕ) : ℝ := H.p t u * (H.dp t u - H.delta t)

theorem w_nonneg (t u : ℕ) : 0 ≤ H.w t u := by
  unfold w; split
  · exact (Real.exp_pos _).le
  · exact le_rfl

theorem z_pos (t : ℕ) (ht : t < 8192) : 0 < H.z t := by
  refine sum_pos' (fun u _ => H.w_nonneg t u) ⟨t, mem_range.mpr ht, ?_⟩
  unfold w
  rw [if_pos le_rfl]
  exact Real.exp_pos _

theorem p_zero (t u : ℕ) (h : t < u) : H.p t u = 0 := by
  unfold p w; rw [if_neg (by omega), zero_div]
theorem ds_zero (t u : ℕ) (h : t < u) : H.ds t u = 0 := by
  unfold ds; rw [H.p_zero t u h, zero_mul]

/-- The weight from the score less the logarithm of the sum. -/
theorem exp_sub (t u : ℕ) (ht : t < 8192) (h : u ≤ t) : Real.exp (H.s t u - Real.log (H.z t)) = H.p t u := by
  rw [Real.exp_sub, Real.exp_log (H.z_pos t ht)]
  unfold p w; rw [if_pos h]

/-- The output's gradient against the output is the weights' mean of its gradient against the values. -/
theorem delta_eq (t : ℕ) : H.delta t = ∑ u ∈ range 8192, H.p t u * H.dp t u := by
  unfold delta o dp
  simp only [mul_sum]
  rw [sum_comm]
  refine sum_congr rfl fun u _ => sum_congr rfl fun d _ => ?_
  ring

/-- The scores' gradient as differentiating `e / l` gives it, for any shift of the exponent. -/
theorem ds_of_shift (M : ℝ) (t u : ℕ) (ht : t < 8192) (e : ℕ → ℝ) (l : ℝ) (he : ∀ u, e u = H.w t u * Real.exp (-M))
    (hl : l = ∑ u ∈ range 8192, e u) :
    (H.dp t u / l + -(∑ u' ∈ range 8192, (H.dp t u' * (1 / (l * l))) * e u')) * e u = H.ds t u := by
  have hz := H.z_pos t ht
  have hM := Real.exp_pos (-M)
  have hl' : l = H.z t * Real.exp (-M) := by
    rw [hl, z, sum_mul]; exact sum_congr rfl fun u _ => he u
  have hs : ∑ u' ∈ range 8192, (H.dp t u' * (1 / (l * l))) * e u' = H.delta t / l := by
    rw [delta_eq, sum_div]
    refine sum_congr rfl fun u' _ => ?_
    rw [he, hl']; unfold p
    field_simp
  rw [hs, he, hl']; unfold ds p
  field_simp
  ring

/-- The weights likewise. -/
theorem p_of_shift (M : ℝ) (t u : ℕ) (ht : t < 8192) (e : ℕ → ℝ) (l : ℝ) (he : ∀ u, e u = H.w t u * Real.exp (-M))
    (hl : l = ∑ u ∈ range 8192, e u) : e u / l = H.p t u := by
  have hz := H.z_pos t ht
  have hM := Real.exp_pos (-M)
  have hl' : l = H.z t * Real.exp (-M) := by
    rw [hl, z, sum_mul]; exact sum_congr rfl fun u _ => he u
  rw [he, hl']; unfold p
  field_simp

/-- The logarithm of the sum from the shift and the shifted sum. -/
theorem log_of_shift (M : ℝ) (t : ℕ) (ht : t < 8192) (e : ℕ → ℝ) (l : ℝ) (he : ∀ u, e u = H.w t u * Real.exp (-M))
    (hl : l = ∑ u ∈ range 8192, e u) : M + Real.log l = Real.log (H.z t) := by
  have hz := H.z_pos t ht
  have hl' : l = H.z t * Real.exp (-M) := by
    rw [hl, z, sum_mul]; exact sum_congr rfl fun u _ => he u
  rw [hl', Real.log_mul hz.ne' (Real.exp_pos _).ne', Real.log_exp]; ring

theorem l_pos (M : ℝ) (t : ℕ) (ht : t < 8192) (e : ℕ → ℝ) (l : ℝ) (he : ∀ u, e u = H.w t u * Real.exp (-M))
    (hl : l = ∑ u ∈ range 8192, e u) : 0 < l := by
  have hl' : l = H.z t * Real.exp (-M) := by
    rw [hl, z, sum_mul]; exact sum_congr rfl fun u _ => he u
  rw [hl']; exact mul_pos (H.z_pos t ht) (Real.exp_pos _)

end Head

/-- The largest of finitely many extended reals, none of them `⊤` and one of them real, is real. -/
theorem fold_max_real {n : ℕ} (f : Fin n → EReal) (i : Fin n) (hi : f i ≠ ⊥) (h : ∀ i, f i ≠ ⊤) :
    ∃ M : ℝ, Finset.univ.fold max ⊥ f = (M : EReal) := by
  have h1 : Finset.univ.fold max ⊥ f < ⊤ := (Finset.fold_max_lt _).mpr ⟨bot_lt_top, fun x _ => lt_top_iff_ne_top.mpr (h x)⟩
  have h2 : ⊥ < Finset.univ.fold max ⊥ f := lt_of_lt_of_le (bot_lt_iff_ne_bot.mpr hi) ((Finset.le_fold_max _).mpr (.inr ⟨i, Finset.mem_univ _, le_rfl⟩))
  exact ⟨_, (EReal.coe_toReal h1.ne h2.ne').symm⟩

theorem div_coe (a b : ℝ) (hb : b ≠ 0) : Idealize.ShloMosaic.Ideal.div (a : EReal) (b : EReal) = ((a / b : ℝ) : EReal) := by
  unfold Idealize.ShloMosaic.Ideal.div
  rw [if_neg (by exact_mod_cast hb), div_eq_mul_inv, EReal.coe_mul, EReal.coe_inv]

end Cert.Fox

end
-- ==== Proof.FoxValue.Inputs.lean ====
/-
  A head of the attention read out of the argument arrays, and what the precondition says of them: every entry the
  attention reads is a real number.
-/
module

public import proofs.«01_k».proof.Proof.FoxValue.Head
public import proofs.«01_k».proof.Proof.Gen.Pre_finite
public import Idealize.ShloMosaic.Lib.Pointwise

@[expose] public section

set_option maxRecDepth 16384

noncomputable section

namespace Cert.Fox

open Idealize.ShloMosaic

/-- The projections, the output's gradient and the summed forget gates, as arrays. -/
abbrev Proj := (⟨2, ![8192, 3584]⟩ : Shape).Idx → EReal
abbrev Grad := (⟨2, ![8192, 1024]⟩ : Shape).Idx → EReal
abbrev Gate := (⟨3, ![8, 8192, 1]⟩ : Shape).Idx → EReal

/-- The scale `1/√128` as single precision rounds it. -/
abbrev scaleW : EReal := Ideal.ofBits FTy.f32 0x3DB504F3#32

theorem scale_coe : scaleW = ((scaleW.toReal : ℝ) : EReal) := by
  have e : ∃ r : ℝ, scaleW = (r : EReal) := by
    unfold scaleW Ideal.ofBits Ideal.ieee
    simp only []
    rw [if_neg (by decide), if_neg (by decide)]
    exact ⟨_, rfl⟩
  obtain ⟨r, e⟩ := e
  rw [e, EReal.toReal_coe]

/-- The entries the attention reads are real numbers. -/
structure Finite (x0 : Proj) (x1 : Grad) (x2 : Gate) : Prop where
  p : ∀ (t : Fin 8192) (y : Fin 3584), y.val < 3072 → x0 (ix2 t y) ≠ ⊤ ∧ x0 (ix2 t y) ≠ ⊥
  g : ∀ (t : Fin 8192) (y : Fin 1024), x1 (ix2 t y) ≠ ⊤ ∧ x1 (ix2 t y) ≠ ⊥
  c : ∀ (h : Fin 8) (t : Fin 8192), x2 (ix3 h t 0) ≠ ⊤ ∧ x2 (ix3 h t 0) ≠ ⊥

/-- Head `h` of the arrays. -/
def headOf (x0 : Proj) (x1 : Grad) (x2 : Gate) (h : Fin 8) : Head where
  q t d := if ht : t < 8192 then (x0 (ix2 ⟨t, ht⟩ ⟨128 * h.val + d.val, by omega⟩)).toReal else 0
  k t d := if ht : t < 8192 then (x0 (ix2 ⟨t, ht⟩ ⟨1024 + (128 * h.val + d.val), by omega⟩)).toReal else 0
  v t d := if ht : t < 8192 then (x0 (ix2 ⟨t, ht⟩ ⟨2048 + (128 * h.val + d.val), by omega⟩)).toReal else 0
  g t d := if ht : t < 8192 then (x1 (ix2 ⟨t, ht⟩ ⟨128 * h.val + d.val, by omega⟩)).toReal else 0
  c t := if ht : t < 8192 then (x2 (ix3 h ⟨t, ht⟩ 0)).toReal else 0
  σ := scaleW.toReal

variable {x0 : Proj} {x1 : Grad} {x2 : Gate} (hx : Finite x0 x1 x2) (h : Fin 8) (t : Fin 8192) (d : Fin 128)

include hx in
theorem q_coe (y : Fin 3584) (hy : y.val = 128 * h.val + d.val) : x0 (ix2 t y) = ((headOf x0 x1 x2 h).q t.val d : EReal) := by
  have e := hx.p t y (by omega)
  rw [show y = ⟨128 * h.val + d.val, by omega⟩ from Fin.ext hy] at e ⊢
  simp only [headOf, t.isLt, dif_pos]
  exact (EReal.coe_toReal e.1 e.2).symm

include hx in
theorem k_coe (y : Fin 3584) (hy : y.val = 1024 + (128 * h.val + d.val)) : x0 (ix2 t y) = ((headOf x0 x1 x2 h).k t.val d : EReal) := by
  have e := hx.p t y (by omega)
  rw [show y = ⟨1024 + (128 * h.val + d.val), by omega⟩ from Fin.ext hy] at e ⊢
  simp only [headOf, t.isLt, dif_pos]
  exact (EReal.coe_toReal e.1 e.2).symm

include hx in
theorem v_coe (y : Fin 3584) (hy : y.val = 2048 + (128 * h.val + d.val)) : x0 (ix2 t y) = ((headOf x0 x1 x2 h).v t.val d : EReal) := by
  have e := hx.p t y (by omega)
  rw [show y = ⟨2048 + (128 * h.val + d.val), by omega⟩ from Fin.ext hy] at e ⊢
  simp only [headOf, t.isLt, dif_pos]
  exact (EReal.coe_toReal e.1 e.2).symm

include hx in
theorem g_coe (y : Fin 1024) (hy : y.val = 128 * h.val + d.val) : x1 (ix2 t y) = ((headOf x0 x1 x2 h).g t.val d : EReal) := by
  have e := hx.g t y
  rw [show y = ⟨128 * h.val + d.val, by omega⟩ from Fin.ext hy] at e ⊢
  simp only [headOf, t.isLt, dif_pos]
  exact (EReal.coe_toReal e.1 e.2).symm

include hx in
theorem c_coe : x2 (ix3 h t 0) = ((headOf x0 x1 x2 h).c t.val : EReal) := by
  have e := hx.c h t
  simp only [headOf, t.isLt, dif_pos]
  exact (EReal.coe_toReal e.1 e.2).symm

theorem σ_coe : scaleW = (((headOf x0 x1 x2 h).σ : ℝ) : EReal) := scale_coe

/-- An extended real whose absolute value is below `⊤` is real. -/
theorem ne_of_abs_lt (x : EReal) (hx : max x (-x) < ⊤) : x ≠ ⊤ ∧ x ≠ ⊥ := by
  constructor
  · rintro rfl; simp at hx
  · rintro rfl; simp at hx

theorem inf_word : Ideal.ofBits FTy.f32 2139095040#32 = ⊤ := by
  simp [Ideal.ofBits, Ideal.ieee]

theorem of_word (b : Bool) (e : BitVec.ofBool b = 1#1) : b = true := by revert e; cases b <;> decide

/-- The precondition at an entry of its array. -/
theorem pre_at (hp : Cert.Pre_finite.fn (F := Ideal) x0 x1 x2 = fun _ => 1#1) (t : Fin 8192) (y : Fin 4104) (z : EReal)
    (hz : (if h : y.val < 3072 then x0 (ix2 t ⟨y.val, by omega⟩) else if h' : y.val - 3072 < 1024 then x1 (ix2 t ⟨y.val - 3072, h'⟩)
      else x2 (ix3 ⟨y.val - 3072 - 1024, by omega⟩ t 0)) = z) : z ≠ ⊤ ∧ z ≠ ⊥ := by
  have e := congrFun hp (ix2 t y)
  unfold Cert.Pre_finite.fn at e
  revert e
  pointwise []
  intro e
  have e' := of_decide_eq_true (of_word _ e)
  rw [hz, inf_word] at e'
  exact ne_of_abs_lt z e'

/-- The precondition says that the attention's entries are real numbers. -/
theorem finite_of_pre (hp : Cert.Pre_finite.fn (F := Ideal) x0 x1 x2 = fun _ => 1#1) : Finite x0 x1 x2 where
  p t y hy := pre_at hp t ⟨y.val, by omega⟩ _ (by rw [dif_pos hy])
  g t y := pre_at hp t ⟨3072 + y.val, by omega⟩ _ (by
    rw [dif_neg (by show ¬ 3072 + y.val < 3072; omega), dif_pos (by show 3072 + y.val - 3072 < 1024; omega)]
    exact congrArg (fun a => x1 (ix2 t a)) (Fin.ext (by show 3072 + y.val - 3072 = y.val; omega)))
  c h t := pre_at hp t ⟨4096 + h.val, by omega⟩ _ (by
    rw [dif_neg (by show ¬ 4096 + h.val < 3072; omega), dif_neg (by show ¬ 4096 + h.val - 3072 < 1024; omega)]
    exact congrArg (fun a => x2 (ix3 a t 0)) (Fin.ext (by show 4096 + h.val - 3072 - 1024 = h.val; omega)))

/-! One query's row of scores, its maximum and its exponentials. -/

theorem reduceMax_at {n0 n1 n2 : ℕ} (A : FVec Ideal ⟨3, ![n0, n1, n2]⟩ .f32) (b : FVec Ideal ⟨0, ![]⟩ .f32)
    (hr : Shape.ReducesTo ⟨3, ![n0, n1, n2]⟩ [2] ⟨2, ![n0, n1]⟩) (hi : 0 < (⟨0, ![]⟩ : Shape).numel) (i : Fin n0) (j : Fin n1) :
    Host.reduce FloatOps.maximumf A b hr hi (ix2 i j) = Finset.univ.fold max (b (Shape.Idx.first hi)) fun k => A (ix3 i j k) := by
  pointwise []

theorem neg_inf_word : Ideal.ofBits FTy.f32 4286578688#32 = ⊥ := by
  simp [Ideal.ofBits, Ideal.ieee]

theorem mask_word (a b : Fin 8192) : IntOp.cmpi CmpIPredicate.sle (BitVec.ofNat 32 a.val) (BitVec.ofNat 32 b.val) = BitVec.ofBool (decide (a.val ≤ b.val)) := by
  have ha := a.isLt
  have hb := b.isLt
  have e : BitVec.sle (BitVec.ofNat 32 a.val) (BitVec.ofNat 32 b.val) = decide (a.val ≤ b.val) := by
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat]
    refine decide_eq_decide.mpr ?_
    omega
  unfold IntOp.cmpi
  exact congrArg BitVec.ofBool e

theorem select_word {α : Type} (p : Prop) [Decidable p] (x y : α) : Scalar.select (BitVec.ofBool (decide p)) x y = if p then x else y := by
  by_cases h : p
  · rw [if_pos h, decide_eq_true h]; rfl
  · rw [if_neg h, decide_eq_false h]; rfl

/-- A query's score against a key it sees, and `⊥` against the others. -/
def scoreAt (H : Head) (t u : ℕ) : EReal := if u ≤ t then (H.s t u : EReal) else ⊥

theorem max_real (H : Head) (t : Fin 8192) : ∃ M : ℝ, (Finset.univ.fold max ⊥ fun u : Fin 8192 => scoreAt H t.val u.val) = (M : EReal) := by
  refine fold_max_real _ t ?_ fun u => ?_
  · unfold scoreAt; rw [if_pos le_rfl]; exact EReal.coe_ne_bot _
  · unfold scoreAt; split
    · exact EReal.coe_ne_top _
    · exact bot_ne_top

/-- The largest score of a query. -/
def top (H : Head) (t : Fin 8192) : ℝ := (max_real H t).choose
theorem top_eq (H : Head) (t : Fin 8192) : (Finset.univ.fold max ⊥ fun u : Fin 8192 => scoreAt H t.val u.val) = (top H t : EReal) := (max_real H t).choose_spec

/-- The exponential of the score less the largest, and its sum. -/
def ex (H : Head) (t : Fin 8192) (u : ℕ) : ℝ := H.w t.val u * Real.exp (-top H t)
def exSum (H : Head) (t : Fin 8192) : ℝ := ∑ u ∈ Finset.range 8192, ex H t u

theorem exp_score (H : Head) (t : Fin 8192) (u : ℕ) : Ideal.exp (scoreAt H t.val u - (top H t : EReal)) = (ex H t u : EReal) := by
  unfold scoreAt ex Head.w
  by_cases h : u ≤ t.val
  · rw [if_pos h, if_pos h, ← EReal.coe_sub, Ideal.exp_coe, sub_eq_add_neg, Real.exp_add]
  · rw [if_neg h, if_neg h, zero_mul, EReal.bot_sub, Ideal.exp_bot, EReal.coe_zero]

theorem exSum_pos (H : Head) (t : Fin 8192) : 0 < exSum H t := H.l_pos (top H t) t.val t.isLt (ex H t) (exSum H t) (fun _ => rfl) rfl
theorem ex_div (H : Head) (t : Fin 8192) (u : ℕ) : ex H t u / exSum H t = H.p t.val u :=
  H.p_of_shift (top H t) t.val u t.isLt (ex H t) (exSum H t) (fun _ => rfl) rfl
theorem top_log (H : Head) (t : Fin 8192) : top H t + Real.log (exSum H t) = Real.log (H.z t.val) :=
  H.log_of_shift (top H t) t.val t.isLt (ex H t) (exSum H t) (fun _ => rfl) rfl
theorem ds_ex (H : Head) (t : Fin 8192) (u : ℕ) :
    (H.dp t.val u / exSum H t + -(∑ u' ∈ Finset.range 8192, (H.dp t.val u' * (1 / (exSum H t * exSum H t))) * ex H t u')) * ex H t u = H.ds t.val u :=
  H.ds_of_shift (top H t) t.val u t.isLt (ex H t) (exSum H t) (fun _ => rfl) rfl

/-- A sum over the positions as one over a range. -/
theorem sum_coe (f : ℕ → ℝ) : ∑ x : Fin 8192, ((f x.val : ℝ) : EReal) = ((∑ u ∈ Finset.range 8192, f u : ℝ) : EReal) := by
  rw [← coe_sum, Fin.sum_univ_eq_sum_range f 8192]

end Cert.Fox

end
-- ==== Proof.FoxBwd.Offsets.lean ====
/-
  Where the pipelined loop of the attention backward kernel reads and writes: the offsets of its trips in closed
  form, and the conditions of the kernel's branches as conditions on the key block's number.
-/
module

public import proofs.«01_k».proof.Proof.Gen.KernelIdeal.Loops
public import proofs.«01_k».proof.Proof.Gen.KernelIdeal.Frame

@[expose] public section

set_option maxRecDepth 16384

noncomputable section

namespace Cert.KernelIdeal.Fox

open Idealize.ShloMosaic Idealize.ShloMosaic.TcCoe Idealize.ShloMosaic.Tactic
open Cert.KernelIdeal Cert.KernelIdeal.Gen

/-- The loop makes `(14 - j) / 2` trips for key block `j`. -/
theorem trips_eq : ∀ i : grid0.Coords, (k0_t1_loop i).trips = (14 - (i 1).val) / 2 := by decide +kernel

theorem off13a_eq : ∀ (i : grid0.Coords) (k : Fin (k0_t1_loop i).trips), k0_off13 i k 1#32 = ![512 * ((i 1).val + 2 * k.val + 2), 0] := by decide +kernel
theorem off13b_eq : ∀ (i : grid0.Coords) (k : Fin (k0_t1_loop i).trips), k0_off13 i k 2#32 = ![512 * ((i 1).val + 2 * k.val + 3), 0] := by decide +kernel
theorem off14a_eq : ∀ (i : grid0.Coords) (k : Fin (k0_t1_loop i).trips), k0_off14 i k 1#32 = ![0, 0, 512 * ((i 1).val + 2 * k.val + 2)] := by decide +kernel
theorem off14b_eq : ∀ (i : grid0.Coords) (k : Fin (k0_t1_loop i).trips), k0_off14 i k 2#32 = ![0, 0, 512 * ((i 1).val + 2 * k.val + 3)] := by decide +kernel
theorem off15a_eq : ∀ (i : grid0.Coords) (k : Fin (k0_t1_loop i).trips), k0_off15 i k 1#32 = ![0, 1, 512 * ((i 1).val + 2 * k.val + 2)] := by decide +kernel
theorem off15b_eq : ∀ (i : grid0.Coords) (k : Fin (k0_t1_loop i).trips), k0_off15 i k 2#32 = ![0, 1, 512 * ((i 1).val + 2 * k.val + 3)] := by decide +kernel
theorem off16_eq : ∀ (i : grid0.Coords) (k : Fin (k0_t1_loop i).trips), k0_off16 i k = ![512 * ((i 1).val + 2 * k.val + 1), 0] := by decide +kernel
theorem off17_eq : ∀ (i : grid0.Coords) (k : Fin (k0_t1_loop i).trips), k0_off17 i k = ![0, 512 * ((i 1).val + 2 * k.val + 1)] := by decide +kernel
theorem off18_eq : ∀ (i : grid0.Coords) (k : Fin (k0_t1_loop i).trips), k0_off18 i k = ![0, 512 * ((i 1).val + 2 * k.val + 1)] := by decide +kernel
theorem off19_eq : ∀ (i : grid0.Coords) (k : Fin (k0_t1_loop i).trips), k0_off19 i k = ![0, 512 * ((i 1).val + 2 * k.val + 2)] := by decide +kernel
theorem off20_eq : ∀ (i : grid0.Coords) (k : Fin (k0_t1_loop i).trips), k0_off20 i k = ![0, 512 * ((i 1).val + 2 * k.val + 2)] := by decide +kernel

instance (i : grid0.Coords) (k : Fin (k0_t1_loop i).trips) : ClosedOff (k0_off13 i k 1#32) := ⟨_, off13a_eq i k⟩
instance (i : grid0.Coords) (k : Fin (k0_t1_loop i).trips) : ClosedOff (k0_off13 i k 2#32) := ⟨_, off13b_eq i k⟩
instance (i : grid0.Coords) (k : Fin (k0_t1_loop i).trips) : ClosedOff (k0_off14 i k 1#32) := ⟨_, off14a_eq i k⟩
instance (i : grid0.Coords) (k : Fin (k0_t1_loop i).trips) : ClosedOff (k0_off14 i k 2#32) := ⟨_, off14b_eq i k⟩
instance (i : grid0.Coords) (k : Fin (k0_t1_loop i).trips) : ClosedOff (k0_off15 i k 1#32) := ⟨_, off15a_eq i k⟩
instance (i : grid0.Coords) (k : Fin (k0_t1_loop i).trips) : ClosedOff (k0_off15 i k 2#32) := ⟨_, off15b_eq i k⟩
instance (i : grid0.Coords) (k : Fin (k0_t1_loop i).trips) : ClosedOff (k0_off16 i k) := ⟨_, off16_eq i k⟩
instance (i : grid0.Coords) (k : Fin (k0_t1_loop i).trips) : ClosedOff (k0_off17 i k) := ⟨_, off17_eq i k⟩
instance (i : grid0.Coords) (k : Fin (k0_t1_loop i).trips) : ClosedOff (k0_off18 i k) := ⟨_, off18_eq i k⟩
instance (i : grid0.Coords) (k : Fin (k0_t1_loop i).trips) : ClosedOff (k0_off19 i k) := ⟨_, off19_eq i k⟩
instance (i : grid0.Coords) (k : Fin (k0_t1_loop i).trips) : ClosedOff (k0_off20 i k) := ⟨_, off20_eq i k⟩

/-- The kernel's conditions: the last key block alone absorbs the diagonal outside the pipeline. -/
theorem cond2_iff : ∀ i : grid0.Coords, k0_cond2 i = 1#1 ↔ (i 1).val = 15 := by decide +kernel
theorem cond3_iff : ∀ i : grid0.Coords, k0_cond3 i = 1#1 ↔ (i 1).val < 15 := by decide +kernel
theorem cond4_iff : ∀ i : grid0.Coords, (i 1).val < 15 → (k0_cond4 i = 1#1 ↔ (i 1).val % 2 = 0) := by decide +kernel
theorem cond5_iff : ∀ i : grid0.Coords, (i 1).val < 15 → (k0_cond5 i = 1#1 ↔ (i 1).val % 2 = 1) := by decide +kernel
theorem cond6_iff : ∀ i : grid0.Coords, k0_cond6 i = 1#1 ↔ (i 1).val = 15 := by decide +kernel

end Cert.KernelIdeal.Fox

end
-- ==== Proof.FoxBwd.Model.lean ====
/-
  What the attention backward kernel computes for one key block of one head, as plain functions of vectors: the two
  score blocks of a pair of blocks, what absorbing one query block does to the five accumulators, and the fold of the
  query blocks from the diagonal to the last one.
-/
module

public import proofs.«01_k».proof.Proof.FoxBwd.Offsets
public import Idealize.ShloMosaic.Lib.VecWindow

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open VecWindow

variable {F : FTy → Type} [FloatOps F] [Named F]

local notation "𝕄" => MT nD τ sig Unit (Elt F) ℕ (UR sig nD τ) ℕ

/-- A load of a view's own sizes reads what the view is known to read. -/
theorem whole_read {sig : RefSig} {κ : Kind} {sp : Space} {s : Shape} {e : EltTy} {Val : EltTy → Type} {v : View sig κ sp s e} {f : v.ty.Contents Val} {w : s.Idx → Val e}
    (h : v.read Val f = w) (off : Fin s.rank → ℕ) (inb : ∀ a, off a + s.size a ≤ s.size a) : v.readAt Val (Rect.unit off s.size inb).toLoadRect f = w :=
  (View.readAt_full v f inb).trans h

/-- What one grid point reads: its key and value blocks, its head's queries and output gradients, the rows of
    `c - lse` and `delta`, and the key block's column of `c`. -/
structure Ctx (F : FTy → Type) where
  k : Vec F S512x128 .bf16
  v : Vec F S512x128 .bf16
  q : Vec F S8192x128 .bf16
  g : Vec F S8192x128 .bf16
  rows : Vec F S1x8x8192 .f32
  cc : Vec F S1x512x1 .f32

/-- The five accumulators: the transposed query gradient of the head, the key block's key and value gradients, its
    column sums by lane, and the head's row sums. -/
structure Acc (F : FTy → Type) where
  dqt : Vec F S128x8192 .f32
  dka : Vec F S512x128 .f32
  dva : Vec F S512x128 .f32
  dca : Vec F S512x128 .f32
  dra : Vec F S8x8192 .f32

theorem inbRow (n : Fin 16) : ∀ a, (![512 * n.val, 0] : Fin 2 → ℕ) a + S512x128.size a ≤ S8192x128.size a := by
  revert n; decide +kernel
theorem inbCol (n : Fin 16) : ∀ a, (![0, 512 * n.val] : Fin 2 → ℕ) a + S128x512.size a ≤ S128x8192.size a := by
  revert n; decide +kernel
theorem inbLine (n : Fin 16) : ∀ a, (![0, 512 * n.val] : Fin 2 → ℕ) a + S1x512.size a ≤ S8x8192.size a := by
  revert n; decide +kernel
theorem inbLine1 (n : Fin 16) : ∀ a, (![1, 512 * n.val] : Fin 2 → ℕ) a + S1x512.size a ≤ S8x8192.size a := by
  revert n; decide +kernel
theorem inbA (n : Fin 16) : ∀ a, (![0, 0, 512 * n.val] : Fin 3 → ℕ) a + S1x1x512.size a ≤ S1x8x8192.size a := by
  revert n; decide +kernel
theorem inbD (n : Fin 16) : ∀ a, (![0, 1, 512 * n.val] : Fin 3 → ℕ) a + S1x1x512.size a ≤ S1x8x8192.size a := by
  revert n; decide +kernel

namespace Ctx

/-- Query block `n` of the head, its output gradients, and its stretches of the two rows. -/
def qb (C : Ctx F) (n : Fin 16) : Vec F S512x128 .bf16 := window C.q ![512 * n.val, 0] S512x128.size (inbRow n)
def gb (C : Ctx F) (n : Fin 16) : Vec F S512x128 .bf16 := window C.g ![512 * n.val, 0] S512x128.size (inbRow n)
def ar (C : Ctx F) (n : Fin 16) : Vec F S1x1x512 .f32 := window C.rows ![0, 0, 512 * n.val] S1x1x512.size (inbA n)
def dr (C : Ctx F) (n : Fin 16) : Vec F S1x1x512 .f32 := window C.rows ![0, 1, 512 * n.val] S1x1x512.size (inbD n)

/-- The transposed scores and `dp - delta` of the key block against query block `n`. -/
def scS (C : Ctx F) (n : Fin 16) : Vec F S512x512 .f32 := k0_pay11 C.k (C.qb n) (C.ar n) (k0_pay111 C.cc)
def scP (C : Ctx F) (n : Fin 16) : Vec F S512x512 .f32 := k0_pay12 C.v (C.gb n) (C.dr n)

/-- Query block `n` absorbed, at the scores `st` and `p` of the pair of blocks. -/
def absorb (C : Ctx F) (st p : Vec F S512x512 .f32) (n : Fin 16) (A : Acc F) : Acc F where
  dqt := put A.dqt ![0, 512 * n.val] S128x512.size (k0_pay21 (k0_pay110 C.k) (k0_pay18 st p) (window A.dqt ![0, 512 * n.val] S128x512.size (inbCol n)))
  dka := k0_pay20 A.dka (k0_pay19 st p (C.qb n))
  dva := k0_pay14 st A.dva (C.gb n)
  dca := k0_pay16 st p A.dca
  dra := put A.dra ![0, 512 * n.val] S1x512.size (k0_pay17 st p (window A.dra ![0, 512 * n.val] S1x512.size (inbLine n)))

/-- A query block past the diagonal, absorbed; the diagonal block, masked and absorbed. -/
def step (C : Ctx F) (n : Fin 16) (A : Acc F) : Acc F := C.absorb (C.scS n) (C.scP n) n A
def diag (C : Ctx F) (j : Fin 16) (A : Acc F) : Acc F := C.absorb (k0_pay75 (C.scS j)) (C.scP j) j A

/-- The accumulators after the diagonal block `j` and the `m` blocks that follow it. -/
def upto (C : Ctx F) (j : Fin 16) (A : Acc F) : ℕ → Acc F
  | 0 => C.diag j A
  | m + 1 => if h : j.val + m + 1 < 16 then C.step ⟨j.val + m + 1, h⟩ (C.upto j A m) else C.upto j A m

theorem upto_succ (C : Ctx F) (j : Fin 16) (A : Acc F) (m : ℕ) (h : j.val + m + 1 < 16) :
    C.upto j A (m + 1) = C.step ⟨j.val + m + 1, h⟩ (C.upto j A m) := by
  rw [upto, dif_pos h]

/-- The accumulators with the key block's own three at zero. -/
def fresh (dqt : Vec F S128x8192 .f32) (dra : Vec F S8x8192 .f32) : Acc F :=
  ⟨dqt, k0_pay112, k0_pay113, k0_pay114, dra⟩

end Ctx

end Cert.KernelIdeal.Fox

end
-- ==== Proof.FoxBwd.Trip.lean ====
/-
  One trip of the pipelined loop: the scores of the next block, the block before it absorbed, the scores of the block
  after that, the next block absorbed.
-/
module

public import proofs.«01_k».proof.Proof.FoxBwd.Model
public import Idealize.ShloMosaic.Lib.LoopRemainder
public import Idealize.ShloMosaic.Lib.Tactic.Stretches

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open VecWindow

variable {F : FTy → Type} [FloatOps F] [Named F]

local notation "𝕄" => MT nD τ sig Unit (Elt F) ℕ (UR sig nD τ) ℕ

set_option maxHeartbeats 4000000

theorem trip_run (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8x8192 .f32) (harg6 : arg6.IsWhole) (arg7 : Memref sig .tc .vmem S1x512x1 .f32) (harg7 : arg7.IsWhole) (arg8 : Memref sig .tc .vmem S8192x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x8x8192 .f32) (harg11 : arg11.IsWhole) (arg12 : Memref sig .tc .vmem S128x8192 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S8x8192 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole)
    (arg1 : BitVec 32) (v27 : BitVec 32) (k0_h3 : k0_cond3 i = 1#1) (v115 : BitVec 32) (v155 : FVec F S512x512 .bf16) (v156 : Vec F S512x128 .f32) (v159 : FVec F S512x128 .f32)
    (k : Fin (k0_t1_loop i).trips) (C : Ctx F) (A : Acc F)
    (n1 n2 n3 : Fin 16) (e1 : n1.val = (i 1).val + 2 * k.val + 1) (e2 : n2.val = (i 1).val + 2 * k.val + 2) (e3 : n3.val = (i 1).val + 2 * k.val + 3)
    (f4 : Buf (Elt F) (arg4.view.loc (c : Thread nD τ)))
    (f5 : Buf (Elt F) (arg5.view.loc (c : Thread nD τ)))
    (f6 : Buf (Elt F) (arg6.view.loc (c : Thread nD τ)))
    (f12 : Buf (Elt F) (arg12.view.loc (c : Thread nD τ)))
    (f13 : Buf (Elt F) (arg13.view.loc (c : Thread nD τ)))
    (f14 : Buf (Elt F) (arg14.view.loc (c : Thread nD τ)))
    (f15 : Buf (Elt F) (arg15.view.loc (c : Thread nD τ)))
    (f16 : Buf (Elt F) (arg16.view.loc (c : Thread nD τ)))
    (f17 : Buf (Elt F) (arg17.view.loc (c : Thread nD τ)))
    (f18 : Buf (Elt F) (arg18.view.loc (c : Thread nD τ)))
    (f19 : Buf (Elt F) (arg19.view.loc (c : Thread nD τ)))
    (f20 : Buf (Elt F) (arg20.view.loc (c : Thread nD τ)))
    (f21 : Buf (Elt F) (arg21.view.loc (c : Thread nD τ)))
    (h4 : arg4.view.read (Elt F) f4 = C.q)
    (h5 : arg5.view.read (Elt F) f5 = C.g)
    (h6 : arg6.view.read (Elt F) f6 = C.rows)
    (h12 : arg12.view.read (Elt F) f12 = A.dqt)
    (h13 : arg13.view.read (Elt F) f13 = A.dka)
    (h14 : arg14.view.read (Elt F) f14 = A.dva)
    (h15 : arg15.view.read (Elt F) f15 = A.dca)
    (h16 : arg16.view.read (Elt F) f16 = A.dra)
    (h19 : arg19.view.read (Elt F) f19 = C.scS n1)
    (h20 : arg20.view.read (Elt F) f20 = C.scP n1)
    (h21 : arg21.view.read (Elt F) f21 = k0_pay111 C.cc)
    (Q : Unit → sProp 𝕄) :
    iprop((arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15)
      ∗ (arg16.view.loc (c : Thread nD τ) ↦[arg16.view.set]{fullShare} f16)
      ∗ (arg17.view.loc (c : Thread nD τ) ↦[arg17.view.set]{fullShare} f17)
      ∗ (arg18.view.loc (c : Thread nD τ) ↦[arg18.view.set]{fullShare} f18)
      ∗ (arg19.view.loc (c : Thread nD τ) ↦[arg19.view.set]{fullShare} f19)
      ∗ (arg20.view.loc (c : Thread nD τ) ↦[arg20.view.set]{fullShare} f20)
      ∗ (arg21.view.loc (c : Thread nD τ) ↦[arg21.view.set]{fullShare} f21)
      ∗ (((arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (∃ f, ⌜arg12.view.read (Elt F) f = (C.step n2 (C.step n1 A)).dqt⌝ ∗ (arg12.view.loc (c : Thread nD τ) ↦[arg12.view.set]{fullShare} f))
      ∗ (∃ f, ⌜arg13.view.read (Elt F) f = (C.step n2 (C.step n1 A)).dka⌝ ∗ (arg13.view.loc (c : Thread nD τ) ↦[arg13.view.set]{fullShare} f))
      ∗ (∃ f, ⌜arg14.view.read (Elt F) f = (C.step n2 (C.step n1 A)).dva⌝ ∗ (arg14.view.loc (c : Thread nD τ) ↦[arg14.view.set]{fullShare} f))
      ∗ (∃ f, ⌜arg15.view.read (Elt F) f = (C.step n2 (C.step n1 A)).dca⌝ ∗ (arg15.view.loc (c : Thread nD τ) ↦[arg15.view.set]{fullShare} f))
      ∗ (∃ f, ⌜arg16.view.read (Elt F) f = (C.step n2 (C.step n1 A)).dra⌝ ∗ (arg16.view.loc (c : Thread nD τ) ↦[arg16.view.set]{fullShare} f))
      ∗ (∃ f, (arg17.view.loc (c : Thread nD τ) ↦[arg17.view.set]{fullShare} f))
      ∗ (∃ f, (arg18.view.loc (c : Thread nD τ) ↦[arg18.view.set]{fullShare} f))
      ∗ (∃ f, ⌜arg19.view.read (Elt F) f = C.scS n3⌝ ∗ (arg19.view.loc (c : Thread nD τ) ↦[arg19.view.set]{fullShare} f))
      ∗ (∃ f, ⌜arg20.view.read (Elt F) f = C.scP n3⌝ ∗ (arg20.view.loc (c : Thread nD τ) ↦[arg20.view.set]{fullShare} f))
      ∗ (arg21.view.loc (c : Thread nD τ) ↦[arg21.view.set]{fullShare} f21)) -∗ Q ()))
    ⊢ wp frame (wpE (defs₀ (F := F)) Variants.none c none) Set.univ
        (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 C.k C.v (k0_pay110 C.k) v27 k0_h3 v115 v155 v156 v159 k ()) Q := by
  unfold k0_t1_body
  iintro ⟨H4, H5, H6, H12, H13, H14, H15, H16, H17, H18, H19, H20, H21, HQ⟩
  have q1 : ∀ (inb : ∀ a, (k0_off16 i k) a + S512x128.size a ≤ S8192x128.size a), arg4.view.readAt (Elt F) (Rect.unit (s := S8192x128) (k0_off16 i k) S512x128.size inb).toLoadRect f4 = C.qb n1 := fun inb => by
    rw [View.readAt_unit _ _ inb ((off16_eq i k).trans (by rw [← e1])) (inbRow n1), h4]; try rfl
  have q2 : ∀ (inb : ∀ a, (k0_off13 i k 1#32) a + S512x128.size a ≤ S8192x128.size a), arg4.view.readAt (Elt F) (Rect.unit (s := S8192x128) (k0_off13 i k 1#32) S512x128.size inb).toLoadRect f4 = C.qb n2 := fun inb => by
    rw [View.readAt_unit _ _ inb ((off13a_eq i k).trans (by rw [← e2])) (inbRow n2), h4]; try rfl
  have q3 : ∀ (inb : ∀ a, (k0_off13 i k 2#32) a + S512x128.size a ≤ S8192x128.size a), arg4.view.readAt (Elt F) (Rect.unit (s := S8192x128) (k0_off13 i k 2#32) S512x128.size inb).toLoadRect f4 = C.qb n3 := fun inb => by
    rw [View.readAt_unit _ _ inb ((off13b_eq i k).trans (by rw [← e3])) (inbRow n3), h4]; try rfl
  have g1 : ∀ (inb : ∀ a, (k0_off16 i k) a + S512x128.size a ≤ S8192x128.size a), arg5.view.readAt (Elt F) (Rect.unit (s := S8192x128) (k0_off16 i k) S512x128.size inb).toLoadRect f5 = C.gb n1 := fun inb => by
    rw [View.readAt_unit _ _ inb ((off16_eq i k).trans (by rw [← e1])) (inbRow n1), h5]; try rfl
  have g2 : ∀ (inb : ∀ a, (k0_off13 i k 1#32) a + S512x128.size a ≤ S8192x128.size a), arg5.view.readAt (Elt F) (Rect.unit (s := S8192x128) (k0_off13 i k 1#32) S512x128.size inb).toLoadRect f5 = C.gb n2 := fun inb => by
    rw [View.readAt_unit _ _ inb ((off13a_eq i k).trans (by rw [← e2])) (inbRow n2), h5]; try rfl
  have g3 : ∀ (inb : ∀ a, (k0_off13 i k 2#32) a + S512x128.size a ≤ S8192x128.size a), arg5.view.readAt (Elt F) (Rect.unit (s := S8192x128) (k0_off13 i k 2#32) S512x128.size inb).toLoadRect f5 = C.gb n3 := fun inb => by
    rw [View.readAt_unit _ _ inb ((off13b_eq i k).trans (by rw [← e3])) (inbRow n3), h5]; try rfl
  have a2 : ∀ (inb : ∀ a, (k0_off14 i k 1#32) a + S1x1x512.size a ≤ S1x8x8192.size a), arg6.view.readAt (Elt F) (Rect.unit (s := S1x8x8192) (k0_off14 i k 1#32) S1x1x512.size inb).toLoadRect f6 = C.ar n2 := fun inb => by
    rw [View.readAt_unit _ _ inb ((off14a_eq i k).trans (by rw [← e2])) (inbA n2), h6]; try rfl
  have a3 : ∀ (inb : ∀ a, (k0_off14 i k 2#32) a + S1x1x512.size a ≤ S1x8x8192.size a), arg6.view.readAt (Elt F) (Rect.unit (s := S1x8x8192) (k0_off14 i k 2#32) S1x1x512.size inb).toLoadRect f6 = C.ar n3 := fun inb => by
    rw [View.readAt_unit _ _ inb ((off14b_eq i k).trans (by rw [← e3])) (inbA n3), h6]; try rfl
  have d2 : ∀ (inb : ∀ a, (k0_off15 i k 1#32) a + S1x1x512.size a ≤ S1x8x8192.size a), arg6.view.readAt (Elt F) (Rect.unit (s := S1x8x8192) (k0_off15 i k 1#32) S1x1x512.size inb).toLoadRect f6 = C.dr n2 := fun inb => by
    rw [View.readAt_unit _ _ inb ((off15a_eq i k).trans (by rw [← e2])) (inbD n2), h6]; try rfl
  have d3 : ∀ (inb : ∀ a, (k0_off15 i k 2#32) a + S1x1x512.size a ≤ S1x8x8192.size a), arg6.view.readAt (Elt F) (Rect.unit (s := S1x8x8192) (k0_off15 i k 2#32) S1x1x512.size inb).toLoadRect f6 = C.dr n3 := fun inb => by
    rw [View.readAt_unit _ _ inb ((off15b_eq i k).trans (by rw [← e3])) (inbD n3), h6]; try rfl
  have x1 : ∀ (inb : ∀ a, (k0_off18 i k) a + S128x512.size a ≤ S128x8192.size a), arg12.view.readAt (Elt F) (Rect.unit (s := S128x8192) (k0_off18 i k) S128x512.size inb).toLoadRect f12 = window A.dqt ![0, 512 * n1.val] S128x512.size (inbCol n1) := fun inb => by
    rw [View.readAt_unit _ _ inb ((off18_eq i k).trans (by rw [← e1])) (inbCol n1), h12]; try rfl
  have x2 : ∀ (inb : ∀ a, (k0_off20 i k) a + S128x512.size a ≤ S128x8192.size a), arg12.view.readAt (Elt F) (Rect.unit (s := S128x8192) (k0_off20 i k) S128x512.size inb).toLoadRect f12 = window A.dqt ![0, 512 * n2.val] S128x512.size (inbCol n2) := fun inb => by
    rw [View.readAt_unit _ _ inb ((off20_eq i k).trans (by rw [← e2])) (inbCol n2), h12]; try rfl
  have y1 : ∀ (inb : ∀ a, (k0_off17 i k) a + S1x512.size a ≤ S8x8192.size a), arg16.view.readAt (Elt F) (Rect.unit (s := S8x8192) (k0_off17 i k) S1x512.size inb).toLoadRect f16 = window A.dra ![0, 512 * n1.val] S1x512.size (inbLine n1) := fun inb => by
    rw [View.readAt_unit _ _ inb ((off17_eq i k).trans (by rw [← e1])) (inbLine n1), h16]; try rfl
  have y2 : ∀ (inb : ∀ a, (k0_off19 i k) a + S1x512.size a ≤ S8x8192.size a), arg16.view.readAt (Elt F) (Rect.unit (s := S8x8192) (k0_off19 i k) S1x512.size inb).toLoadRect f16 = window A.dra ![0, 512 * n2.val] S1x512.size (inbLine n2) := fun inb => by
    rw [View.readAt_unit _ _ inb ((off19_eq i k).trans (by rw [← e2])) (inbLine n2), h16]; try rfl
  have r13 := whole_read h13 ![0, 0]
  have r14 := whole_read h14 ![0, 0]
  have r15 := whole_read h15 ![0, 0]
  have r19 := whole_read h19 ![0, 0]
  have r20 := whole_read h20 ![0, 0]
  have r21 := whole_read h21 ![0, 0]
  sl_exec
  sl_step
  iapply HQ
  isplitl [H4]
  · iexact H4
  isplitl [H5]
  · iexact H5
  isplitl [H6]
  · iexact H6
  isplitl [H12]
  · iexists _; isplitr; swap; · iexact H12
    ipureintro
    sl_open_run
    rw [View.read_writes_cons_put _ _ _ _ _ ((off20_eq i k).trans (by rw [← e2])), View.read_writes_cons_put _ _ _ _ _ ((off18_eq i k).trans (by rw [← e1])), View.writes_nil, h12]
    try simp (proj := false) only [q1, q2, q3, g1, g2, g3, a2, a3, d2, d3, x1, x2, y1, y2, r13, r14, r15, r19, r20, r21, View.readCov_full, View.readAt_writes_full, View.read_writes_full]
    simp only [Ctx.step, Ctx.absorb]
    rw [window_put_of_disjoint _ _ _ _ _ _ _ 1 (Or.inr (by show 512 * n1.val + 512 ≤ 512 * n2.val; omega))]
    rfl
  isplitl [H13]
  · iexists _; isplitr; swap; · iexact H13
    ipureintro
    sl_open_run
    refine (View.read_writes_full _ _ _ _ _).trans ?_
    try simp (proj := false) only [q1, q2, q3, g1, g2, g3, a2, a3, d2, d3, x1, x2, y1, y2, r13, r14, r15, r19, r20, r21, View.readCov_full, View.readAt_writes_full, View.read_writes_full]
    rfl
  isplitl [H14]
  · iexists _; isplitr; swap; · iexact H14
    ipureintro
    sl_open_run
    refine (View.read_writes_full _ _ _ _ _).trans ?_
    try simp (proj := false) only [q1, q2, q3, g1, g2, g3, a2, a3, d2, d3, x1, x2, y1, y2, r13, r14, r15, r19, r20, r21, View.readCov_full, View.readAt_writes_full, View.read_writes_full]
    rfl
  isplitl [H15]
  · iexists _; isplitr; swap; · iexact H15
    ipureintro
    sl_open_run
    refine (View.read_writes_full _ _ _ _ _).trans ?_
    try simp (proj := false) only [q1, q2, q3, g1, g2, g3, a2, a3, d2, d3, x1, x2, y1, y2, r13, r14, r15, r19, r20, r21, View.readCov_full, View.readAt_writes_full, View.read_writes_full]
    rfl
  isplitl [H16]
  · iexists _; isplitr; swap; · iexact H16
    ipureintro
    sl_open_run
    rw [View.read_writes_cons_put _ _ _ _ _ ((off19_eq i k).trans (by rw [← e2])), View.read_writes_cons_put _ _ _ _ _ ((off17_eq i k).trans (by rw [← e1])), View.writes_nil, h16]
    try simp (proj := false) only [q1, q2, q3, g1, g2, g3, a2, a3, d2, d3, x1, x2, y1, y2, r13, r14, r15, r19, r20, r21, View.readCov_full, View.readAt_writes_full, View.read_writes_full]
    simp only [Ctx.step, Ctx.absorb]
    rw [window_put_of_disjoint _ _ _ _ _ _ _ 1 (Or.inr (by show 512 * n1.val + 512 ≤ 512 * n2.val; omega))]
    rfl
  isplitl [H17]
  · iexists _; iexact H17
  isplitl [H18]
  · iexists _; iexact H18
  isplitl [H19]
  · iexists _; isplitr; swap; · iexact H19
    ipureintro
    sl_open_run
    refine (View.read_writes_full _ _ _ _ _).trans ?_
    try simp (proj := false) only [q1, q2, q3, g1, g2, g3, a2, a3, d2, d3, x1, x2, y1, y2, r13, r14, r15, r19, r20, r21, View.readCov_full, View.readAt_writes_full, View.read_writes_full]
    rfl
  isplitl [H20]
  · iexists _; isplitr; swap; · iexact H20
    ipureintro
    sl_open_run
    refine (View.read_writes_full _ _ _ _ _).trans ?_
    try simp (proj := false) only [q1, q2, q3, g1, g2, g3, a2, a3, d2, d3, x1, x2, y1, y2, r13, r14, r15, r19, r20, r21, View.readCov_full, View.readAt_writes_full, View.read_writes_full]
    rfl
  iexact H21

end Cert.KernelIdeal.Fox

end
-- ==== Proof.FoxBwd.Start.lean ====
/-
  What a key block does first: the accumulators at zero, its blocks loaded.
-/
module

public import proofs.«01_k».proof.Proof.FoxBwd.Trip

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open VecWindow

variable {F : FTy → Type} [FloatOps F] [Named F]

local notation "𝕄" => MT nD τ sig Unit (Elt F) ℕ (UR sig nD τ) ℕ

set_option maxHeartbeats 4000000

/-- The two accumulators of a head as a key block finds them: at zero for the head's first one. -/
def dqt0 (i : grid0.Coords) (d : Vec F S128x8192 .f32) : Vec F S128x8192 .f32 := if (i 1).val = 0 then k0_pay108 else d
def dra0 (i : grid0.Coords) (d : Vec F S8x8192 .f32) : Vec F S8x8192 .f32 := if (i 1).val = 0 then k0_pay109 else d

theorem cond1_iff : ∀ i : grid0.Coords, Scalar.cmpi .ne (Scalar.extui (Scalar.cmpi .eq (BitVec.ofNat 32 (i 1).val) 0#32) : BitVec 32) 0#32 = 1#1 ↔ (i 1).val = 0 := by decide +kernel

variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8x8192 .f32) (harg6 : arg6.IsWhole) (arg7 : Memref sig .tc .vmem S1x512x1 .f32) (harg7 : arg7.IsWhole) (arg8 : Memref sig .tc .vmem S8192x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x8x8192 .f32) (harg11 : arg11.IsWhole) (arg12 : Memref sig .tc .vmem S128x8192 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S8x8192 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole)
    (C : Ctx F) (d : Vec F S128x8192 .f32) (r : Vec F S8x8192 .f32)
    (f2 : Buf (Elt F) (arg2.view.loc (c : Thread nD τ)))
    (f3 : Buf (Elt F) (arg3.view.loc (c : Thread nD τ)))
    (f7 : Buf (Elt F) (arg7.view.loc (c : Thread nD τ)))
    (f12 : Buf (Elt F) (arg12.view.loc (c : Thread nD τ)))
    (f13 : Buf (Elt F) (arg13.view.loc (c : Thread nD τ)))
    (f14 : Buf (Elt F) (arg14.view.loc (c : Thread nD τ)))
    (f15 : Buf (Elt F) (arg15.view.loc (c : Thread nD τ)))
    (f16 : Buf (Elt F) (arg16.view.loc (c : Thread nD τ)))
    (f21 : Buf (Elt F) (arg21.view.loc (c : Thread nD τ)))
    (h2 : arg2.view.read (Elt F) f2 = C.k)
    (h3 : arg3.view.read (Elt F) f3 = C.v)
    (h7 : arg7.view.read (Elt F) f7 = C.cc)
    (h12 : arg12.view.read (Elt F) f12 = d)
    (h16 : arg16.view.read (Elt F) f16 = r)

/-- A key block's first part does what it should. -/
def Begins (Q : (Σ' (arg1 : BitVec 32) (v3 : Vec F S512x128 .bf16) (v4 : Vec F S512x128 .bf16) (v7 : FVec F S128x512 .bf16) (v27 : BitVec 32), BitVec 32) → sProp 𝕄) : Prop :=
    iprop((arg2.view.loc (c : Thread nD τ) ↦[arg2.view.set]{fullShare} f2)
      ∗ (arg3.view.loc (c : Thread nD τ) ↦[arg3.view.set]{fullShare} f3)
      ∗ (arg7.view.loc (c : Thread nD τ) ↦[arg7.view.set]{fullShare} f7)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15)
      ∗ (arg16.view.loc (c : Thread nD τ) ↦[arg16.view.set]{fullShare} f16)
      ∗ (arg21.view.loc (c : Thread nD τ) ↦[arg21.view.set]{fullShare} f21)
      ∗ (∀ arg1 v27 v29, ((arg2.view.loc (c : Thread nD τ) ↦[arg2.view.set]{fullShare} f2)
      ∗ (arg3.view.loc (c : Thread nD τ) ↦[arg3.view.set]{fullShare} f3)
      ∗ (arg7.view.loc (c : Thread nD τ) ↦[arg7.view.set]{fullShare} f7)
      ∗ (∃ f, ⌜arg12.view.read (Elt F) f = dqt0 i d⌝ ∗ (arg12.view.loc (c : Thread nD τ) ↦[arg12.view.set]{fullShare} f))
      ∗ (∃ f, ⌜arg13.view.read (Elt F) f = k0_pay112⌝ ∗ (arg13.view.loc (c : Thread nD τ) ↦[arg13.view.set]{fullShare} f))
      ∗ (∃ f, ⌜arg14.view.read (Elt F) f = k0_pay113⌝ ∗ (arg14.view.loc (c : Thread nD τ) ↦[arg14.view.set]{fullShare} f))
      ∗ (∃ f, ⌜arg15.view.read (Elt F) f = k0_pay114⌝ ∗ (arg15.view.loc (c : Thread nD τ) ↦[arg15.view.set]{fullShare} f))
      ∗ (∃ f, ⌜arg16.view.read (Elt F) f = dra0 i r⌝ ∗ (arg16.view.loc (c : Thread nD τ) ↦[arg16.view.set]{fullShare} f))
      ∗ (∃ f, ⌜arg21.view.read (Elt F) f = k0_pay111 C.cc⌝ ∗ (arg21.view.loc (c : Thread nD τ) ↦[arg21.view.set]{fullShare} f))) -∗ Q ⟨arg1, C.k, C.v, k0_pay110 C.k, v27, v29⟩))
    ⊢ wp frame (wpE (defs₀ (F := F)) Variants.none c none) Set.univ
        (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q

include h2 h3 h7 h12 h16

theorem p20_first (Q : (Σ' (arg1 : BitVec 32) (v3 : Vec F S512x128 .bf16) (v4 : Vec F S512x128 .bf16) (v7 : FVec F S128x512 .bf16) (v27 : BitVec 32), BitVec 32) → sProp 𝕄) (hj : (i 1).val = 0) :
    Begins c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 C d r f2 f3 f7 f12 f13 f14 f15 f16 f21 Q := by
  have k0_h1 : Scalar.cmpi .ne (Scalar.extui (Scalar.cmpi .eq (BitVec.ofNat 32 (i 1).val) 0#32) : BitVec 32) 0#32 = 1#1 := (cond1_iff i).2 hj
  unfold Begins k0_part20
  iintro ⟨H2, H3, H7, H12, H13, H14, H15, H16, H21, HQ⟩
  have r2 := whole_read h2 ![0, 0]
  have r3 := whole_read h3 ![0, 0]
  have r7 : ∀ (inb : ∀ a, (![0, 0, 0] : Fin 3 → ℕ) a + S1x512x1.size a ≤ S1x512x1.size a), arg7.view.readAt (Elt F) (Rect.unit (s := S1x512x1) ![0, 0, 0] S1x512x1.size inb).toLoadRect f7 = C.cc := fun inb => by
    rw [View.readAt_full, h7]
  sl_exec
  sl_step
  rw [show p20_first.sl.v7 C = k0_pay110 C.k from rfl]
  iapply HQ
  isplitl [H2]
  · iexact H2
  isplitl [H3]
  · iexact H3
  isplitl [H7]
  · iexact H7
  isplitl [H12]
  · iexists _; isplitr; swap; · iexact H12
    ipureintro
    sl_open_run
    rw [dqt0, if_pos hj]
    exact View.read_writes_full _ _ _ _ _
  isplitl [H13]
  · iexists _; isplitr; swap; · iexact H13
    ipureintro
    sl_open_run
    refine (View.read_writes_full _ _ _ _ _).trans ?_
    try simp (proj := false) only [r2, r3, r7, View.readCov_full, View.readAt_writes_full, View.read_writes_full]
    rfl
  isplitl [H14]
  · iexists _; isplitr; swap; · iexact H14
    ipureintro
    sl_open_run
    refine (View.read_writes_full _ _ _ _ _).trans ?_
    try simp (proj := false) only [r2, r3, r7, View.readCov_full, View.readAt_writes_full, View.read_writes_full]
    rfl
  isplitl [H15]
  · iexists _; isplitr; swap; · iexact H15
    ipureintro
    sl_open_run
    refine (View.read_writes_full _ _ _ _ _).trans ?_
    try simp (proj := false) only [r2, r3, r7, View.readCov_full, View.readAt_writes_full, View.read_writes_full]
    rfl
  isplitl [H16]
  · iexists _; isplitr; swap; · iexact H16
    ipureintro
    sl_open_run
    rw [dra0, if_pos hj]
    exact View.read_writes_full _ _ _ _ _
  iexists _; isplitr; swap; · iexact H21
  ipureintro
  sl_open_run
  refine (View.read_writes_full _ _ _ _ _).trans ?_
  try simp (proj := false) only [r2, r3, r7, View.readCov_full, View.readAt_writes_full, View.read_writes_full]
  rfl

theorem p20_next (Q : (Σ' (arg1 : BitVec 32) (v3 : Vec F S512x128 .bf16) (v4 : Vec F S512x128 .bf16) (v7 : FVec F S128x512 .bf16) (v27 : BitVec 32), BitVec 32) → sProp 𝕄) (hj : (i 1).val ≠ 0) :
    Begins c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 C d r f2 f3 f7 f12 f13 f14 f15 f16 f21 Q := by
  have k0_h1 : ¬ Scalar.cmpi .ne (Scalar.extui (Scalar.cmpi .eq (BitVec.ofNat 32 (i 1).val) 0#32) : BitVec 32) 0#32 = 1#1 := fun h => hj ((cond1_iff i).1 h)
  unfold Begins k0_part20
  iintro ⟨H2, H3, H7, H12, H13, H14, H15, H16, H21, HQ⟩
  have r2 := whole_read h2 ![0, 0]
  have r3 := whole_read h3 ![0, 0]
  have r7 : ∀ (inb : ∀ a, (![0, 0, 0] : Fin 3 → ℕ) a + S1x512x1.size a ≤ S1x512x1.size a), arg7.view.readAt (Elt F) (Rect.unit (s := S1x512x1) ![0, 0, 0] S1x512x1.size inb).toLoadRect f7 = C.cc := fun inb => by
    rw [View.readAt_full, h7]
  sl_exec
  sl_step
  rw [show p20_next.sl.v7 C = k0_pay110 C.k from rfl]
  iapply HQ
  isplitl [H2]
  · iexact H2
  isplitl [H3]
  · iexact H3
  isplitl [H7]
  · iexact H7
  isplitl [H12]
  · iexists _; isplitr; swap; · iexact H12
    ipureintro
    rw [dqt0, if_neg hj]
    exact h12
  isplitl [H13]
  · iexists _; isplitr; swap; · iexact H13
    ipureintro
    sl_open_run
    refine (View.read_writes_full _ _ _ _ _).trans ?_
    try simp (proj := false) only [r2, r3, r7, View.readCov_full, View.readAt_writes_full, View.read_writes_full]
    rfl
  isplitl [H14]
  · iexists _; isplitr; swap; · iexact H14
    ipureintro
    sl_open_run
    refine (View.read_writes_full _ _ _ _ _).trans ?_
    try simp (proj := false) only [r2, r3, r7, View.readCov_full, View.readAt_writes_full, View.read_writes_full]
    rfl
  isplitl [H15]
  · iexists _; isplitr; swap; · iexact H15
    ipureintro
    sl_open_run
    refine (View.read_writes_full _ _ _ _ _).trans ?_
    try simp (proj := false) only [r2, r3, r7, View.readCov_full, View.readAt_writes_full, View.read_writes_full]
    rfl
  isplitl [H16]
  · iexists _; isplitr; swap; · iexact H16
    ipureintro
    rw [dra0, if_neg hj]
    exact h16
  iexists _; isplitr; swap; · iexact H21
  ipureintro
  sl_open_run
  refine (View.read_writes_full _ _ _ _ _).trans ?_
  try simp (proj := false) only [r2, r3, r7, View.readCov_full, View.readAt_writes_full, View.read_writes_full]
  rfl

theorem p20_run (Q : (Σ' (arg1 : BitVec 32) (v3 : Vec F S512x128 .bf16) (v4 : Vec F S512x128 .bf16) (v7 : FVec F S128x512 .bf16) (v27 : BitVec 32), BitVec 32) → sProp 𝕄) :
    iprop((arg2.view.loc (c : Thread nD τ) ↦[arg2.view.set]{fullShare} f2)
      ∗ (arg3.view.loc (c : Thread nD τ) ↦[arg3.view.set]{fullShare} f3)
      ∗ (arg7.view.loc (c : Thread nD τ) ↦[arg7.view.set]{fullShare} f7)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15)
      ∗ (arg16.view.loc (c : Thread nD τ) ↦[arg16.view.set]{fullShare} f16)
      ∗ (arg21.view.loc (c : Thread nD τ) ↦[arg21.view.set]{fullShare} f21)
      ∗ (∀ arg1 v27 v29, ((arg2.view.loc (c : Thread nD τ) ↦[arg2.view.set]{fullShare} f2)
      ∗ (arg3.view.loc (c : Thread nD τ) ↦[arg3.view.set]{fullShare} f3)
      ∗ (arg7.view.loc (c : Thread nD τ) ↦[arg7.view.set]{fullShare} f7)
      ∗ (∃ f, ⌜arg12.view.read (Elt F) f = dqt0 i d⌝ ∗ (arg12.view.loc (c : Thread nD τ) ↦[arg12.view.set]{fullShare} f))
      ∗ (∃ f, ⌜arg13.view.read (Elt F) f = k0_pay112⌝ ∗ (arg13.view.loc (c : Thread nD τ) ↦[arg13.view.set]{fullShare} f))
      ∗ (∃ f, ⌜arg14.view.read (Elt F) f = k0_pay113⌝ ∗ (arg14.view.loc (c : Thread nD τ) ↦[arg14.view.set]{fullShare} f))
      ∗ (∃ f, ⌜arg15.view.read (Elt F) f = k0_pay114⌝ ∗ (arg15.view.loc (c : Thread nD τ) ↦[arg15.view.set]{fullShare} f))
      ∗ (∃ f, ⌜arg16.view.read (Elt F) f = dra0 i r⌝ ∗ (arg16.view.loc (c : Thread nD τ) ↦[arg16.view.set]{fullShare} f))
      ∗ (∃ f, ⌜arg21.view.read (Elt F) f = k0_pay111 C.cc⌝ ∗ (arg21.view.loc (c : Thread nD τ) ↦[arg21.view.set]{fullShare} f))) -∗ Q ⟨arg1, C.k, C.v, k0_pay110 C.k, v27, v29⟩))
    ⊢ wp frame (wpE (defs₀ (F := F)) Variants.none c none) Set.univ
        (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  by_cases hj : (i 1).val = 0
  · exact p20_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 C d r f2 f3 f7 f12 f13 f14 f15 f16 f21 h2 h3 h7 h12 h16 Q hj
  · exact p20_next c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 C d r f2 f3 f7 f12 f13 f14 f15 f16 f21 h2 h3 h7 h12 h16 Q hj

end Cert.KernelIdeal.Fox

end
-- ==== Proof.FoxBwd.Loop.lean ====
/-
  The loop over pairs of query blocks: its invariant and one trip of it.
-/
module

public import proofs.«01_k».proof.Proof.FoxBwd.Trip

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open VecWindow

variable {F : FTy → Type} [FloatOps F] [Named F]

local notation "𝕄" => MT nD τ sig Unit (Elt F) ℕ (UR sig nD τ) ℕ

set_option maxHeartbeats 4000000

/-- The block `m` places after the diagonal block. -/
def nxt (J : Fin 16) (m : ℕ) : Fin 16 := Fin.ofNat 16 (J.val + m)

theorem nxt_val (J : Fin 16) (m : ℕ) (h : J.val + m < 16) : (nxt J m).val = J.val + m := Nat.mod_eq_of_lt h

theorem upto_step (C : Ctx F) (J : Fin 16) (A : Acc F) (m : ℕ) (h : J.val + m + 1 < 16) :
    C.upto J A (m + 1) = C.step (nxt J (m + 1)) (C.upto J A m) := by
  rw [Ctx.upto_succ C J A m h]; congr 1; exact Fin.ext (nxt_val J (m + 1) h).symm

/-- Before trip `k` of the pipelined loop: the accumulators hold the diagonal block and the `2 k` blocks behind it, and
    the second pair of score blocks is the next block's. -/
def loopInv (c : Dev nD) (arg4 : Memref sig .tc .vmem S8192x128 .bf16) (arg5 : Memref sig .tc .vmem S8192x128 .bf16) (arg6 : Memref sig .tc .vmem S1x8x8192 .f32) (arg12 : Memref sig .tc .vmem S128x8192 .f32) (arg13 : Memref sig .tc .vmem S512x128 .f32) (arg14 : Memref sig .tc .vmem S512x128 .f32) (arg15 : Memref sig .tc .vmem S512x128 .f32) (arg16 : Memref sig .tc .vmem S8x8192 .f32) (arg17 : Memref sig .tc .vmem S512x512 .f32) (arg18 : Memref sig .tc .vmem S512x512 .f32) (arg19 : Memref sig .tc .vmem S512x512 .f32) (arg20 : Memref sig .tc .vmem S512x512 .f32) (arg21 : Memref sig .tc .vmem S512x512 .f32)
    (J : Fin 16) (C : Ctx F) (A : Acc F)
    (f4 : Buf (Elt F) (arg4.view.loc (c : Thread nD τ)))
    (f5 : Buf (Elt F) (arg5.view.loc (c : Thread nD τ)))
    (f6 : Buf (Elt F) (arg6.view.loc (c : Thread nD τ)))
    (f21 : Buf (Elt F) (arg21.view.loc (c : Thread nD τ)))
    (k : ℕ) (_ : Unit) : sProp 𝕄 :=
  iprop((arg4.view.loc (c : Thread nD τ) ↦[arg4.view.set]{fullShare} f4)
    ∗ (arg5.view.loc (c : Thread nD τ) ↦[arg5.view.set]{fullShare} f5)
    ∗ (arg6.view.loc (c : Thread nD τ) ↦[arg6.view.set]{fullShare} f6)
    ∗ (∃ f, ⌜arg12.view.read (Elt F) f = (C.upto J A (2 * k)).dqt⌝ ∗ (arg12.view.loc (c : Thread nD τ) ↦[arg12.view.set]{fullShare} f))
    ∗ (∃ f, ⌜arg13.view.read (Elt F) f = (C.upto J A (2 * k)).dka⌝ ∗ (arg13.view.loc (c : Thread nD τ) ↦[arg13.view.set]{fullShare} f))
    ∗ (∃ f, ⌜arg14.view.read (Elt F) f = (C.upto J A (2 * k)).dva⌝ ∗ (arg14.view.loc (c : Thread nD τ) ↦[arg14.view.set]{fullShare} f))
    ∗ (∃ f, ⌜arg15.view.read (Elt F) f = (C.upto J A (2 * k)).dca⌝ ∗ (arg15.view.loc (c : Thread nD τ) ↦[arg15.view.set]{fullShare} f))
    ∗ (∃ f, ⌜arg16.view.read (Elt F) f = (C.upto J A (2 * k)).dra⌝ ∗ (arg16.view.loc (c : Thread nD τ) ↦[arg16.view.set]{fullShare} f))
    ∗ (∃ f, (arg17.view.loc (c : Thread nD τ) ↦[arg17.view.set]{fullShare} f))
    ∗ (∃ f, (arg18.view.loc (c : Thread nD τ) ↦[arg18.view.set]{fullShare} f))
    ∗ (∃ f, ⌜arg19.view.read (Elt F) f = C.scS (nxt J (2 * k + 1))⌝ ∗ (arg19.view.loc (c : Thread nD τ) ↦[arg19.view.set]{fullShare} f))
    ∗ (∃ f, ⌜arg20.view.read (Elt F) f = C.scP (nxt J (2 * k + 1))⌝ ∗ (arg20.view.loc (c : Thread nD τ) ↦[arg20.view.set]{fullShare} f))
    ∗ (arg21.view.loc (c : Thread nD τ) ↦[arg21.view.set]{fullShare} f21))

theorem loop_step (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8x8192 .f32) (harg6 : arg6.IsWhole) (arg7 : Memref sig .tc .vmem S1x512x1 .f32) (harg7 : arg7.IsWhole) (arg8 : Memref sig .tc .vmem S8192x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x8x8192 .f32) (harg11 : arg11.IsWhole) (arg12 : Memref sig .tc .vmem S128x8192 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S8x8192 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole)
    (arg1 : BitVec 32) (v27 : BitVec 32) (k0_h3 : k0_cond3 i = 1#1) (v115 : BitVec 32) (v155 : FVec F S512x512 .bf16) (v156 : Vec F S512x128 .f32) (v159 : FVec F S512x128 .f32)
    (J : Fin 16) (eJ : J.val = (i 1).val) (C : Ctx F) (A : Acc F)
    (f4 : Buf (Elt F) (arg4.view.loc (c : Thread nD τ)))
    (f5 : Buf (Elt F) (arg5.view.loc (c : Thread nD τ)))
    (f6 : Buf (Elt F) (arg6.view.loc (c : Thread nD τ)))
    (f21 : Buf (Elt F) (arg21.view.loc (c : Thread nD τ)))
    (h4 : arg4.view.read (Elt F) f4 = C.q)
    (h5 : arg5.view.read (Elt F) f5 = C.g)
    (h6 : arg6.view.read (Elt F) f6 = C.rows)
    (h21 : arg21.view.read (Elt F) f21 = k0_pay111 C.cc)
    (k : Fin (k0_t1_loop i).trips) (acc : Unit) :
    loopInv c arg4 arg5 arg6 arg12 arg13 arg14 arg15 arg16 arg17 arg18 arg19 arg20 arg21 J C A f4 f5 f6 f21 k.val acc
    ⊢ wp frame (wpE (defs₀ (F := F)) Variants.none c none) Set.univ
        (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 C.k C.v (k0_pay110 C.k) v27 k0_h3 v115 v155 v156 v159 k acc) (loopInv c arg4 arg5 arg6 arg12 arg13 arg14 arg15 arg16 arg17 arg18 arg19 arg20 arg21 J C A f4 f5 f6 f21 (k.val + 1)) := by
  have hk : k.val < (14 - (i 1).val) / 2 := lt_of_lt_of_eq k.isLt (trips_eq i)
  have e1 := nxt_val J (2 * k.val + 1) (by omega)
  have e2 := nxt_val J (2 * k.val + 2) (by omega)
  have e3 := nxt_val J (2 * k.val + 3) (by omega)
  have eS : C.step (nxt J (2 * k.val + 2)) (C.step (nxt J (2 * k.val + 1)) (C.upto J A (2 * k.val))) = C.upto J A (2 * (k.val + 1)) := by
    rw [← upto_step C J A _ (by omega), ← upto_step C J A _ (by omega)]; rfl
  unfold loopInv
  iintro ⟨H4, H5, H6, ⟨%f12, %h12, H12⟩, ⟨%f13, %h13, H13⟩, ⟨%f14, %h14, H14⟩, ⟨%f15, %h15, H15⟩, ⟨%f16, %h16, H16⟩, ⟨%f17, H17⟩, ⟨%f18, H18⟩, ⟨%f19, %h19, H19⟩, ⟨%f20, %h20, H20⟩, H21⟩
  iapply (trip_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v27 k0_h3 v115 v155 v156 v159 k C (C.upto J A (2 * k.val)) _ _ _ (e1.trans (by omega)) (e2.trans (by omega)) (e3.trans (by omega)) f4 f5 f6 f12 f13 f14 f15 f16 f17 f18 f19 f20 f21 h4 h5 h6 h12 h13 h14 h15 h16 h19 h20 h21 _)
  isplitl [H4]; · iexact H4
  isplitl [H5]; · iexact H5
  isplitl [H6]; · iexact H6
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  rw [eS]
  iintro H
  iexact H

end Cert.KernelIdeal.Fox

end
-- ==== Proof.FoxBwd.Last.lean ====
/-
  The key block on the last diagonal: its one query block, masked and absorbed.
-/
module

public import proofs.«01_k».proof.Proof.FoxBwd.Loop

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open VecWindow

variable {F : FTy → Type} [FloatOps F] [Named F]

local notation "𝕄" => MT nD τ sig Unit (Elt F) ℕ (UR sig nD τ) ℕ

set_option maxHeartbeats 4000000
theorem p21_last (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8x8192 .f32) (harg6 : arg6.IsWhole) (arg7 : Memref sig .tc .vmem S1x512x1 .f32) (harg7 : arg7.IsWhole) (arg8 : Memref sig .tc .vmem S8192x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x8x8192 .f32) (harg11 : arg11.IsWhole) (arg12 : Memref sig .tc .vmem S128x8192 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S8x8192 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole)
    (arg1 v27 v29 : BitVec 32) (J : Fin 16) (eJ : J.val = (i 1).val) (hj : (i 1).val = 15) (C : Ctx F) (A : Acc F)
    (f4 : Buf (Elt F) (arg4.view.loc (c : Thread nD τ)))
    (f5 : Buf (Elt F) (arg5.view.loc (c : Thread nD τ)))
    (f6 : Buf (Elt F) (arg6.view.loc (c : Thread nD τ)))
    (f12 : Buf (Elt F) (arg12.view.loc (c : Thread nD τ)))
    (f13 : Buf (Elt F) (arg13.view.loc (c : Thread nD τ)))
    (f14 : Buf (Elt F) (arg14.view.loc (c : Thread nD τ)))
    (f15 : Buf (Elt F) (arg15.view.loc (c : Thread nD τ)))
    (f16 : Buf (Elt F) (arg16.view.loc (c : Thread nD τ)))
    (f17 : Buf (Elt F) (arg17.view.loc (c : Thread nD τ)))
    (f18 : Buf (Elt F) (arg18.view.loc (c : Thread nD τ)))
    (f19 : Buf (Elt F) (arg19.view.loc (c : Thread nD τ)))
    (f20 : Buf (Elt F) (arg20.view.loc (c : Thread nD τ)))
    (f21 : Buf (Elt F) (arg21.view.loc (c : Thread nD τ)))
    (h4 : arg4.view.read (Elt F) f4 = C.q)
    (h5 : arg5.view.read (Elt F) f5 = C.g)
    (h6 : arg6.view.read (Elt F) f6 = C.rows)
    (h12 : arg12.view.read (Elt F) f12 = A.dqt)
    (h13 : arg13.view.read (Elt F) f13 = A.dka)
    (h14 : arg14.view.read (Elt F) f14 = A.dva)
    (h15 : arg15.view.read (Elt F) f15 = A.dca)
    (h16 : arg16.view.read (Elt F) f16 = A.dra)
    (h21 : arg21.view.read (Elt F) f21 = k0_pay111 C.cc)
    (Q : FVec F S512x128 .f32 → sProp 𝕄) :
    iprop((arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15)
      ∗ (arg16.view.loc (c : Thread nD τ) ↦[arg16.view.set]{fullShare} f16)
      ∗ (arg17.view.loc (c : Thread nD τ) ↦[arg17.view.set]{fullShare} f17)
      ∗ (arg18.view.loc (c : Thread nD τ) ↦[arg18.view.set]{fullShare} f18)
      ∗ (arg19.view.loc (c : Thread nD τ) ↦[arg19.view.set]{fullShare} f19)
      ∗ (arg20.view.loc (c : Thread nD τ) ↦[arg20.view.set]{fullShare} f20)
      ∗ (arg21.view.loc (c : Thread nD τ) ↦[arg21.view.set]{fullShare} f21)
      ∗ (∀ r, (⌜r = k0_pay127 (C.upto J A (15 - J.val)).dka⌝ ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (∃ f, ⌜arg12.view.read (Elt F) f = (C.upto J A (15 - J.val)).dqt⌝ ∗ (arg12.view.loc (c : Thread nD τ) ↦[arg12.view.set]{fullShare} f))
      ∗ (∃ f, ⌜arg13.view.read (Elt F) f = (C.upto J A (15 - J.val)).dka⌝ ∗ (arg13.view.loc (c : Thread nD τ) ↦[arg13.view.set]{fullShare} f))
      ∗ (∃ f, ⌜arg14.view.read (Elt F) f = (C.upto J A (15 - J.val)).dva⌝ ∗ (arg14.view.loc (c : Thread nD τ) ↦[arg14.view.set]{fullShare} f))
      ∗ (∃ f, ⌜arg15.view.read (Elt F) f = (C.upto J A (15 - J.val)).dca⌝ ∗ (arg15.view.loc (c : Thread nD τ) ↦[arg15.view.set]{fullShare} f))
      ∗ (∃ f, ⌜arg16.view.read (Elt F) f = (C.upto J A (15 - J.val)).dra⌝ ∗ (arg16.view.loc (c : Thread nD τ) ↦[arg16.view.set]{fullShare} f))
      ∗ (∃ f, (arg17.view.loc (c : Thread nD τ) ↦[arg17.view.set]{fullShare} f))
      ∗ (∃ f, (arg18.view.loc (c : Thread nD τ) ↦[arg18.view.set]{fullShare} f))
      ∗ (∃ f, (arg19.view.loc (c : Thread nD τ) ↦[arg19.view.set]{fullShare} f))
      ∗ (∃ f, (arg20.view.loc (c : Thread nD τ) ↦[arg20.view.set]{fullShare} f))
      ∗ (arg21.view.loc (c : Thread nD τ) ↦[arg21.view.set]{fullShare} f21)) -∗ Q r))
    ⊢ wp frame (wpE (defs₀ (F := F)) Variants.none c none) Set.univ
        (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 C.k C.v (k0_pay110 C.k) v27 v29) Q := by
  have k0_h2 : k0_cond2 i = 1#1 := (cond2_iff i).2 hj
  have k0_h3 : ¬ k0_cond3 i = 1#1 := fun h => by have := (cond3_iff i).1 h; omega
  have e0 : 15 - J.val = 0 := by omega
  rw [e0]
  unfold k0_part21
  iintro ⟨H4, H5, H6, H12, H13, H14, H15, H16, H17, H18, H19, H20, H21, HQ⟩
  have qa : ∀ (inb : ∀ a, (k0_off1 i) a + S512x128.size a ≤ S8192x128.size a), arg4.view.readAt (Elt F) (Rect.unit (s := S8192x128) (k0_off1 i) S512x128.size inb).toLoadRect f4 = C.qb J := fun inb => by
    rw [View.readAt_unit _ _ inb ((k0_off1_eq i).trans (by rw [← eJ])) (inbRow J), h4]; try rfl
  have ga : ∀ (inb : ∀ a, (k0_off1 i) a + S512x128.size a ≤ S8192x128.size a), arg5.view.readAt (Elt F) (Rect.unit (s := S8192x128) (k0_off1 i) S512x128.size inb).toLoadRect f5 = C.gb J := fun inb => by
    rw [View.readAt_unit _ _ inb ((k0_off1_eq i).trans (by rw [← eJ])) (inbRow J), h5]; try rfl
  have aa : ∀ (inb : ∀ a, (k0_off2 i) a + S1x1x512.size a ≤ S1x8x8192.size a), arg6.view.readAt (Elt F) (Rect.unit (s := S1x8x8192) (k0_off2 i) S1x1x512.size inb).toLoadRect f6 = C.ar J := fun inb => by
    rw [View.readAt_unit _ _ inb ((k0_off2_eq i).trans (by rw [← eJ])) (inbA J), h6]; try rfl
  have da : ∀ (inb : ∀ a, (k0_off3 i) a + S1x1x512.size a ≤ S1x8x8192.size a), arg6.view.readAt (Elt F) (Rect.unit (s := S1x8x8192) (k0_off3 i) S1x1x512.size inb).toLoadRect f6 = C.dr J := fun inb => by
    rw [View.readAt_unit _ _ inb ((k0_off3_eq i).trans (by rw [← eJ])) (inbD J), h6]; try rfl
  have qb : ∀ (inb : ∀ a, (k0_off4 i) a + S512x128.size a ≤ S8192x128.size a), arg4.view.readAt (Elt F) (Rect.unit (s := S8192x128) (k0_off4 i) S512x128.size inb).toLoadRect f4 = C.qb J := fun inb => by
    rw [View.readAt_unit _ _ inb ((k0_off4_eq i).trans (by rw [← eJ])) (inbRow J), h4]; try rfl
  have gb : ∀ (inb : ∀ a, (k0_off4 i) a + S512x128.size a ≤ S8192x128.size a), arg5.view.readAt (Elt F) (Rect.unit (s := S8192x128) (k0_off4 i) S512x128.size inb).toLoadRect f5 = C.gb J := fun inb => by
    rw [View.readAt_unit _ _ inb ((k0_off4_eq i).trans (by rw [← eJ])) (inbRow J), h5]; try rfl
  have xb : ∀ (inb : ∀ a, (k0_off6 i) a + S128x512.size a ≤ S128x8192.size a), arg12.view.readAt (Elt F) (Rect.unit (s := S128x8192) (k0_off6 i) S128x512.size inb).toLoadRect f12 = window A.dqt ![0, 512 * J.val] S128x512.size (inbCol J) := fun inb => by
    rw [View.readAt_unit _ _ inb ((k0_off6_eq i).trans (by rw [← eJ])) (inbCol J), h12]; try rfl
  have yb : ∀ (inb : ∀ a, (k0_off5 i) a + S1x512.size a ≤ S8x8192.size a), arg16.view.readAt (Elt F) (Rect.unit (s := S8x8192) (k0_off5 i) S1x512.size inb).toLoadRect f16 = window A.dra ![0, 512 * J.val] S1x512.size (inbLine J) := fun inb => by
    rw [View.readAt_unit _ _ inb ((k0_off5_eq i).trans (by rw [← eJ])) (inbLine J), h16]; try rfl
  have r13 := whole_read h13 ![0, 0]
  have r14 := whole_read h14 ![0, 0]
  have r15 := whole_read h15 ![0, 0]
  have r21 := whole_read h21 ![0, 0]
  sl_exec
  sl_step
  iapply HQ
  isplitr
  · ipureintro
    sl_open_run
    try simp (proj := false) only [qa, ga, aa, da, qb, gb, xb, yb, r13, r14, r15, r21, View.readCov_full, View.readAt_writes_full, View.read_writes_full]
    rfl
  isplitl [H4]
  · iexact H4
  isplitl [H5]
  · iexact H5
  isplitl [H6]
  · iexact H6
  isplitl [H12]
  · iexists _; isplitr; swap; · iexact H12
    ipureintro
    sl_open_run
    rw [View.read_writes_cons_put _ _ _ _ _ ((k0_off6_eq i).trans (by rw [← eJ])), View.writes_nil, h12]
    try simp (proj := false) only [qa, ga, aa, da, qb, gb, xb, yb, r13, r14, r15, r21, View.readCov_full, View.readAt_writes_full, View.read_writes_full]
    rfl
  isplitl [H13]
  · iexists _; isplitr; swap; · iexact H13
    ipureintro
    sl_open_run
    refine (View.read_writes_full _ _ _ _ _).trans ?_
    try simp (proj := false) only [qa, ga, aa, da, qb, gb, xb, yb, r13, r14, r15, r21, View.readCov_full, View.readAt_writes_full, View.read_writes_full]
    rfl
  isplitl [H14]
  · iexists _; isplitr; swap; · iexact H14
    ipureintro
    sl_open_run
    refine (View.read_writes_full _ _ _ _ _).trans ?_
    try simp (proj := false) only [qa, ga, aa, da, qb, gb, xb, yb, r13, r14, r15, r21, View.readCov_full, View.readAt_writes_full, View.read_writes_full]
    rfl
  isplitl [H15]
  · iexists _; isplitr; swap; · iexact H15
    ipureintro
    sl_open_run
    refine (View.read_writes_full _ _ _ _ _).trans ?_
    try simp (proj := false) only [qa, ga, aa, da, qb, gb, xb, yb, r13, r14, r15, r21, View.readCov_full, View.readAt_writes_full, View.read_writes_full]
    rfl
  isplitl [H16]
  · iexists _; isplitr; swap; · iexact H16
    ipureintro
    sl_open_run
    rw [View.read_writes_cons_put _ _ _ _ _ ((k0_off5_eq i).trans (by rw [← eJ])), View.writes_nil, h16]
    try simp (proj := false) only [qa, ga, aa, da, qb, gb, xb, yb, r13, r14, r15, r21, View.readCov_full, View.readAt_writes_full, View.read_writes_full]
    rfl
  isplitl [H17]
  · iexists _; iexact H17
  isplitl [H18]
  · iexists _; iexact H18
  isplitl [H19]
  · iexists _; iexact H19
  isplitl [H20]
  · iexists _; iexact H20
  iexact H21

end Cert.KernelIdeal.Fox

end
-- ==== Proof.FoxBwd.Even.lean ====
/-
  A key block with an odd number of query blocks behind its diagonal: the loop, then the last block.
-/
module

public import proofs.«01_k».proof.Proof.FoxBwd.Loop

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open VecWindow

variable {F : FTy → Type} [FloatOps F] [Named F]

local notation "𝕄" => MT nD τ sig Unit (Elt F) ℕ (UR sig nD τ) ℕ

set_option maxHeartbeats 4000000
theorem p21_even (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8x8192 .f32) (harg6 : arg6.IsWhole) (arg7 : Memref sig .tc .vmem S1x512x1 .f32) (harg7 : arg7.IsWhole) (arg8 : Memref sig .tc .vmem S8192x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x8x8192 .f32) (harg11 : arg11.IsWhole) (arg12 : Memref sig .tc .vmem S128x8192 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S8x8192 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole)
    (arg1 v27 v29 : BitVec 32) (J : Fin 16) (eJ : J.val = (i 1).val) (hj : (i 1).val < 15) (hp : (i 1).val % 2 = 0) (C : Ctx F) (A : Acc F)
    (f4 : Buf (Elt F) (arg4.view.loc (c : Thread nD τ)))
    (f5 : Buf (Elt F) (arg5.view.loc (c : Thread nD τ)))
    (f6 : Buf (Elt F) (arg6.view.loc (c : Thread nD τ)))
    (f12 : Buf (Elt F) (arg12.view.loc (c : Thread nD τ)))
    (f13 : Buf (Elt F) (arg13.view.loc (c : Thread nD τ)))
    (f14 : Buf (Elt F) (arg14.view.loc (c : Thread nD τ)))
    (f15 : Buf (Elt F) (arg15.view.loc (c : Thread nD τ)))
    (f16 : Buf (Elt F) (arg16.view.loc (c : Thread nD τ)))
    (f17 : Buf (Elt F) (arg17.view.loc (c : Thread nD τ)))
    (f18 : Buf (Elt F) (arg18.view.loc (c : Thread nD τ)))
    (f19 : Buf (Elt F) (arg19.view.loc (c : Thread nD τ)))
    (f20 : Buf (Elt F) (arg20.view.loc (c : Thread nD τ)))
    (f21 : Buf (Elt F) (arg21.view.loc (c : Thread nD τ)))
    (h4 : arg4.view.read (Elt F) f4 = C.q)
    (h5 : arg5.view.read (Elt F) f5 = C.g)
    (h6 : arg6.view.read (Elt F) f6 = C.rows)
    (h12 : arg12.view.read (Elt F) f12 = A.dqt)
    (h13 : arg13.view.read (Elt F) f13 = A.dka)
    (h14 : arg14.view.read (Elt F) f14 = A.dva)
    (h15 : arg15.view.read (Elt F) f15 = A.dca)
    (h16 : arg16.view.read (Elt F) f16 = A.dra)
    (h21 : arg21.view.read (Elt F) f21 = k0_pay111 C.cc)
    (Q : FVec F S512x128 .f32 → sProp 𝕄) :
    iprop((arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15)
      ∗ (arg16.view.loc (c : Thread nD τ) ↦[arg16.view.set]{fullShare} f16)
      ∗ (arg17.view.loc (c : Thread nD τ) ↦[arg17.view.set]{fullShare} f17)
      ∗ (arg18.view.loc (c : Thread nD τ) ↦[arg18.view.set]{fullShare} f18)
      ∗ (arg19.view.loc (c : Thread nD τ) ↦[arg19.view.set]{fullShare} f19)
      ∗ (arg20.view.loc (c : Thread nD τ) ↦[arg20.view.set]{fullShare} f20)
      ∗ (arg21.view.loc (c : Thread nD τ) ↦[arg21.view.set]{fullShare} f21)
      ∗ (∀ r, (⌜r = k0_pay127 (C.upto J A (15 - J.val)).dka⌝ ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (∃ f, ⌜arg12.view.read (Elt F) f = (C.upto J A (15 - J.val)).dqt⌝ ∗ (arg12.view.loc (c : Thread nD τ) ↦[arg12.view.set]{fullShare} f))
      ∗ (∃ f, ⌜arg13.view.read (Elt F) f = (C.upto J A (15 - J.val)).dka⌝ ∗ (arg13.view.loc (c : Thread nD τ) ↦[arg13.view.set]{fullShare} f))
      ∗ (∃ f, ⌜arg14.view.read (Elt F) f = (C.upto J A (15 - J.val)).dva⌝ ∗ (arg14.view.loc (c : Thread nD τ) ↦[arg14.view.set]{fullShare} f))
      ∗ (∃ f, ⌜arg15.view.read (Elt F) f = (C.upto J A (15 - J.val)).dca⌝ ∗ (arg15.view.loc (c : Thread nD τ) ↦[arg15.view.set]{fullShare} f))
      ∗ (∃ f, ⌜arg16.view.read (Elt F) f = (C.upto J A (15 - J.val)).dra⌝ ∗ (arg16.view.loc (c : Thread nD τ) ↦[arg16.view.set]{fullShare} f))
      ∗ (∃ f, (arg17.view.loc (c : Thread nD τ) ↦[arg17.view.set]{fullShare} f))
      ∗ (∃ f, (arg18.view.loc (c : Thread nD τ) ↦[arg18.view.set]{fullShare} f))
      ∗ (∃ f, (arg19.view.loc (c : Thread nD τ) ↦[arg19.view.set]{fullShare} f))
      ∗ (∃ f, (arg20.view.loc (c : Thread nD τ) ↦[arg20.view.set]{fullShare} f))
      ∗ (arg21.view.loc (c : Thread nD τ) ↦[arg21.view.set]{fullShare} f21)) -∗ Q r))
    ⊢ wp frame (wpE (defs₀ (F := F)) Variants.none c none) Set.univ
        (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 C.k C.v (k0_pay110 C.k) v27 v29) Q := by
  have k0_h2 : ¬ k0_cond2 i = 1#1 := fun h => by have := (cond2_iff i).1 h; omega
  have k0_h3 : k0_cond3 i = 1#1 := (cond3_iff i).2 hj
  have k0_h4 : k0_cond4 i = 1#1 := (cond4_iff i hj).2 hp
  have k0_h5 : ¬ k0_cond5 i = 1#1 := fun h => by have := (cond5_iff i hj).1 h; omega
  have eN : (nxt J 1).val = J.val + 1 := nxt_val J 1 (by omega)
  unfold k0_part21
  iintro ⟨H4, H5, H6, H12, H13, H14, H15, H16, H17, H18, H19, H20, H21, HQ⟩
  have qa : ∀ (inb : ∀ a, (k0_off1 i) a + S512x128.size a ≤ S8192x128.size a), arg4.view.readAt (Elt F) (Rect.unit (s := S8192x128) (k0_off1 i) S512x128.size inb).toLoadRect f4 = C.qb J := fun inb => by
    rw [View.readAt_unit _ _ inb ((k0_off1_eq i).trans (by rw [← eJ])) (inbRow J), h4]; try rfl
  have ga : ∀ (inb : ∀ a, (k0_off1 i) a + S512x128.size a ≤ S8192x128.size a), arg5.view.readAt (Elt F) (Rect.unit (s := S8192x128) (k0_off1 i) S512x128.size inb).toLoadRect f5 = C.gb J := fun inb => by
    rw [View.readAt_unit _ _ inb ((k0_off1_eq i).trans (by rw [← eJ])) (inbRow J), h5]; try rfl
  have aa : ∀ (inb : ∀ a, (k0_off2 i) a + S1x1x512.size a ≤ S1x8x8192.size a), arg6.view.readAt (Elt F) (Rect.unit (s := S1x8x8192) (k0_off2 i) S1x1x512.size inb).toLoadRect f6 = C.ar J := fun inb => by
    rw [View.readAt_unit _ _ inb ((k0_off2_eq i).trans (by rw [← eJ])) (inbA J), h6]; try rfl
  have da : ∀ (inb : ∀ a, (k0_off3 i) a + S1x1x512.size a ≤ S1x8x8192.size a), arg6.view.readAt (Elt F) (Rect.unit (s := S1x8x8192) (k0_off3 i) S1x1x512.size inb).toLoadRect f6 = C.dr J := fun inb => by
    rw [View.readAt_unit _ _ inb ((k0_off3_eq i).trans (by rw [← eJ])) (inbD J), h6]; try rfl
  have qn : ∀ (inb : ∀ a, (k0_off7 i) a + S512x128.size a ≤ S8192x128.size a), arg4.view.readAt (Elt F) (Rect.unit (s := S8192x128) (k0_off7 i) S512x128.size inb).toLoadRect f4 = C.qb (nxt J 1) := fun inb => by
    rw [View.readAt_unit _ _ inb ((k0_off7_eq i).trans (by rw [eN, Nat.mul_add, ← eJ])) (inbRow (nxt J 1)), h4]; try rfl
  have gn : ∀ (inb : ∀ a, (k0_off7 i) a + S512x128.size a ≤ S8192x128.size a), arg5.view.readAt (Elt F) (Rect.unit (s := S8192x128) (k0_off7 i) S512x128.size inb).toLoadRect f5 = C.gb (nxt J 1) := fun inb => by
    rw [View.readAt_unit _ _ inb ((k0_off7_eq i).trans (by rw [eN, Nat.mul_add, ← eJ])) (inbRow (nxt J 1)), h5]; try rfl
  have an : ∀ (inb : ∀ a, (k0_off8 i) a + S1x1x512.size a ≤ S1x8x8192.size a), arg6.view.readAt (Elt F) (Rect.unit (s := S1x8x8192) (k0_off8 i) S1x1x512.size inb).toLoadRect f6 = C.ar (nxt J 1) := fun inb => by
    rw [View.readAt_unit _ _ inb ((k0_off8_eq i).trans (by rw [eN, Nat.mul_add, ← eJ])) (inbA (nxt J 1)), h6]; try rfl
  have dn : ∀ (inb : ∀ a, (k0_off9 i) a + S1x1x512.size a ≤ S1x8x8192.size a), arg6.view.readAt (Elt F) (Rect.unit (s := S1x8x8192) (k0_off9 i) S1x1x512.size inb).toLoadRect f6 = C.dr (nxt J 1) := fun inb => by
    rw [View.readAt_unit _ _ inb ((k0_off9_eq i).trans (by rw [eN, Nat.mul_add, ← eJ])) (inbD (nxt J 1)), h6]; try rfl
  have qb : ∀ (inb : ∀ a, (k0_off10 i) a + S512x128.size a ≤ S8192x128.size a), arg4.view.readAt (Elt F) (Rect.unit (s := S8192x128) (k0_off10 i) S512x128.size inb).toLoadRect f4 = C.qb J := fun inb => by
    rw [View.readAt_unit _ _ inb ((k0_off10_eq i).trans (by rw [← eJ])) (inbRow J), h4]; try rfl
  have gb : ∀ (inb : ∀ a, (k0_off10 i) a + S512x128.size a ≤ S8192x128.size a), arg5.view.readAt (Elt F) (Rect.unit (s := S8192x128) (k0_off10 i) S512x128.size inb).toLoadRect f5 = C.gb J := fun inb => by
    rw [View.readAt_unit _ _ inb ((k0_off10_eq i).trans (by rw [← eJ])) (inbRow J), h5]; try rfl
  have xb : ∀ (inb : ∀ a, (k0_off12 i) a + S128x512.size a ≤ S128x8192.size a), arg12.view.readAt (Elt F) (Rect.unit (s := S128x8192) (k0_off12 i) S128x512.size inb).toLoadRect f12 = window A.dqt ![0, 512 * J.val] S128x512.size (inbCol J) := fun inb => by
    rw [View.readAt_unit _ _ inb ((k0_off12_eq i).trans (by rw [← eJ])) (inbCol J), h12]; try rfl
  have yb : ∀ (inb : ∀ a, (k0_off11 i) a + S1x512.size a ≤ S8x8192.size a), arg16.view.readAt (Elt F) (Rect.unit (s := S8x8192) (k0_off11 i) S1x512.size inb).toLoadRect f16 = window A.dra ![0, 512 * J.val] S1x512.size (inbLine J) := fun inb => by
    rw [View.readAt_unit _ _ inb ((k0_off11_eq i).trans (by rw [← eJ])) (inbLine J), h16]; try rfl
  have r13 := whole_read h13 ![0, 0]
  have r14 := whole_read h14 ![0, 0]
  have r15 := whole_read h15 ![0, 0]
  have r21 := whole_read h21 ![0, 0]
  sl_exec
  sl_for (loopInv c arg4 arg5 arg6 arg12 arg13 arg14 arg15 arg16 arg17 arg18 arg19 arg20 arg21 J C A f4 f5 f6 f21) $$ [H4 H5 H6 H12 H13 H14 H15 H16 H17 H18 H19 H20 H21]
  case region =>
    clear qa ga aa da qn gn an dn qb gb xb yb r13 r14 r15 r21
    intro k acc
    unfold p21_even.sl.prog.body_1
    exact loop_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v27 k0_h3 v29 (k0_pay18 (C.scS J) (C.scP J)) A.dka A.dka J eJ C A f4 f5 f6 f21 h4 h5 h6 h21 k acc
  · unfold loopInv
    isplitl [H4]
    · iexact H4
    isplitl [H5]
    · iexact H5
    isplitl [H6]
    · iexact H6
    isplitl [H12]
    · iexists _; isplitr; swap; · iexact H12
      ipureintro
      sl_open_run
      rw [View.read_writes_cons_put _ _ _ _ _ ((k0_off12_eq i).trans (by rw [← eJ])), View.writes_nil, h12]
      try simp (proj := false) only [qa, ga, aa, da, qn, gn, an, dn, qb, gb, xb, yb, r13, r14, r15, r21, View.readCov_full, View.readAt_writes_full, View.read_writes_full]
      rfl
    isplitl [H13]
    · iexists _; isplitr; swap; · iexact H13
      ipureintro
      sl_open_run
      refine (View.read_writes_full _ _ _ _ _).trans ?_
      try simp (proj := false) only [qa, ga, aa, da, qn, gn, an, dn, qb, gb, xb, yb, r13, r14, r15, r21, View.readCov_full, View.readAt_writes_full, View.read_writes_full]
      rfl
    isplitl [H14]
    · iexists _; isplitr; swap; · iexact H14
      ipureintro
      sl_open_run
      refine (View.read_writes_full _ _ _ _ _).trans ?_
      try simp (proj := false) only [qa, ga, aa, da, qn, gn, an, dn, qb, gb, xb, yb, r13, r14, r15, r21, View.readCov_full, View.readAt_writes_full, View.read_writes_full]
      rfl
    isplitl [H15]
    · iexists _; isplitr; swap; · iexact H15
      ipureintro
      sl_open_run
      refine (View.read_writes_full _ _ _ _ _).trans ?_
      try simp (proj := false) only [qa, ga, aa, da, qn, gn, an, dn, qb, gb, xb, yb, r13, r14, r15, r21, View.readCov_full, View.readAt_writes_full, View.read_writes_full]
      rfl
    isplitl [H16]
    · iexists _; isplitr; swap; · iexact H16
      ipureintro
      sl_open_run
      rw [View.read_writes_cons_put _ _ _ _ _ ((k0_off11_eq i).trans (by rw [← eJ])), View.writes_nil, h16]
      try simp (proj := false) only [qa, ga, aa, da, qn, gn, an, dn, qb, gb, xb, yb, r13, r14, r15, r21, View.readCov_full, View.readAt_writes_full, View.read_writes_full]
      rfl
    isplitl [H17]
    · iexists _; iexact H17
    isplitl [H18]
    · iexists _; iexact H18
    isplitl [H19]
    · iexists _; isplitr; swap; · iexact H19
      ipureintro
      sl_open_run
      refine (View.read_writes_full _ _ _ _ _).trans ?_
      try simp (proj := false) only [qa, ga, aa, da, qn, gn, an, dn, qb, gb, xb, yb, r13, r14, r15, r21, View.readCov_full, View.readAt_writes_full, View.read_writes_full]
      rfl
    isplitl [H20]
    · iexists _; isplitr; swap; · iexact H20
      ipureintro
      sl_open_run
      refine (View.read_writes_full _ _ _ _ _).trans ?_
      try simp (proj := false) only [qa, ga, aa, da, qn, gn, an, dn, qb, gb, xb, yb, r13, r14, r15, r21, View.readCov_full, View.readAt_writes_full, View.read_writes_full]
      rfl
    iexact H21
  iintro %_ HI
  unfold loopInv
  icases HI with ⟨H4, H5, H6, ⟨%g12, %m12, H12⟩, ⟨%g13, %m13, H13⟩, ⟨%g14, %m14, H14⟩, ⟨%g15, %m15, H15⟩, ⟨%g16, %m16, H16⟩, ⟨%g17, H17⟩, ⟨%g18, H18⟩, ⟨%g19, %m19, H19⟩, ⟨%g20, %m20, H20⟩, H21⟩
  clear qa ga aa da qn gn an dn qb gb xb yb r13 r14 r15 h12 h13 h14 h15 h16
  have eB : C.upto J A (15 - J.val) = C.step 15 (C.upto J A (2 * (k0_t1_loop i).trips)) := by
    rw [trips_eq, show 15 - J.val = 2 * ((14 - (i 1).val) / 2) + 1 by omega, upto_step C J A _ (by omega)]
    congr 1; exact Fin.ext (by rw [nxt_val J _ (by omega)]; show _ = 15; omega)
  have e15 : nxt J (2 * (k0_t1_loop i).trips + 1) = 15 := by
    rw [trips_eq]; exact Fin.ext (by rw [nxt_val J _ (by omega)]; show _ = 15; omega)
  rw [e15] at m19 m20
  rw [eB]
  generalize C.upto J A (2 * (k0_t1_loop i).trips) = B at *
  have qz : ∀ (inb : ∀ a, (![7680, 0]) a + S512x128.size a ≤ S8192x128.size a), arg4.view.readAt (Elt F) (Rect.unit (s := S8192x128) (![7680, 0]) S512x128.size inb).toLoadRect f4 = C.qb 15 := fun inb => by
    rw [View.readAt_unit _ _ inb (rfl) (inbRow 15), h4]; try rfl
  have gz : ∀ (inb : ∀ a, (![7680, 0]) a + S512x128.size a ≤ S8192x128.size a), arg5.view.readAt (Elt F) (Rect.unit (s := S8192x128) (![7680, 0]) S512x128.size inb).toLoadRect f5 = C.gb 15 := fun inb => by
    rw [View.readAt_unit _ _ inb (rfl) (inbRow 15), h5]; try rfl
  have xz : ∀ (inb : ∀ a, (![0, 7680]) a + S128x512.size a ≤ S128x8192.size a), arg12.view.readAt (Elt F) (Rect.unit (s := S128x8192) (![0, 7680]) S128x512.size inb).toLoadRect g12 = window B.dqt ![0, 512 * (15 : Fin 16).val] S128x512.size (inbCol 15) := fun inb => by
    rw [View.readAt_unit _ _ inb (rfl) (inbCol 15), m12]; try rfl
  have yz : ∀ (inb : ∀ a, (![0, 7680]) a + S1x512.size a ≤ S8x8192.size a), arg16.view.readAt (Elt F) (Rect.unit (s := S8x8192) (![0, 7680]) S1x512.size inb).toLoadRect g16 = window B.dra ![0, 512 * (15 : Fin 16).val] S1x512.size (inbLine 15) := fun inb => by
    rw [View.readAt_unit _ _ inb (rfl) (inbLine 15), m16]; try rfl
  have s13 := whole_read m13 ![0, 0]
  have s14 := whole_read m14 ![0, 0]
  have s15 := whole_read m15 ![0, 0]
  have s19 := whole_read m19 ![0, 0]
  have s20 := whole_read m20 ![0, 0]
  sl_exec
  sl_step
  iapply HQ
  isplitr
  · ipureintro
    sl_open_run
    try simp (proj := false) only [qz, gz, xz, yz, s13, s14, s15, s19, s20, r21, View.readCov_full, View.readAt_writes_full, View.read_writes_full]
    rfl
  isplitl [H4]
  · iexact H4
  isplitl [H5]
  · iexact H5
  isplitl [H6]
  · iexact H6
  isplitl [H12]
  · iexists _; isplitr; swap; · iexact H12
    ipureintro
    sl_open_run
    rw [View.read_writes_cons_put _ _ _ _ _ ((rfl : _ = ![0, 512 * (15 : Fin 16).val])), View.writes_nil, m12]
    try simp (proj := false) only [qz, gz, xz, yz, s13, s14, s15, s19, s20, r21, View.readCov_full, View.readAt_writes_full, View.read_writes_full]
    rfl
  isplitl [H13]
  · iexists _; isplitr; swap; · iexact H13
    ipureintro
    sl_open_run
    refine (View.read_writes_full _ _ _ _ _).trans ?_
    try simp (proj := false) only [qz, gz, xz, yz, s13, s14, s15, s19, s20, r21, View.readCov_full, View.readAt_writes_full, View.read_writes_full]
    rfl
  isplitl [H14]
  · iexists _; isplitr; swap; · iexact H14
    ipureintro
    sl_open_run
    refine (View.read_writes_full _ _ _ _ _).trans ?_
    try simp (proj := false) only [qz, gz, xz, yz, s13, s14, s15, s19, s20, r21, View.readCov_full, View.readAt_writes_full, View.read_writes_full]
    rfl
  isplitl [H15]
  · iexists _; isplitr; swap; · iexact H15
    ipureintro
    sl_open_run
    refine (View.read_writes_full _ _ _ _ _).trans ?_
    try simp (proj := false) only [qz, gz, xz, yz, s13, s14, s15, s19, s20, r21, View.readCov_full, View.readAt_writes_full, View.read_writes_full]
    rfl
  isplitl [H16]
  · iexists _; isplitr; swap; · iexact H16
    ipureintro
    sl_open_run
    rw [View.read_writes_cons_put _ _ _ _ _ ((rfl : _ = ![0, 512 * (15 : Fin 16).val])), View.writes_nil, m16]
    try simp (proj := false) only [qz, gz, xz, yz, s13, s14, s15, s19, s20, r21, View.readCov_full, View.readAt_writes_full, View.read_writes_full]
    rfl
  isplitl [H17]
  · iexists _; iexact H17
  isplitl [H18]
  · iexists _; iexact H18
  isplitl [H19]
  · iexists _; iexact H19
  isplitl [H20]
  · iexists _; iexact H20
  iexact H21

end Cert.KernelIdeal.Fox

end
-- ==== Proof.FoxBwd.Odd.lean ====
/-
  A key block with an even number of query blocks behind its diagonal: the loop, then the last two blocks.
-/
module

public import proofs.«01_k».proof.Proof.FoxBwd.Loop

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open VecWindow

variable {F : FTy → Type} [FloatOps F] [Named F]

local notation "𝕄" => MT nD τ sig Unit (Elt F) ℕ (UR sig nD τ) ℕ

set_option maxHeartbeats 4000000
theorem p21_odd (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8x8192 .f32) (harg6 : arg6.IsWhole) (arg7 : Memref sig .tc .vmem S1x512x1 .f32) (harg7 : arg7.IsWhole) (arg8 : Memref sig .tc .vmem S8192x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x8x8192 .f32) (harg11 : arg11.IsWhole) (arg12 : Memref sig .tc .vmem S128x8192 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S8x8192 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole)
    (arg1 v27 v29 : BitVec 32) (J : Fin 16) (eJ : J.val = (i 1).val) (hj : (i 1).val < 15) (hp : (i 1).val % 2 = 1) (C : Ctx F) (A : Acc F)
    (f4 : Buf (Elt F) (arg4.view.loc (c : Thread nD τ)))
    (f5 : Buf (Elt F) (arg5.view.loc (c : Thread nD τ)))
    (f6 : Buf (Elt F) (arg6.view.loc (c : Thread nD τ)))
    (f12 : Buf (Elt F) (arg12.view.loc (c : Thread nD τ)))
    (f13 : Buf (Elt F) (arg13.view.loc (c : Thread nD τ)))
    (f14 : Buf (Elt F) (arg14.view.loc (c : Thread nD τ)))
    (f15 : Buf (Elt F) (arg15.view.loc (c : Thread nD τ)))
    (f16 : Buf (Elt F) (arg16.view.loc (c : Thread nD τ)))
    (f17 : Buf (Elt F) (arg17.view.loc (c : Thread nD τ)))
    (f18 : Buf (Elt F) (arg18.view.loc (c : Thread nD τ)))
    (f19 : Buf (Elt F) (arg19.view.loc (c : Thread nD τ)))
    (f20 : Buf (Elt F) (arg20.view.loc (c : Thread nD τ)))
    (f21 : Buf (Elt F) (arg21.view.loc (c : Thread nD τ)))
    (h4 : arg4.view.read (Elt F) f4 = C.q)
    (h5 : arg5.view.read (Elt F) f5 = C.g)
    (h6 : arg6.view.read (Elt F) f6 = C.rows)
    (h12 : arg12.view.read (Elt F) f12 = A.dqt)
    (h13 : arg13.view.read (Elt F) f13 = A.dka)
    (h14 : arg14.view.read (Elt F) f14 = A.dva)
    (h15 : arg15.view.read (Elt F) f15 = A.dca)
    (h16 : arg16.view.read (Elt F) f16 = A.dra)
    (h21 : arg21.view.read (Elt F) f21 = k0_pay111 C.cc)
    (Q : FVec F S512x128 .f32 → sProp 𝕄) :
    iprop((arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15)
      ∗ (arg16.view.loc (c : Thread nD τ) ↦[arg16.view.set]{fullShare} f16)
      ∗ (arg17.view.loc (c : Thread nD τ) ↦[arg17.view.set]{fullShare} f17)
      ∗ (arg18.view.loc (c : Thread nD τ) ↦[arg18.view.set]{fullShare} f18)
      ∗ (arg19.view.loc (c : Thread nD τ) ↦[arg19.view.set]{fullShare} f19)
      ∗ (arg20.view.loc (c : Thread nD τ) ↦[arg20.view.set]{fullShare} f20)
      ∗ (arg21.view.loc (c : Thread nD τ) ↦[arg21.view.set]{fullShare} f21)
      ∗ (∀ r, (⌜r = k0_pay127 (C.upto J A (15 - J.val)).dka⌝ ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (∃ f, ⌜arg12.view.read (Elt F) f = (C.upto J A (15 - J.val)).dqt⌝ ∗ (arg12.view.loc (c : Thread nD τ) ↦[arg12.view.set]{fullShare} f))
      ∗ (∃ f, ⌜arg13.view.read (Elt F) f = (C.upto J A (15 - J.val)).dka⌝ ∗ (arg13.view.loc (c : Thread nD τ) ↦[arg13.view.set]{fullShare} f))
      ∗ (∃ f, ⌜arg14.view.read (Elt F) f = (C.upto J A (15 - J.val)).dva⌝ ∗ (arg14.view.loc (c : Thread nD τ) ↦[arg14.view.set]{fullShare} f))
      ∗ (∃ f, ⌜arg15.view.read (Elt F) f = (C.upto J A (15 - J.val)).dca⌝ ∗ (arg15.view.loc (c : Thread nD τ) ↦[arg15.view.set]{fullShare} f))
      ∗ (∃ f, ⌜arg16.view.read (Elt F) f = (C.upto J A (15 - J.val)).dra⌝ ∗ (arg16.view.loc (c : Thread nD τ) ↦[arg16.view.set]{fullShare} f))
      ∗ (∃ f, (arg17.view.loc (c : Thread nD τ) ↦[arg17.view.set]{fullShare} f))
      ∗ (∃ f, (arg18.view.loc (c : Thread nD τ) ↦[arg18.view.set]{fullShare} f))
      ∗ (∃ f, (arg19.view.loc (c : Thread nD τ) ↦[arg19.view.set]{fullShare} f))
      ∗ (∃ f, (arg20.view.loc (c : Thread nD τ) ↦[arg20.view.set]{fullShare} f))
      ∗ (arg21.view.loc (c : Thread nD τ) ↦[arg21.view.set]{fullShare} f21)) -∗ Q r))
    ⊢ wp frame (wpE (defs₀ (F := F)) Variants.none c none) Set.univ
        (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 C.k C.v (k0_pay110 C.k) v27 v29) Q := by
  have k0_h2 : ¬ k0_cond2 i = 1#1 := fun h => by have := (cond2_iff i).1 h; omega
  have k0_h3 : k0_cond3 i = 1#1 := (cond3_iff i).2 hj
  have k0_h4 : ¬ k0_cond4 i = 1#1 := fun h => by have := (cond4_iff i hj).1 h; omega
  have k0_h5 : k0_cond5 i = 1#1 := (cond5_iff i hj).2 hp
  have eN : (nxt J 1).val = J.val + 1 := nxt_val J 1 (by omega)
  unfold k0_part21
  iintro ⟨H4, H5, H6, H12, H13, H14, H15, H16, H17, H18, H19, H20, H21, HQ⟩
  have qa : ∀ (inb : ∀ a, (k0_off1 i) a + S512x128.size a ≤ S8192x128.size a), arg4.view.readAt (Elt F) (Rect.unit (s := S8192x128) (k0_off1 i) S512x128.size inb).toLoadRect f4 = C.qb J := fun inb => by
    rw [View.readAt_unit _ _ inb ((k0_off1_eq i).trans (by rw [← eJ])) (inbRow J), h4]; try rfl
  have ga : ∀ (inb : ∀ a, (k0_off1 i) a + S512x128.size a ≤ S8192x128.size a), arg5.view.readAt (Elt F) (Rect.unit (s := S8192x128) (k0_off1 i) S512x128.size inb).toLoadRect f5 = C.gb J := fun inb => by
    rw [View.readAt_unit _ _ inb ((k0_off1_eq i).trans (by rw [← eJ])) (inbRow J), h5]; try rfl
  have aa : ∀ (inb : ∀ a, (k0_off2 i) a + S1x1x512.size a ≤ S1x8x8192.size a), arg6.view.readAt (Elt F) (Rect.unit (s := S1x8x8192) (k0_off2 i) S1x1x512.size inb).toLoadRect f6 = C.ar J := fun inb => by
    rw [View.readAt_unit _ _ inb ((k0_off2_eq i).trans (by rw [← eJ])) (inbA J), h6]; try rfl
  have da : ∀ (inb : ∀ a, (k0_off3 i) a + S1x1x512.size a ≤ S1x8x8192.size a), arg6.view.readAt (Elt F) (Rect.unit (s := S1x8x8192) (k0_off3 i) S1x1x512.size inb).toLoadRect f6 = C.dr J := fun inb => by
    rw [View.readAt_unit _ _ inb ((k0_off3_eq i).trans (by rw [← eJ])) (inbD J), h6]; try rfl
  have qn : ∀ (inb : ∀ a, (k0_off7 i) a + S512x128.size a ≤ S8192x128.size a), arg4.view.readAt (Elt F) (Rect.unit (s := S8192x128) (k0_off7 i) S512x128.size inb).toLoadRect f4 = C.qb (nxt J 1) := fun inb => by
    rw [View.readAt_unit _ _ inb ((k0_off7_eq i).trans (by rw [eN, Nat.mul_add, ← eJ])) (inbRow (nxt J 1)), h4]; try rfl
  have gn : ∀ (inb : ∀ a, (k0_off7 i) a + S512x128.size a ≤ S8192x128.size a), arg5.view.readAt (Elt F) (Rect.unit (s := S8192x128) (k0_off7 i) S512x128.size inb).toLoadRect f5 = C.gb (nxt J 1) := fun inb => by
    rw [View.readAt_unit _ _ inb ((k0_off7_eq i).trans (by rw [eN, Nat.mul_add, ← eJ])) (inbRow (nxt J 1)), h5]; try rfl
  have an : ∀ (inb : ∀ a, (k0_off8 i) a + S1x1x512.size a ≤ S1x8x8192.size a), arg6.view.readAt (Elt F) (Rect.unit (s := S1x8x8192) (k0_off8 i) S1x1x512.size inb).toLoadRect f6 = C.ar (nxt J 1) := fun inb => by
    rw [View.readAt_unit _ _ inb ((k0_off8_eq i).trans (by rw [eN, Nat.mul_add, ← eJ])) (inbA (nxt J 1)), h6]; try rfl
  have dn : ∀ (inb : ∀ a, (k0_off9 i) a + S1x1x512.size a ≤ S1x8x8192.size a), arg6.view.readAt (Elt F) (Rect.unit (s := S1x8x8192) (k0_off9 i) S1x1x512.size inb).toLoadRect f6 = C.dr (nxt J 1) := fun inb => by
    rw [View.readAt_unit _ _ inb ((k0_off9_eq i).trans (by rw [eN, Nat.mul_add, ← eJ])) (inbD (nxt J 1)), h6]; try rfl
  have qb : ∀ (inb : ∀ a, (k0_off10 i) a + S512x128.size a ≤ S8192x128.size a), arg4.view.readAt (Elt F) (Rect.unit (s := S8192x128) (k0_off10 i) S512x128.size inb).toLoadRect f4 = C.qb J := fun inb => by
    rw [View.readAt_unit _ _ inb ((k0_off10_eq i).trans (by rw [← eJ])) (inbRow J), h4]; try rfl
  have gb : ∀ (inb : ∀ a, (k0_off10 i) a + S512x128.size a ≤ S8192x128.size a), arg5.view.readAt (Elt F) (Rect.unit (s := S8192x128) (k0_off10 i) S512x128.size inb).toLoadRect f5 = C.gb J := fun inb => by
    rw [View.readAt_unit _ _ inb ((k0_off10_eq i).trans (by rw [← eJ])) (inbRow J), h5]; try rfl
  have xb : ∀ (inb : ∀ a, (k0_off12 i) a + S128x512.size a ≤ S128x8192.size a), arg12.view.readAt (Elt F) (Rect.unit (s := S128x8192) (k0_off12 i) S128x512.size inb).toLoadRect f12 = window A.dqt ![0, 512 * J.val] S128x512.size (inbCol J) := fun inb => by
    rw [View.readAt_unit _ _ inb ((k0_off12_eq i).trans (by rw [← eJ])) (inbCol J), h12]; try rfl
  have yb : ∀ (inb : ∀ a, (k0_off11 i) a + S1x512.size a ≤ S8x8192.size a), arg16.view.readAt (Elt F) (Rect.unit (s := S8x8192) (k0_off11 i) S1x512.size inb).toLoadRect f16 = window A.dra ![0, 512 * J.val] S1x512.size (inbLine J) := fun inb => by
    rw [View.readAt_unit _ _ inb ((k0_off11_eq i).trans (by rw [← eJ])) (inbLine J), h16]; try rfl
  have r13 := whole_read h13 ![0, 0]
  have r14 := whole_read h14 ![0, 0]
  have r15 := whole_read h15 ![0, 0]
  have r21 := whole_read h21 ![0, 0]
  sl_exec
  sl_for (loopInv c arg4 arg5 arg6 arg12 arg13 arg14 arg15 arg16 arg17 arg18 arg19 arg20 arg21 J C A f4 f5 f6 f21) $$ [H4 H5 H6 H12 H13 H14 H15 H16 H17 H18 H19 H20 H21]
  case region =>
    clear qa ga aa da qn gn an dn qb gb xb yb r13 r14 r15 r21
    intro k acc
    unfold p21_odd.sl.prog.body_1
    exact loop_step c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v27 k0_h3 v29 (k0_pay18 (C.scS J) (C.scP J)) A.dka A.dka J eJ C A f4 f5 f6 f21 h4 h5 h6 h21 k acc
  · unfold loopInv
    isplitl [H4]
    · iexact H4
    isplitl [H5]
    · iexact H5
    isplitl [H6]
    · iexact H6
    isplitl [H12]
    · iexists _; isplitr; swap; · iexact H12
      ipureintro
      sl_open_run
      rw [View.read_writes_cons_put _ _ _ _ _ ((k0_off12_eq i).trans (by rw [← eJ])), View.writes_nil, h12]
      try simp (proj := false) only [qa, ga, aa, da, qn, gn, an, dn, qb, gb, xb, yb, r13, r14, r15, r21, View.readCov_full, View.readAt_writes_full, View.read_writes_full]
      rfl
    isplitl [H13]
    · iexists _; isplitr; swap; · iexact H13
      ipureintro
      sl_open_run
      refine (View.read_writes_full _ _ _ _ _).trans ?_
      try simp (proj := false) only [qa, ga, aa, da, qn, gn, an, dn, qb, gb, xb, yb, r13, r14, r15, r21, View.readCov_full, View.readAt_writes_full, View.read_writes_full]
      rfl
    isplitl [H14]
    · iexists _; isplitr; swap; · iexact H14
      ipureintro
      sl_open_run
      refine (View.read_writes_full _ _ _ _ _).trans ?_
      try simp (proj := false) only [qa, ga, aa, da, qn, gn, an, dn, qb, gb, xb, yb, r13, r14, r15, r21, View.readCov_full, View.readAt_writes_full, View.read_writes_full]
      rfl
    isplitl [H15]
    · iexists _; isplitr; swap; · iexact H15
      ipureintro
      sl_open_run
      refine (View.read_writes_full _ _ _ _ _).trans ?_
      try simp (proj := false) only [qa, ga, aa, da, qn, gn, an, dn, qb, gb, xb, yb, r13, r14, r15, r21, View.readCov_full, View.readAt_writes_full, View.read_writes_full]
      rfl
    isplitl [H16]
    · iexists _; isplitr; swap; · iexact H16
      ipureintro
      sl_open_run
      rw [View.read_writes_cons_put _ _ _ _ _ ((k0_off11_eq i).trans (by rw [← eJ])), View.writes_nil, h16]
      try simp (proj := false) only [qa, ga, aa, da, qn, gn, an, dn, qb, gb, xb, yb, r13, r14, r15, r21, View.readCov_full, View.readAt_writes_full, View.read_writes_full]
      rfl
    isplitl [H17]
    · iexists _; iexact H17
    isplitl [H18]
    · iexists _; iexact H18
    isplitl [H19]
    · iexists _; isplitr; swap; · iexact H19
      ipureintro
      sl_open_run
      refine (View.read_writes_full _ _ _ _ _).trans ?_
      try simp (proj := false) only [qa, ga, aa, da, qn, gn, an, dn, qb, gb, xb, yb, r13, r14, r15, r21, View.readCov_full, View.readAt_writes_full, View.read_writes_full]
      rfl
    isplitl [H20]
    · iexists _; isplitr; swap; · iexact H20
      ipureintro
      sl_open_run
      refine (View.read_writes_full _ _ _ _ _).trans ?_
      try simp (proj := false) only [qa, ga, aa, da, qn, gn, an, dn, qb, gb, xb, yb, r13, r14, r15, r21, View.readCov_full, View.readAt_writes_full, View.read_writes_full]
      rfl
    iexact H21
  iintro %_ HI
  unfold loopInv
  icases HI with ⟨H4, H5, H6, ⟨%g12, %m12, H12⟩, ⟨%g13, %m13, H13⟩, ⟨%g14, %m14, H14⟩, ⟨%g15, %m15, H15⟩, ⟨%g16, %m16, H16⟩, ⟨%g17, H17⟩, ⟨%g18, H18⟩, ⟨%g19, %m19, H19⟩, ⟨%g20, %m20, H20⟩, H21⟩
  clear qa ga aa da qn gn an dn qb gb xb yb r13 r14 r15 h12 h13 h14 h15 h16
  have eB : C.upto J A (15 - J.val) = C.step 15 (C.step 14 (C.upto J A (2 * (k0_t1_loop i).trips))) := by
    rw [trips_eq, show 15 - J.val = 2 * ((14 - (i 1).val) / 2) + 1 + 1 by omega, upto_step C J A _ (by omega), upto_step C J A _ (by omega)]
    congr 1
    · exact Fin.ext (by rw [nxt_val J _ (by omega)]; show _ = 15; omega)
    · congr 1; exact Fin.ext (by rw [nxt_val J _ (by omega)]; show _ = 14; omega)
  have e14 : nxt J (2 * (k0_t1_loop i).trips + 1) = 14 := by
    rw [trips_eq]; exact Fin.ext (by rw [nxt_val J _ (by omega)]; show _ = 14; omega)
  rw [e14] at m19 m20
  rw [eB]
  generalize C.upto J A (2 * (k0_t1_loop i).trips) = B at *
  have qz : ∀ (inb : ∀ a, (![7680, 0]) a + S512x128.size a ≤ S8192x128.size a), arg4.view.readAt (Elt F) (Rect.unit (s := S8192x128) (![7680, 0]) S512x128.size inb).toLoadRect f4 = C.qb 15 := fun inb => by
    rw [View.readAt_unit _ _ inb (rfl) (inbRow 15), h4]; try rfl
  have gz : ∀ (inb : ∀ a, (![7680, 0]) a + S512x128.size a ≤ S8192x128.size a), arg5.view.readAt (Elt F) (Rect.unit (s := S8192x128) (![7680, 0]) S512x128.size inb).toLoadRect f5 = C.gb 15 := fun inb => by
    rw [View.readAt_unit _ _ inb (rfl) (inbRow 15), h5]; try rfl
  have qy : ∀ (inb : ∀ a, (![7168, 0]) a + S512x128.size a ≤ S8192x128.size a), arg4.view.readAt (Elt F) (Rect.unit (s := S8192x128) (![7168, 0]) S512x128.size inb).toLoadRect f4 = C.qb 14 := fun inb => by
    rw [View.readAt_unit _ _ inb (rfl) (inbRow 14), h4]; try rfl
  have gy : ∀ (inb : ∀ a, (![7168, 0]) a + S512x128.size a ≤ S8192x128.size a), arg5.view.readAt (Elt F) (Rect.unit (s := S8192x128) (![7168, 0]) S512x128.size inb).toLoadRect f5 = C.gb 14 := fun inb => by
    rw [View.readAt_unit _ _ inb (rfl) (inbRow 14), h5]; try rfl
  have az : ∀ (inb : ∀ a, (![0, 0, 7680]) a + S1x1x512.size a ≤ S1x8x8192.size a), arg6.view.readAt (Elt F) (Rect.unit (s := S1x8x8192) (![0, 0, 7680]) S1x1x512.size inb).toLoadRect f6 = C.ar 15 := fun inb => by
    rw [View.readAt_unit _ _ inb (rfl) (inbA 15), h6]; try rfl
  have dz : ∀ (inb : ∀ a, (![0, 1, 7680]) a + S1x1x512.size a ≤ S1x8x8192.size a), arg6.view.readAt (Elt F) (Rect.unit (s := S1x8x8192) (![0, 1, 7680]) S1x1x512.size inb).toLoadRect f6 = C.dr 15 := fun inb => by
    rw [View.readAt_unit _ _ inb (rfl) (inbD 15), h6]; try rfl
  have xz : ∀ (inb : ∀ a, (![0, 7680]) a + S128x512.size a ≤ S128x8192.size a), arg12.view.readAt (Elt F) (Rect.unit (s := S128x8192) (![0, 7680]) S128x512.size inb).toLoadRect g12 = window B.dqt ![0, 512 * (15 : Fin 16).val] S128x512.size (inbCol 15) := fun inb => by
    rw [View.readAt_unit _ _ inb (rfl) (inbCol 15), m12]; try rfl
  have xy : ∀ (inb : ∀ a, (![0, 7168]) a + S128x512.size a ≤ S128x8192.size a), arg12.view.readAt (Elt F) (Rect.unit (s := S128x8192) (![0, 7168]) S128x512.size inb).toLoadRect g12 = window B.dqt ![0, 512 * (14 : Fin 16).val] S128x512.size (inbCol 14) := fun inb => by
    rw [View.readAt_unit _ _ inb (rfl) (inbCol 14), m12]; try rfl
  have yz : ∀ (inb : ∀ a, (![0, 7680]) a + S1x512.size a ≤ S8x8192.size a), arg16.view.readAt (Elt F) (Rect.unit (s := S8x8192) (![0, 7680]) S1x512.size inb).toLoadRect g16 = window B.dra ![0, 512 * (15 : Fin 16).val] S1x512.size (inbLine 15) := fun inb => by
    rw [View.readAt_unit _ _ inb (rfl) (inbLine 15), m16]; try rfl
  have yy : ∀ (inb : ∀ a, (![0, 7168]) a + S1x512.size a ≤ S8x8192.size a), arg16.view.readAt (Elt F) (Rect.unit (s := S8x8192) (![0, 7168]) S1x512.size inb).toLoadRect g16 = window B.dra ![0, 512 * (14 : Fin 16).val] S1x512.size (inbLine 14) := fun inb => by
    rw [View.readAt_unit _ _ inb (rfl) (inbLine 14), m16]; try rfl
  have s13 := whole_read m13 ![0, 0]
  have s14 := whole_read m14 ![0, 0]
  have s15 := whole_read m15 ![0, 0]
  have s19 := whole_read m19 ![0, 0]
  have s20 := whole_read m20 ![0, 0]
  sl_exec
  sl_step
  iapply HQ
  isplitr
  · ipureintro
    sl_open_run
    try simp (proj := false) only [qz, gz, qy, gy, az, dz, xz, xy, yz, yy, s13, s14, s15, s19, s20, r21, View.readCov_full, View.readAt_writes_full, View.read_writes_full]
    rfl
  isplitl [H4]
  · iexact H4
  isplitl [H5]
  · iexact H5
  isplitl [H6]
  · iexact H6
  isplitl [H12]
  · iexists _; isplitr; swap; · iexact H12
    ipureintro
    sl_open_run
    rw [View.read_writes_cons_put _ _ _ _ _ ((rfl : _ = ![0, 512 * (15 : Fin 16).val])), View.read_writes_cons_put _ _ _ _ _ ((rfl : _ = ![0, 512 * (14 : Fin 16).val])), View.writes_nil, m12]
    try simp (proj := false) only [qz, gz, qy, gy, az, dz, xz, xy, yz, yy, s13, s14, s15, s19, s20, r21, View.readCov_full, View.readAt_writes_full, View.read_writes_full]
    simp only [Ctx.step, Ctx.absorb]
    rw [window_put_of_disjoint _ _ _ _ _ _ _ 1 (Or.inr (by show 512 * 14 + 512 ≤ 512 * 15; omega))]
    rfl
  isplitl [H13]
  · iexists _; isplitr; swap; · iexact H13
    ipureintro
    sl_open_run
    refine (View.read_writes_full _ _ _ _ _).trans ?_
    try simp (proj := false) only [qz, gz, qy, gy, az, dz, xz, xy, yz, yy, s13, s14, s15, s19, s20, r21, View.readCov_full, View.readAt_writes_full, View.read_writes_full]
    rfl
  isplitl [H14]
  · iexists _; isplitr; swap; · iexact H14
    ipureintro
    sl_open_run
    refine (View.read_writes_full _ _ _ _ _).trans ?_
    try simp (proj := false) only [qz, gz, qy, gy, az, dz, xz, xy, yz, yy, s13, s14, s15, s19, s20, r21, View.readCov_full, View.readAt_writes_full, View.read_writes_full]
    rfl
  isplitl [H15]
  · iexists _; isplitr; swap; · iexact H15
    ipureintro
    sl_open_run
    refine (View.read_writes_full _ _ _ _ _).trans ?_
    try simp (proj := false) only [qz, gz, qy, gy, az, dz, xz, xy, yz, yy, s13, s14, s15, s19, s20, r21, View.readCov_full, View.readAt_writes_full, View.read_writes_full]
    rfl
  isplitl [H16]
  · iexists _; isplitr; swap; · iexact H16
    ipureintro
    sl_open_run
    rw [View.read_writes_cons_put _ _ _ _ _ ((rfl : _ = ![0, 512 * (15 : Fin 16).val])), View.read_writes_cons_put _ _ _ _ _ ((rfl : _ = ![0, 512 * (14 : Fin 16).val])), View.writes_nil, m16]
    try simp (proj := false) only [qz, gz, qy, gy, az, dz, xz, xy, yz, yy, s13, s14, s15, s19, s20, r21, View.readCov_full, View.readAt_writes_full, View.read_writes_full]
    simp only [Ctx.step, Ctx.absorb]
    rw [window_put_of_disjoint _ _ _ _ _ _ _ 1 (Or.inr (by show 512 * 14 + 512 ≤ 512 * 15; omega))]
    rfl
  isplitl [H17]
  · iexists _; iexact H17
  isplitl [H18]
  · iexists _; iexact H18
  isplitl [H19]
  · iexists _; iexact H19
  isplitl [H20]
  · iexists _; iexact H20
  iexact H21

end Cert.KernelIdeal.Fox

end
-- ==== Proof.FoxBwd.Blocks.lean ====
/-
  A key block against its query blocks, the three cases together.
-/
module

public import proofs.«01_k».proof.Proof.FoxBwd.Last
public import proofs.«01_k».proof.Proof.FoxBwd.Even
public import proofs.«01_k».proof.Proof.FoxBwd.Odd

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open VecWindow

variable {F : FTy → Type} [FloatOps F] [Named F]

local notation "𝕄" => MT nD τ sig Unit (Elt F) ℕ (UR sig nD τ) ℕ

set_option maxHeartbeats 4000000

theorem p21_run (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8x8192 .f32) (harg6 : arg6.IsWhole) (arg7 : Memref sig .tc .vmem S1x512x1 .f32) (harg7 : arg7.IsWhole) (arg8 : Memref sig .tc .vmem S8192x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x8x8192 .f32) (harg11 : arg11.IsWhole) (arg12 : Memref sig .tc .vmem S128x8192 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S8x8192 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole)
    (arg1 v27 v29 : BitVec 32) (J : Fin 16) (eJ : J.val = (i 1).val) (C : Ctx F) (A : Acc F)
    (f4 : Buf (Elt F) (arg4.view.loc (c : Thread nD τ)))
    (f5 : Buf (Elt F) (arg5.view.loc (c : Thread nD τ)))
    (f6 : Buf (Elt F) (arg6.view.loc (c : Thread nD τ)))
    (f12 : Buf (Elt F) (arg12.view.loc (c : Thread nD τ)))
    (f13 : Buf (Elt F) (arg13.view.loc (c : Thread nD τ)))
    (f14 : Buf (Elt F) (arg14.view.loc (c : Thread nD τ)))
    (f15 : Buf (Elt F) (arg15.view.loc (c : Thread nD τ)))
    (f16 : Buf (Elt F) (arg16.view.loc (c : Thread nD τ)))
    (f17 : Buf (Elt F) (arg17.view.loc (c : Thread nD τ)))
    (f18 : Buf (Elt F) (arg18.view.loc (c : Thread nD τ)))
    (f19 : Buf (Elt F) (arg19.view.loc (c : Thread nD τ)))
    (f20 : Buf (Elt F) (arg20.view.loc (c : Thread nD τ)))
    (f21 : Buf (Elt F) (arg21.view.loc (c : Thread nD τ)))
    (h4 : arg4.view.read (Elt F) f4 = C.q)
    (h5 : arg5.view.read (Elt F) f5 = C.g)
    (h6 : arg6.view.read (Elt F) f6 = C.rows)
    (h12 : arg12.view.read (Elt F) f12 = A.dqt)
    (h13 : arg13.view.read (Elt F) f13 = A.dka)
    (h14 : arg14.view.read (Elt F) f14 = A.dva)
    (h15 : arg15.view.read (Elt F) f15 = A.dca)
    (h16 : arg16.view.read (Elt F) f16 = A.dra)
    (h21 : arg21.view.read (Elt F) f21 = k0_pay111 C.cc)
    (Q : FVec F S512x128 .f32 → sProp 𝕄) :
    iprop((arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15)
      ∗ (arg16.view.loc (c : Thread nD τ) ↦[arg16.view.set]{fullShare} f16)
      ∗ (arg17.view.loc (c : Thread nD τ) ↦[arg17.view.set]{fullShare} f17)
      ∗ (arg18.view.loc (c : Thread nD τ) ↦[arg18.view.set]{fullShare} f18)
      ∗ (arg19.view.loc (c : Thread nD τ) ↦[arg19.view.set]{fullShare} f19)
      ∗ (arg20.view.loc (c : Thread nD τ) ↦[arg20.view.set]{fullShare} f20)
      ∗ (arg21.view.loc (c : Thread nD τ) ↦[arg21.view.set]{fullShare} f21)
      ∗ (∀ r, (⌜r = k0_pay127 (C.upto J A (15 - J.val)).dka⌝ ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (∃ f, ⌜arg12.view.read (Elt F) f = (C.upto J A (15 - J.val)).dqt⌝ ∗ (arg12.view.loc (c : Thread nD τ) ↦[arg12.view.set]{fullShare} f))
      ∗ (∃ f, ⌜arg13.view.read (Elt F) f = (C.upto J A (15 - J.val)).dka⌝ ∗ (arg13.view.loc (c : Thread nD τ) ↦[arg13.view.set]{fullShare} f))
      ∗ (∃ f, ⌜arg14.view.read (Elt F) f = (C.upto J A (15 - J.val)).dva⌝ ∗ (arg14.view.loc (c : Thread nD τ) ↦[arg14.view.set]{fullShare} f))
      ∗ (∃ f, ⌜arg15.view.read (Elt F) f = (C.upto J A (15 - J.val)).dca⌝ ∗ (arg15.view.loc (c : Thread nD τ) ↦[arg15.view.set]{fullShare} f))
      ∗ (∃ f, ⌜arg16.view.read (Elt F) f = (C.upto J A (15 - J.val)).dra⌝ ∗ (arg16.view.loc (c : Thread nD τ) ↦[arg16.view.set]{fullShare} f))
      ∗ (∃ f, (arg17.view.loc (c : Thread nD τ) ↦[arg17.view.set]{fullShare} f))
      ∗ (∃ f, (arg18.view.loc (c : Thread nD τ) ↦[arg18.view.set]{fullShare} f))
      ∗ (∃ f, (arg19.view.loc (c : Thread nD τ) ↦[arg19.view.set]{fullShare} f))
      ∗ (∃ f, (arg20.view.loc (c : Thread nD τ) ↦[arg20.view.set]{fullShare} f))
      ∗ (arg21.view.loc (c : Thread nD τ) ↦[arg21.view.set]{fullShare} f21)) -∗ Q r))
    ⊢ wp frame (wpE (defs₀ (F := F)) Variants.none c none) Set.univ
        (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 C.k C.v (k0_pay110 C.k) v27 v29) Q := by
  have hJ := J.isLt
  by_cases hl : (i 1).val = 15
  · exact p21_last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v27 v29 J eJ hl C A f4 f5 f6 f12 f13 f14 f15 f16 f17 f18 f19 f20 f21 h4 h5 h6 h12 h13 h14 h15 h16 h21 Q
  by_cases hp : (i 1).val % 2 = 0
  · exact p21_even c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v27 v29 J eJ (by omega) hp C A f4 f5 f6 f12 f13 f14 f15 f16 f17 f18 f19 f20 f21 h4 h5 h6 h12 h13 h14 h15 h16 h21 Q
  · exact p21_odd c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v27 v29 J eJ (by omega) (by omega) C A f4 f5 f6 f12 f13 f14 f15 f16 f17 f18 f19 f20 f21 h4 h5 h6 h12 h13 h14 h15 h16 h21 Q

end Cert.KernelIdeal.Fox

end
-- ==== Proof.FoxBwd.Out.lean ====
/-
  What a head leaves: its query gradient block by block, and its row and column sums.
-/
module

public import proofs.«01_k».proof.Proof.FoxBwd.Model

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open VecWindow

variable {F : FTy → Type} [FloatOps F] [Named F]

local notation "𝕄" => MT nD τ sig Unit (Elt F) ℕ (UR sig nD τ) ℕ

set_option maxHeartbeats 4000000

/-- One block of a head's query gradient, off the transposed accumulator. -/
def dqBlk (d : Vec F S128x8192 .f32) (n : Fin 16) : FVec F S512x128 .bf16 :=
  k0_pay94 (window d ![0, 512 * n.val] S128x512.size (inbCol n))

theorem row_lt (y : S8192x128.Idx) : (y 0).val / 512 < 16 := by
  have h : (y 0).val < 8192 := (y 0).isLt
  omega

theorem row_in (y : S8192x128.Idx) (n : ℕ) (hn : n = (y 0).val / 512) :
    ∀ a : Fin 2, (![512 * n, 0] : Fin 2 → ℕ) a ≤ (y a).val ∧ (y a).val < (![512 * n, 0] : Fin 2 → ℕ) a + S512x128.size a := by
  have h0 : 512 * n ≤ (y 0).val ∧ (y 0).val < 512 * n + 512 := by omega
  have h1 : 0 ≤ (y 1).val ∧ (y 1).val < 0 + 128 := ⟨Nat.zero_le _, by have h : (y 1).val < 128 := (y 1).isLt; omega⟩
  intro a; fin_cases a
  · exact h0
  · exact h1

/-- A head's query gradient, block by block. -/
def dqOut (d : Vec F S128x8192 .f32) : Vec F S8192x128 .bf16 := fun y =>
  dqBlk d ⟨(y 0).val / 512, row_lt y⟩ (Rect.unitLocal (s := S8192x128) (off := ![512 * ((y 0).val / 512), 0]) (size := S512x128.size) y (row_in y _ rfl))

/-- The first `m` blocks written over `x`. -/
def dqFill (d : Vec F S128x8192 .f32) (x : Vec F S8192x128 .bf16) : ℕ → Vec F S8192x128 .bf16
  | 0 => x
  | m + 1 => if h : m < 16 then put (dqFill d x m) ![512 * m, 0] S512x128.size (dqBlk d ⟨m, h⟩) else dqFill d x m

theorem dqFill_eq (d : Vec F S128x8192 .f32) (x : Vec F S8192x128 .bf16) (m : ℕ) (hm : m ≤ 16) (y : S8192x128.Idx)
    (hy : (y 0).val / 512 < m) : dqFill d x m y = dqOut d y := by
  induction m with
  | zero => omega
  | succ m ih =>
    have h : m < 16 := by omega
    rw [dqFill, dif_pos h]
    by_cases e : m = (y 0).val / 512
    · subst e
      unfold put dqOut
      rw [dif_pos (row_in y _ rfl)]
    · have hn : ¬ ∀ a : Fin 2, (![512 * m, 0] : Fin 2 → ℕ) a ≤ (y a).val ∧ (y a).val < (![512 * m, 0] : Fin 2 → ℕ) a + S512x128.size a := fun h => by
        have h0 : 512 * m ≤ (y 0).val ∧ (y 0).val < 512 * m + 512 := h 0
        omega
      unfold put
      rw [dif_neg hn]
      exact ih (by omega) (by omega)

/-- All sixteen written is the whole gradient. -/
theorem dqFill_all (d : Vec F S128x8192 .f32) (x : Vec F S8192x128 .bf16) : dqFill d x 16 = dqOut d :=
  funext fun y => dqFill_eq d x 16 le_rfl y (row_lt y)

/-- The head's row sums after key block `j`: its own column sums put into their stretch of the second row. -/
def drOut (J : Fin 16) (B : Acc F) : Vec F S8x8192 .f32 := put B.dra ![1, 512 * J.val] S1x512.size (k0_pay3 B.dca)

end Cert.KernelIdeal.Fox

end
-- ==== Proof.FoxBwd.Block.lean ====
/-
  One key block of one head, from start to end, where it is not the head's last.
-/
module

public import proofs.«01_k».proof.Proof.FoxBwd.Start
public import proofs.«01_k».proof.Proof.FoxBwd.Blocks
public import proofs.«01_k».proof.Proof.FoxBwd.Out

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open VecWindow

variable {F : FTy → Type} [FloatOps F] [Named F]

local notation "𝕄" => MT nD τ sig Unit (Elt F) ℕ (UR sig nD τ) ℕ

set_option maxHeartbeats 4000000

/-- What a key block leaves in the accumulators, from the head's two as it finds them. -/
def blockAcc (C : Ctx F) (i : grid0.Coords) (J : Fin 16) (d : Vec F S128x8192 .f32) (r : Vec F S8x8192 .f32) : Acc F :=
  C.upto J (Ctx.fresh (dqt0 i d) (dra0 i r)) (15 - J.val)

theorem body_next (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8x8192 .f32) (harg6 : arg6.IsWhole) (arg7 : Memref sig .tc .vmem S1x512x1 .f32) (harg7 : arg7.IsWhole) (arg8 : Memref sig .tc .vmem S8192x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x8x8192 .f32) (harg11 : arg11.IsWhole) (arg12 : Memref sig .tc .vmem S128x8192 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S8x8192 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole)
    (J : Fin 16) (eJ : J.val = (i 1).val) (hj : (i 1).val ≠ 15) (C : Ctx F) (d : Vec F S128x8192 .f32) (r : Vec F S8x8192 .f32)
    (f2 : Buf (Elt F) (arg2.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (f10 : Buf (Elt F) (arg10.view.loc (c : Thread nD τ)))
    (f11 : Buf (Elt F) (arg11.view.loc (c : Thread nD τ)))
    (f12 : Buf (Elt F) (arg12.view.loc (c : Thread nD τ)))
    (f13 : Buf (Elt F) (arg13.view.loc (c : Thread nD τ)))
    (f14 : Buf (Elt F) (arg14.view.loc (c : Thread nD τ)))
    (f15 : Buf (Elt F) (arg15.view.loc (c : Thread nD τ)))
    (f16 : Buf (Elt F) (arg16.view.loc (c : Thread nD τ)))
    (f17 : Buf (Elt F) (arg17.view.loc (c : Thread nD τ)))
    (f18 : Buf (Elt F) (arg18.view.loc (c : Thread nD τ)))
    (f19 : Buf (Elt F) (arg19.view.loc (c : Thread nD τ)))
    (f20 : Buf (Elt F) (arg20.view.loc (c : Thread nD τ)))
    (f21 : Buf (Elt F) (arg21.view.loc (c : Thread nD τ)))
    (h2 : arg2.view.read (Elt F) f2 = C.k)
    (h3 : arg3.view.read (Elt F) f3 = C.v)
    (h4 : arg4.view.read (Elt F) f4 = C.q)
    (h5 : arg5.view.read (Elt F) f5 = C.g)
    (h6 : arg6.view.read (Elt F) f6 = C.rows)
    (h7 : arg7.view.read (Elt F) f7 = C.cc)
    (h12 : arg12.view.read (Elt F) f12 = d)
    (h16 : arg16.view.read (Elt F) f16 = r)
    (Q : PUnit → sProp 𝕄) :
    iprop((arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15)
      ∗ (arg16.view.loc (c : Thread nD τ) ↦[arg16.view.set]{fullShare} f16)
      ∗ (arg17.view.loc (c : Thread nD τ) ↦[arg17.view.set]{fullShare} f17)
      ∗ (arg18.view.loc (c : Thread nD τ) ↦[arg18.view.set]{fullShare} f18)
      ∗ (arg19.view.loc (c : Thread nD τ) ↦[arg19.view.set]{fullShare} f19)
      ∗ (arg20.view.loc (c : Thread nD τ) ↦[arg20.view.set]{fullShare} f20)
      ∗ (arg21.view.loc (c : Thread nD τ) ↦[arg21.view.set]{fullShare} f21)
      ∗ (((arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (∃ f, ⌜arg9.view.read (Elt F) f = k0_pay1 (k0_pay127 (blockAcc C i J d r).dka)⌝ ∗ (arg9.view.loc (c : Thread nD τ) ↦[arg9.view.set]{fullShare} f))
      ∗ (∃ f, ⌜arg10.view.read (Elt F) f = k0_pay2 (blockAcc C i J d r).dva⌝ ∗ (arg10.view.loc (c : Thread nD τ) ↦[arg10.view.set]{fullShare} f))
      ∗ (arg11.view.loc (c : Thread nD τ) ↦[arg11.view.set]{fullShare} f11)
      ∗ (∃ f, ⌜arg12.view.read (Elt F) f = (blockAcc C i J d r).dqt⌝ ∗ (arg12.view.loc (c : Thread nD τ) ↦[arg12.view.set]{fullShare} f))
      ∗ (∃ f, (arg13.view.loc (c : Thread nD τ) ↦[arg13.view.set]{fullShare} f))
      ∗ (∃ f, (arg14.view.loc (c : Thread nD τ) ↦[arg14.view.set]{fullShare} f))
      ∗ (∃ f, (arg15.view.loc (c : Thread nD τ) ↦[arg15.view.set]{fullShare} f))
      ∗ (∃ f, ⌜arg16.view.read (Elt F) f = drOut J (blockAcc C i J d r)⌝ ∗ (arg16.view.loc (c : Thread nD τ) ↦[arg16.view.set]{fullShare} f))
      ∗ (∃ f, (arg17.view.loc (c : Thread nD τ) ↦[arg17.view.set]{fullShare} f))
      ∗ (∃ f, (arg18.view.loc (c : Thread nD τ) ↦[arg18.view.set]{fullShare} f))
      ∗ (∃ f, (arg19.view.loc (c : Thread nD τ) ↦[arg19.view.set]{fullShare} f))
      ∗ (∃ f, (arg20.view.loc (c : Thread nD τ) ↦[arg20.view.set]{fullShare} f))
      ∗ (∃ f, (arg21.view.loc (c : Thread nD τ) ↦[arg21.view.set]{fullShare} f))) -∗ Q ⟨⟩))
    ⊢ wp frame (wpE (defs₀ (F := F)) Variants.none c none) Set.univ
        (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  have k0_h6 : ¬ k0_cond6 i = 1#1 := fun h => hj ((cond6_iff i).1 h)
  rw [cc0_fox_bwd_eq_skeleton]
  unfold cc0_fox_bwd_skel
  rw [Idealize.SL.Sem.wp_bind]
  iintro ⟨H2, H3, H4, H5, H6, H7, H8, H9, H10, H11, H12, H13, H14, H15, H16, H17, H18, H19, H20, H21, HQ⟩
  iapply (p20_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 C d r f2 f3 f7 f12 f13 f14 f15 f16 f21 h2 h3 h7 h12 h16 _)
  isplitl [H2]; · iexact H2
  isplitl [H3]; · iexact H3
  isplitl [H7]; · iexact H7
  isplitl [H12]; · iexact H12
  isplitl [H13]; · iexact H13
  isplitl [H14]; · iexact H14
  isplitl [H15]; · iexact H15
  isplitl [H16]; · iexact H16
  isplitl [H21]; · iexact H21
  clear h12 h16
  iintro %a1 %w27 %w29 ⟨H2, H3, H7, ⟨%g12, %m12, H12⟩, ⟨%g13, %m13, H13⟩, ⟨%g14, %m14, H14⟩, ⟨%g15, %m15, H15⟩, ⟨%g16, %m16, H16⟩, ⟨%g21, %m21, H21⟩⟩
  dsimp only
  rw [Idealize.SL.Sem.wp_bind]
  iapply (p21_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a1 w27 w29 J eJ C (Ctx.fresh (dqt0 i d) (dra0 i r)) f4 f5 f6 g12 g13 g14 g15 g16 f17 f18 f19 f20 g21 h4 h5 h6 m12 m13 m14 m15 m16 m21 _)
  isplitl [H4]; · iexact H4
  isplitl [H5]; · iexact H5
  isplitl [H6]; · iexact H6
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  clear m12 m13 m14 m15 m16
  iintro %v64 ⟨%e64, H4, H5, H6, ⟨%b12, %m12, H12⟩, ⟨%b13, %m13, H13⟩, ⟨%b14, %m14, H14⟩, ⟨%b15, %m15, H15⟩, ⟨%b16, %m16, H16⟩, ⟨%b17, H17⟩, ⟨%b18, H18⟩, ⟨%b19, H19⟩, ⟨%b20, H20⟩, H21⟩
  subst e64
  have eB : C.upto J (Ctx.fresh (dqt0 i d) (dra0 i r)) (15 - J.val) = blockAcc C i J d r := rfl
  rw [eB] at m12 m13 m14 m15 m16 ⊢
  generalize blockAcc C i J d r = B at *
  have s14 := whole_read m14 ![0, 0]
  have s15 := whole_read m15 ![0, 0]
  sl_exec
  sl_step
  iapply HQ
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _; isplitr; swap; · iexact H9
    ipureintro
    sl_open_run
    refine (View.read_writes_full _ _ _ _ _).trans ?_
    try simp (proj := false) only [s14, s15, View.readCov_full, View.readAt_writes_full, View.read_writes_full]
    try rfl
  isplitl [H10]
  · iexists _; isplitr; swap; · iexact H10
    ipureintro
    sl_open_run
    refine (View.read_writes_full _ _ _ _ _).trans ?_
    try simp (proj := false) only [s14, s15, View.readCov_full, View.readAt_writes_full, View.read_writes_full]
    try rfl
  isplitl [H11]
  · iexact H11
  isplitl [H12]
  · iexists _; isplitr; swap; · iexact H12
    ipureintro
    exact m12
  isplitl [H13]
  · iexists _; iexact H13
  isplitl [H14]
  · iexists _; iexact H14
  isplitl [H15]
  · iexists _; iexact H15
  isplitl [H16]
  · iexists _; isplitr; swap; · iexact H16
    ipureintro
    sl_open_run
    rw [View.read_writes_cons_put _ _ _ _ _ ((k0_off29_eq i).trans (by rw [← eJ])), View.writes_nil, m16]
    try simp (proj := false) only [s14, s15]
    rfl
  isplitl [H17]
  · iexists _; iexact H17
  isplitl [H18]
  · iexists _; iexact H18
  isplitl [H19]
  · iexists _; iexact H19
  isplitl [H20]
  · iexists _; iexact H20
  iexists _; iexact H21

end Cert.KernelIdeal.Fox

end
-- ==== Proof.FoxBwd.BlockLast.lean ====
/-
  The last key block of a head: it also writes the head's query gradient and sums.
-/
module

public import proofs.«01_k».proof.Proof.FoxBwd.Block

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open VecWindow

variable {F : FTy → Type} [FloatOps F] [Named F]

local notation "𝕄" => MT nD τ sig Unit (Elt F) ℕ (UR sig nD τ) ℕ

set_option maxHeartbeats 4000000

theorem body_last (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8x8192 .f32) (harg6 : arg6.IsWhole) (arg7 : Memref sig .tc .vmem S1x512x1 .f32) (harg7 : arg7.IsWhole) (arg8 : Memref sig .tc .vmem S8192x128 .bf16) (harg8 : arg8.IsWhole) (arg9 : Memref sig .tc .vmem S512x128 .bf16) (harg9 : arg9.IsWhole) (arg10 : Memref sig .tc .vmem S512x128 .bf16) (harg10 : arg10.IsWhole) (arg11 : Memref sig .tc .vmem S1x8x8192 .f32) (harg11 : arg11.IsWhole) (arg12 : Memref sig .tc .vmem S128x8192 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S8x8192 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole)
    (J : Fin 16) (eJ : J.val = (i 1).val) (hj : (i 1).val = 15) (C : Ctx F) (d : Vec F S128x8192 .f32) (r : Vec F S8x8192 .f32)
    (f2 : Buf (Elt F) (arg2.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (f10 : Buf (Elt F) (arg10.view.loc (c : Thread nD τ)))
    (f11 : Buf (Elt F) (arg11.view.loc (c : Thread nD τ)))
    (f12 : Buf (Elt F) (arg12.view.loc (c : Thread nD τ)))
    (f13 : Buf (Elt F) (arg13.view.loc (c : Thread nD τ)))
    (f14 : Buf (Elt F) (arg14.view.loc (c : Thread nD τ)))
    (f15 : Buf (Elt F) (arg15.view.loc (c : Thread nD τ)))
    (f16 : Buf (Elt F) (arg16.view.loc (c : Thread nD τ)))
    (f17 : Buf (Elt F) (arg17.view.loc (c : Thread nD τ)))
    (f18 : Buf (Elt F) (arg18.view.loc (c : Thread nD τ)))
    (f19 : Buf (Elt F) (arg19.view.loc (c : Thread nD τ)))
    (f20 : Buf (Elt F) (arg20.view.loc (c : Thread nD τ)))
    (f21 : Buf (Elt F) (arg21.view.loc (c : Thread nD τ)))
    (h2 : arg2.view.read (Elt F) f2 = C.k)
    (h3 : arg3.view.read (Elt F) f3 = C.v)
    (h4 : arg4.view.read (Elt F) f4 = C.q)
    (h5 : arg5.view.read (Elt F) f5 = C.g)
    (h6 : arg6.view.read (Elt F) f6 = C.rows)
    (h7 : arg7.view.read (Elt F) f7 = C.cc)
    (h12 : arg12.view.read (Elt F) f12 = d)
    (h16 : arg16.view.read (Elt F) f16 = r)
    (Q : PUnit → sProp 𝕄) :
    iprop((arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15)
      ∗ (arg16.view.loc (c : Thread nD τ) ↦[arg16.view.set]{fullShare} f16)
      ∗ (arg17.view.loc (c : Thread nD τ) ↦[arg17.view.set]{fullShare} f17)
      ∗ (arg18.view.loc (c : Thread nD τ) ↦[arg18.view.set]{fullShare} f18)
      ∗ (arg19.view.loc (c : Thread nD τ) ↦[arg19.view.set]{fullShare} f19)
      ∗ (arg20.view.loc (c : Thread nD τ) ↦[arg20.view.set]{fullShare} f20)
      ∗ (arg21.view.loc (c : Thread nD τ) ↦[arg21.view.set]{fullShare} f21)
      ∗ (((arg2.view.loc (c : Thread nD τ) ↦[arg2.view.set]{fullShare} f2)
      ∗ (arg3.view.loc (c : Thread nD τ) ↦[arg3.view.set]{fullShare} f3)
      ∗ (arg4.view.loc (c : Thread nD τ) ↦[arg4.view.set]{fullShare} f4)
      ∗ (arg5.view.loc (c : Thread nD τ) ↦[arg5.view.set]{fullShare} f5)
      ∗ (arg6.view.loc (c : Thread nD τ) ↦[arg6.view.set]{fullShare} f6)
      ∗ (arg7.view.loc (c : Thread nD τ) ↦[arg7.view.set]{fullShare} f7)
      ∗ (∃ f, ⌜arg8.view.read (Elt F) f = dqOut (blockAcc C i J d r).dqt⌝ ∗ (arg8.view.loc (c : Thread nD τ) ↦[arg8.view.set]{fullShare} f))
      ∗ (∃ f, ⌜arg9.view.read (Elt F) f = k0_pay1 (k0_pay127 (blockAcc C i J d r).dka)⌝ ∗ (arg9.view.loc (c : Thread nD τ) ↦[arg9.view.set]{fullShare} f))
      ∗ (∃ f, ⌜arg10.view.read (Elt F) f = k0_pay2 (blockAcc C i J d r).dva⌝ ∗ (arg10.view.loc (c : Thread nD τ) ↦[arg10.view.set]{fullShare} f))
      ∗ (∃ f, ⌜arg11.view.read (Elt F) f = k0_pay93 (drOut J (blockAcc C i J d r))⌝ ∗ (arg11.view.loc (c : Thread nD τ) ↦[arg11.view.set]{fullShare} f))
      ∗ (∃ f, ⌜arg12.view.read (Elt F) f = (blockAcc C i J d r).dqt⌝ ∗ (arg12.view.loc (c : Thread nD τ) ↦[arg12.view.set]{fullShare} f))
      ∗ (∃ f, (arg13.view.loc (c : Thread nD τ) ↦[arg13.view.set]{fullShare} f))
      ∗ (∃ f, (arg14.view.loc (c : Thread nD τ) ↦[arg14.view.set]{fullShare} f))
      ∗ (∃ f, (arg15.view.loc (c : Thread nD τ) ↦[arg15.view.set]{fullShare} f))
      ∗ (∃ f, ⌜arg16.view.read (Elt F) f = drOut J (blockAcc C i J d r)⌝ ∗ (arg16.view.loc (c : Thread nD τ) ↦[arg16.view.set]{fullShare} f))
      ∗ (∃ f, (arg17.view.loc (c : Thread nD τ) ↦[arg17.view.set]{fullShare} f))
      ∗ (∃ f, (arg18.view.loc (c : Thread nD τ) ↦[arg18.view.set]{fullShare} f))
      ∗ (∃ f, (arg19.view.loc (c : Thread nD τ) ↦[arg19.view.set]{fullShare} f))
      ∗ (∃ f, (arg20.view.loc (c : Thread nD τ) ↦[arg20.view.set]{fullShare} f))
      ∗ (∃ f, (arg21.view.loc (c : Thread nD τ) ↦[arg21.view.set]{fullShare} f))) -∗ Q ⟨⟩))
    ⊢ wp frame (wpE (defs₀ (F := F)) Variants.none c none) Set.univ
        (cc0_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q := by
  have k0_h6 : k0_cond6 i = 1#1 := (cond6_iff i).2 hj
  rw [cc0_fox_bwd_eq_skeleton]
  unfold cc0_fox_bwd_skel
  rw [Idealize.SL.Sem.wp_bind]
  iintro ⟨H2, H3, H4, H5, H6, H7, H8, H9, H10, H11, H12, H13, H14, H15, H16, H17, H18, H19, H20, H21, HQ⟩
  iapply (p20_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 C d r f2 f3 f7 f12 f13 f14 f15 f16 f21 h2 h3 h7 h12 h16 _)
  isplitl [H2]; · iexact H2
  isplitl [H3]; · iexact H3
  isplitl [H7]; · iexact H7
  isplitl [H12]; · iexact H12
  isplitl [H13]; · iexact H13
  isplitl [H14]; · iexact H14
  isplitl [H15]; · iexact H15
  isplitl [H16]; · iexact H16
  isplitl [H21]; · iexact H21
  clear h12 h16
  iintro %a1 %w27 %w29 ⟨H2, H3, H7, ⟨%g12, %m12, H12⟩, ⟨%g13, %m13, H13⟩, ⟨%g14, %m14, H14⟩, ⟨%g15, %m15, H15⟩, ⟨%g16, %m16, H16⟩, ⟨%g21, %m21, H21⟩⟩
  dsimp only
  rw [Idealize.SL.Sem.wp_bind]
  iapply (p21_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 a1 w27 w29 J eJ C (Ctx.fresh (dqt0 i d) (dra0 i r)) f4 f5 f6 g12 g13 g14 g15 g16 f17 f18 f19 f20 g21 h4 h5 h6 m12 m13 m14 m15 m16 m21 _)
  isplitl [H4]; · iexact H4
  isplitl [H5]; · iexact H5
  isplitl [H6]; · iexact H6
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  clear m12 m13 m14 m15 m16
  iintro %v64 ⟨%e64, H4, H5, H6, ⟨%b12, %m12, H12⟩, ⟨%b13, %m13, H13⟩, ⟨%b14, %m14, H14⟩, ⟨%b15, %m15, H15⟩, ⟨%b16, %m16, H16⟩, ⟨%b17, H17⟩, ⟨%b18, H18⟩, ⟨%b19, H19⟩, ⟨%b20, H20⟩, H21⟩
  subst e64
  have eB : C.upto J (Ctx.fresh (dqt0 i d) (dra0 i r)) (15 - J.val) = blockAcc C i J d r := rfl
  rw [eB] at m12 m13 m14 m15 m16 ⊢
  generalize blockAcc C i J d r = B at *
  have s14 := whole_read m14 ![0, 0]
  have s15 := whole_read m15 ![0, 0]
  have xs : ∀ (o : Fin 2 → ℕ) (j : Fin 16), o = ![0, 512 * j.val] → ∀ (inb : ∀ a, o a + S128x512.size a ≤ S128x8192.size a), arg12.view.readAt (Elt F) (Rect.unit (s := S128x8192) o S128x512.size inb).toLoadRect b12 = window B.dqt ![0, 512 * j.val] S128x512.size (inbCol j) := fun o j e inb => by
    rw [View.readAt_unit _ _ inb e (inbCol j), m12]
  have x0 := xs ![0, 0] 0 rfl
  have x1 := xs ![0, 512] 1 rfl
  have x2 := xs ![0, 1024] 2 rfl
  have x3 := xs ![0, 1536] 3 rfl
  have x4 := xs ![0, 2048] 4 rfl
  have x5 := xs ![0, 2560] 5 rfl
  have x6 := xs ![0, 3072] 6 rfl
  have x7 := xs ![0, 3584] 7 rfl
  have x8 := xs ![0, 4096] 8 rfl
  have x9 := xs ![0, 4608] 9 rfl
  have x10 := xs ![0, 5120] 10 rfl
  have x11 := xs ![0, 5632] 11 rfl
  have x12 := xs ![0, 6144] 12 rfl
  have x13 := xs ![0, 6656] 13 rfl
  have x14 := xs ![0, 7168] 14 rfl
  have x15 := xs ![0, 7680] 15 rfl
  sl_exec
  sl_step
  iapply HQ
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; isplitr; swap; · iexact H8
    ipureintro
    sl_open_run
    rw [View.read_writes_cons_put _ _ _ _ _ (rfl : _ = ![512 * (15 : Fin 16).val, 0]), View.read_writes_cons_put _ _ _ _ _ (rfl : _ = ![512 * (14 : Fin 16).val, 0]), View.read_writes_cons_put _ _ _ _ _ (rfl : _ = ![512 * (13 : Fin 16).val, 0]), View.read_writes_cons_put _ _ _ _ _ (rfl : _ = ![512 * (12 : Fin 16).val, 0]), View.read_writes_cons_put _ _ _ _ _ (rfl : _ = ![512 * (11 : Fin 16).val, 0]), View.read_writes_cons_put _ _ _ _ _ (rfl : _ = ![512 * (10 : Fin 16).val, 0]), View.read_writes_cons_put _ _ _ _ _ (rfl : _ = ![512 * (9 : Fin 16).val, 0]), View.read_writes_cons_put _ _ _ _ _ (rfl : _ = ![512 * (8 : Fin 16).val, 0]), View.read_writes_cons_put _ _ _ _ _ (rfl : _ = ![512 * (7 : Fin 16).val, 0]), View.read_writes_cons_put _ _ _ _ _ (rfl : _ = ![512 * (6 : Fin 16).val, 0]), View.read_writes_cons_put _ _ _ _ _ (rfl : _ = ![512 * (5 : Fin 16).val, 0]), View.read_writes_cons_put _ _ _ _ _ (rfl : _ = ![512 * (4 : Fin 16).val, 0]), View.read_writes_cons_put _ _ _ _ _ (rfl : _ = ![512 * (3 : Fin 16).val, 0]), View.read_writes_cons_put _ _ _ _ _ (rfl : _ = ![512 * (2 : Fin 16).val, 0]), View.read_writes_cons_put _ _ _ _ _ (rfl : _ = ![512 * (1 : Fin 16).val, 0]), View.read_writes_cons_put _ _ _ _ _ (rfl : _ = ![512 * (0 : Fin 16).val, 0]), View.writes_nil]
    try simp (proj := false) only [s14, s15, x0, x1, x2, x3, x4, x5, x6, x7, x8, x9, x10, x11, x12, x13, x14, x15]
    exact dqFill_all B.dqt _
  isplitl [H9]
  · iexists _; isplitr; swap; · iexact H9
    ipureintro
    sl_open_run
    refine (View.read_writes_full _ _ _ _ _).trans ?_
    try simp (proj := false) only [s14, s15, x0, x1, x2, x3, x4, x5, x6, x7, x8, x9, x10, x11, x12, x13, x14, x15, View.readCov_full, View.readAt_writes_full, View.read_writes_full]
    try rfl
  isplitl [H10]
  · iexists _; isplitr; swap; · iexact H10
    ipureintro
    sl_open_run
    refine (View.read_writes_full _ _ _ _ _).trans ?_
    try simp (proj := false) only [s14, s15, x0, x1, x2, x3, x4, x5, x6, x7, x8, x9, x10, x11, x12, x13, x14, x15, View.readCov_full, View.readAt_writes_full, View.read_writes_full]
    try rfl
  isplitl [H11]
  · iexists _; isplitr; swap; · iexact H11
    ipureintro
    sl_open_run
    refine (View.read_writes_full _ _ _ _ _).trans ?_
    rw [View.readAt_full, View.read_writes_cons_put _ _ _ _ _ ((k0_off29_eq i).trans (by rw [← eJ])), View.writes_nil, m16]
    try simp (proj := false) only [s14, s15, x0, x1, x2, x3, x4, x5, x6, x7, x8, x9, x10, x11, x12, x13, x14, x15]
    rfl
  isplitl [H12]
  · iexists _; isplitr; swap; · iexact H12
    ipureintro
    exact m12
  isplitl [H13]
  · iexists _; iexact H13
  isplitl [H14]
  · iexists _; iexact H14
  isplitl [H15]
  · iexists _; iexact H15
  isplitl [H16]
  · iexists _; isplitr; swap; · iexact H16
    ipureintro
    sl_open_run
    rw [View.read_writes_cons_put _ _ _ _ _ ((k0_off29_eq i).trans (by rw [← eJ])), View.writes_nil, m16]
    try simp (proj := false) only [s14, s15, x0, x1, x2, x3, x4, x5, x6, x7, x8, x9, x10, x11, x12, x13, x14, x15]
    rfl
  isplitl [H17]
  · iexists _; iexact H17
  isplitl [H18]
  · iexists _; iexact H18
  isplitl [H19]
  · iexists _; iexact H19
  isplitl [H20]
  · iexists _; iexact H20
  iexists _; iexact H21

end Cert.KernelIdeal.Fox

end
-- ==== Proof.FoxBwd.State.lean ====
/-
  The two accumulators that a head carries from key block to key block, the data of the pipeline, and what holds
  between two grid points.
-/
module

public import proofs.«01_k».proof.Proof.FoxBwd.BlockLast
public import proofs.«01_k».proof.Proof.Gen.KernelIdeal.Frame
public import proofs.«01_k».proof.Proof.Gen.KernelIdeal.Points

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat Cfg Window BodyObligation cellOf ΦA)
open VecWindow

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What grid point `t` reads. -/
def ctxAt (c : Dev nD) (t : Fin cfg0.N) : Ctx F :=
  ⟨iblk m c 0 t, iblk m c 1 t, iblk m c 2 t, iblk m c 3 t, iblk m c 4 t, iblk m c 5 t⟩

/-- The key block of grid point `t`. -/
def jAt (t : Fin cfg0.N) : Fin 16 := ⟨(cfg0.grid.coords t 1).val, (cfg0.grid.coords t 1).isLt⟩

theorem jAt_val : ∀ t : Fin cfg0.N, (jAt t).val = t.val % 16 := by decide +kernel
theorem coord_j (t : Fin cfg0.N) : (cfg0.grid.coords t 1).val = t.val % 16 := jAt_val t

/-- The head's two carried accumulators after the first `n` grid points. -/
def state (c : Dev nD) : ℕ → Vec F S128x8192 .f32 × Vec F S8x8192 .f32
  | 0 => (k0_pay108, k0_pay109)
  | n + 1 => if h : n < cfg0.N then
      ((blockAcc (ctxAt m c ⟨n, h⟩) (cfg0.grid.coords ⟨n, h⟩) (jAt ⟨n, h⟩) (state c n).1 (state c n).2).dqt,
        drOut (jAt ⟨n, h⟩) (blockAcc (ctxAt m c ⟨n, h⟩) (cfg0.grid.coords ⟨n, h⟩) (jAt ⟨n, h⟩) (state c n).1 (state c n).2))
    else state c n

/-- What grid point `t` leaves in the five accumulators. -/
def accAt (c : Dev nD) (t : Fin cfg0.N) : Acc F :=
  blockAcc (ctxAt m c t) (cfg0.grid.coords t) (jAt t) (state m c t.val).1 (state m c t.val).2

theorem state_succ (c : Dev nD) (t : Fin cfg0.N) :
    state m c (t.val + 1) = ((accAt m c t).dqt, drOut (jAt t) (accAt m c t)) := by
  rw [state, dif_pos t.isLt]; rfl

theorem blockAcc_zero (C : Ctx F) (i : grid0.Coords) (J : Fin 16) (h : (i 1).val = 0) (d d' : Vec F S128x8192 .f32)
    (r r' : Vec F S8x8192 .f32) : blockAcc C i J d r = blockAcc C i J d' r' := by
  unfold blockAcc dqt0 dra0
  rw [if_pos h, if_pos h, if_pos h, if_pos h]

/-- The block's result from what the point finds, which past the first point is what the point before left. -/
theorem accAt_of (c : Dev nD) (t : Fin cfg0.N) (d : Vec F S128x8192 .f32) (r : Vec F S8x8192 .f32)
    (hd : t.val ≠ 0 → d = (state m c t.val).1) (hr : t.val ≠ 0 → r = (state m c t.val).2) :
    blockAcc (ctxAt m c t) (cfg0.grid.coords t) (jAt t) d r = accAt m c t := by
  by_cases h : t.val = 0
  · exact blockAcc_zero _ _ _ (by rw [coord_j, h]) _ _ _ _
  · rw [hd h, hr h]; rfl

/-- Between points: the scratch buffers, the two carried ones at the state, and the generator's register. -/
def inv (c : Dev nD) (n : ℕ) : sProp 𝕄 :=
  iprop((∃ X, ⌜n ≠ 0 → X = (state m c n).1⌝ ∗ owns (c : Thread nD τ) (Memref.whole cc0_scratch0) fullShare X)
    ∗ (∃ X, owns (c : Thread nD τ) (Memref.whole cc0_scratch1) fullShare X)
    ∗ (∃ X, owns (c : Thread nD τ) (Memref.whole cc0_scratch2) fullShare X)
    ∗ (∃ X, owns (c : Thread nD τ) (Memref.whole cc0_scratch3) fullShare X)
    ∗ (∃ X, ⌜n ≠ 0 → X = (state m c n).2⌝ ∗ owns (c : Thread nD τ) (Memref.whole cc0_scratch4) fullShare X)
    ∗ (∃ X, owns (c : Thread nD τ) (Memref.whole cc0_scratch5) fullShare X)
    ∗ (∃ X, owns (c : Thread nD τ) (Memref.whole cc0_scratch6) fullShare X)
    ∗ (∃ X, owns (c : Thread nD τ) (Memref.whole cc0_scratch7) fullShare X)
    ∗ (∃ X, owns (c : Thread nD τ) (Memref.whole cc0_scratch8) fullShare X)
    ∗ (∃ X, owns (c : Thread nD τ) (Memref.whole cc0_scratch9) fullShare X)
    ∗ (∃ r, prngReg c r))

theorem inv_intro (c : Dev nD) : (ΦA spec0 c : sProp 𝕄) ⊢ inv m c 0 := by
  unfold ΦA inv
  simp only [owns_whole]
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, ⟨%r, HP⟩⟩
  isplitl [H0]
  · iexists f0; isplitr; · ipureintro; exact fun h => absurd rfl h
    iexact H0
  isplitl [H1]; · iexists f1; iexact H1
  isplitl [H2]; · iexists f2; iexact H2
  isplitl [H3]; · iexists f3; iexact H3
  isplitl [H4]
  · iexists f4; isplitr; · ipureintro; exact fun h => absurd rfl h
    iexact H4
  isplitl [H5]; · iexists f5; iexact H5
  isplitl [H6]; · iexists f6; iexact H6
  isplitl [H7]; · iexists f7; iexact H7
  isplitl [H8]; · iexists f8; iexact H8
  isplitl [H9]; · iexists f9; iexact H9
  iexists r; iexact HP

theorem inv_elim (c : Dev nD) (n : ℕ) : (inv m c n : sProp 𝕄) ⊢ ΦA spec0 c := by
  unfold ΦA inv
  simp only [owns_whole]
  rw [scopedRest0_eq]
  iintro ⟨⟨%f0, -, H0⟩, ⟨%f1, H1⟩, ⟨%f2, H2⟩, ⟨%f3, H3⟩, ⟨%f4, -, H4⟩, ⟨%f5, H5⟩, ⟨%f6, H6⟩, ⟨%f7, H7⟩, ⟨%f8, H8⟩, ⟨%f9, H9⟩, ⟨%r, HP⟩⟩
  isplitr [HP]
  · isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    isplitl [H6]; · iexists f6; iexact H6
    isplitl [H7]; · iexists f7; iexact H7
    isplitl [H8]; · iexists f8; iexact H8
    iexists f9; iexact H9
  iexists r; iexact HP

/-- The pipeline's data: the inputs' buffers keep their blocks; the key block's gradients are rounded out of the
    accumulators at every point, the head's query gradient and row sums at its last. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqOut (accAt m c t).dqt
    | ⟨7, _⟩ => k0_pay1 (k0_pay127 (accAt m c t).dka)
    | ⟨8, _⟩ => k0_pay2 (accAt m c t).dva
    | ⟨9, _⟩ => k0_pay93 (drOut (jAt t) (accAt m c t))
  Φ t := inv m c t.val
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqOut (accAt m c t).dqt := by dsimp only [dats]
theorem after0_7 (c : Dev nD) (t : Fin cfg0.N) : (dats m 0 c).after 7 t = k0_pay1 (k0_pay127 (accAt m c t).dka) := by dsimp only [dats]
theorem after0_8 (c : Dev nD) (t : Fin cfg0.N) : (dats m 0 c).after 8 t = k0_pay2 (accAt m c t).dva := by dsimp only [dats]
theorem after0_9 (c : Dev nD) (t : Fin cfg0.N) : (dats m 0 c).after 9 t = k0_pay93 (drOut (jAt t) (accAt m c t)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.KernelIdeal.Fox

end
-- ==== Proof.FoxValue.HostReads.lean ====
/-
  The host's operations before the kernel's call, read: the two rows of the operand as functions of the masked scores,
  and the masked scores over finite inputs.
-/
module

public import proofs.«01_k».proof.Proof.FoxValue.Inputs
public import proofs.«01_k».proof.Proof.FoxBwd.State
public import Idealize.ShloMosaic.Lib.StableHlo.ReadAt

@[expose] public section

set_option maxRecDepth 16384

noncomputable section

namespace Cert.KernelIdeal.Fox

open Idealize.ShloMosaic Idealize.ShloMosaic.TcCoe
open Cert.KernelIdeal Cert.KernelIdeal.Gen
open Cert.Fox

/-! The host's operations past the masked scores `A`, as functions. -/

/-- Each query's largest score. -/
def mx (A : FVec Ideal S8x8192x8192 .f32) : FVec Ideal S8x8192 .f32 :=
  Host.reduce FloatOps.maximumf A (constant S_ .f32 4286578688#32) reducesTo_S8x8192x8192_S8x8192_d2 h_S_
/-- The exponentials of the scores less it. -/
def exA (A : FVec Ideal S8x8192x8192 .f32) : FVec Ideal S8x8192x8192 .f32 :=
  Host.exp (subf A (broadcastInDim S8x8192x8192 ![0, 1, 2] bcast_S8x8192x1_S8x8192x8192_0_1_2
    (broadcastInDim S8x8192x1 ![0, 1] bcast_S8x8192_S8x8192x1_0_1 (mx A))))
/-- Their sums. -/
def smA (A : FVec Ideal S8x8192x8192 .f32) : FVec Ideal S8x8192 .f32 :=
  Host.reduceAdd (exA A) (constant S_ .f32 0#32) reducesTo_S8x8192x8192_S8x8192_d2 h_S_
/-- The first row. -/
def row0A (A : FVec Ideal S8x8192x8192 .f32) (c : FVec Ideal S8x8192 .f32) : FVec Ideal S8x1x8192 .f32 :=
  broadcastInDim S8x1x8192 ![0, 2] bcast_S8x8192_S8x1x8192_0_2 (subf c (addf (mx A) (Host.log (smA A))))
/-- The output. -/
def outA (A : FVec Ideal S8x8192x8192 .f32) (v : FVec Ideal S8192x8x128 .f32) : FVec Ideal S8192x8x128 .f32 :=
  transpose S8192x8x128 [2, 0, 1]
    (Host.dotGeneral dot_S8192x8x128_S8x8192x8192_S8x128x8192_0_2_2_1_1_0 none v
      (Host.divf (exA A) (broadcastInDim S8x8192x8192 ![0, 1, 2] bcast_S8x8192x1_S8x8192x8192_0_1_2
        (broadcastInDim S8x8192x1 ![0, 1] bcast_S8x8192_S8x8192x1_0_1 (smA A)))))
    transposes_S8x128x8192_S8192x8x128_2_0_1
/-- The second row. -/
def row1A (A : FVec Ideal S8x8192x8192 .f32) (v : FVec Ideal S8192x8x128 .f32) (g : FVec Ideal S8192x1024 .bf16) : FVec Ideal S8x1x8192 .f32 :=
  broadcastInDim S8x1x8192 ![0, 2] bcast_S8x8192_S8x1x8192_0_2
    (transpose S8x8192 [1, 0]
      (Host.reduceAdd
        (mulf (shapeCast S8192x8x128 (extf .f32 g bitsLt_bf16_f32) shapeCasts_S8192x1024_S8192x8x128) (outA A v))
        (constant S_ .f32 0#32) reducesTo_S8192x8x128_S8192x8_d2 h_S_)
      transposes_S8192x8_S8x8192_1_0)

section Reads
variable (W : Valuation τ sig (Elt Ideal)) (h : Fin 8) (t u : Fin 8192)

theorem read_row0 : StableHlo.after (τ := τ) (sig := sig) (Val := Elt Ideal) hostOps0_2 W main_v46 (ix3 h 0 t)
    = row0A (W main_v23) (W main_v7) (ix3 h 0 t) := by
  after_reads_simp
  all_goals try simp -implicitDefEqProofs only [StableHlo.TRef.toBuf, StableHlo.TRef.ofBuf, cast_cast, cast_eq]
  all_goals clean_types
  generalize hR : row0A (W main_v23) (W main_v7) (ix3 h 0 t) = R
  pointwise
  after_reads_simp
  all_goals try simp -implicitDefEqProofs only [StableHlo.TRef.toBuf, StableHlo.TRef.ofBuf, cast_cast, cast_eq]
  all_goals clean_types
  exact hR

theorem read_row1 : StableHlo.after (τ := τ) (sig := sig) (Val := Elt Ideal) hostOps0_2 W main_v46 (ix3 h 1 t)
    = row1A (W main_v23) (W main_v6) (W main_arg1) (ix3 h 0 t) := by
  after_reads_simp
  all_goals try simp -implicitDefEqProofs only [StableHlo.TRef.toBuf, StableHlo.TRef.ofBuf, cast_cast, cast_eq]
  all_goals clean_types
  generalize hR : row1A (W main_v23) (W main_v6) (W main_arg1) (ix3 h 0 t) = R
  pointwise
  after_reads_simp
  all_goals try simp -implicitDefEqProofs only [StableHlo.TRef.toBuf, StableHlo.TRef.ofBuf, cast_cast, cast_eq]
  all_goals clean_types
  exact hR

theorem read_mask : StableHlo.after (τ := τ) (sig := sig) (Val := Elt Ideal) hostOps0_1 W main_v23 (ix3 h t u)
    = (Scalar.select (W main_v22 (ix2 t u) : BitVec 1) (W main_v16 (ix3 h t u) : EReal) (W main_cst_0 ix0 : EReal) : EReal) := by
  after_reads_at
  rfl

variable (hx : Finite (W main_arg0) (W main_arg1) (W main_arg2))

/-- The head of the arrays in `W`. -/
abbrev hdW : Head := headOf (W main_arg0) (W main_arg1) (W main_arg2) h

include hx in
theorem read_scores : StableHlo.after (τ := τ) (sig := sig) (Val := Elt Ideal) hostOps0 W main_v16 (ix3 h t u) = ((hdW W h).s t.val u.val : EReal) := by
  after_reads_at
  rw [show Ideal.ofBits FTy.f32 1035273459#32 = _ from σ_coe (x0 := W main_arg0) (x1 := W main_arg1) (x2 := W main_arg2) h]
  refine (congrArg₂ (fun a b : EReal => a + b) (congrArg (fun a : EReal => a * _) (Finset.sum_congr rfl fun x _ => congrArg₂ (fun a b : EReal => a * b)
    (q_coe hx h t x _ (by show h.val * 128 + x.val = _; omega)) (k_coe hx h u x _ (by show 1024 + (h.val * 128 + x.val) = _; omega))))
    (congrArg₂ (fun a b : EReal => a - b) (c_coe hx h t) (c_coe hx h u))).trans ?_
  simp only [← EReal.coe_mul, ← coe_sum, ← EReal.coe_sub, ← EReal.coe_add]
  rfl

theorem read_seen : StableHlo.after (τ := τ) (sig := sig) (Val := Elt Ideal) hostOps0 W main_v22 (ix2 t u)
    = BitVec.ofBool (decide (u.val ≤ t.val)) := by
  after_reads_at
  exact mask_word u t

theorem read_bot : StableHlo.after (τ := τ) (sig := sig) (Val := Elt Ideal) hostOps0 W main_cst_0 ix0 = (⊥ : EReal) := by
  after_reads_at
  exact neg_inf_word

include hx in
theorem read_v (d : Fin 128) : StableHlo.after (τ := τ) (sig := sig) (Val := Elt Ideal) hostOps0 W main_v6 (ix3 t h d) = ((hdW W h).v t.val d : EReal) := by
  after_reads_at
  exact v_coe hx h t d _ (by show 2048 + (h.val * 128 + d.val) = _; omega)

include hx in
theorem read_c : StableHlo.after (τ := τ) (sig := sig) (Val := Elt Ideal) hostOps0 W main_v7 (ix2 h t) = ((hdW W h).c t.val : EReal) := by
  after_reads_at
  exact c_coe hx h t

theorem keep_v : StableHlo.after (τ := τ) (sig := sig) (Val := Elt Ideal) hostOps0_1 W main_v6 = W main_v6 := by
  after_reads_simp
theorem keep_c : StableHlo.after (τ := τ) (sig := sig) (Val := Elt Ideal) hostOps0_1 W main_v7 = W main_v7 := by
  after_reads_simp
theorem keep_g : StableHlo.after (τ := τ) (sig := sig) (Val := Elt Ideal) hostOps0_1 W main_arg1 = W main_arg1 := by
  after_reads_simp
theorem keep_g0 : StableHlo.after (τ := τ) (sig := sig) (Val := Elt Ideal) hostOps0 W main_arg1 = W main_arg1 := by
  after_reads_simp

include hx in
/-- The masked scores. -/
theorem read_masked : StableHlo.after (τ := τ) (sig := sig) (Val := Elt Ideal) hostOps0_1
    (StableHlo.after (τ := τ) (sig := sig) (Val := Elt Ideal) hostOps0 W) main_v23 (ix3 h t u) = scoreAt (hdW W h) t.val u.val := by
  rw [read_mask, read_seen, read_scores W h t u hx, read_bot, select_word]
  rfl

end Reads

end Cert.KernelIdeal.Fox

end
-- ==== Proof.FoxValue.HostRows.lean ====
/-
  The rows the host hands the kernel, over finite inputs: the summed gates less the logarithm of each query's sum of
  exponentials, and the output's gradient against the output.
-/
module

public import proofs.«01_k».proof.Proof.FoxValue.HostReads

@[expose] public section

set_option maxRecDepth 16384

noncomputable section

namespace Cert.KernelIdeal.Fox

open Idealize.ShloMosaic Idealize.ShloMosaic.TcCoe
open Cert.KernelIdeal Cert.KernelIdeal.Gen
open Cert.Fox

/-! The functions at an index. -/

section At
variable {Hd : Fin 8 → Head} {A : FVec Ideal S8x8192x8192 .f32} (hA : ∀ h t u, A (ix3 h t u) = scoreAt (Hd h) t.val u.val)
  (h : Fin 8) (t u : Fin 8192) (d : Fin 128)

include hA in
theorem mx_at : mx A (ix2 h t) = (top (Hd h) t : EReal) := by
  unfold mx
  refine (reduceMax_at _ _ _ _ h t).trans ?_
  rw [← top_eq]
  simp only [hA]
  exact congrArg (fun b => Finset.univ.fold max b fun u : Fin 8192 => scoreAt (Hd h) t.val u.val) neg_inf_word

theorem exp_sub_at (A : FVec Ideal S8x8192x8192 .f32) (B : FVec Ideal S8x8192 .f32) :
    Host.exp (subf A (broadcastInDim S8x8192x8192 ![0, 1, 2] bcast_S8x8192x1_S8x8192x8192_0_1_2
      (broadcastInDim S8x8192x1 ![0, 1] bcast_S8x8192_S8x8192x1_0_1 B))) (ix3 h t u)
      = Ideal.exp (A (ix3 h t u) - B (ix2 h t)) := by
  pointwise

theorem exA_eq : exA A (ix3 h t u) = Ideal.exp (A (ix3 h t u) - mx A (ix2 h t)) := by
  exact exp_sub_at h t u A (mx A)

include hA in
theorem exA_at : exA A (ix3 h t u) = (ex (Hd h) t u.val : EReal) := by
  rw [exA_eq, hA, mx_at hA]
  exact exp_score _ t u.val

theorem reduce_at (B : FVec Ideal S8x8192x8192 .f32) :
    Host.reduceAdd B (constant S_ .f32 0#32) reducesTo_S8x8192x8192_S8x8192_d2 h_S_ (ix2 h t) = ∑ u : Fin 8192, B (ix3 h t u) := by
  pointwise

include hA in
theorem smA_at : smA A (ix2 h t) = (exSum (Hd h) t : EReal) := by
  refine (reduce_at h t (exA A)).trans ?_
  simp only [exA_at hA]
  exact sum_coe _

theorem sub_log_at (B C c : FVec Ideal S8x8192 .f32) :
    broadcastInDim S8x1x8192 ![0, 2] bcast_S8x8192_S8x1x8192_0_2 (subf c (addf B (Host.log C))) (ix3 h 0 t)
      = c (ix2 h t) - (B (ix2 h t) + Ideal.log (C (ix2 h t))) := by
  pointwise

theorem row0_eq (c : FVec Ideal S8x8192 .f32) :
    row0A A c (ix3 h 0 t) = c (ix2 h t) - (mx A (ix2 h t) + Ideal.log (smA A (ix2 h t))) :=
  sub_log_at h t (mx A) (smA A) c

include hA in
theorem row0_at (c : FVec Ideal S8x8192 .f32) (hc : c (ix2 h t) = ((Hd h).c t.val : EReal)) :
    row0A A c (ix3 h 0 t) = (((Hd h).c t.val - Real.log ((Hd h).z t.val) : ℝ) : EReal) := by
  rw [row0_eq, hc, mx_at hA, smA_at hA, Ideal.log_coe, if_neg (exSum_pos (Hd h) t).not_ge, ← EReal.coe_add, ← EReal.coe_sub, top_log]

theorem div_dot_at (B : FVec Ideal S8x8192x8192 .f32) (C : FVec Ideal S8x8192 .f32) (v : FVec Ideal S8192x8x128 .f32) :
    transpose S8192x8x128 [2, 0, 1]
      (Host.dotGeneral dot_S8192x8x128_S8x8192x8192_S8x128x8192_0_2_2_1_1_0 none v
        (Host.divf B (broadcastInDim S8x8192x8192 ![0, 1, 2] bcast_S8x8192x1_S8x8192x8192_0_1_2
          (broadcastInDim S8x8192x1 ![0, 1] bcast_S8x8192_S8x8192x1_0_1 C))))
      transposes_S8x128x8192_S8192x8x128_2_0_1 (ix3 t h d)
      = ∑ u : Fin 8192, v (ix3 u h d) * Ideal.div (B (ix3 h t u)) (C (ix2 h t)) := by
  pointwise

theorem outA_eq (v : FVec Ideal S8192x8x128 .f32) :
    outA A v (ix3 t h d) = ∑ u : Fin 8192, v (ix3 u h d) * Ideal.div (exA A (ix3 h t u)) (smA A (ix2 h t)) :=
  div_dot_at h t d (exA A) (smA A) v

include hA in
theorem outA_at (v : FVec Ideal S8192x8x128 .f32) (hv : ∀ u : Fin 8192, v (ix3 u h d) = ((Hd h).v u.val d : EReal)) :
    outA A v (ix3 t h d) = ((Hd h).o t.val d : EReal) := by
  rw [outA_eq]
  refine (Finset.sum_congr rfl fun u _ => ?_).trans (sum_coe fun u => (Hd h).p t.val u * (Hd h).v u d)
  rw [hv, exA_at hA, smA_at hA, div_coe _ _ (exSum_pos _ t).ne', ex_div, ← EReal.coe_mul, mul_comm]

theorem mul_sum_at (B : FVec Ideal S8192x8x128 .f32) (g : FVec Ideal S8192x1024 .bf16) :
    broadcastInDim S8x1x8192 ![0, 2] bcast_S8x8192_S8x1x8192_0_2
      (transpose S8x8192 [1, 0]
        (Host.reduceAdd
          (mulf (shapeCast S8192x8x128 (extf .f32 g bitsLt_bf16_f32) shapeCasts_S8192x1024_S8192x8x128) B)
          (constant S_ .f32 0#32) reducesTo_S8192x8x128_S8192x8_d2 h_S_)
        transposes_S8192x8_S8x8192_1_0) (ix3 h 0 t)
      = ∑ d : Fin 128, g (ix2 t ⟨h.val * 128 + d.val, by omega⟩) * B (ix3 t h d) := by
  pointwise

theorem row1_eq (v : FVec Ideal S8192x8x128 .f32) (g : FVec Ideal S8192x1024 .bf16) :
    row1A A v g (ix3 h 0 t) = ∑ d : Fin 128, g (ix2 t ⟨h.val * 128 + d.val, by omega⟩) * outA A v (ix3 t h d) :=
  mul_sum_at h t (outA A v) g

include hA in
theorem row1_at (v : FVec Ideal S8192x8x128 .f32) (hv : ∀ (u : Fin 8192) (d : Fin 128), v (ix3 u h d) = ((Hd h).v u.val d : EReal))
    (g : FVec Ideal S8192x1024 .bf16) (hg : ∀ (d : Fin 128) (y : Fin 1024), y.val = 128 * h.val + d.val → g (ix2 t y) = ((Hd h).g t.val d : EReal)) :
    row1A A v g (ix3 h 0 t) = ((Hd h).delta t.val : EReal) := by
  rw [row1_eq]
  refine (Finset.sum_congr rfl fun d _ => ?_).trans (coe_sum _ fun d => (Hd h).g t.val d * (Hd h).o t.val d).symm
  rw [hg d _ (by show h.val * 128 + d.val = _; omega), outA_at hA h t d v fun u => hv u d, ← EReal.coe_mul]

end At

/-! The kernel's operand. -/

variable (m : (ℓ : Loc nD τ sig) → Buf (Elt Ideal) ℓ) (c : Dev nD)

theorem V_eq (b : Ref sig .tc) : V m c b = StableHlo.after (τ := τ) (sig := sig) (Val := Elt Ideal) hostOps0_2
    (StableHlo.after hostOps0_1 (StableHlo.after hostOps0 fun b => m (c, b))) b := by
  unfold V
  rw [List.flatten_cons, List.flatten_cons, List.flatten_cons, List.flatten_nil, List.append_nil, StableHlo.after_append, StableHlo.after_append]

variable (hx : Finite (m ((c : Thread nD τ).loc main_arg0)) (m ((c : Thread nD τ).loc main_arg1)) (m ((c : Thread nD τ).loc main_arg2)))
  (h : Fin 8) (t : Fin 8192)

/-- Head `h` of device `c`'s arrays. -/
abbrev hdM : Head := headOf (m ((c : Thread nD τ).loc main_arg0)) (m ((c : Thread nD τ).loc main_arg1)) (m ((c : Thread nD τ).loc main_arg2)) h

include hx in
theorem V_row0 : V m c main_v46 (ix3 h 0 t) = (((hdM m c h).c t.val - Real.log ((hdM m c h).z t.val) : ℝ) : EReal) := by
  rw [V_eq, read_row0]
  refine row0_at (Hd := hdM m c) (fun h t u => read_masked (fun b => m (c, b)) h t u hx) h t _ ?_
  rw [keep_c]
  exact read_c (fun b => m (c, b)) h t hx

include hx in
theorem V_row1 : V m c main_v46 (ix3 h 1 t) = ((hdM m c h).delta t.val : EReal) := by
  rw [V_eq, read_row1]
  refine row1_at (Hd := hdM m c) (fun h t u => read_masked (fun b => m (c, b)) h t u hx) h t _ (fun u d => ?_) _ fun d y hy => ?_
  · rw [keep_v]
    exact read_v (fun b => m (c, b)) h u hx d
  · rw [keep_g, keep_g0]
    exact g_coe hx h t d y hy

end Cert.KernelIdeal.Fox

end
-- ==== Proof.FoxValue.Pays.lean ====
/-
  The payloads of the attention backward kernel at an index, over the extended reals.
-/
module

public import proofs.«01_k».proof.Proof.FoxBwd.Out
public import Idealize.ShloMosaic.Lib.Pointwise

@[expose] public section

set_option maxRecDepth 16384

noncomputable section

namespace Cert.KernelIdeal.Fox

open Idealize.ShloMosaic
open Cert.KernelIdeal Cert.KernelIdeal.Gen
open VecWindow

/-- The word of the scale `1/√128`, as an extended real. -/
abbrev scaleWord : EReal := Ideal.ofBits FTy.f32 0x3DB504F3#32

theorem pay11_apply (k q : Vec Ideal S512x128 .bf16) (r : Vec Ideal S1x1x512 .f32) (c : Vec Ideal S512x512 .f32) (a b : Fin 512) :
    k0_pay11 k q r c (ix2 a b) = (∑ x, k (ix2 a x) * q (ix2 b x)) * scaleWord + (r (ix3 0 0 b) - c (ix2 a b)) := by
  pointwise [k0_pay11]

theorem pay111_apply (c : Vec Ideal S1x512x1 .f32) (a b : Fin 512) : k0_pay111 c (ix2 a b) = c (ix3 0 a 0) := by
  pointwise [k0_pay111]

theorem pay12_apply (v g : Vec Ideal S512x128 .bf16) (r : Vec Ideal S1x1x512 .f32) (a b : Fin 512) :
    k0_pay12 v g r (ix2 a b) = (∑ x, v (ix2 a x) * g (ix2 b x)) - r (ix3 0 0 b) := by
  pointwise [k0_pay12]

theorem mask_word (a b : Fin 512) : IntOp.cmpi CmpIPredicate.sle (BitVec.ofNat 32 a.val) (BitVec.ofNat 32 b.val) = BitVec.ofBool (decide (a.val ≤ b.val)) := by
  have ha := a.isLt
  have hb := b.isLt
  have e : BitVec.sle (BitVec.ofNat 32 a.val) (BitVec.ofNat 32 b.val) = decide (a.val ≤ b.val) := by
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat]
    refine decide_eq_decide.mpr ?_
    omega
  unfold IntOp.cmpi
  exact congrArg BitVec.ofBool e

theorem pay75_apply (s : Vec Ideal S512x512 .f32) (a b : Fin 512) :
    k0_pay75 s (ix2 a b) = if a.val ≤ b.val then s (ix2 a b) else ⊥ := by
  pointwise [k0_pay75]
  rw [mask_word]
  by_cases h : a.val ≤ b.val
  · rw [if_pos h, decide_eq_true h]; rfl
  · rw [if_neg h, decide_eq_false h]; rfl

theorem pay14_apply (s : Vec Ideal S512x512 .f32) (v : Vec Ideal S512x128 .f32) (g : Vec Ideal S512x128 .bf16) (a : Fin 512) (d : Fin 128) :
    k0_pay14 s v g (ix2 a d) = v (ix2 a d) + ∑ x, Ideal.exp (s (ix2 a x)) * g (ix2 x d) := by
  pointwise [k0_pay14, k0_pay13]

theorem pay16_apply (s p : Vec Ideal S512x512 .f32) (v : Vec Ideal S512x128 .f32) (a : Fin 512) (d : Fin 128) :
    k0_pay16 s p v (ix2 a d) = v (ix2 a d) +
      (Ideal.exp (s (ix2 a ⟨d.val, by omega⟩)) * p (ix2 a ⟨d.val, by omega⟩)
        + Ideal.exp (s (ix2 a ⟨128 + d.val, by omega⟩)) * p (ix2 a ⟨128 + d.val, by omega⟩)
        + Ideal.exp (s (ix2 a ⟨256 + d.val, by omega⟩)) * p (ix2 a ⟨256 + d.val, by omega⟩)
        + Ideal.exp (s (ix2 a ⟨384 + d.val, by omega⟩)) * p (ix2 a ⟨384 + d.val, by omega⟩)) := by
  pointwise [k0_pay16, k0_pay15, k0_pay13]

theorem pay17_apply (s p : Vec Ideal S512x512 .f32) (v : Vec Ideal S1x512 .f32) (b : Fin 512) :
    k0_pay17 s p v (ix2 0 b) = v (ix2 0 b) + ∑ x, Ideal.exp (s (ix2 x b)) * p (ix2 x b) := by
  pointwise [k0_pay17, k0_pay15, k0_pay13]

theorem pay20_apply (s p : Vec Ideal S512x512 .f32) (u : Vec Ideal S512x128 .f32) (q : Vec Ideal S512x128 .bf16) (a : Fin 512) (d : Fin 128) :
    k0_pay20 u (k0_pay19 s p q) (ix2 a d) = u (ix2 a d) + ∑ x, Ideal.exp (s (ix2 a x)) * p (ix2 a x) * q (ix2 x d) := by
  pointwise [k0_pay20, k0_pay19, k0_pay18, k0_pay15, k0_pay13]

theorem pay21_apply (s p : Vec Ideal S512x512 .f32) (k : Vec Ideal S512x128 .bf16) (u : Vec Ideal S128x512 .f32) (d : Fin 128) (b : Fin 512) :
    k0_pay21 (k0_pay110 k) (k0_pay18 s p) u (ix2 d b) = u (ix2 d b) + ∑ x, k (ix2 x d) * (Ideal.exp (s (ix2 x b)) * p (ix2 x b)) := by
  pointwise [k0_pay21, k0_pay110, k0_pay18, k0_pay15, k0_pay13]

theorem pay3_apply (v : Vec Ideal S512x128 .f32) (a : Fin 512) : k0_pay3 v (ix2 0 a) = 0 - ∑ x, v (ix2 a x) := by
  pointwise [k0_pay3]

theorem pay94_apply (v : Vec Ideal S128x512 .f32) (a : Fin 512) (d : Fin 128) : k0_pay94 v (ix2 a d) = v (ix2 d a) * scaleWord := by
  pointwise [k0_pay94]

theorem pay1_apply (v : Vec Ideal S512x128 .f32) (a : Fin 512) (d : Fin 128) :
    k0_pay1 (k0_pay127 v) (ix2 a d) = v (ix2 a d) * scaleWord := by
  pointwise [k0_pay1, k0_pay127]

theorem pay2_apply (v : Vec Ideal S512x128 .f32) (a : Fin 512) (d : Fin 128) : k0_pay2 v (ix2 a d) = v (ix2 a d) := by
  pointwise [k0_pay2]

theorem pay93_apply (v : Vec Ideal S8x8192 .f32) (a : Fin 8) (d : Fin 8192) : k0_pay93 v (ix3 0 a d) = v (ix2 a d) := by
  pointwise [k0_pay93]

theorem pay108_apply (i : S128x8192.Idx) : k0_pay108 (F := Ideal) i = 0 := by pointwise [k0_pay108]
theorem pay109_apply (i : S8x8192.Idx) : k0_pay109 (F := Ideal) i = 0 := by pointwise [k0_pay109]
theorem pay112_apply (i : S512x128.Idx) : k0_pay112 (F := Ideal) i = 0 := by pointwise [k0_pay112]
theorem pay113_apply (i : S512x128.Idx) : k0_pay113 (F := Ideal) i = 0 := by pointwise [k0_pay113]
theorem pay114_apply (i : S512x128.Idx) : k0_pay114 (F := Ideal) i = 0 := by pointwise [k0_pay114]

end Cert.KernelIdeal.Fox

end
-- ==== Proof.FoxValue.Absorb.lean ====
/-
  What absorbing one query block does to the accumulators, over finite inputs: every entry stays a real number, and
  the sums gain the block's terms.
-/
module

public import proofs.«01_k».proof.Proof.FoxValue.Pays
public import proofs.«01_k».proof.Proof.FoxValue.Head

@[expose] public section

set_option maxRecDepth 16384

noncomputable section

namespace Cert.KernelIdeal.Fox

open Idealize.ShloMosaic
open Cert.KernelIdeal Cert.KernelIdeal.Gen
open VecWindow
open Cert.Fox (Head coe_sum sum_block sum_range_of_zero)

theorem blk_lt (n : Fin 16) (b : Fin 512) : 512 * n.val + b.val < 8192 := by omega

/-! Windows and writes at an index. -/

theorem window_q (x : S8192x128.Idx → EReal) (n : Fin 16) (b : Fin 512) (d : Fin 128) :
    window x ![512 * n.val, 0] S512x128.size (inbRow n) (ix2 b d) = x (ix2 ⟨512 * n.val + b.val, blk_lt n b⟩ d) :=
  congrArg x (funext fun a => Fin.ext (by
    match a with
    | ⟨0, _⟩ => show 512 * n.val + 1 * b.val = 512 * n.val + b.val; omega
    | ⟨1, _⟩ => show 0 + 1 * d.val = d.val; omega))

theorem window_row0 (x : S1x8x8192.Idx → EReal) (n : Fin 16) (b : Fin 512) :
    window x ![0, 0, 512 * n.val] S1x1x512.size (inbA n) (ix3 0 0 b) = x (ix3 0 0 ⟨512 * n.val + b.val, blk_lt n b⟩) :=
  congrArg x (funext fun a => Fin.ext (by
    match a with
    | ⟨0, _⟩ => rfl
    | ⟨1, _⟩ => rfl
    | ⟨2, _⟩ => show 512 * n.val + 1 * b.val = 512 * n.val + b.val; omega))

theorem window_row1 (x : S1x8x8192.Idx → EReal) (n : Fin 16) (b : Fin 512) :
    window x ![0, 1, 512 * n.val] S1x1x512.size (inbD n) (ix3 0 0 b) = x (ix3 0 1 ⟨512 * n.val + b.val, blk_lt n b⟩) :=
  congrArg x (funext fun a => Fin.ext (by
    match a with
    | ⟨0, _⟩ => rfl
    | ⟨1, _⟩ => rfl
    | ⟨2, _⟩ => show 512 * n.val + 1 * b.val = 512 * n.val + b.val; omega))

theorem window_col (x : S128x8192.Idx → EReal) (n : Fin 16) (d : Fin 128) (b : Fin 512) :
    window x ![0, 512 * n.val] S128x512.size (inbCol n) (ix2 d b) = x (ix2 d ⟨512 * n.val + b.val, blk_lt n b⟩) :=
  congrArg x (funext fun a => Fin.ext (by
    match a with
    | ⟨0, _⟩ => show 0 + 1 * d.val = d.val; omega
    | ⟨1, _⟩ => show 512 * n.val + 1 * b.val = 512 * n.val + b.val; omega))

theorem window_line (x : S8x8192.Idx → EReal) (n : Fin 16) (b : Fin 512) :
    window x ![0, 512 * n.val] S1x512.size (inbLine n) (ix2 0 b) = x (ix2 0 ⟨512 * n.val + b.val, blk_lt n b⟩) :=
  congrArg x (funext fun a => Fin.ext (by
    match a with
    | ⟨0, _⟩ => rfl
    | ⟨1, _⟩ => show 512 * n.val + 1 * b.val = 512 * n.val + b.val; omega))

theorem put_col (x : S128x8192.Idx → EReal) (n : Fin 16) (w : S128x512.Idx → EReal) (d : Fin 128) (t : Fin 8192) :
    put x ![0, 512 * n.val] S128x512.size w (ix2 d t)
      = if h : 512 * n.val ≤ t.val ∧ t.val < 512 * n.val + 512 then w (ix2 d ⟨t.val - 512 * n.val, by omega⟩) else x (ix2 d t) := by
  unfold put
  by_cases h : 512 * n.val ≤ t.val ∧ t.val < 512 * n.val + 512
  · have h' : ∀ a : Fin 2, (![0, 512 * n.val] : Fin 2 → ℕ) a ≤ (ix2 d t a).val ∧ (ix2 d t a).val < (![0, 512 * n.val] : Fin 2 → ℕ) a + S128x512.size a := fun a => by
      match a with
      | ⟨0, _⟩ => exact ⟨Nat.zero_le _, by show d.val < 0 + 128; omega⟩
      | ⟨1, _⟩ => exact h
    rw [dif_pos h', dif_pos h]
    refine congrArg w (funext fun a => Fin.ext ?_)
    match a with
    | ⟨0, _⟩ => show d.val - 0 = d.val; omega
    | ⟨1, _⟩ => rfl
  · rw [dif_neg h, dif_neg fun h' => h (h' 1)]

theorem put_line (x : S8x8192.Idx → EReal) (r₀ : Fin 8) (n : Fin 16) (w : S1x512.Idx → EReal) (r : Fin 8) (t : Fin 8192) :
    put x ![r₀.val, 512 * n.val] S1x512.size w (ix2 r t)
      = if h : r = r₀ ∧ 512 * n.val ≤ t.val ∧ t.val < 512 * n.val + 512 then w (ix2 0 ⟨t.val - 512 * n.val, by omega⟩) else x (ix2 r t) := by
  unfold put
  by_cases h : r = r₀ ∧ 512 * n.val ≤ t.val ∧ t.val < 512 * n.val + 512
  · have h' : ∀ a : Fin 2, (![r₀.val, 512 * n.val] : Fin 2 → ℕ) a ≤ (ix2 r t a).val ∧ (ix2 r t a).val < (![r₀.val, 512 * n.val] : Fin 2 → ℕ) a + S1x512.size a := fun a => by
      match a with
      | ⟨0, _⟩ => exact ⟨by show r₀.val ≤ r.val; rw [h.1], by show r.val < r₀.val + 1; rw [h.1]; omega⟩
      | ⟨1, _⟩ => exact h.2
    rw [dif_pos h', dif_pos h]
    refine congrArg w (funext fun a => Fin.ext ?_)
    match a with
    | ⟨0, _⟩ => show r.val - r₀.val = 0; rw [h.1]; omega
    | ⟨1, _⟩ => rfl
  · rw [dif_neg h, dif_neg fun h' => h ⟨Fin.ext (by
      have h0 : r₀.val ≤ r.val ∧ r.val < r₀.val + 1 := h' 0
      omega), h' 1⟩]

/-- What a grid point reads is head `H`'s, at key block `j`. -/
structure Ctx.Is (C : Ctx Ideal) (H : Head) (j : ℕ) : Prop where
  k : ∀ (a : Fin 512) (d : Fin 128), C.k (ix2 a d) = (H.k (512 * j + a.val) d : EReal)
  v : ∀ (a : Fin 512) (d : Fin 128), C.v (ix2 a d) = (H.v (512 * j + a.val) d : EReal)
  q : ∀ (t : Fin 8192) (d : Fin 128), C.q (ix2 t d) = (H.q t.val d : EReal)
  g : ∀ (t : Fin 8192) (d : Fin 128), C.g (ix2 t d) = (H.g t.val d : EReal)
  row0 : ∀ t : Fin 8192, C.rows (ix3 0 0 t) = ((H.c t.val - Real.log (H.z t.val) : ℝ) : EReal)
  row1 : ∀ t : Fin 8192, C.rows (ix3 0 1 t) = (H.delta t.val : EReal)
  cc : ∀ a : Fin 512, C.cc (ix3 0 a 0) = (H.c (512 * j + a.val) : EReal)
  σ : scaleWord = (H.σ : EReal)

theorem qb_apply (C : Ctx Ideal) (n : Fin 16) (b : Fin 512) (d : Fin 128) : C.qb n (ix2 b d) = C.q (ix2 ⟨512 * n.val + b.val, blk_lt n b⟩ d) := window_q _ _ _ _
theorem gb_apply (C : Ctx Ideal) (n : Fin 16) (b : Fin 512) (d : Fin 128) : C.gb n (ix2 b d) = C.g (ix2 ⟨512 * n.val + b.val, blk_lt n b⟩ d) := window_q _ _ _ _
theorem ar_apply (C : Ctx Ideal) (n : Fin 16) (b : Fin 512) : C.ar n (ix3 0 0 b) = C.rows (ix3 0 0 ⟨512 * n.val + b.val, blk_lt n b⟩) := window_row0 _ _ _
theorem dr_apply (C : Ctx Ideal) (n : Fin 16) (b : Fin 512) : C.dr n (ix3 0 0 b) = C.rows (ix3 0 1 ⟨512 * n.val + b.val, blk_lt n b⟩) := window_row1 _ _ _

variable {C : Ctx Ideal} {H : Head} {j : ℕ}

/-- The scores of key block `j` against query block `n`, less the logarithm of the sum. -/
theorem scS_is (hC : C.Is H j) (n : Fin 16) (a b : Fin 512) :
    C.scS n (ix2 a b) = ((H.s (512 * n.val + b.val) (512 * j + a.val) - Real.log (H.z (512 * n.val + b.val)) : ℝ) : EReal) := by
  unfold Ctx.scS
  rw [pay11_apply, pay111_apply, ar_apply, hC.row0, hC.cc, hC.σ]
  simp only [qb_apply, hC.k, hC.q]
  simp only [← EReal.coe_mul, ← coe_sum, ← EReal.coe_sub, ← EReal.coe_add]
  refine congrArg _ ?_
  unfold Head.s
  rw [Finset.sum_congr rfl fun d _ => mul_comm (H.k (512 * j + a.val) d) (H.q (512 * n.val + b.val) d)]
  ring

theorem scP_is (hC : C.Is H j) (n : Fin 16) (a b : Fin 512) :
    C.scP n (ix2 a b) = ((H.dp (512 * n.val + b.val) (512 * j + a.val) - H.delta (512 * n.val + b.val) : ℝ) : EReal) := by
  unfold Ctx.scP
  rw [pay12_apply, dr_apply, hC.row1]
  simp only [gb_apply, hC.v, hC.g]
  simp only [← EReal.coe_mul, ← coe_sum, ← EReal.coe_sub]
  refine congrArg _ ?_
  unfold Head.dp
  rw [Finset.sum_congr rfl fun d _ => mul_comm (H.v (512 * j + a.val) d) (H.g (512 * n.val + b.val) d)]

/-- The accumulators after the query blocks before `n`, of key block `j`; `R` is what the other rows of the head's row sums hold. -/
structure Acc.Is (A : Acc Ideal) (H : Head) (j n : ℕ) (R : Fin 8 → Fin 8192 → EReal) : Prop where
  dva : ∀ (a : Fin 512) (d : Fin 128), A.dva (ix2 a d) = ((∑ t ∈ Finset.range (512 * n), H.p t (512 * j + a.val) * H.g t d : ℝ) : EReal)
  dka : ∀ (a : Fin 512) (d : Fin 128), A.dka (ix2 a d) = ((∑ t ∈ Finset.range (512 * n), H.ds t (512 * j + a.val) * H.q t d : ℝ) : EReal)
  dca : ∃ y : Fin 512 → Fin 128 → ℝ, (∀ a d, A.dca (ix2 a d) = (y a d : EReal)) ∧ ∀ a, ∑ d, y a d = ∑ t ∈ Finset.range (512 * n), H.ds t (512 * j + a.val)
  dqt : ∀ (d : Fin 128) (t : Fin 8192), A.dqt (ix2 d t)
    = ((∑ u ∈ Finset.range (512 * (if t.val < 512 * n then j + 1 else j)), H.k u d * H.ds t.val u : ℝ) : EReal)
  dra : ∀ t : Fin 8192, A.dra (ix2 0 t)
    = ((∑ u ∈ Finset.range (512 * (if t.val < 512 * n then j + 1 else j)), H.ds t.val u : ℝ) : EReal)
  rest : ∀ (r : Fin 8) (t : Fin 8192), r ≠ 0 → A.dra (ix2 r t) = R r t

/-- A sum over 512 lanes, four stretches of 128 at a time. -/
theorem sum_lanes (f : Fin 512 → ℝ) : ∑ d : Fin 128, (f ⟨d.val, by omega⟩ + f ⟨128 + d.val, by omega⟩ + f ⟨256 + d.val, by omega⟩ + f ⟨384 + d.val, by omega⟩) = ∑ b, f b := by
  have e : ∀ g : ℕ → ℝ, ∑ b : Fin 512, g b.val = ∑ d : Fin 128, (g d.val + g (128 + d.val) + g (256 + d.val) + g (384 + d.val)) := fun g => by
    rw [Fin.sum_univ_eq_sum_range g 512, show 512 = 128 + 128 + 128 + 128 from rfl, Finset.sum_range_add, Finset.sum_range_add, Finset.sum_range_add]
    simp only [Finset.sum_add_distrib, Fin.sum_univ_eq_sum_range g 128, Fin.sum_univ_eq_sum_range (fun x => g (128 + x)) 128,
      Fin.sum_univ_eq_sum_range (fun x => g (256 + x)) 128, Fin.sum_univ_eq_sum_range (fun x => g (384 + x)) 128]
  have := e fun x => if h : x < 512 then f ⟨x, h⟩ else 0
  simp only [Fin.is_lt, dif_pos, Fin.eta] at this
  rw [this]
  refine Finset.sum_congr rfl fun d _ => ?_
  rw [dif_pos (by omega : d.val < 512), dif_pos (by omega : 128 + d.val < 512), dif_pos (by omega : 256 + d.val < 512), dif_pos (by omega : 384 + d.val < 512)]

/-- Query block `n` absorbed, at weights and gradients of the pair of blocks. -/
theorem absorb_is (hC : C.Is H j) (n : Fin 16) (st p : Vec Ideal S512x512 .f32)
    (hs : ∀ a b : Fin 512, Ideal.exp (st (ix2 a b)) = (H.p (512 * n.val + b.val) (512 * j + a.val) : EReal))
    (hp : ∀ a b : Fin 512, p (ix2 a b) = ((H.dp (512 * n.val + b.val) (512 * j + a.val) - H.delta (512 * n.val + b.val) : ℝ) : EReal))
    {A : Acc Ideal} {R : Fin 8 → Fin 8192 → EReal} (hA : A.Is H j n.val R) : (C.absorb st p n A).Is H j (n.val + 1) R := by
  have hd : ∀ a b : Fin 512, Ideal.exp (st (ix2 a b)) * p (ix2 a b) = (H.ds (512 * n.val + b.val) (512 * j + a.val) : EReal) := fun a b => by
    rw [hs, hp, ← EReal.coe_mul]; rfl
  have hif : ∀ t : Fin 8192, 512 * n.val ≤ t.val ∧ t.val < 512 * n.val + 512 → ¬ t.val < 512 * n.val ∧ t.val < 512 * (n.val + 1) := fun t h => by omega
  have hin : ∀ t : Fin 8192, ¬ (512 * n.val ≤ t.val ∧ t.val < 512 * n.val + 512) → (t.val < 512 * (n.val + 1) ↔ t.val < 512 * n.val) := fun t h => by omega
  refine ⟨fun a d => ?_, fun a d => ?_, ?_, fun d t => ?_, fun t => ?_, fun r t hr => ?_⟩
  · show k0_pay14 st A.dva (C.gb n) (ix2 a d) = _
    rw [pay14_apply, hA.dva]
    simp only [hs, gb_apply, hC.g, ← EReal.coe_mul, ← coe_sum, ← EReal.coe_add]
    rw [sum_block]
  · show k0_pay20 A.dka (k0_pay19 st p (C.qb n)) (ix2 a d) = _
    rw [pay20_apply, hA.dka]
    simp only [hd, qb_apply, hC.q, ← EReal.coe_mul, ← coe_sum, ← EReal.coe_add]
    rw [sum_block]
  · obtain ⟨y, hy, hsum⟩ := hA.dca
    refine ⟨fun a d => y a d + (H.ds (512 * n.val + d.val) (512 * j + a.val) + H.ds (512 * n.val + (128 + d.val)) (512 * j + a.val)
      + H.ds (512 * n.val + (256 + d.val)) (512 * j + a.val) + H.ds (512 * n.val + (384 + d.val)) (512 * j + a.val)), fun a d => ?_, fun a => ?_⟩
    · show k0_pay16 st p A.dca (ix2 a d) = _
      rw [pay16_apply, hy]
      simp only [hd, ← EReal.coe_add]
    · rw [Finset.sum_add_distrib, hsum, sum_block]
      exact congrArg _ (sum_lanes fun b => H.ds (512 * n.val + b.val) (512 * j + a.val))
  · show put A.dqt ![0, 512 * n.val] S128x512.size (k0_pay21 (k0_pay110 C.k) (k0_pay18 st p) (window A.dqt ![0, 512 * n.val] S128x512.size (inbCol n))) (ix2 d t) = _
    rw [put_col]
    by_cases h : 512 * n.val ≤ t.val ∧ t.val < 512 * n.val + 512
    · have e : (⟨512 * n.val + (t.val - 512 * n.val), by omega⟩ : Fin 8192) = t := Fin.ext (by show 512 * n.val + (t.val - 512 * n.val) = t.val; omega)
      rw [dif_pos h, pay21_apply, window_col, e, hA.dqt, if_neg (hif t h).1, if_pos (hif t h).2]
      simp only [hd, hC.k, ← EReal.coe_mul, ← coe_sum, ← EReal.coe_add]
      rw [sum_block, show 512 * n.val + (t.val - 512 * n.val) = t.val by omega]
    · rw [dif_neg h, hA.dqt]
      simp only [hin t h]
  · show put A.dra ![0, 512 * n.val] S1x512.size (k0_pay17 st p (window A.dra ![0, 512 * n.val] S1x512.size (inbLine n))) (ix2 0 t) = _
    refine (put_line A.dra 0 n _ 0 t).trans ?_
    by_cases h : 512 * n.val ≤ t.val ∧ t.val < 512 * n.val + 512
    · have e : (⟨512 * n.val + (t.val - 512 * n.val), by omega⟩ : Fin 8192) = t := Fin.ext (by show 512 * n.val + (t.val - 512 * n.val) = t.val; omega)
      rw [dif_pos ⟨rfl, h⟩, pay17_apply]
      have e' := window_line A.dra n ⟨t.val - 512 * n.val, by omega⟩
      rw [e] at e'
      refine (congrArg (· + _) (e'.trans (hA.dra t))).trans ?_
      rw [if_neg (hif t h).1, if_pos (hif t h).2]
      simp only [hd, ← EReal.coe_mul, ← coe_sum, ← EReal.coe_add]
      rw [sum_block, show 512 * n.val + (t.val - 512 * n.val) = t.val by omega]
    · rw [dif_neg (fun h' => h h'.2), hA.dra]
      simp only [hin t h]
  · show put A.dra ![0, 512 * n.val] S1x512.size (k0_pay17 st p (window A.dra ![0, 512 * n.val] S1x512.size (inbLine n))) (ix2 r t) = _
    refine (put_line A.dra 0 n _ r t).trans ?_
    rw [dif_neg (fun h' => hr h'.1), hA.rest r t hr]

/-- A query block past the diagonal, and the diagonal block. -/
theorem step_is (hC : C.Is H j) (n : Fin 16) (h : j < n.val) {A : Acc Ideal} {R : Fin 8 → Fin 8192 → EReal} (hA : A.Is H j n.val R) :
    (C.step n A).Is H j (n.val + 1) R := by
  refine absorb_is hC n _ _ (fun a b => ?_) (scP_is hC n) hA
  rw [scS_is hC, Ideal.exp_coe, H.exp_sub _ _ (blk_lt n b) (by omega)]

theorem diag_is (n : Fin 16) (hC : C.Is H n.val) {A : Acc Ideal} {R : Fin 8 → Fin 8192 → EReal} (hA : A.Is H n.val n.val R) :
    (C.diag n A).Is H n.val (n.val + 1) R := by
  refine absorb_is hC n _ _ (fun a b => ?_) (scP_is hC n) hA
  rw [pay75_apply]
  by_cases h : a.val ≤ b.val
  · rw [if_pos h, scS_is hC, Ideal.exp_coe, H.exp_sub _ _ (blk_lt n b) (by omega)]
  · rw [if_neg h, Ideal.exp_bot, H.p_zero _ _ (by omega), EReal.coe_zero]

theorem upto_is (n : Fin 16) (hC : C.Is H n.val) {A : Acc Ideal} {R : Fin 8 → Fin 8192 → EReal} (hA : A.Is H n.val n.val R) (m : ℕ)
    (hm : n.val + m < 16) : (C.upto n A m).Is H n.val (n.val + m + 1) R := by
  induction m with
  | zero => exact diag_is n hC hA
  | succ m ih =>
    rw [Ctx.upto_succ C n A m (by omega)]
    exact step_is hC ⟨n.val + m + 1, by omega⟩ (by show n.val < n.val + m + 1; omega) (ih (by omega))

end Cert.KernelIdeal.Fox

end
-- ==== Proof.FoxValue.Carry.lean ====
/-
  The head's accumulators from key block to key block, over finite inputs: before block `j` the query gradient and the
  row sums run over the keys of the blocks before it.
-/
module

public import proofs.«01_k».proof.Proof.FoxValue.Absorb
public import proofs.«01_k».proof.Proof.FoxBwd.State

@[expose] public section

set_option maxRecDepth 16384

noncomputable section

namespace Cert.KernelIdeal.Fox

open Idealize.ShloMosaic
open Cert.KernelIdeal Cert.KernelIdeal.Gen
open Idealize.ShloMosaic.Pipeline (Dat Cfg Window cellOf)
open VecWindow
open Cert.Fox (Head coe_sum sum_block sum_range_of_zero)

/-- The rows past the first: the column sums, with their sign, of the key blocks done. -/
def rowsTo (H : Head) (j : ℕ) (r : Fin 8) (t : Fin 8192) : EReal :=
  if r = 1 ∧ t.val < 512 * j then ((-(∑ t' ∈ Finset.range 8192, H.ds t' t.val) : ℝ) : EReal) else 0

/-- The head's two accumulators before key block `j`. -/
structure Carry (H : Head) (j : ℕ) (d : Vec Ideal S128x8192 .f32) (r : Vec Ideal S8x8192 .f32) : Prop where
  d : ∀ (x : Fin 128) (t : Fin 8192), d (ix2 x t) = ((∑ u ∈ Finset.range (512 * j), H.k u x * H.ds t.val u : ℝ) : EReal)
  r0 : ∀ t : Fin 8192, r (ix2 0 t) = ((∑ u ∈ Finset.range (512 * j), H.ds t.val u : ℝ) : EReal)
  rest : ∀ (a : Fin 8) (t : Fin 8192), a ≠ 0 → r (ix2 a t) = rowsTo H j a t

/-- The sum over the keys before block `j` and over those of block `j` too are one where the query lies before the block. -/
theorem sum_before (H : Head) (j t : ℕ) (f : ℕ → ℝ) (h0 : ∀ u, t < u → f u = 0) :
    ∑ u ∈ Finset.range (512 * (if t < 512 * j then j + 1 else j)), f u = ∑ u ∈ Finset.range (512 * j), f u := by
  by_cases h : t < 512 * j
  · rw [if_pos h]
    exact sum_range_of_zero f _ _ (by omega) fun u hu => h0 u (by omega)
  · rw [if_neg h]

theorem fresh_is (H : Head) (j : ℕ) (d : Vec Ideal S128x8192 .f32) (r : Vec Ideal S8x8192 .f32) (h : Carry H j d r) :
    (Ctx.fresh d r).Is H j j (rowsTo H j) where
  dva a x := by
    rw [Finset.sum_eq_zero fun t ht => by rw [H.p_zero t _ (by have := Finset.mem_range.mp ht; omega), zero_mul], EReal.coe_zero]
    exact pay113_apply (ix2 a x)
  dka a x := by
    rw [Finset.sum_eq_zero fun t ht => by rw [H.ds_zero t _ (by have := Finset.mem_range.mp ht; omega), zero_mul], EReal.coe_zero]
    exact pay112_apply (ix2 a x)
  dca := ⟨fun _ _ => 0, fun a x => by
      rw [EReal.coe_zero]
      exact pay114_apply (ix2 a x),
    fun a => by
      rw [Finset.sum_const_zero]
      exact (Finset.sum_eq_zero fun t ht => H.ds_zero t _ (by have := Finset.mem_range.mp ht; omega)).symm⟩
  dqt x t := by
    rw [sum_before H j t.val (fun u => H.k u x * H.ds t.val u) fun u hu => by rw [H.ds_zero _ _ hu, mul_zero]]
    exact h.d x t
  dra t := by
    rw [sum_before H j t.val (fun u => H.ds t.val u) fun u hu => H.ds_zero _ _ hu]
    exact h.r0 t
  rest := h.rest

variable {C : Ctx Ideal} {H : Head}

theorem block_is (i : grid0.Coords) (J : Fin 16) (hC : C.Is H J.val) (d : Vec Ideal S128x8192 .f32) (r : Vec Ideal S8x8192 .f32)
    (h : Carry H J.val (dqt0 i d) (dra0 i r)) : (blockAcc C i J d r).Is H J.val 16 (rowsTo H J.val) := by
  have e := upto_is J hC (fresh_is H J.val _ _ h) (15 - J.val) (by omega)
  rw [show J.val + (15 - J.val) + 1 = 16 by omega] at e
  exact e

theorem carry_next (J : Fin 16) {B : Acc Ideal} (hB : B.Is H J.val 16 (rowsTo H J.val)) : Carry H (J.val + 1) B.dqt (drOut J B) where
  d x t := by
    rw [hB.dqt, if_pos (by omega)]
  r0 t := by
    refine (put_line B.dra 1 J _ 0 t).trans ?_
    rw [dif_neg (fun h => absurd h.1 (by decide)), hB.dra, if_pos (by omega)]
  rest a t ha := by
    refine (put_line B.dra 1 J _ a t).trans ?_
    by_cases h : a = 1 ∧ 512 * J.val ≤ t.val ∧ t.val < 512 * J.val + 512
    · obtain ⟨y, hy, hs⟩ := hB.dca
      rw [dif_pos h, pay3_apply]
      simp only [hy]
      rw [← coe_sum, hs, zero_sub, ← EReal.coe_neg]
      unfold rowsTo
      rw [if_pos ⟨h.1, by omega⟩, show 512 * J.val + (t.val - 512 * J.val) = t.val by omega]
    · rw [dif_neg h, hB.rest a t ha]
      unfold rowsTo
      refine if_congr ?_ rfl rfl
      constructor
      · exact fun h' => ⟨h'.1, by omega⟩
      · exact fun h' => ⟨h'.1, by by_contra hn; exact h ⟨h'.1, by omega, by omega⟩⟩

theorem carry_zero (i : grid0.Coords) (h : (i 1).val = 0) (d : Vec Ideal S128x8192 .f32) (r : Vec Ideal S8x8192 .f32) :
    Carry H 0 (dqt0 i d) (dra0 i r) := by
  unfold dqt0 dra0
  rw [if_pos h, if_pos h]
  refine ⟨fun x t => ?_, fun t => ?_, fun a t _ => ?_⟩
  · rw [pay108_apply]; simp
  · rw [pay109_apply]; simp
  · rw [pay109_apply]; unfold rowsTo; rw [if_neg (by omega)]

theorem carry_keep (i : grid0.Coords) (h : (i 1).val ≠ 0) (j : ℕ) (d : Vec Ideal S128x8192 .f32) (r : Vec Ideal S8x8192 .f32)
    (hc : Carry H j d r) : Carry H j (dqt0 i d) (dra0 i r) := by
  unfold dqt0 dra0
  rw [if_neg h, if_neg h]; exact hc

variable (m : (ℓ : Loc nD τ sig) → Buf (Elt Ideal) ℓ) (c : Dev nD) (Hd : ℕ → Head)

/-- Every grid point's accumulators: the sums of its head over the blocks done. -/
theorem acc_is (hC : ∀ t : Fin cfg0.N, (ctxAt m c t).Is (Hd (t.val / 16)) (t.val % 16)) (n : ℕ) : ∀ t : Fin cfg0.N, t.val = n →
    (accAt m c t).Is (Hd (t.val / 16)) (t.val % 16) 16 (rowsTo (Hd (t.val / 16)) (t.val % 16)) := by
  induction n with
  | zero =>
    intro t ht
    have e := jAt_val t
    rw [← e]
    refine block_is _ _ (by rw [e]; exact hC t) _ _ ?_
    have e0 : (jAt t).val = 0 := by rw [e, ht]
    rw [e0]
    exact carry_zero _ (by rw [coord_j, ht]) _ _
  | succ n ih =>
    intro t ht
    have e := jAt_val t
    rw [← e]
    refine block_is _ _ (by rw [e]; exact hC t) _ _ ?_
    by_cases h0 : t.val % 16 = 0
    · have e0 : (jAt t).val = 0 := by rw [e, h0]
      rw [e0]
      exact carry_zero _ (by rw [coord_j, h0]) _ _
    · have hs : n < cfg0.N := by have := t.isLt; omega
      have hB := ih ⟨n, hs⟩ rfl
      have e' : (jAt ⟨n, hs⟩).val = n % 16 := jAt_val ⟨n, hs⟩
      have hq : n / 16 = t.val / 16 := by omega
      have hj : (jAt t).val = (jAt ⟨n, hs⟩).val + 1 := by omega
      have hB' : (accAt m c ⟨n, hs⟩).Is (Hd (t.val / 16)) (jAt ⟨n, hs⟩).val 16 (rowsTo (Hd (t.val / 16)) (jAt ⟨n, hs⟩).val) := by
        rw [e', ← hq]; exact hB
      refine carry_keep _ (by rw [coord_j]; exact h0) _ _ _ ?_
      rw [show state m c t.val = ((accAt m c ⟨n, hs⟩).dqt, drOut (jAt ⟨n, hs⟩) (accAt m c ⟨n, hs⟩)) from (congrArg (state m c) ht).trans (state_succ m c ⟨n, hs⟩), hj]
      exact carry_next _ hB'

/-- What the head's two accumulators hold after the point, the row sums with the point's own written in. -/
theorem carry_is (hC : ∀ t : Fin cfg0.N, (ctxAt m c t).Is (Hd (t.val / 16)) (t.val % 16)) (t : Fin cfg0.N) :
    Carry (Hd (t.val / 16)) (t.val % 16 + 1) (accAt m c t).dqt (drOut (jAt t) (accAt m c t)) := by
  have e := jAt_val t
  have h := acc_is m c Hd hC t.val t rfl
  rw [← e] at h ⊢
  exact carry_next _ h

end Cert.KernelIdeal.Fox

end
-- ==== Proof.FoxValue.Windows.lean ====
/-
  What each grid point reads, over finite inputs: grid point `16 h + j` reads head `h` with its key block `j`.
-/
module

public import proofs.«01_k».proof.Proof.FoxValue.HostRows
public import proofs.«01_k».proof.Proof.FoxValue.Carry
public import Idealize.ShloMosaic.Lib.Pipeline.ValueKit

@[expose] public section

set_option maxRecDepth 16384

noncomputable section

namespace Cert.KernelIdeal.Fox

open Idealize.ShloMosaic Idealize.ShloMosaic.TcCoe
open Cert.KernelIdeal Cert.KernelIdeal.Gen
open Cert.Fox

theorem index_k : ∀ t : Fin grid0.N, win0_0.index t = ![t.val % 16, 8 + t.val / 16] := by decide +kernel
theorem index_v : ∀ t : Fin grid0.N, win0_1.index t = ![t.val % 16, 16 + t.val / 16] := by decide +kernel
theorem index_q : ∀ t : Fin grid0.N, win0_2.index t = ![0, t.val / 16] := by decide +kernel
theorem index_g : ∀ t : Fin grid0.N, win0_3.index t = ![0, t.val / 16] := by decide +kernel
theorem index_rows : ∀ t : Fin grid0.N, win0_4.index t = ![t.val / 16, 0, 0] := by decide +kernel
theorem index_c : ∀ t : Fin grid0.N, win0_5.index t = ![t.val / 16, t.val % 16, 0] := by decide +kernel

theorem head_lt : ∀ t : Fin cfg0.N, t.val / 16 < 8 := by decide +kernel

variable (m : (ℓ : Loc nD τ sig) → Buf (Elt Ideal) ℓ) (c : Dev nD) (t : Fin cfg0.N)

theorem read_kblk (a : Fin 512) (d : Fin 128) : (ctxAt m c t).k (ix2 a d)
    = V m c main_arg0 (ix2 ⟨512 * (t.val % 16) + a.val, by omega⟩ ⟨1024 + (128 * (t.val / 16) + d.val), by have := head_lt t; omega⟩) := by
  show iblk m c 0 t (ix2 a d) = _
  blk_ext [iblk, index_k t]

theorem read_vblk (a : Fin 512) (d : Fin 128) : (ctxAt m c t).v (ix2 a d)
    = V m c main_arg0 (ix2 ⟨512 * (t.val % 16) + a.val, by omega⟩ ⟨2048 + (128 * (t.val / 16) + d.val), by have := head_lt t; omega⟩) := by
  show iblk m c 1 t (ix2 a d) = _
  blk_ext [iblk, index_v t]

theorem read_qblk (s : Fin 8192) (d : Fin 128) : (ctxAt m c t).q (ix2 s d)
    = V m c main_arg0 (ix2 s ⟨128 * (t.val / 16) + d.val, by have := head_lt t; omega⟩) := by
  show iblk m c 2 t (ix2 s d) = _
  blk_ext [iblk, index_q t]

theorem read_gblk (s : Fin 8192) (d : Fin 128) : (ctxAt m c t).g (ix2 s d)
    = V m c main_arg1 (ix2 s ⟨128 * (t.val / 16) + d.val, by have := head_lt t; omega⟩) := by
  show iblk m c 3 t (ix2 s d) = _
  blk_ext [iblk, index_g t]

theorem read_rows (r : Fin 8) (s : Fin 8192) : (ctxAt m c t).rows (ix3 0 r s)
    = V m c main_v46 (ix3 ⟨t.val / 16, head_lt t⟩ r s) := by
  show iblk m c 4 t (ix3 0 r s) = _
  blk_ext [iblk, index_rows t]

theorem read_cc (a : Fin 512) : (ctxAt m c t).cc (ix3 0 a 0)
    = V m c main_arg2 (ix3 ⟨t.val / 16, head_lt t⟩ ⟨512 * (t.val % 16) + a.val, by omega⟩ 0) := by
  show iblk m c 5 t (ix3 0 a 0) = _
  blk_ext [iblk, index_c t]

/-- Head `n` of device `c`'s arrays. -/
def hdN (n : ℕ) : Head := hdM m c ⟨n % 8, by omega⟩

theorem hdN_eq : hdN m c (t.val / 16) = hdM m c ⟨t.val / 16, head_lt t⟩ :=
  congrArg (hdM m c) (Fin.ext (Nat.mod_eq_of_lt (head_lt t)))

variable (hx : Finite (m ((c : Thread nD τ).loc main_arg0)) (m ((c : Thread nD τ).loc main_arg1)) (m ((c : Thread nD τ).loc main_arg2)))

include hx in
theorem ctx_is : (ctxAt m c t).Is (hdN m c (t.val / 16)) (t.val % 16) := by
  rw [hdN_eq]
  refine ⟨fun a d => ?_, fun a d => ?_, fun s d => ?_, fun s d => ?_, fun s => ?_, fun s => ?_, fun a => ?_, ?_⟩
  · rw [read_kblk, V_main_arg0]; exact k_coe hx ⟨t.val / 16, head_lt t⟩ _ d _ rfl
  · rw [read_vblk, V_main_arg0]; exact v_coe hx ⟨t.val / 16, head_lt t⟩ _ d _ rfl
  · rw [read_qblk, V_main_arg0]; exact q_coe hx ⟨t.val / 16, head_lt t⟩ _ d _ rfl
  · rw [read_gblk, V_main_arg1]; exact g_coe hx ⟨t.val / 16, head_lt t⟩ _ d _ rfl
  · rw [read_rows]; exact V_row0 m c hx _ s
  · rw [read_rows]; exact V_row1 m c hx _ s
  · rw [read_cc, V_main_arg2]; exact c_coe hx ⟨t.val / 16, head_lt t⟩ _
  · exact σ_coe (x0 := m ((c : Thread nD τ).loc main_arg0)) (x1 := m ((c : Thread nD τ).loc main_arg1)) (x2 := m ((c : Thread nD τ).loc main_arg2)) ⟨t.val / 16, head_lt t⟩

include hx in
theorem acc_at : (accAt m c t).Is (hdN m c (t.val / 16)) (t.val % 16) 16 (rowsTo (hdN m c (t.val / 16)) (t.val % 16)) :=
  acc_is m c (hdN m c) (fun t => ctx_is m c t hx) t.val t rfl

include hx in
theorem carry_at : Carry (hdN m c (t.val / 16)) (t.val % 16 + 1) (accAt m c t).dqt (drOut (jAt t) (accAt m c t)) :=
  carry_is m c (hdN m c) (fun t => ctx_is m c t hx) t

end Cert.KernelIdeal.Fox

end
-- ==== Proof.FoxValue.Reference.lean ====
/-
  The reference's stages at an index, over finite inputs: the real numbers they hold.
-/
module

public import proofs.«01_k».proof.Proof.FoxValue.Inputs
public import proofs.«01_k».proof.Proof.Gen.ReferenceIdeal.Read

@[expose] public section

set_option maxRecDepth 16384

noncomputable section

namespace Cert.ReferenceIdeal.Fox

open Idealize.ShloMosaic
open Cert.ReferenceIdeal Cert.ReferenceIdeal.Read
open Cert.Fox

variable {x0 : S8192x3584.Idx → EReal} {x1 : S8192x1024.Idx → EReal} {x2 : S8x8192x1.Idx → EReal} (hx : Finite x0 x1 x2) (h : Fin 8) (t u : Fin 8192)
  (d : Fin 128)

include hx in
theorem v5_at : val_main_v5 (F := Ideal) x0 (ix3 t h d) = ((headOf x0 x1 x2 h).q t.val d : EReal) := by
  pointwise [val_main_v5, val_main_v2, val_main_v1, val_main_v0]
  exact q_coe hx h t d _ (by show h.val * 128 + d.val = _; omega)

include hx in
theorem v6_at : val_main_v6 (F := Ideal) x0 (ix3 t h d) = ((headOf x0 x1 x2 h).k t.val d : EReal) := by
  pointwise [val_main_v6, val_main_v3, val_main_v1, val_main_v0]
  exact k_coe hx h t d _ (by show 1024 + (h.val * 128 + d.val) = _; omega)

include hx in
theorem v7_at : val_main_v7 (F := Ideal) x0 (ix3 t h d) = ((headOf x0 x1 x2 h).v t.val d : EReal) := by
  pointwise [val_main_v7, val_main_v4, val_main_v1, val_main_v0]
  exact v_coe hx h t d _ (by show 2048 + (h.val * 128 + d.val) = _; omega)

include hx in
theorem v24_at : val_main_v24 (F := Ideal) x0 x2 (ix3 h t u) = ((headOf x0 x1 x2 h).s t.val u.val : EReal) := by
  pointwise [val_main_v24, val_main_v11, val_main_v9, val_main_v10, val_main_cst, val_main_v16, val_main_v15, val_main_v14, val_main_v13, val_main_v12, val_main_v8]
  simp only [v5_at hx, v6_at hx]
  rw [c_coe hx h t, c_coe hx h u, show Ideal.ofBits FTy.f32 1035273459#32 = _ from σ_coe (x0 := x0) (x1 := x1) (x2 := x2) h]
  simp only [← EReal.coe_mul, ← coe_sum, ← EReal.coe_sub, ← EReal.coe_add]
  rfl

include hx in
theorem v25_at : val_main_v25_0 (F := Ideal) x0 x2 (ix3 h t u) = scoreAt (headOf x0 x1 x2 h) t.val u.val := by
  pointwise [val_main_v25_0, val_main_v25_1, val_main_v23, val_main_v22, val_main_v21, val_main_v20, val_main_v19, val_main_v18, val_main_v17, val_main_call0_v2, val_main_call0_v0, val_main_cst_0]
  rw [mask_word, select_word, v24_at hx]
  exact if_congr Iff.rfl rfl neg_inf_word

theorem mask_at : val_main_v25_1 (F := Ideal) (ix3 h t u) = BitVec.ofBool (decide (u.val ≤ t.val)) := by
  pointwise [val_main_v25_1, val_main_v23, val_main_v22, val_main_v21, val_main_v20, val_main_v19, val_main_v18, val_main_v17]
  rw [mask_word]

include hx in
theorem v26_at : val_main_v26 (F := Ideal) x0 x2 (ix2 h t) = (top (headOf x0 x1 x2 h) t : EReal) := by
  unfold val_main_v26
  refine (reduceMax_at _ _ _ _ h t).trans ?_
  rw [← top_eq]
  simp only [v25_at hx]
  exact congrArg (fun b => Finset.univ.fold max b fun u : Fin 8192 => scoreAt (headOf x0 x1 x2 h) t.val u.val) neg_inf_word

theorem v32_at (i : S8x8192.Idx) : val_main_v32 (F := Ideal) i = ⊥ := by
  pointwise [val_main_v32, val_main_cst_3]
  exact neg_inf_word

theorem v33_at : val_main_v33 (F := Ideal) x0 x2 (ix2 h t) = val_main_v26 (F := Ideal) x0 x2 (ix2 h t) := by
  refine (val_main_v33_apply (F := Ideal) x0 x2 (ix2 h t)).trans ?_
  generalize val_main_v26 (F := Ideal) x0 x2 (ix2 h t) = b
  rw [v32_at]
  exact max_eq_right bot_le

theorem v44_at : val_main_v44 (F := Ideal) x0 x2 (ix3 h t u) = val_main_v33 (F := Ideal) x0 x2 (ix2 h t) := by
  unfold val_main_v44 val_main_v43
  generalize hB : val_main_v33 (F := Ideal) x0 x2 = B
  pointwise []

theorem v46_at' : val_main_v46 (F := Ideal) x0 x2 (ix3 h t u) = Ideal.exp (val_main_v25_0 (F := Ideal) x0 x2 (ix3 h t u) - val_main_v44 (F := Ideal) x0 x2 (ix3 h t u)) := by
  unfold val_main_v46 val_main_v45
  generalize hB : val_main_v25_0 (F := Ideal) x0 x2 = B
  generalize hB : val_main_v44 (F := Ideal) x0 x2 = C
  rfl

include hx in
theorem v46_at : val_main_v46 (F := Ideal) x0 x2 (ix3 h t u) = (ex (headOf x0 x1 x2 h) t u.val : EReal) := by
  rw [v46_at', v44_at, v33_at, v25_at hx, v26_at hx]
  exact exp_score _ t u.val

include hx in
theorem v47_at : val_main_v47 (F := Ideal) x0 x2 (ix2 h t) = (exSum (headOf x0 x1 x2 h) t : EReal) := by
  pointwise [val_main_v47, val_main_cst_9]
  simp only [v46_at hx]
  exact sum_coe _

include hx in
theorem v50_at : val_main_v50 (F := Ideal) x0 x2 (ix3 h t u) = ((headOf x0 x1 x2 h).p t.val u.val : EReal) := by
  pointwise [val_main_v50, val_main_v49, val_main_v48]
  rw [v46_at hx, v47_at hx, div_coe _ _ (exSum_pos _ t).ne', ex_div]

include hx in
theorem v59_at : val_main_v59 (F := Ideal) x0 x1 (ix3 h t u) = ((headOf x0 x1 x2 h).dp t.val u.val : EReal) := by
  pointwise [val_main_v59, val_main_v58, val_main_v57, val_main_v56]
  simp only [v7_at hx]
  refine (Finset.sum_congr rfl fun x _ => congrArg (· * _) (g_coe hx h t x _ (by show h.val * 128 + x.val = _; omega))).trans ?_
  simp only [← EReal.coe_mul, ← coe_sum]
  rfl

include hx in
theorem v74_at : val_main_v74 (F := Ideal) x0 x1 x2 (ix3 h t u) = ((headOf x0 x1 x2 h).ds t.val u.val : EReal) := by
  pointwise [val_main_v74, val_main_call1_v0, val_main_call1_cst, val_main_v73, val_main_v72, val_main_v71, val_main_v70, val_main_cst_12, val_main_v69, val_main_v68, val_main_v67, val_main_v66, val_main_v65, val_main_cst_11, val_main_v64, val_main_v63, val_main_v62, val_main_v53, val_main_v52, val_main_cst_10, val_main_v51, val_main_v48]
  rw [mask_at, select_word]
  by_cases hu : u.val ≤ t.val
  · rw [if_pos hu]
    simp only [v59_at hx, v47_at hx, v46_at hx, ← EReal.coe_mul, ← EReal.coe_one]
    rw [div_coe _ _ (exSum_pos _ t).ne', div_coe _ _ (mul_pos (exSum_pos _ t) (exSum_pos _ t)).ne']
    simp only [← EReal.coe_mul]
    rw [sum_coe (fun u' => (headOf x0 x1 x2 h).dp t.val u' * (1 / (exSum (headOf x0 x1 x2 h) t * exSum (headOf x0 x1 x2 h) t)) * ex (headOf x0 x1 x2 h) t u')]
    simp only [Finset.univ_unique, Finset.sum_singleton, ← EReal.coe_neg, ← EReal.coe_add, ← EReal.coe_mul]
    rw [ds_ex]
  · rw [if_neg hu, (headOf x0 x1 x2 h).ds_zero _ _ (by omega), EReal.coe_zero]

/-- The head and the lane of a column. -/
def hd (y : Fin 1024) : Fin 8 := ⟨y.val / 128, by omega⟩
def ln (y : Fin 1024) : Fin 128 := ⟨y.val % 128, by omega⟩

variable (y : Fin 1024)

include hx in
theorem v93_at : val_main_v93 (F := Ideal) x0 x1 x2 (ix2 t y)
    = ((∑ u ∈ Finset.range 8192, (headOf x0 x1 x2 (hd y)).ds t.val u * (headOf x0 x1 x2 (hd y)).σ * (headOf x0 x1 x2 (hd y)).k u (ln y) : ℝ) : EReal) := by
  pointwise [val_main_v93, val_main_v92, val_main_v87, val_main_v86, val_main_v83, val_main_v82, val_main_cst_17]
  simp only [v74_at hx, v6_at hx]
  rw [← sum_coe, show Ideal.ofBits FTy.f32 1035273459#32 = _ from σ_coe (x0 := x0) (x1 := x1) (x2 := x2) (hd y)]
  simp only [EReal.coe_mul]
  rfl

include hx in
theorem v95_at : val_main_v95 (F := Ideal) x0 x1 x2 (ix2 t y)
    = ((∑ u ∈ Finset.range 8192, (headOf x0 x1 x2 (hd y)).ds u t.val * (headOf x0 x1 x2 (hd y)).σ * (headOf x0 x1 x2 (hd y)).q u (ln y) : ℝ) : EReal) := by
  pointwise [val_main_v95, val_main_v94, val_main_v85, val_main_v84, val_main_v83, val_main_v82, val_main_cst_17]
  simp only [v74_at hx, v5_at hx]
  rw [← sum_coe, show Ideal.ofBits FTy.f32 1035273459#32 = _ from σ_coe (x0 := x0) (x1 := x1) (x2 := x2) (hd y)]
  simp only [EReal.coe_mul]
  rfl

include hx in
theorem v97_at : val_main_v97 (F := Ideal) x0 x1 x2 (ix2 t y)
    = ((∑ u ∈ Finset.range 8192, (headOf x0 x1 x2 (hd y)).g u (ln y) * (headOf x0 x1 x2 (hd y)).p u t.val : ℝ) : EReal) := by
  pointwise [val_main_v97, val_main_v96, val_main_v61, val_main_v60, val_main_v58, val_main_v57, val_main_v56]
  simp only [v50_at hx]
  refine (Finset.sum_congr rfl fun x _ => congrArg (· * _) (g_coe hx (hd y) x (ln y) _ (by show y.val = 128 * (y.val / 128) + y.val % 128; omega))).trans ?_
  rw [← sum_coe]
  simp only [EReal.coe_mul]
  rfl

include hx in
theorem v91_at (r : Fin 8) : val_main_v91 (F := Ideal) x0 x1 x2 (ix3 h r t)
    = if r = 0 then ((∑ u ∈ Finset.range 8192, (headOf x0 x1 x2 h).ds t.val u : ℝ) : EReal)
      else if r = 1 then ((-(∑ u ∈ Finset.range 8192, (headOf x0 x1 x2 h).ds u t.val) : ℝ) : EReal) else 0 := by
  pointwise [val_main_v91, val_main_v90, val_main_cst_18, val_main_v89, val_main_v88, val_main_v81, val_main_v80, val_main_cst_15, val_main_v79, val_main_cst_14, val_main_v78, val_main_v77, val_main_cst_16, val_main_v76, val_main_v75, val_main_cst_13]
  simp only [v74_at hx, Finset.univ_unique, Finset.sum_singleton, ← EReal.coe_neg]
  rw [sum_coe (fun u => (headOf x0 x1 x2 h).ds t.val u), sum_coe (fun u => -(headOf x0 x1 x2 h).ds u t.val), Finset.sum_neg_distrib]
  fin_cases r <;> rfl

end Cert.ReferenceIdeal.Fox

end
-- ==== Proof.FoxBwd.Region.lean ====
/-
  Every grid point does what the pipeline's data says; the launch; the frame.
-/
module

public import proofs.«01_k».proof.Proof.FoxBwd.State
public import proofs.«01_k».proof.Proof.Gen.KernelIdeal.Frame
public import proofs.«01_k».proof.Proof.Gen.KernelIdeal.Points

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat Cfg Window BodyObligation cellOf ΦA)
open VecWindow

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000

/-- A point that is not its head's last: the query gradient's and row sums' buffers come back as they were. -/
theorem obligation_next (c : Dev nD) (t : Fin cfg0.N) (hj : t.val % 16 ≠ 15) :
    iprop((dats (F := F) m 0 c).Φ t.castSucc ∗ (dats (F := F) m 0 c).owesAt () t.castSucc
        ∗ bigSep Finset.univ fun w : Fin cfg0.W => iprop(∃ d, owns c ((cfg0.win w).stage (cfg0.slots t w)) fullShare ((dats (F := F) m 0 c).before w t d)))
      ⊢ wp frame (wpE (defs₀ (F := F)) Variants.none c none) Set.univ (bodyAt0 t) fun _ =>
          iprop((dats (F := F) m 0 c).Φ t.succ ∗ (dats (F := F) m 0 c).owesAt () t.succ
            ∗ bigSep Finset.univ fun w : Fin cfg0.W =>
                match cfg0.idle w (cfg0.grid.coords t) with
                | true =>
                  match (cfg0.win w).flush t with
                  | false => iprop(∃ d, owns c ((cfg0.win w).stage (cfg0.slots t w)) fullShare ((dats (F := F) m 0 c).before w t d))
                  | true => owns c ((cfg0.win w).stage (cfg0.slots t w)) fullShare ((dats (F := F) m 0 c).after w t)
                | false => owns c ((cfg0.win w).stage (cfg0.slots t w)) fullShare ((dats (F := F) m 0 c).after w t)) := by
  have i6 : cfg0.idle 6 (cfg0.grid.coords t) = true := by
    show (!(k0_cond6 (cfg0.grid.coords t) == 1#1)) = _
    have h : ¬ k0_cond6 (cfg0.grid.coords t) = 1#1 := fun h => hj ((coord_j t).symm.trans ((cond6_iff _).1 h)); simp [h]
  have i9 : cfg0.idle 9 (cfg0.grid.coords t) = true := i6
  have l6 : (cfg0.win 6).flush t = false := by
    cases h : (cfg0.win 6).flush t
    · rfl
    · exact absurd ((flush0_6 t).1 h) hj
  have l9 : (cfg0.win 9).flush t = false := by
    cases h : (cfg0.win 9).flush t
    · rfl
    · exact absurd ((flush0_9 t).1 h) hj
  rewrite [show (dats (F := F) m 0 c).Φ t.castSucc = inv m c t.val from rfl]
  rewrite [show (dats (F := F) m 0 c).Φ t.succ = inv m c (t.val + 1) from rfl]
  rewrite [show (dats (F := F) m 0 c).owesAt () t.succ = (dats (F := F) m 0 c).owesAt () t.castSucc from rfl]
  rewrite [bigSep_W0, bigSep_W0, i6, l6, l9]
  simp only [before0_0, before0_1, before0_2, before0_3, before0_4, before0_5, after0_0, after0_1, after0_2, after0_3, after0_4, after0_5, after0_6, after0_7, after0_8, after0_9]
  unfold inv owns
  iintro ⟨⟨⟨%x12, %z12, %f12, %r12, H12⟩, ⟨%x13, %f13, %r13, H13⟩, ⟨%x14, %f14, %r14, H14⟩, ⟨%x15, %f15, %r15, H15⟩, ⟨%x16, %z16, %f16, %r16, H16⟩, ⟨%x17, %f17, %r17, H17⟩, ⟨%x18, %f18, %r18, H18⟩, ⟨%x19, %f19, %r19, H19⟩, ⟨%x20, %f20, %r20, H20⟩, ⟨%x21, %f21, %r21, H21⟩, HP⟩, HO, ⟨%x2, %f2, %r2, H2⟩, ⟨%x3, %f3, %r3, H3⟩, ⟨%x4, %f4, %r4, H4⟩, ⟨%x5, %f5, %r5, H5⟩, ⟨%x6, %f6, %r6, H6⟩, ⟨%x7, %f7, %r7, H7⟩, ⟨%x8, %f8, %r8, H8⟩, ⟨%x9, %f9, %r9, H9⟩, ⟨%x10, %f10, %r10, H10⟩, ⟨%x11, %f11, %r11, H11⟩⟩
  have eB := accAt_of m c t x12 x16 z12 z16
  iapply (body_next c (cfg0.grid.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (jAt t) rfl (fun h => hj ((coord_j t).symm.trans h)) (ctxAt m c t) x12 x16 f2 f3 f4 f5 f6 f7 f8 f9 f10 f11 f12 f13 f14 f15 f16 f17 f18 f19 f20 f21 r2 r3 r4 r5 r6 r7 r12 r16 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  rewrite [eB]
  iintro ⟨H2, H3, H4, H5, H6, H7, H8, ⟨%g9, %q9, H9⟩, ⟨%g10, %q10, H10⟩, H11, ⟨%g12, %q12, H12⟩, ⟨%g13, H13⟩, ⟨%g14, H14⟩, ⟨%g15, H15⟩, ⟨%g16, %q16, H16⟩, ⟨%g17, H17⟩, ⟨%g18, H18⟩, ⟨%g19, H19⟩, ⟨%g20, H20⟩, ⟨%g21, H21⟩⟩
  isplitl [H12 H13 H14 H15 H16 H17 H18 H19 H20 H21 HP]
  · isplitl [H12]
    · iexists _; isplitr; · ipureintro; exact fun _ => congrArg Prod.fst (state_succ m c t).symm
      iexists g12; isplitr; · ipureintro; exact q12
      iexact H12
    isplitl [H13]
    · iexists _; iexists g13; isplitr; · ipureintro; rfl
      iexact H13
    isplitl [H14]
    · iexists _; iexists g14; isplitr; · ipureintro; rfl
      iexact H14
    isplitl [H15]
    · iexists _; iexists g15; isplitr; · ipureintro; rfl
      iexact H15
    isplitl [H16]
    · iexists _; isplitr; · ipureintro; exact fun _ => congrArg Prod.snd (state_succ m c t).symm
      iexists g16; isplitr; · ipureintro; exact q16
      iexact H16
    isplitl [H17]
    · iexists _; iexists g17; isplitr; · ipureintro; rfl
      iexact H17
    isplitl [H18]
    · iexists _; iexists g18; isplitr; · ipureintro; rfl
      iexact H18
    isplitl [H19]
    · iexists _; iexists g19; isplitr; · ipureintro; rfl
      iexact H19
    isplitl [H20]
    · iexists _; iexists g20; isplitr; · ipureintro; rfl
      iexact H20
    isplitl [H21]
    · iexists _; iexists g21; isplitr; · ipureintro; rfl
      iexact H21
    iexact HP
  isplitl [HO]; · iexact HO
  isplitl [H2]
  · iexists f2; isplitr; · ipureintro; exact r2
    iexact H2
  isplitl [H3]
  · iexists f3; isplitr; · ipureintro; exact r3
    iexact H3
  isplitl [H4]
  · iexists f4; isplitr; · ipureintro; exact r4
    iexact H4
  isplitl [H5]
  · iexists f5; isplitr; · ipureintro; exact r5
    iexact H5
  isplitl [H6]
  · iexists f6; isplitr; · ipureintro; exact r6
    iexact H6
  isplitl [H7]
  · iexists f7; isplitr; · ipureintro; exact r7
    iexact H7
  isplitl [H8]
  · iexists x8; iexists f8; isplitr; · ipureintro; exact r8
    iexact H8
  isplitl [H9]
  · iexists g9; isplitr; · ipureintro; exact q9
    iexact H9
  isplitl [H10]
  · iexists g10; isplitr; · ipureintro; exact q10
    iexact H10
  iexists x11; iexists f11; isplitr; · ipureintro; exact r11
  iexact H11

/-- A head's last point. -/
theorem obligation_last (c : Dev nD) (t : Fin cfg0.N) (hj : t.val % 16 = 15) :
    iprop((dats (F := F) m 0 c).Φ t.castSucc ∗ (dats (F := F) m 0 c).owesAt () t.castSucc
        ∗ bigSep Finset.univ fun w : Fin cfg0.W => iprop(∃ d, owns c ((cfg0.win w).stage (cfg0.slots t w)) fullShare ((dats (F := F) m 0 c).before w t d)))
      ⊢ wp frame (wpE (defs₀ (F := F)) Variants.none c none) Set.univ (bodyAt0 t) fun _ =>
          iprop((dats (F := F) m 0 c).Φ t.succ ∗ (dats (F := F) m 0 c).owesAt () t.succ
            ∗ bigSep Finset.univ fun w : Fin cfg0.W =>
                match cfg0.idle w (cfg0.grid.coords t) with
                | true =>
                  match (cfg0.win w).flush t with
                  | false => iprop(∃ d, owns c ((cfg0.win w).stage (cfg0.slots t w)) fullShare ((dats (F := F) m 0 c).before w t d))
                  | true => owns c ((cfg0.win w).stage (cfg0.slots t w)) fullShare ((dats (F := F) m 0 c).after w t)
                | false => owns c ((cfg0.win w).stage (cfg0.slots t w)) fullShare ((dats (F := F) m 0 c).after w t)) := by
  have i6 : cfg0.idle 6 (cfg0.grid.coords t) = false := by
    show (!(k0_cond6 (cfg0.grid.coords t) == 1#1)) = _
    rw [(cond6_iff _).2 ((coord_j t).trans hj)]; rfl
  have i9 : cfg0.idle 9 (cfg0.grid.coords t) = false := i6
  rewrite [show (dats (F := F) m 0 c).Φ t.castSucc = inv m c t.val from rfl]
  rewrite [show (dats (F := F) m 0 c).Φ t.succ = inv m c (t.val + 1) from rfl]
  rewrite [show (dats (F := F) m 0 c).owesAt () t.succ = (dats (F := F) m 0 c).owesAt () t.castSucc from rfl]
  rewrite [bigSep_W0, bigSep_W0, i6]
  simp only [before0_0, before0_1, before0_2, before0_3, before0_4, before0_5, after0_0, after0_1, after0_2, after0_3, after0_4, after0_5, after0_6, after0_7, after0_8, after0_9]
  unfold inv owns
  iintro ⟨⟨⟨%x12, %z12, %f12, %r12, H12⟩, ⟨%x13, %f13, %r13, H13⟩, ⟨%x14, %f14, %r14, H14⟩, ⟨%x15, %f15, %r15, H15⟩, ⟨%x16, %z16, %f16, %r16, H16⟩, ⟨%x17, %f17, %r17, H17⟩, ⟨%x18, %f18, %r18, H18⟩, ⟨%x19, %f19, %r19, H19⟩, ⟨%x20, %f20, %r20, H20⟩, ⟨%x21, %f21, %r21, H21⟩, HP⟩, HO, ⟨%x2, %f2, %r2, H2⟩, ⟨%x3, %f3, %r3, H3⟩, ⟨%x4, %f4, %r4, H4⟩, ⟨%x5, %f5, %r5, H5⟩, ⟨%x6, %f6, %r6, H6⟩, ⟨%x7, %f7, %r7, H7⟩, ⟨%x8, %f8, %r8, H8⟩, ⟨%x9, %f9, %r9, H9⟩, ⟨%x10, %f10, %r10, H10⟩, ⟨%x11, %f11, %r11, H11⟩⟩
  have eB := accAt_of m c t x12 x16 z12 z16
  iapply (body_last c (cfg0.grid.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (jAt t) rfl ((coord_j t).trans hj) (ctxAt m c t) x12 x16 f2 f3 f4 f5 f6 f7 f8 f9 f10 f11 f12 f13 f14 f15 f16 f17 f18 f19 f20 f21 r2 r3 r4 r5 r6 r7 r12 r16 _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  rewrite [eB]
  iintro ⟨H2, H3, H4, H5, H6, H7, ⟨%g8, %q8, H8⟩, ⟨%g9, %q9, H9⟩, ⟨%g10, %q10, H10⟩, ⟨%g11, %q11, H11⟩, ⟨%g12, %q12, H12⟩, ⟨%g13, H13⟩, ⟨%g14, H14⟩, ⟨%g15, H15⟩, ⟨%g16, %q16, H16⟩, ⟨%g17, H17⟩, ⟨%g18, H18⟩, ⟨%g19, H19⟩, ⟨%g20, H20⟩, ⟨%g21, H21⟩⟩
  isplitl [H12 H13 H14 H15 H16 H17 H18 H19 H20 H21 HP]
  · isplitl [H12]
    · iexists _; isplitr; · ipureintro; exact fun _ => congrArg Prod.fst (state_succ m c t).symm
      iexists g12; isplitr; · ipureintro; exact q12
      iexact H12
    isplitl [H13]
    · iexists _; iexists g13; isplitr; · ipureintro; rfl
      iexact H13
    isplitl [H14]
    · iexists _; iexists g14; isplitr; · ipureintro; rfl
      iexact H14
    isplitl [H15]
    · iexists _; iexists g15; isplitr; · ipureintro; rfl
      iexact H15
    isplitl [H16]
    · iexists _; isplitr; · ipureintro; exact fun _ => congrArg Prod.snd (state_succ m c t).symm
      iexists g16; isplitr; · ipureintro; exact q16
      iexact H16
    isplitl [H17]
    · iexists _; iexists g17; isplitr; · ipureintro; rfl
      iexact H17
    isplitl [H18]
    · iexists _; iexists g18; isplitr; · ipureintro; rfl
      iexact H18
    isplitl [H19]
    · iexists _; iexists g19; isplitr; · ipureintro; rfl
      iexact H19
    isplitl [H20]
    · iexists _; iexists g20; isplitr; · ipureintro; rfl
      iexact H20
    isplitl [H21]
    · iexists _; iexists g21; isplitr; · ipureintro; rfl
      iexact H21
    iexact HP
  isplitl [HO]; · iexact HO
  isplitl [H2]
  · iexists f2; isplitr; · ipureintro; exact r2
    iexact H2
  isplitl [H3]
  · iexists f3; isplitr; · ipureintro; exact r3
    iexact H3
  isplitl [H4]
  · iexists f4; isplitr; · ipureintro; exact r4
    iexact H4
  isplitl [H5]
  · iexists f5; isplitr; · ipureintro; exact r5
    iexact H5
  isplitl [H6]
  · iexists f6; isplitr; · ipureintro; exact r6
    iexact H6
  isplitl [H7]
  · iexists f7; isplitr; · ipureintro; exact r7
    iexact H7
  isplitl [H8]
  · iexists g8; isplitr; · ipureintro; exact q8
    iexact H8
  isplitl [H9]
  · iexists g9; isplitr; · ipureintro; exact q9
    iexact H9
  isplitl [H10]
  · iexists g10; isplitr; · ipureintro; exact q10
    iexact H10
  iexists g11; isplitr; · ipureintro; exact q11
  iexact H11

/-- Every point. -/
theorem body_obligation (c : Dev nD) : BodyObligation (dats (F := F) m 0 c) (defs₀ (F := F)) Variants.none () Set.univ := fun t => by
  sl_whnfR [defs₀, Defs.onTc]
  by_cases hj : t.val % 16 = 15
  · exact obligation_last m c t hj
  · exact obligation_next m c t hj

set_option backward.isDefEq.respectTransparency.types false in
/-- From any memory with zero counters every execution terminates, with the arrays as the pipeline's data says and the
    counters at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := fun _ _ => rfl)
    (hin := fun c => inv_intro m c) (hout := fun c => inv_elim m c _)

/-- The arguments keep their contents and the counters end at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.KernelIdeal.Fox

end
-- ==== Proof.FoxValue.Arrays.lean ====
/-
  The kernel's four result arrays after the run, over finite inputs: they are the reference's.
-/
module

public import proofs.«01_k».proof.Proof.FoxValue.Windows
public import proofs.«01_k».proof.Proof.FoxValue.Reference
public import proofs.«01_k».proof.Proof.FoxBwd.Region

@[expose] public section

set_option maxRecDepth 16384

noncomputable section

namespace Cert.KernelIdeal.Fox

open Idealize.ShloMosaic Idealize.ShloMosaic.TcCoe Idealize.SL.Sem
open Cert.KernelIdeal Cert.KernelIdeal.Gen
open Cert.Fox
open Cert.ReferenceIdeal.Fox (hd ln v91_at v93_at v95_at v97_at)
open Cert.ReferenceIdeal.Read (val_main_v91 val_main_v93 val_main_v95 val_main_v97)

theorem index_dq : ∀ t : Fin grid0.N, win0_6.index t = ![0, t.val / 16] := by decide +kernel
theorem index_dk : ∀ t : Fin grid0.N, win0_7.index t = ![t.val % 16, t.val / 16] := by decide +kernel
theorem index_dv : ∀ t : Fin grid0.N, win0_8.index t = ![t.val % 16, t.val / 16] := by decide +kernel
theorem index_dr : ∀ t : Fin grid0.N, win0_9.index t = ![t.val / 16, 0, 0] := by decide +kernel

theorem dqOut_apply (v : Vec Ideal S128x8192 .f32) (s : Fin 8192) (d : Fin 128) : dqOut v (ix2 s d) = v (ix2 d s) * scaleWord := by
  have e : (Rect.unitLocal (s := S8192x128) (off := ![512 * (s.val / 512), 0]) (size := S512x128.size) (ix2 s d) (row_in (ix2 s d) _ rfl) : S512x128.Idx)
      = (ix2 (⟨s.val % 512, by omega⟩ : Fin 512) d : S512x128.Idx) := by
    funext a
    refine Fin.ext ?_
    match a with
    | ⟨0, _⟩ => show s.val - 512 * (s.val / 512) = s.val % 512; omega
    | ⟨1, _⟩ => show d.val - 0 = d.val; omega
  refine (congrArg (dqBlk v ⟨s.val / 512, row_lt (ix2 s d)⟩) e).trans ?_
  unfold dqBlk
  rw [pay94_apply]
  refine congrArg (fun a : EReal => a * scaleWord) ((window_col v ⟨s.val / 512, row_lt (ix2 s d)⟩ d ⟨s.val % 512, by omega⟩).trans
    (congrArg v (congrArg (ix2 d) (Fin.ext ?_))))
  show 512 * (s.val / 512) + s.val % 512 = s.val
  omega

variable (m : (ℓ : Loc nD τ sig) → Buf (Elt Ideal) ℓ) (c : Dev nD) (t : Fin cfg0.N)
variable (hx : Finite (m ((c : Thread nD τ).loc main_arg0)) (m ((c : Thread nD τ).loc main_arg1)) (m ((c : Thread nD τ).loc main_arg2)))

/-- The reference's results of device `c`'s arguments. -/
def refQ : FVec Ideal S8192x1024 .bf16 := val_main_v93 (F := Ideal) (m ((c : Thread nD τ).loc main_arg0)) (m ((c : Thread nD τ).loc main_arg1)) (m ((c : Thread nD τ).loc main_arg2))
def refK : FVec Ideal S8192x1024 .bf16 := val_main_v95 (F := Ideal) (m ((c : Thread nD τ).loc main_arg0)) (m ((c : Thread nD τ).loc main_arg1)) (m ((c : Thread nD τ).loc main_arg2))
def refV : FVec Ideal S8192x1024 .bf16 := val_main_v97 (F := Ideal) (m ((c : Thread nD τ).loc main_arg0)) (m ((c : Thread nD τ).loc main_arg1)) (m ((c : Thread nD τ).loc main_arg2))
def refR : FVec Ideal S8x8x8192 .f32 := val_main_v91 (F := Ideal) (m ((c : Thread nD τ).loc main_arg0)) (m ((c : Thread nD τ).loc main_arg1)) (m ((c : Thread nD τ).loc main_arg2))

/-- The lane of the array at which head `t / 16` holds its lane `d`. -/
def lane (d : Fin 128) : Fin 1024 := ⟨128 * (t.val / 16) + d.val, by have := head_lt t; omega⟩

theorem hd_lane (d : Fin 128) : hd (lane t d) = ⟨t.val / 16, head_lt t⟩ := Fin.ext (by
  show (128 * (t.val / 16) + d.val) / 128 = t.val / 16; omega)
theorem ln_lane (d : Fin 128) : ln (lane t d) = d := Fin.ext (by
  show (128 * (t.val / 16) + d.val) % 128 = d.val; omega)

include hx in
theorem dq_at (ht : t.val % 16 = 15) (s : Fin 8192) (d : Fin 128) : dqOut (accAt m c t).dqt (ix2 s d) = refQ m c (ix2 s (lane t d)) := by
  rw [dqOut_apply, (carry_at m c t hx).d, (ctx_is m c t hx).σ, ht, hdN_eq, refQ]
  refine Eq.trans ?_ (v93_at hx s (lane t d)).symm
  rw [hd_lane, ln_lane, ← EReal.coe_mul, Finset.sum_mul]
  exact congrArg _ (Finset.sum_congr rfl fun u _ => by ring)

include hx in
theorem dk_at (a : Fin 512) (d : Fin 128) : k0_pay1 (k0_pay127 (accAt m c t).dka) (ix2 a d)
    = refK m c (ix2 ⟨512 * (t.val % 16) + a.val, by omega⟩ (lane t d)) := by
  rw [pay1_apply, (acc_at m c t hx).dka, (ctx_is m c t hx).σ, hdN_eq, refK]
  refine Eq.trans ?_ (v95_at hx _ (lane t d)).symm
  rw [hd_lane, ln_lane, ← EReal.coe_mul, Finset.sum_mul]
  exact congrArg _ (Finset.sum_congr rfl fun u _ => by ring)

include hx in
theorem dv_at (a : Fin 512) (d : Fin 128) : k0_pay2 (accAt m c t).dva (ix2 a d)
    = refV m c (ix2 ⟨512 * (t.val % 16) + a.val, by omega⟩ (lane t d)) := by
  rw [pay2_apply, (acc_at m c t hx).dva, hdN_eq, refV]
  refine Eq.trans ?_ (v97_at hx _ (lane t d)).symm
  rw [hd_lane, ln_lane]
  exact congrArg _ (Finset.sum_congr rfl fun u _ => by ring)

include hx in
theorem dr_at (ht : t.val % 16 = 15) (r : Fin 8) (s : Fin 8192) : k0_pay93 (drOut (jAt t) (accAt m c t)) (ix3 0 r s)
    = refR m c (ix3 ⟨t.val / 16, head_lt t⟩ r s) := by
  rw [pay93_apply, refR]
  refine Eq.trans ?_ (v91_at hx _ s r).symm
  have hC := carry_at m c t hx
  rw [ht, hdN_eq] at hC
  by_cases h0 : r = 0
  · rw [if_pos h0, h0, hC.r0]
  · rw [if_neg h0, hC.rest r s h0, rowsTo]
    exact if_congr (and_iff_left (show s.val < 512 * 16 by omega)) rfl rfl

include hx in
theorem arr_dq : (dats m 0 c).arrAt 6 cfg0.N = refQ m c := by
  refine (dats m 0 c).arrAt_eq_of_covers 6 _ (by decide +kernel) fun t hf y => ?_
  blk_simp
  rw [after0_6]
  have e : y = ix2 (y 0) (y 1) := by blk_ext
  refine Eq.trans ?_ ((dq_at m c t hx ((flush0_6 t).mp hf) (y 0) (y 1)).trans (congrArg (refQ m c) ?_))
  · exact congrArg (dqOut (accAt m c t).dqt) (by blk_ext)
  · blk_ext [lane, index_dq t]

include hx in
theorem arr_dk : (dats m 0 c).arrAt 7 cfg0.N = refK m c := by
  refine (dats m 0 c).arrAt_eq_of_covers 7 _ (by decide +kernel) fun t hf y => ?_
  blk_simp
  rw [after0_7]
  refine Eq.trans ?_ ((dk_at m c t hx (y 0) (y 1)).trans (congrArg (refK m c) ?_))
  · exact congrArg (k0_pay1 (k0_pay127 (accAt m c t).dka)) (by blk_ext)
  · blk_ext [lane, index_dk t]

include hx in
theorem arr_dv : (dats m 0 c).arrAt 8 cfg0.N = refV m c := by
  refine (dats m 0 c).arrAt_eq_of_covers 8 _ (by decide +kernel) fun t hf y => ?_
  blk_simp
  rw [after0_8]
  refine Eq.trans ?_ ((dv_at m c t hx (y 0) (y 1)).trans (congrArg (refV m c) ?_))
  · exact congrArg (k0_pay2 (accAt m c t).dva) (by blk_ext)
  · blk_ext [lane, index_dv t]

include hx in
theorem arr_dr : (dats m 0 c).arrAt 9 cfg0.N = refR m c := by
  refine (dats m 0 c).arrAt_eq_of_covers 9 _ (by decide +kernel) fun t hf y => ?_
  blk_simp
  rw [after0_9]
  refine Eq.trans ?_ ((dr_at m c t hx ((flush0_9 t).mp hf) (y 1) (y 2)).trans (congrArg (refR m c) ?_))
  · exact congrArg (k0_pay93 (drOut (jAt t) (accAt m c t))) (by blk_ext)
  · blk_ext [index_dr t]

theorem array_dq (c : Dev nD) (r : PUnit × MemSt nD τ sig (Elt Ideal)) (h : Pipeline.FramePost cfgs (dats m) 0 (V m) r) :
    r.2.mem ((c.tc : Thread nD τ).loc main_v47_0) = (dats m 0 c).arrAt 6 cfg0.N := (h c).1 6
theorem array_dk (c : Dev nD) (r : PUnit × MemSt nD τ sig (Elt Ideal)) (h : Pipeline.FramePost cfgs (dats m) 0 (V m) r) :
    r.2.mem ((c.tc : Thread nD τ).loc main_v47_1) = (dats m 0 c).arrAt 7 cfg0.N := (h c).1 7
theorem array_dv (c : Dev nD) (r : PUnit × MemSt nD τ sig (Elt Ideal)) (h : Pipeline.FramePost cfgs (dats m) 0 (V m) r) :
    r.2.mem ((c.tc : Thread nD τ).loc main_v47_2) = (dats m 0 c).arrAt 8 cfg0.N := (h c).1 8
theorem array_dr (c : Dev nD) (r : PUnit × MemSt nD τ sig (Elt Ideal)) (h : Pipeline.FramePost cfgs (dats m) 0 (V m) r) :
    r.2.mem ((c.tc : Thread nD τ).loc main_v47_3) = (dats m 0 c).arrAt 9 cfg0.N := (h c).1 9
theorem array_0 (c : Dev nD) (r : PUnit × MemSt nD τ sig (Elt Ideal)) (h : Pipeline.FramePost cfgs (dats m) 0 (V m) r) :
    r.2.mem ((c.tc : Thread nD τ).loc main_arg0) = m ((c.tc : Thread nD τ).loc main_arg0) :=
  ((h c).1 2).trans (((dats m 0 c).arrAt_in 2 rfl _).trans ((A_eq m c 2).trans (V_main_arg0 m c)))
theorem array_1 (c : Dev nD) (r : PUnit × MemSt nD τ sig (Elt Ideal)) (h : Pipeline.FramePost cfgs (dats m) 0 (V m) r) :
    r.2.mem ((c.tc : Thread nD τ).loc main_arg1) = m ((c.tc : Thread nD τ).loc main_arg1) :=
  ((h c).1 3).trans (((dats m 0 c).arrAt_in 3 rfl _).trans ((A_eq m c 3).trans (V_main_arg1 m c)))
theorem array_2 (c : Dev nD) (r : PUnit × MemSt nD τ sig (Elt Ideal)) (h : Pipeline.FramePost cfgs (dats m) 0 (V m) r) :
    r.2.mem ((c.tc : Thread nD τ).loc main_arg2) = m ((c.tc : Thread nD τ).loc main_arg2) :=
  ((h c).1 5).trans (((dats m 0 c).arrAt_in 5 rfl _).trans ((A_eq m c 5).trans (V_main_arg2 m c)))

/-- The run: the reference's results, and the arguments as they were. -/
theorem run_value (ρ : Dev nD → PrngReg)
    (hx : ∀ c : Dev nD, Finite (m ((c : Thread nD τ).loc main_arg0)) (m ((c : Thread nD τ).loc main_arg1)) (m ((c : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v47_0) = refQ m c
      ∧ r.2.mem ((c.tc : Thread nD τ).loc main_v47_1) = refK m c
      ∧ r.2.mem ((c.tc : Thread nD τ).loc main_v47_2) = refV m c
      ∧ r.2.mem ((c.tc : Thread nD τ).loc main_v47_3) = refR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(array_dq m c r h.1).trans (arr_dq m c (hx c)), (array_dk m c r h.1).trans (arr_dk m c (hx c)),
      (array_dv m c r h.1).trans (arr_dv m c (hx c)), (array_dr m c r h.1).trans (arr_dr m c (hx c)),
      array_0 m c r h.1, array_1 m c r h.1, array_2 m c r h.1⟩) (run_main m ρ)

end Cert.KernelIdeal.Fox

end
-- ==== Proof.Products.GwIn.lean ====
/-
  The gradient of the first weight: each block of the result array is the sum, over the four blocks of rows, of products
  of the two operands' blocks.
-/
module

public import proofs.«01_k».proof.Proof.Gen.GwInIdeal.Value
public import proofs.«01_k».proof.Proof.Gen.GwInIdeal
public import proofs.«01_k».proof.Proof.Gen.GwInReferenceIdeal
public import proofs.«01_k».proof.Proof.Gen.GwInReferenceIdeal.Run
public import proofs.«01_k».proof.Proof.Gen.GwInReferenceIdeal.Read
public import proofs.«01_k».proof.Defs
public import Idealize.ShloMosaic.Lib.Pipeline.ValueKit
public import Idealize.ShloMosaic.Lib.Pipeline.ReadBack
public import Idealize.ShloMosaic.Lib.Quiescent

@[expose] public section

set_option maxRecDepth 16384

noncomputable section

namespace Cert.GwInIdeal.Product

open Idealize.ShloMosaic Idealize.ShloMosaic.TcCoe Idealize.SL.Sem
open Cert.GwInIdeal Cert.GwInIdeal.Gen

theorem index_x : ∀ t : Fin grid0.N, win0_0.index t = ![t.val % 4, t.val / 4 % 2] := by decide +kernel
theorem index_w : ∀ t : Fin grid0.N, win0_1.index t = ![t.val % 4, t.val / 8] := by decide +kernel
theorem index_o : ∀ t : Fin grid0.N, win0_2.index t = ![t.val / 4 % 2, t.val / 8] := by decide +kernel

/-- The product of two blocks at an index. -/
def part (x w : FVec Ideal S2048x1024 .bf16) (y : S1024x1024.Idx) : EReal :=
  ∑ k : Fin 2048, x (ix2 k (y 0)) * w (ix2 k (y 1))

theorem pay1_apply (x w : Vec Ideal S2048x1024 .bf16) (y : S1024x1024.Idx) : k0_pay1 (F := Ideal) x w y = part x w y := by
  unfold part
  pointwise [k0_pay1]

theorem pay2_apply (x w : Vec Ideal S2048x1024 .bf16) (y : S1024x1024.Idx) : k0_pay2 (F := Ideal) x w y = 0 + part x w y := by
  rw [zero_add, ← pay1_apply]
  pointwise [k0_pay2]

theorem pay3_apply (x w : Vec Ideal S2048x1024 .bf16) (a : Vec Ideal S1024x1024 .f32) (y : S1024x1024.Idx) :
    k0_pay3 (F := Ideal) x w a y = a y + part x w y := by
  rw [← pay1_apply]
  pointwise [k0_pay3]

theorem pay4_apply (x w : Vec Ideal S2048x1024 .bf16) (a : Vec Ideal S1024x1024 .f32) (y : S1024x1024.Idx) :
    k0_pay4 (F := Ideal) x w a y = a y + part x w y := by
  rw [← pay1_apply]
  pointwise [k0_pay4]

variable (m : (ℓ : Loc nD τ sig) → Buf (Elt Ideal) ℓ) (c : Dev nD) (t : Fin cfg0.N)

/-- What point `n` leaves: the sum carried so far, and at a run's last point the block it writes. -/
def left (n : ℕ) (h : n < cfg0.N) (y : S1024x1024.Idx) : EReal :=
  if n % 4 = 3 then (outsAt0 m c n h).1 y else (outsAt0 m c n h).2 y

theorem left_first (h : t.val % 4 = 0) (y : S1024x1024.Idx) :
    left m c t.val t.isLt y = (0 : EReal) + part (iblk m c 0 t) (iblk m c 1 t) y := by
  unfold left
  rw [if_neg (by omega), outsAt0_A m c t h (by omega) (by omega)]
  frame_out
  exact pay2_apply _ _ y

theorem left_next (h : ¬t.val % 4 = 0) (y : S1024x1024.Idx) :
    left m c t.val t.isLt y = left m c (t.val - 1) (Nat.lt_of_le_of_lt (Nat.sub_le _ _) t.isLt) y + part (iblk m c 0 t) (iblk m c 1 t) y := by
  unfold left
  rw [if_neg (show ¬(t.val - 1) % 4 = 3 by omega)]
  by_cases h3 : t.val % 4 = 3
  · rw [if_pos h3, outsAt0_C m c t h (by omega) h3]
    frame_out
    simp only [read_unread_whole]
    exact pay4_apply _ _ _ y
  · rw [if_neg h3, outsAt0_B m c t h (by omega) h3]
    frame_out
    simp only [read_unread_whole]
    exact pay3_apply _ _ _ y

/-- The block a run's last point writes. -/
theorem block_at (h : t.val % 4 = 3) (y : S1024x1024.Idx) : (outsAt0 m c t.val t.isLt).1 y
    = ∑ s : Fin 4, part (iblk m c 0 ⟨4 * (t.val / 4) + s.val, Pipeline.run_point_lt_of_flush t h s⟩) (iblk m c 1 ⟨4 * (t.val / 4) + s.val, Pipeline.run_point_lt_of_flush t h s⟩) y := by
  refine Eq.trans (if_pos h).symm ((Pipeline.eq_sum_fin_of_reset_step_apply_of_flush (left m c) 4 (fun _ => 0) (fun t y => part (iblk m c 0 t) (iblk m c 1 t) y)
    (left_first m c) (left_next m c) t h y).trans (zero_add _))

/-- The product of the two arguments. -/
def full (x : FVec Ideal S8192x2048 .bf16) (w : FVec Ideal S8192x7168 .bf16) : FVec Ideal S2048x7168 .bf16 :=
  fun i => (∑ k : Fin 8192, x (ix2 k (i 0)) * w (ix2 k (i 1)) : EReal)

theorem arr : (dats m 0 c).arrAt 2 cfg0.N = full (m ((c : Thread nD τ).loc main_arg0)) (m ((c : Thread nD τ).loc main_arg1)) := by
  refine (dats m 0 c).arrAt_eq_of_covers 2 _ (by decide +kernel) fun t hf y => ?_
  blk_simp
  rw [after0_2]
  have h := (flush0_2 t).mp hf
  refine (block_at m c t h _).trans ?_
  refine Fin.sum_mul_add_congr fun s k hl => ?_
  refine congrArg₂ (fun a b : EReal => a * b) ?_ ?_
  · show m ((c : Thread nD τ).loc main_arg0) _ = m ((c : Thread nD τ).loc main_arg0) _
    refine congrArg (m ((c : Thread nD τ).loc main_arg0)) ?_
    blk_ext [iblk, index_x, index_o t]
  · show m ((c : Thread nD τ).loc main_arg1) _ = m ((c : Thread nD τ).loc main_arg1) _
    refine congrArg (m ((c : Thread nD τ).loc main_arg1)) ?_
    blk_ext [iblk, index_w, index_o t]

theorem reference_eq (x : FVec Ideal S8192x2048 .bf16) (w : FVec Ideal S8192x7168 .bf16) :
    Cert.GwInReferenceIdeal.Read.val_main_v6 (F := Ideal) x w = full x w := by
  funext i
  rw [Cert.GwInReferenceIdeal.Read.val_main_v6_apply, Cert.GwInReferenceIdeal.Read.val_main_v5_apply, Ideal.truncf_def,
    Cert.GwInReferenceIdeal.Read.val_main_v4_apply]
  refine Finset.sum_congr rfl fun k _ => (mul_comm _ _).trans (congrArg₂ (fun a b : EReal => a * b) ?_ ?_)
  · exact congrArg x (funext fun a => match a with | ⟨0, _⟩ => rfl | ⟨1, _⟩ => rfl)
  · exact congrArg w (funext fun a => match a with | ⟨0, _⟩ => rfl | ⟨1, _⟩ => rfl)

/-- The reference leaves its arguments and its counters. -/
theorem frame_reference : Cert.quiescent_GwInReferenceIdeal (hGwInReferenceIdeal := Cert.GwInReferenceIdeal.Gen.facts) :=
  fun m ρ _ => (θ_run Cert.GwInReferenceIdeal.defs _ _).mono (fun r h => ⟨fun c => (h c).2,
    sem_eq_zero_of_no_sems (by decide) r.2⟩) (Cert.GwInReferenceIdeal.Value.run (F := Ideal) m ρ)

/-- The kernel computes what the reference computes. -/
theorem value : Cert.algebraic_GwInIdeal_GwInReferenceIdeal (hGwInIdeal := Cert.GwInIdeal.Gen.facts)
    (hGwInReferenceIdeal := Cert.GwInReferenceIdeal.Gen.facts) := by
  intro m g m' g' _ hm
  refine ⟨fun c => full (m ((c.tc : Thread nD τ).loc main_arg0)) (m ((c.tc : Thread nD τ).loc main_arg1)), ?_, ?_⟩
  · exact (θ_run defs _ _).mono (fun r h c => ⟨(h c).1.trans (arr m c), (h c).2⟩) (Cert.GwInIdeal.Value.run_blocks m g)
  · refine (θ_run Cert.GwInReferenceIdeal.defs _ _).mono (fun r h c => ⟨(h c).1.trans ?_, (h c).2⟩)
      (Cert.GwInReferenceIdeal.Value.run (F := Ideal) m' g')
    rw [Cert.GwInReferenceIdeal.Read.val_main_v6_eq, (hm c).1, (hm c).2]
    exact reference_eq _ _

end Cert.GwInIdeal.Product

end
-- ==== Proof.Products.DH.lean ====
/-
  The gradient of the first normalisation: each block of the result array is the sum, over the four blocks of columns, of
  products of the two operands' blocks.
-/
module

public import proofs.«01_k».proof.Proof.Gen.DHIdeal.Value
public import proofs.«01_k».proof.Proof.Gen.DHIdeal
public import proofs.«01_k».proof.Proof.Gen.DHReferenceIdeal
public import proofs.«01_k».proof.Proof.Gen.DHReferenceIdeal.Run
public import proofs.«01_k».proof.Proof.Gen.DHReferenceIdeal.Read
public import proofs.«01_k».proof.Defs
public import Idealize.ShloMosaic.Lib.Pipeline.ValueKit
public import Idealize.ShloMosaic.Lib.Pipeline.ReadBack
public import Idealize.ShloMosaic.Lib.Quiescent

@[expose] public section

set_option maxRecDepth 16384

noncomputable section

namespace Cert.DHIdeal.Product

open Idealize.ShloMosaic Idealize.ShloMosaic.TcCoe Idealize.SL.Sem
open Cert.DHIdeal Cert.DHIdeal.Gen

theorem index_x : ∀ t : Fin grid0.N, win0_0.index t = ![t.val / 4 % 8, t.val % 4] := by decide +kernel
theorem index_w : ∀ t : Fin grid0.N, win0_1.index t = ![t.val / 32, t.val % 4] := by decide +kernel
theorem index_o : ∀ t : Fin grid0.N, win0_2.index t = ![t.val / 4 % 8, t.val / 32] := by decide +kernel

/-- The product of two blocks at an index. -/
def part (x : FVec Ideal S1024x1792 .bf16) (w : FVec Ideal S1024x1792 .bf16) (y : S1024x1024.Idx) : EReal :=
  ∑ k : Fin 1792, x (ix2 (y 0) k) * w (ix2 (y 1) k)

theorem pay1_apply (x : Vec Ideal S1024x1792 .bf16) (w : Vec Ideal S1024x1792 .bf16) (y : S1024x1024.Idx) : k0_pay1 (F := Ideal) x w y = part x w y := by
  unfold part
  pointwise [k0_pay1]

theorem pay2_apply (x : Vec Ideal S1024x1792 .bf16) (w : Vec Ideal S1024x1792 .bf16) (y : S1024x1024.Idx) : k0_pay2 (F := Ideal) x w y = 0 + part x w y := by
  rw [zero_add, ← pay1_apply]
  pointwise [k0_pay2]

theorem pay3_apply (x : Vec Ideal S1024x1792 .bf16) (w : Vec Ideal S1024x1792 .bf16) (a : Vec Ideal S1024x1024 .f32) (y : S1024x1024.Idx) :
    k0_pay3 (F := Ideal) x w a y = a y + part x w y := by
  rw [← pay1_apply]
  pointwise [k0_pay3]

theorem pay4_apply (x : Vec Ideal S1024x1792 .bf16) (w : Vec Ideal S1024x1792 .bf16) (a : Vec Ideal S1024x1024 .f32) (y : S1024x1024.Idx) :
    k0_pay4 (F := Ideal) x w a y = a y + part x w y := by
  rw [← pay1_apply]
  pointwise [k0_pay4]

variable (m : (ℓ : Loc nD τ sig) → Buf (Elt Ideal) ℓ) (c : Dev nD) (t : Fin cfg0.N)

/-- What point `n` leaves: the sum carried so far, and at a run's last point the block it writes. -/
def left (n : ℕ) (h : n < cfg0.N) (y : S1024x1024.Idx) : EReal :=
  if n % 4 = 3 then (outsAt0 m c n h).1 y else (outsAt0 m c n h).2 y

theorem left_first (h : t.val % 4 = 0) (y : S1024x1024.Idx) :
    left m c t.val t.isLt y = (0 : EReal) + part (iblk m c 0 t) (iblk m c 1 t) y := by
  unfold left
  rw [if_neg (by omega), outsAt0_A m c t h (by omega) (by omega)]
  frame_out
  exact pay2_apply _ _ y

theorem left_next (h : ¬t.val % 4 = 0) (y : S1024x1024.Idx) :
    left m c t.val t.isLt y = left m c (t.val - 1) (Nat.lt_of_le_of_lt (Nat.sub_le _ _) t.isLt) y + part (iblk m c 0 t) (iblk m c 1 t) y := by
  unfold left
  rw [if_neg (show ¬(t.val - 1) % 4 = 3 by omega)]
  by_cases h3 : t.val % 4 = 3
  · rw [if_pos h3, outsAt0_C m c t h (by omega) h3]
    frame_out
    simp only [read_unread_whole]
    exact pay4_apply _ _ _ y
  · rw [if_neg h3, outsAt0_B m c t h (by omega) h3]
    frame_out
    simp only [read_unread_whole]
    exact pay3_apply _ _ _ y

/-- The block a run's last point writes. -/
theorem block_at (h : t.val % 4 = 3) (y : S1024x1024.Idx) : (outsAt0 m c t.val t.isLt).1 y
    = ∑ s : Fin 4, part (iblk m c 0 ⟨4 * (t.val / 4) + s.val, Pipeline.run_point_lt_of_flush t h s⟩) (iblk m c 1 ⟨4 * (t.val / 4) + s.val, Pipeline.run_point_lt_of_flush t h s⟩) y := by
  refine Eq.trans (if_pos h).symm ((Pipeline.eq_sum_fin_of_reset_step_apply_of_flush (left m c) 4 (fun _ => 0) (fun t y => part (iblk m c 0 t) (iblk m c 1 t) y)
    (left_first m c) (left_next m c) t h y).trans (zero_add _))

/-- The product of the two arguments. -/
def full (x : FVec Ideal S8192x7168 .bf16) (w : FVec Ideal S2048x7168 .bf16) : FVec Ideal S8192x2048 .f32 :=
  fun i => (∑ k : Fin 7168, x (ix2 (i 0) k) * w (ix2 (i 1) k) : EReal)

theorem arr : (dats m 0 c).arrAt 2 cfg0.N = full (m ((c : Thread nD τ).loc main_arg0)) (m ((c : Thread nD τ).loc main_arg1)) := by
  refine (dats m 0 c).arrAt_eq_of_covers 2 _ (by decide +kernel) fun t hf y => ?_
  blk_simp
  rw [after0_2]
  have h := (flush0_2 t).mp hf
  refine (block_at m c t h _).trans ?_
  refine Fin.sum_mul_add_congr fun s k hl => ?_
  refine congrArg₂ (fun a b : EReal => a * b) ?_ ?_
  · show m ((c : Thread nD τ).loc main_arg0) _ = m ((c : Thread nD τ).loc main_arg0) _
    refine congrArg (m ((c : Thread nD τ).loc main_arg0)) ?_
    blk_ext [iblk, index_x, index_o t]
  · show m ((c : Thread nD τ).loc main_arg1) _ = m ((c : Thread nD τ).loc main_arg1) _
    refine congrArg (m ((c : Thread nD τ).loc main_arg1)) ?_
    blk_ext [iblk, index_w, index_o t]

theorem reference_eq (x : FVec Ideal S8192x7168 .bf16) (w : FVec Ideal S2048x7168 .bf16) :
    Cert.DHReferenceIdeal.Read.val_main_v4 (F := Ideal) x w = full x w := by
  funext i
  rw [Cert.DHReferenceIdeal.Read.val_main_v4_apply]
  refine Finset.sum_congr rfl fun k _ => congrArg₂ (fun a b : EReal => a * b) ?_ ?_
  · exact congrArg x (funext fun a => match a with | ⟨0, _⟩ => rfl | ⟨1, _⟩ => rfl)
  · exact congrArg w (funext fun a => match a with | ⟨0, _⟩ => rfl | ⟨1, _⟩ => rfl)

/-- The reference leaves its arguments and its counters. -/
theorem frame_reference : Cert.quiescent_DHReferenceIdeal (hDHReferenceIdeal := Cert.DHReferenceIdeal.Gen.facts) :=
  fun m ρ _ => (θ_run Cert.DHReferenceIdeal.defs _ _).mono (fun r h => ⟨fun c => (h c).2,
    sem_eq_zero_of_no_sems (by decide) r.2⟩) (Cert.DHReferenceIdeal.Value.run (F := Ideal) m ρ)

/-- The kernel computes what the reference computes. -/
theorem value : Cert.algebraic_DHIdeal_DHReferenceIdeal (hDHIdeal := Cert.DHIdeal.Gen.facts)
    (hDHReferenceIdeal := Cert.DHReferenceIdeal.Gen.facts) := by
  intro m g m' g' _ hm
  refine ⟨fun c => full (m ((c.tc : Thread nD τ).loc main_arg0)) (m ((c.tc : Thread nD τ).loc main_arg1)), ?_, ?_⟩
  · exact (θ_run defs _ _).mono (fun r h c => ⟨(h c).1.trans (arr m c), (h c).2⟩) (Cert.DHIdeal.Value.run_blocks m g)
  · refine (θ_run Cert.DHReferenceIdeal.defs _ _).mono (fun r h c => ⟨(h c).1.trans ?_, (h c).2⟩)
      (Cert.DHReferenceIdeal.Value.run (F := Ideal) m' g')
    rw [Cert.DHReferenceIdeal.Read.val_main_v4_eq, (hm c).1, (hm c).2.1]
    exact reference_eq _ _

end Cert.DHIdeal.Product

end
-- ==== Proof.Products.GwOut.lean ====
/-
  The gradient of the last weight: each block of the result array is the sum, over the four blocks of rows, of products
  of the two operands' blocks.
-/
module

public import proofs.«01_k».proof.Proof.Gen.GwOutIdeal.Value
public import proofs.«01_k».proof.Proof.Gen.GwOutIdeal
public import proofs.«01_k».proof.Proof.Gen.GwOutReferenceIdeal
public import proofs.«01_k».proof.Proof.Gen.GwOutReferenceIdeal.Run
public import proofs.«01_k».proof.Proof.Gen.GwOutReferenceIdeal.Read
public import proofs.«01_k».proof.Defs
public import Idealize.ShloMosaic.Lib.Pipeline.ValueKit
public import Idealize.ShloMosaic.Lib.Pipeline.ReadBack
public import Idealize.ShloMosaic.Lib.Quiescent

@[expose] public section

set_option maxRecDepth 16384

noncomputable section

namespace Cert.GwOutIdeal.Product

open Idealize.ShloMosaic Idealize.ShloMosaic.TcCoe Idealize.SL.Sem
open Cert.GwOutIdeal Cert.GwOutIdeal.Gen

theorem index_x : ∀ t : Fin grid0.N, win0_0.index t = ![t.val % 4, t.val / 4 % 2] := by decide +kernel
theorem index_w : ∀ t : Fin grid0.N, win0_1.index t = ![t.val % 4, t.val / 8] := by decide +kernel
theorem index_o : ∀ t : Fin grid0.N, win0_2.index t = ![t.val / 4 % 2, t.val / 8] := by decide +kernel

/-- The product of two blocks at an index. -/
def part (x : FVec Ideal S2048x1024 .bf16) (w : FVec Ideal S2048x1024 .f32) (y : S1024x1024.Idx) : EReal :=
  ∑ k : Fin 2048, x (ix2 k (y 0)) * w (ix2 k (y 1))

theorem pay1_apply (x : Vec Ideal S2048x1024 .bf16) (w : Vec Ideal S2048x1024 .f32) (y : S1024x1024.Idx) : k0_pay1 (F := Ideal) x w y = part x w y := by
  unfold part
  pointwise [k0_pay1]

theorem pay2_apply (x : Vec Ideal S2048x1024 .bf16) (w : Vec Ideal S2048x1024 .f32) (y : S1024x1024.Idx) : k0_pay2 (F := Ideal) x w y = 0 + part x w y := by
  rw [zero_add, ← pay1_apply]
  pointwise [k0_pay2]

theorem pay3_apply (x : Vec Ideal S2048x1024 .bf16) (w : Vec Ideal S2048x1024 .f32) (a : Vec Ideal S1024x1024 .f32) (y : S1024x1024.Idx) :
    k0_pay3 (F := Ideal) x w a y = a y + part x w y := by
  rw [← pay1_apply]
  pointwise [k0_pay3]

theorem pay4_apply (x : Vec Ideal S2048x1024 .bf16) (w : Vec Ideal S2048x1024 .f32) (a : Vec Ideal S1024x1024 .f32) (y : S1024x1024.Idx) :
    k0_pay4 (F := Ideal) x w a y = a y + part x w y := by
  rw [← pay1_apply]
  pointwise [k0_pay4]

variable (m : (ℓ : Loc nD τ sig) → Buf (Elt Ideal) ℓ) (c : Dev nD) (t : Fin cfg0.N)

/-- What point `n` leaves: the sum carried so far, and at a run's last point the block it writes. -/
def left (n : ℕ) (h : n < cfg0.N) (y : S1024x1024.Idx) : EReal :=
  if n % 4 = 3 then (outsAt0 m c n h).1 y else (outsAt0 m c n h).2 y

theorem left_first (h : t.val % 4 = 0) (y : S1024x1024.Idx) :
    left m c t.val t.isLt y = (0 : EReal) + part (iblk m c 0 t) (iblk m c 1 t) y := by
  unfold left
  rw [if_neg (by omega), outsAt0_A m c t h (by omega) (by omega)]
  frame_out
  exact pay2_apply _ _ y

theorem left_next (h : ¬t.val % 4 = 0) (y : S1024x1024.Idx) :
    left m c t.val t.isLt y = left m c (t.val - 1) (Nat.lt_of_le_of_lt (Nat.sub_le _ _) t.isLt) y + part (iblk m c 0 t) (iblk m c 1 t) y := by
  unfold left
  rw [if_neg (show ¬(t.val - 1) % 4 = 3 by omega)]
  by_cases h3 : t.val % 4 = 3
  · rw [if_pos h3, outsAt0_C m c t h (by omega) h3]
    frame_out
    simp only [read_unread_whole]
    exact pay4_apply _ _ _ y
  · rw [if_neg h3, outsAt0_B m c t h (by omega) h3]
    frame_out
    simp only [read_unread_whole]
    exact pay3_apply _ _ _ y

/-- The block a run's last point writes. -/
theorem block_at (h : t.val % 4 = 3) (y : S1024x1024.Idx) : (outsAt0 m c t.val t.isLt).1 y
    = ∑ s : Fin 4, part (iblk m c 0 ⟨4 * (t.val / 4) + s.val, Pipeline.run_point_lt_of_flush t h s⟩) (iblk m c 1 ⟨4 * (t.val / 4) + s.val, Pipeline.run_point_lt_of_flush t h s⟩) y := by
  refine Eq.trans (if_pos h).symm ((Pipeline.eq_sum_fin_of_reset_step_apply_of_flush (left m c) 4 (fun _ => 0) (fun t y => part (iblk m c 0 t) (iblk m c 1 t) y)
    (left_first m c) (left_next m c) t h y).trans (zero_add _))

/-- The product of the two arguments. -/
def full (x : FVec Ideal S8192x2048 .bf16) (w : FVec Ideal S8192x2048 .f32) : FVec Ideal S2048x2048 .bf16 :=
  fun i => (∑ k : Fin 8192, x (ix2 k (i 0)) * w (ix2 k (i 1)) : EReal)

theorem arr : (dats m 0 c).arrAt 2 cfg0.N = full (m ((c : Thread nD τ).loc main_arg0)) (m ((c : Thread nD τ).loc main_arg1)) := by
  refine (dats m 0 c).arrAt_eq_of_covers 2 _ (by decide +kernel) fun t hf y => ?_
  blk_simp
  rw [after0_2]
  have h := (flush0_2 t).mp hf
  refine (block_at m c t h _).trans ?_
  refine Fin.sum_mul_add_congr fun s k hl => ?_
  refine congrArg₂ (fun a b : EReal => a * b) ?_ ?_
  · show m ((c : Thread nD τ).loc main_arg0) _ = m ((c : Thread nD τ).loc main_arg0) _
    refine congrArg (m ((c : Thread nD τ).loc main_arg0)) ?_
    blk_ext [iblk, index_x, index_o t]
  · show m ((c : Thread nD τ).loc main_arg1) _ = m ((c : Thread nD τ).loc main_arg1) _
    refine congrArg (m ((c : Thread nD τ).loc main_arg1)) ?_
    blk_ext [iblk, index_w, index_o t]

theorem reference_eq (x : FVec Ideal S8192x2048 .bf16) (w : FVec Ideal S8192x2048 .f32) :
    Cert.GwOutReferenceIdeal.Read.val_main_v5 (F := Ideal) x w = full x w := by
  funext i
  rw [Cert.GwOutReferenceIdeal.Read.val_main_v5_apply, Cert.GwOutReferenceIdeal.Read.val_main_v4_apply, Ideal.truncf_def, Cert.GwOutReferenceIdeal.Read.val_main_v3_apply]
  refine Finset.sum_congr rfl fun k _ => (mul_comm _ _).trans (congrArg₂ (fun a b : EReal => a * b) ?_ ?_)
  · exact congrArg x (funext fun a => match a with | ⟨0, _⟩ => rfl | ⟨1, _⟩ => rfl)
  · exact congrArg w (funext fun a => match a with | ⟨0, _⟩ => rfl | ⟨1, _⟩ => rfl)

/-- The reference leaves its arguments and its counters. -/
theorem frame_reference : Cert.quiescent_GwOutReferenceIdeal (hGwOutReferenceIdeal := Cert.GwOutReferenceIdeal.Gen.facts) :=
  fun m ρ _ => (θ_run Cert.GwOutReferenceIdeal.defs _ _).mono (fun r h => ⟨fun c => (h c).2,
    sem_eq_zero_of_no_sems (by decide) r.2⟩) (Cert.GwOutReferenceIdeal.Value.run (F := Ideal) m ρ)

/-- The kernel computes what the reference computes. -/
theorem value : Cert.algebraic_GwOutIdeal_GwOutReferenceIdeal (hGwOutIdeal := Cert.GwOutIdeal.Gen.facts)
    (hGwOutReferenceIdeal := Cert.GwOutReferenceIdeal.Gen.facts) := by
  intro m g m' g' _ hm
  refine ⟨fun c => full (m ((c.tc : Thread nD τ).loc main_arg0)) (m ((c.tc : Thread nD τ).loc main_arg1)), ?_, ?_⟩
  · exact (θ_run defs _ _).mono (fun r h c => ⟨(h c).1.trans (arr m c), (h c).2⟩) (Cert.GwOutIdeal.Value.run_blocks m g)
  · refine (θ_run Cert.GwOutReferenceIdeal.defs _ _).mono (fun r h c => ⟨(h c).1.trans ?_, (h c).2⟩)
      (Cert.GwOutReferenceIdeal.Value.run (F := Ideal) m' g')
    rw [Cert.GwOutReferenceIdeal.Read.val_main_v5_eq, (hm c).1, (hm c).2]
    exact reference_eq _ _

end Cert.GwOutIdeal.Product

end
-- ==== Proof.Products.DY.lean ====
/-
  The gradient of the mixed heads: each block of the result array is the product of the two operands' blocks.
-/
module

public import proofs.«01_k».proof.Proof.Gen.DYIdeal.Value
public import proofs.«01_k».proof.Proof.Gen.DYIdeal
public import proofs.«01_k».proof.Proof.Gen.DYReferenceIdeal
public import proofs.«01_k».proof.Proof.Gen.DYReferenceIdeal.Run
public import proofs.«01_k».proof.Proof.Gen.DYReferenceIdeal.Read
public import proofs.«01_k».proof.Defs
public import Idealize.ShloMosaic.Lib.Pipeline.ValueKit
public import Idealize.ShloMosaic.Lib.Pipeline.ReadBack
public import Idealize.ShloMosaic.Lib.Quiescent

@[expose] public section

set_option maxRecDepth 16384

noncomputable section

namespace Cert.DYIdeal.Product

open Idealize.ShloMosaic Idealize.ShloMosaic.TcCoe Idealize.SL.Sem
open Cert.DYIdeal Cert.DYIdeal.Gen

theorem index_x : ∀ t : Fin grid0.N, win0_0.index t = ![t.val % 8, 0] := by decide +kernel
theorem index_w : ∀ t : Fin grid0.N, win0_1.index t = ![t.val / 8, 0] := by decide +kernel
theorem index_o : ∀ t : Fin grid0.N, win0_2.index t = ![t.val % 8, t.val / 8] := by decide +kernel

/-- The product of two blocks at an index. -/
def part (x : FVec Ideal S1024x2048 .f32) (w : FVec Ideal S1024x2048 .bf16) (y : S1024x1024.Idx) : EReal :=
  ∑ k : Fin 2048, x (ix2 (y 0) k) * w (ix2 (y 1) k)

theorem pay1_apply (x : Vec Ideal S1024x2048 .f32) (w : Vec Ideal S1024x2048 .bf16) (y : S1024x1024.Idx) : k0_pay1 (F := Ideal) x w y = part x w y := by
  unfold part
  pointwise [k0_pay1]

variable (m : (ℓ : Loc nD τ sig) → Buf (Elt Ideal) ℓ) (c : Dev nD) (t : Fin cfg0.N)

/-- The product of the two arguments. -/
def full (x : FVec Ideal S8192x2048 .f32) (w : FVec Ideal S2048x2048 .bf16) : FVec Ideal S8192x2048 .f32 :=
  fun i => (∑ k : Fin 2048, x (ix2 (i 0) k) * w (ix2 (i 1) k) : EReal)

theorem arr : (dats m 0 c).arrAt 2 cfg0.N = full (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay1_apply _ _ _).trans (Finset.sum_congr rfl fun k _ => ?_)
  refine congrArg₂ (fun a b : EReal => a * b) ?_ ?_
  · show m ((c : Thread nD τ).loc main_arg0) _ = m ((c : Thread nD τ).loc main_arg0) _
    refine congrArg (m ((c : Thread nD τ).loc main_arg0)) ?_
    blk_ext [iblk, index_x, index_o t]
  · show m ((c : Thread nD τ).loc main_arg1) _ = m ((c : Thread nD τ).loc main_arg1) _
    refine congrArg (m ((c : Thread nD τ).loc main_arg1)) ?_
    blk_ext [iblk, index_w, index_o t]

theorem reference_eq (x : FVec Ideal S8192x2048 .f32) (w : FVec Ideal S2048x2048 .bf16) :
    Cert.DYReferenceIdeal.Read.val_main_v3 (F := Ideal) x w = full x w := by
  funext i
  rw [Cert.DYReferenceIdeal.Read.val_main_v3_apply]
  refine Finset.sum_congr rfl fun k _ => congrArg₂ (fun a b : EReal => a * b) ?_ ?_
  · exact congrArg x (funext fun a => match a with | ⟨0, _⟩ => rfl | ⟨1, _⟩ => rfl)
  · exact congrArg w (funext fun a => match a with | ⟨0, _⟩ => rfl | ⟨1, _⟩ => rfl)

/-- The reference leaves its arguments and its counters. -/
theorem frame_reference : Cert.quiescent_DYReferenceIdeal (hDYReferenceIdeal := Cert.DYReferenceIdeal.Gen.facts) :=
  fun m ρ _ => (θ_run Cert.DYReferenceIdeal.defs _ _).mono (fun r h => ⟨fun c => (h c).2,
    sem_eq_zero_of_no_sems (by decide) r.2⟩) (Cert.DYReferenceIdeal.Value.run (F := Ideal) m ρ)

/-- The kernel computes what the reference computes. -/
theorem value : Cert.algebraic_DYIdeal_DYReferenceIdeal (hDYIdeal := Cert.DYIdeal.Gen.facts)
    (hDYReferenceIdeal := Cert.DYReferenceIdeal.Gen.facts) := by
  intro m g m' g' _ hm
  refine ⟨fun c => full (m ((c.tc : Thread nD τ).loc main_arg0)) (m ((c.tc : Thread nD τ).loc main_arg1)), ?_, ?_⟩
  · exact (θ_run defs _ _).mono (fun r h c => ⟨(h c).1.trans (arr m c), (h c).2⟩) (Cert.DYIdeal.Value.run_blocks m g)
  · refine (θ_run Cert.DYReferenceIdeal.defs _ _).mono (fun r h c => ⟨(h c).1.trans ?_, (h c).2⟩)
      (Cert.DYReferenceIdeal.Value.run (F := Ideal) m' g')
    rw [Cert.DYReferenceIdeal.Read.val_main_v3_eq, (hm c).1, (hm c).2]
    exact reference_eq _ _

end Cert.DYIdeal.Product

end
-- ==== Proof.Products.ProjF.lean ====
/-
  The first half of the input projection: each block of the result array is the product of the two operands' blocks.
-/
module

public import proofs.«01_k».proof.Proof.Gen.ProjFIdeal.Value
public import proofs.«01_k».proof.Proof.Gen.ProjFIdeal
public import proofs.«01_k».proof.Proof.Gen.ProjFReferenceIdeal
public import proofs.«01_k».proof.Proof.Gen.ProjFReferenceIdeal.Run
public import proofs.«01_k».proof.Proof.Gen.ProjFReferenceIdeal.Read
public import proofs.«01_k».proof.Defs
public import Idealize.ShloMosaic.Lib.Pipeline.ValueKit
public import Idealize.ShloMosaic.Lib.Pipeline.ReadBack
public import Idealize.ShloMosaic.Lib.Quiescent

@[expose] public section

set_option maxRecDepth 16384

noncomputable section

namespace Cert.ProjFIdeal.Product

open Idealize.ShloMosaic Idealize.ShloMosaic.TcCoe Idealize.SL.Sem
open Cert.ProjFIdeal Cert.ProjFIdeal.Gen

theorem index_x : ∀ t : Fin grid0.N, win0_0.index t = ![t.val % 8, 0] := by decide +kernel
theorem index_w : ∀ t : Fin grid0.N, win0_1.index t = ![0, t.val / 8] := by decide +kernel
theorem index_o : ∀ t : Fin grid0.N, win0_2.index t = ![t.val % 8, t.val / 8] := by decide +kernel

/-- The product of two blocks at an index. -/
def part (x : FVec Ideal S1024x2048 .bf16) (w : FVec Ideal S2048x896 .bf16) (y : S1024x896.Idx) : EReal :=
  ∑ k : Fin 2048, x (ix2 (y 0) k) * w (ix2 k (y 1))

theorem pay1_apply (x : Vec Ideal S1024x2048 .bf16) (w : Vec Ideal S2048x896 .bf16) (y : S1024x896.Idx) : k0_pay1 (F := Ideal) x w y = part x w y := by
  unfold part
  pointwise [k0_pay1]

variable (m : (ℓ : Loc nD τ sig) → Buf (Elt Ideal) ℓ) (c : Dev nD) (t : Fin cfg0.N)

/-- The product of the two arguments. -/
def full (x : FVec Ideal S8192x2048 .bf16) (w : FVec Ideal S2048x7168 .bf16) : FVec Ideal S8192x3584 .f32 :=
  fun i => (∑ k : Fin 2048, x (ix2 (i 0) k) * w (ix2 k (⟨(i 1).val, Nat.lt_trans (i 1).isLt (by decide)⟩ : Fin 7168)) : EReal)

theorem arr : (dats m 0 c).arrAt 2 cfg0.N = full (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay1_apply _ _ _).trans (Finset.sum_congr rfl fun k _ => ?_)
  refine congrArg₂ (fun a b : EReal => a * b) ?_ ?_
  · show m ((c : Thread nD τ).loc main_arg0) _ = m ((c : Thread nD τ).loc main_arg0) _
    refine congrArg (m ((c : Thread nD τ).loc main_arg0)) ?_
    blk_ext [iblk, index_x, index_o t]
  · show m ((c : Thread nD τ).loc main_arg1) _ = m ((c : Thread nD τ).loc main_arg1) _
    refine congrArg (m ((c : Thread nD τ).loc main_arg1)) ?_
    blk_ext [iblk, index_w, index_o t]

theorem reference_eq (x : FVec Ideal S8192x2048 .bf16) (w : FVec Ideal S2048x7168 .bf16) :
    Cert.ProjFReferenceIdeal.Read.val_main_v3 (F := Ideal) x w = full x w := by
  funext i
  rw [Cert.ProjFReferenceIdeal.Read.val_main_v3_apply]
  refine Finset.sum_congr rfl fun k _ => congrArg₂ (fun a b : EReal => a * b) ?_ ?_
  · exact congrArg x (funext fun a => match a with | ⟨0, _⟩ => rfl | ⟨1, _⟩ => rfl)
  · rw [Cert.ProjFReferenceIdeal.Read.val_main_v2_apply]
    exact congrArg w (funext fun a => match a with | ⟨0, _⟩ => Fin.ext (by simp) | ⟨1, _⟩ => Fin.ext (by simp))

/-- The reference leaves its arguments and its counters. -/
theorem frame_reference : Cert.quiescent_ProjFReferenceIdeal (hProjFReferenceIdeal := Cert.ProjFReferenceIdeal.Gen.facts) :=
  fun m ρ _ => (θ_run Cert.ProjFReferenceIdeal.defs _ _).mono (fun r h => ⟨fun c => (h c).2,
    sem_eq_zero_of_no_sems (by decide) r.2⟩) (Cert.ProjFReferenceIdeal.Value.run (F := Ideal) m ρ)

/-- The kernel computes what the reference computes. -/
theorem value : Cert.algebraic_ProjFIdeal_ProjFReferenceIdeal (hProjFIdeal := Cert.ProjFIdeal.Gen.facts)
    (hProjFReferenceIdeal := Cert.ProjFReferenceIdeal.Gen.facts) := by
  intro m g m' g' _ hm
  refine ⟨fun c => full (m ((c.tc : Thread nD τ).loc main_arg0)) (m ((c.tc : Thread nD τ).loc main_arg1)), ?_, ?_⟩
  · exact (θ_run defs _ _).mono (fun r h c => ⟨(h c).1.trans (arr m c), (h c).2⟩) (Cert.ProjFIdeal.Value.run_blocks m g)
  · refine (θ_run Cert.ProjFReferenceIdeal.defs _ _).mono (fun r h c => ⟨(h c).1.trans ?_, (h c).2⟩)
      (Cert.ProjFReferenceIdeal.Value.run (F := Ideal) m' g')
    rw [Cert.ProjFReferenceIdeal.Read.val_main_v3_eq, (hm c).1, (hm c).2]
    exact reference_eq _ _

end Cert.ProjFIdeal.Product

end
-- ==== Proof.Products.ProjB.lean ====
/-
  The second half of the input projection: each block of the result array is the product of the two operands' blocks.
-/
module

public import proofs.«01_k».proof.Proof.Gen.ProjBIdeal.Value
public import proofs.«01_k».proof.Proof.Gen.ProjBIdeal
public import proofs.«01_k».proof.Proof.Gen.ProjBReferenceIdeal
public import proofs.«01_k».proof.Proof.Gen.ProjBReferenceIdeal.Run
public import proofs.«01_k».proof.Proof.Gen.ProjBReferenceIdeal.Read
public import proofs.«01_k».proof.Defs
public import Idealize.ShloMosaic.Lib.Pipeline.ValueKit
public import Idealize.ShloMosaic.Lib.Pipeline.ReadBack
public import Idealize.ShloMosaic.Lib.Quiescent

@[expose] public section

set_option maxRecDepth 16384

noncomputable section

namespace Cert.ProjBIdeal.Product

open Idealize.ShloMosaic Idealize.ShloMosaic.TcCoe Idealize.SL.Sem
open Cert.ProjBIdeal Cert.ProjBIdeal.Gen

theorem index_x : ∀ t : Fin grid0.N, win0_0.index t = ![t.val % 8, 0] := by decide +kernel
theorem index_w : ∀ t : Fin grid0.N, win0_1.index t = ![0, t.val / 8 + 4] := by decide +kernel
theorem index_o : ∀ t : Fin grid0.N, win0_2.index t = ![t.val % 8, t.val / 8] := by decide +kernel

/-- The product of two blocks at an index. -/
def part (x : FVec Ideal S1024x2048 .bf16) (w : FVec Ideal S2048x896 .bf16) (y : S1024x896.Idx) : EReal :=
  ∑ k : Fin 2048, x (ix2 (y 0) k) * w (ix2 k (y 1))

theorem pay1_apply (x : Vec Ideal S1024x2048 .bf16) (w : Vec Ideal S2048x896 .bf16) (y : S1024x896.Idx) : k0_pay1 (F := Ideal) x w y = part x w y := by
  unfold part
  pointwise [k0_pay1]

variable (m : (ℓ : Loc nD τ sig) → Buf (Elt Ideal) ℓ) (c : Dev nD) (t : Fin cfg0.N)

/-- The product of the two arguments. -/
def full (x : FVec Ideal S8192x2048 .bf16) (w : FVec Ideal S2048x7168 .bf16) : FVec Ideal S8192x3584 .bf16 :=
  fun i => (∑ k : Fin 2048, x (ix2 (i 0) k) * w (ix2 k (⟨3584 + (i 1).val, Nat.add_lt_add_left (i 1).isLt 3584⟩ : Fin 7168)) : EReal)

theorem arr : (dats m 0 c).arrAt 2 cfg0.N = full (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay1_apply _ _ _).trans (Finset.sum_congr rfl fun k _ => ?_)
  refine congrArg₂ (fun a b : EReal => a * b) ?_ ?_
  · show m ((c : Thread nD τ).loc main_arg0) _ = m ((c : Thread nD τ).loc main_arg0) _
    refine congrArg (m ((c : Thread nD τ).loc main_arg0)) ?_
    blk_ext [iblk, index_x, index_o t]
  · show m ((c : Thread nD τ).loc main_arg1) _ = m ((c : Thread nD τ).loc main_arg1) _
    refine congrArg (m ((c : Thread nD τ).loc main_arg1)) ?_
    blk_ext [iblk, index_w, index_o t]

theorem reference_eq (x : FVec Ideal S8192x2048 .bf16) (w : FVec Ideal S2048x7168 .bf16) :
    Cert.ProjBReferenceIdeal.Read.val_main_v4 (F := Ideal) x w = full x w := by
  funext i
  rw [Cert.ProjBReferenceIdeal.Read.val_main_v4_apply, Ideal.truncf_def, Cert.ProjBReferenceIdeal.Read.val_main_v3_apply]
  refine Finset.sum_congr rfl fun k _ => congrArg₂ (fun a b : EReal => a * b) ?_ ?_
  · exact congrArg x (funext fun a => match a with | ⟨0, _⟩ => rfl | ⟨1, _⟩ => rfl)
  · rw [Cert.ProjBReferenceIdeal.Read.val_main_v2_apply]
    exact congrArg w (funext fun a => match a with | ⟨0, _⟩ => Fin.ext (by simp) | ⟨1, _⟩ => Fin.ext (by simp))

/-- The reference leaves its arguments and its counters. -/
theorem frame_reference : Cert.quiescent_ProjBReferenceIdeal (hProjBReferenceIdeal := Cert.ProjBReferenceIdeal.Gen.facts) :=
  fun m ρ _ => (θ_run Cert.ProjBReferenceIdeal.defs _ _).mono (fun r h => ⟨fun c => (h c).2,
    sem_eq_zero_of_no_sems (by decide) r.2⟩) (Cert.ProjBReferenceIdeal.Value.run (F := Ideal) m ρ)

/-- The kernel computes what the reference computes. -/
theorem value : Cert.algebraic_ProjBIdeal_ProjBReferenceIdeal (hProjBIdeal := Cert.ProjBIdeal.Gen.facts)
    (hProjBReferenceIdeal := Cert.ProjBReferenceIdeal.Gen.facts) := by
  intro m g m' g' _ hm
  refine ⟨fun c => full (m ((c.tc : Thread nD τ).loc main_arg0)) (m ((c.tc : Thread nD τ).loc main_arg1)), ?_, ?_⟩
  · exact (θ_run defs _ _).mono (fun r h c => ⟨(h c).1.trans (arr m c), (h c).2⟩) (Cert.ProjBIdeal.Value.run_blocks m g)
  · refine (θ_run Cert.ProjBReferenceIdeal.defs _ _).mono (fun r h c => ⟨(h c).1.trans ?_, (h c).2⟩)
      (Cert.ProjBReferenceIdeal.Value.run (F := Ideal) m' g')
    rw [Cert.ProjBReferenceIdeal.Read.val_main_v4_eq, (hm c).1, (hm c).2]
    exact reference_eq _ _

end Cert.ProjBIdeal.Product

end
-- ==== Proof.Products.OutProj.lean ====
/-
  The last projection: each block of the result array is the product of the two operands' blocks.
-/
module

public import proofs.«01_k».proof.Proof.Gen.OutProjIdeal.Value
public import proofs.«01_k».proof.Proof.Gen.OutProjIdeal
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Defs
public import Idealize.ShloMosaic.Lib.Pipeline.ValueKit
public import Idealize.ShloMosaic.Lib.Pipeline.ReadBack
public import Idealize.ShloMosaic.Lib.Quiescent

@[expose] public section

set_option maxRecDepth 16384

noncomputable section

namespace Cert.OutProjIdeal.Product

open Idealize.ShloMosaic Idealize.ShloMosaic.TcCoe Idealize.SL.Sem
open Cert.OutProjIdeal Cert.OutProjIdeal.Gen

theorem index_x : ∀ t : Fin grid0.N, win0_0.index t = ![t.val % 8, 0] := by decide +kernel
theorem index_w : ∀ t : Fin grid0.N, win0_1.index t = ![0, t.val / 8] := by decide +kernel
theorem index_o : ∀ t : Fin grid0.N, win0_2.index t = ![t.val % 8, t.val / 8] := by decide +kernel

/-- The product of two blocks at an index. -/
def part (x : FVec Ideal S1024x2048 .bf16) (w : FVec Ideal S2048x1024 .bf16) (y : S1024x1024.Idx) : EReal :=
  ∑ k : Fin 2048, x (ix2 (y 0) k) * w (ix2 k (y 1))

theorem pay1_apply (x : Vec Ideal S1024x2048 .bf16) (w : Vec Ideal S2048x1024 .bf16) (y : S1024x1024.Idx) : k0_pay1 (F := Ideal) x w y = part x w y := by
  unfold part
  pointwise [k0_pay1]

variable (m : (ℓ : Loc nD τ sig) → Buf (Elt Ideal) ℓ) (c : Dev nD) (t : Fin cfg0.N)

/-- The product of the two arguments. -/
def full (x : FVec Ideal S8192x2048 .bf16) (w : FVec Ideal S2048x2048 .bf16) : FVec Ideal S8192x2048 .f32 :=
  fun i => (∑ k : Fin 2048, x (ix2 (i 0) k) * w (ix2 k (i 1)) : EReal)

theorem arr : (dats m 0 c).arrAt 2 cfg0.N = full (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (pay1_apply _ _ _).trans (Finset.sum_congr rfl fun k _ => ?_)
  refine congrArg₂ (fun a b : EReal => a * b) ?_ ?_
  · show m ((c : Thread nD τ).loc main_arg0) _ = m ((c : Thread nD τ).loc main_arg0) _
    refine congrArg (m ((c : Thread nD τ).loc main_arg0)) ?_
    blk_ext [iblk, index_x, index_o t]
  · show m ((c : Thread nD τ).loc main_arg1) _ = m ((c : Thread nD τ).loc main_arg1) _
    refine congrArg (m ((c : Thread nD τ).loc main_arg1)) ?_
    blk_ext [iblk, index_w, index_o t]

theorem reference_eq (x : FVec Ideal S8192x2048 .bf16) (w : FVec Ideal S2048x2048 .bf16) :
    Cert.OutProjReferenceIdeal.Read.val_main_v2 (F := Ideal) x w = full x w := by
  funext i
  rw [Cert.OutProjReferenceIdeal.Read.val_main_v2_apply]
  refine Finset.sum_congr rfl fun k _ => congrArg₂ (fun a b : EReal => a * b) ?_ ?_
  · exact congrArg x (funext fun a => match a with | ⟨0, _⟩ => rfl | ⟨1, _⟩ => rfl)
  · exact congrArg w (funext fun a => match a with | ⟨0, _⟩ => rfl | ⟨1, _⟩ => rfl)

/-- The reference leaves its arguments and its counters. -/
theorem frame_reference : Cert.quiescent_OutProjReferenceIdeal (hOutProjReferenceIdeal := Cert.OutProjReferenceIdeal.Gen.facts) :=
  fun m ρ _ => (θ_run Cert.OutProjReferenceIdeal.defs _ _).mono (fun r h => ⟨fun c => (h c).2,
    sem_eq_zero_of_no_sems (by decide) r.2⟩) (Cert.OutProjReferenceIdeal.Value.run (F := Ideal) m ρ)

/-- The kernel computes what the reference computes. -/
theorem value : Cert.algebraic_OutProjIdeal_OutProjReferenceIdeal (hOutProjIdeal := Cert.OutProjIdeal.Gen.facts)
    (hOutProjReferenceIdeal := Cert.OutProjReferenceIdeal.Gen.facts) := by
  intro m g m' g' _ hm
  refine ⟨fun c => full (m ((c.tc : Thread nD τ).loc main_arg0)) (m ((c.tc : Thread nD τ).loc main_arg1)), ?_, ?_⟩
  · exact (θ_run defs _ _).mono (fun r h c => ⟨(h c).1.trans (arr m c), (h c).2⟩) (Cert.OutProjIdeal.Value.run_blocks m g)
  · refine (θ_run Cert.OutProjReferenceIdeal.defs _ _).mono (fun r h c => ⟨(h c).1.trans ?_, (h c).2⟩)
      (Cert.OutProjReferenceIdeal.Value.run (F := Ideal) m' g')
    rw [Cert.OutProjReferenceIdeal.Read.val_main_v2_eq, (hm c).1, (hm c).2]
    exact reference_eq _ _

end Cert.OutProjIdeal.Product

end
-- ==== Proof.Norms.RmsBwd.lean ====
/-
  The gradient of a normalised input and of its scale: the rows' gradient is the body's value at each block of rows, equal
  to the derivative written out, whatever the entries are; the scale's gradient is summed over the blocks of rows.
-/
module

public import proofs.«01_k».proof.Proof.Gen.RmsBwdIdeal.Value
public import proofs.«01_k».proof.Proof.Gen.RmsBwdIdeal
public import proofs.«01_k».proof.Proof.Gen.RmsBwdReferenceIdeal
public import proofs.«01_k».proof.Proof.Gen.RmsBwdReferenceIdeal.Run
public import proofs.«01_k».proof.Proof.Gen.RmsBwdReferenceIdeal.Read
public import proofs.«01_k».proof.Defs
public import Idealize.ShloMosaic.Lib.Pipeline.ValueKit
public import Idealize.ShloMosaic.Lib.Pipeline.ReadBack
public import Idealize.ShloMosaic.Lib.StableHlo.ReadAt
public import Idealize.ShloMosaic.Lib.Quiescent

@[expose] public section

set_option maxRecDepth 16384

noncomputable section

namespace Cert.RmsBwdIdeal.Norm

open Idealize.ShloMosaic Idealize.ShloMosaic.TcCoe Idealize.SL.Sem
open Cert.RmsBwdIdeal Cert.RmsBwdIdeal.Gen

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![t.val, 0] := by decide +kernel
theorem index_3 : ∀ t : Fin grid0.N, win0_3.index t = ![t.val, 0] := by decide +kernel
theorem index_4 : ∀ t : Fin grid0.N, win0_4.index t = ![0, 0] := by decide +kernel
theorem index_5 : ∀ t : Fin grid0.N, win0_5.index t = ![t.val, 0] := by decide +kernel
theorem index_6 : ∀ t : Fin grid0.N, win0_6.index t = ![0, 0] := by decide +kernel

/-- The row's length, as the kernel writes it. -/
def len : EReal := Ideal.ofBits .f32 0x45000000#32

/-- A row's gradient at an entry. -/
def rowGrad (x d g : Fin 2048 → EReal) (r z : EReal) (j : Fin 2048) : EReal :=
  z + r * (d j * g j - x j * r * Ideal.div (∑ k : Fin 2048, d k * g k * (x k * r)) len)

theorem pay3_apply (r : Vec Ideal S256x1 .f32) (x d : Vec Ideal S256x2048 .f32) (g : Vec Ideal S1x2048 .f32) (z : Vec Ideal S256x2048 .f32) (y : S256x2048.Idx) :
    k0_pay3 (F := Ideal) r x d g z y
      = rowGrad (fun k => x (ix2 (y 0) k)) (fun k => d (ix2 (y 0) k)) (fun k => g (ix2 0 k)) (r (ix2 (y 0) 0)) (z (ix2 (y 0) (y 1))) (y 1) := by
  unfold rowGrad len
  pointwise [k0_pay3, k0_pay2, k0_pay1]

/-- A block's part of the scale's gradient. -/
def part (r : FVec Ideal S256x1 .f32) (x d : FVec Ideal S256x2048 .f32) (y : S1x2048.Idx) : EReal :=
  ∑ k : Fin 256, d (ix2 k (y 1)) * (x (ix2 k (y 1)) * r (ix2 k 0))

theorem pay4_apply (r : Vec Ideal S256x1 .f32) (x d : Vec Ideal S256x2048 .f32) (y : S1x2048.Idx) : k0_pay4 (F := Ideal) r x d y = 0 + part r x d y := by
  rw [zero_add]
  unfold part
  pointwise [k0_pay4, k0_pay2, k0_pay1]

theorem pay5_apply (r : Vec Ideal S256x1 .f32) (x d : Vec Ideal S256x2048 .f32) (a : Vec Ideal S1x2048 .f32) (y : S1x2048.Idx) :
    k0_pay5 (F := Ideal) r x d a y = a y + part r x d y := by
  refine Eq.trans ?_ (congrArg (a y + ·) ((pay4_apply r x d y).trans (zero_add _)))
  pointwise [k0_pay5]

/-- The rows' scaling. -/
def rr (x : FVec Ideal S8192x2048 .f32) : FVec Ideal S8192x1 .f32 :=
  Host.rsqrt (addf
      (Host.divf
        (broadcastInDim S8192x1 ![0] bcast_S8192_S8192x1_0
          (Host.reduceAdd (mulf x x) (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32)))

variable (m : (ℓ : Loc nD τ sig) → Buf (Elt Ideal) ℓ) (c : Dev nD)

theorem host_r : V m c main_v7 = rr (m ((c : Thread nD τ).loc main_arg0)) := by
  after_reads_simp
  all_goals try simp -implicitDefEqProofs only [StableHlo.TRef.toBuf, StableHlo.TRef.ofBuf, cast_cast, cast_eq]
  rfl

variable (t : Fin cfg0.N)

theorem left_first (h : t.val % 32 = 0) (y : S1x2048.Idx) :
    (outsAt0 m c t.val t.isLt).2 y = (0 : EReal) + part (iblk m c 1 t) (iblk m c 0 t) (iblk m c 2 t) y := by
  rw [outsAt0_A m c t h (by have := t.isLt; have : cfg0.N = 32 := rfl; omega)]
  frame_out
  exact pay4_apply _ _ _ y

theorem left_next (h : ¬t.val % 32 = 0) (y : S1x2048.Idx) :
    (outsAt0 m c t.val t.isLt).2 y = (outsAt0 m c (t.val - 1) (Nat.lt_of_le_of_lt (Nat.sub_le _ _) t.isLt)).2 y
      + part (iblk m c 1 t) (iblk m c 0 t) (iblk m c 2 t) y := by
  rw [outsAt0_B m c t h (by omega)]
  frame_out
  exact pay5_apply _ _ _ _ y

/-- What the last point leaves of the scale's gradient. -/
theorem sum_at (h : t.val % 32 = 31) (y : S1x2048.Idx) : (outsAt0 m c t.val t.isLt).2 y
    = ∑ s : Fin 32, part (iblk m c 1 ⟨32 * (t.val / 32) + s.val, Pipeline.run_point_lt_of_flush t h s⟩)
      (iblk m c 0 ⟨32 * (t.val / 32) + s.val, Pipeline.run_point_lt_of_flush t h s⟩)
      (iblk m c 2 ⟨32 * (t.val / 32) + s.val, Pipeline.run_point_lt_of_flush t h s⟩) y :=
  (Pipeline.eq_sum_fin_of_reset_step_apply_of_flush (fun n h y => (outsAt0 m c n h).2 y) 32 (fun _ => 0)
    (fun t y => part (iblk m c 1 t) (iblk m c 0 t) (iblk m c 2 t) y)
    (left_first m c) (left_next m c) t h y).trans (zero_add _)

/-- The rows' gradient. -/
def gx (x d z : FVec Ideal S8192x2048 .f32) (g : FVec Ideal S1x2048 .f32) : FVec Ideal S8192x2048 .f32 :=
  fun i => rowGrad (fun k => x (ix2 (i 0) k)) (fun k => d (ix2 (i 0) k)) (fun k => g (ix2 0 k)) (rr x (ix2 (i 0) 0)) (z (ix2 (i 0) (i 1))) (i 1)

/-- The scale's gradient. -/
def gg (x d : FVec Ideal S8192x2048 .f32) : FVec Ideal S1x2048 .f32 :=
  fun i => (∑ k : Fin 8192, d (ix2 k (i 1)) * (x (ix2 k (i 1)) * rr x (ix2 k 0)) : EReal)

/-- What a point writes of the rows' gradient. -/
theorem rows_at (y : S256x2048.Idx) : (outsAt0 m c t.val t.isLt).1 y
    = k0_pay3 (F := Ideal) (iblk m c 1 t) (iblk m c 0 t) (iblk m c 2 t) (iblk m c 4 t) (iblk m c 3 t) y := by
  by_cases h : t.val % 32 = 0
  · rw [outsAt0_A m c t h (by have := t.isLt; have : cfg0.N = 32 := rfl; omega)]
    frame_out
  · rw [outsAt0_B m c t h (by omega)]
    frame_out

theorem rowGrad_congr {x x' d d' g g' : Fin 2048 → EReal} {r r' z z' : EReal} {j j' : Fin 2048} (hx : x = x') (hd : d = d') (hg : g = g')
    (hr : r = r') (hz : z = z') (hj : j = j') : rowGrad x d g r z j = rowGrad x' d' g' r' z' j' := by
  rw [hx, hd, hg, hr, hz, hj]

theorem arr5 : (dats m 0 c).arrAt 5 cfg0.N = gx (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after0_5]
  refine (rows_at m c t _).trans ((pay3_apply _ _ _ _ _ _).trans ?_)
  refine rowGrad_congr (funext fun k => ?_) (funext fun k => ?_) (funext fun k => ?_) ?_ ?_ (Fin.ext ?_)
  · show V m c main_arg0 _ = m ((c : Thread nD τ).loc main_arg0) _
    rw [V_main_arg0]
    refine congrArg (m ((c : Thread nD τ).loc main_arg0)) ?_
    blk_ext [iblk, index_0, index_5 t]
  · show V m c main_arg1 _ = m ((c : Thread nD τ).loc main_arg1) _
    rw [V_main_arg1]
    refine congrArg (m ((c : Thread nD τ).loc main_arg1)) ?_
    blk_ext [iblk, index_2, index_5 t]
  · show V m c main_arg3 _ = m ((c : Thread nD τ).loc main_arg3) _
    rw [V_main_arg3]
    refine congrArg (m ((c : Thread nD τ).loc main_arg3)) ?_
    blk_ext [iblk, index_4, index_5 t]
  · show V m c main_v7 _ = rr (m ((c : Thread nD τ).loc main_arg0)) _
    rw [host_r]
    refine congrArg (rr (m ((c : Thread nD τ).loc main_arg0))) ?_
    blk_ext [iblk, index_1, index_5 t]
  · show V m c main_arg2 _ = m ((c : Thread nD τ).loc main_arg2) _
    rw [V_main_arg2]
    refine congrArg (m ((c : Thread nD τ).loc main_arg2)) ?_
    blk_ext [iblk, index_3, index_5 t]
  · blk_simp [index_5 t]

theorem arr6 : (dats m 0 c).arrAt 6 cfg0.N = gg (m ((c : Thread nD τ).loc main_arg0)) (m ((c : Thread nD τ).loc main_arg1)) := by
  refine (dats m 0 c).arrAt_eq_of_covers 6 _ (by decide +kernel) fun t hf y => ?_
  blk_simp
  rw [after0_6]
  have h := (flush0_6 t).mp hf
  refine (sum_at m c t h _).trans ?_
  refine Fin.sum_mul_add_congr fun s k hl => ?_
  refine congrArg₂ (fun a b : EReal => a * b) ?_ (congrArg₂ (fun a b : EReal => a * b) ?_ ?_)
  · show V m c main_arg1 _ = m ((c : Thread nD τ).loc main_arg1) _
    rw [V_main_arg1]
    refine congrArg (m ((c : Thread nD τ).loc main_arg1)) ?_
    blk_ext [iblk, index_2, index_6 t]
  · show V m c main_arg0 _ = m ((c : Thread nD τ).loc main_arg0) _
    rw [V_main_arg0]
    refine congrArg (m ((c : Thread nD τ).loc main_arg0)) ?_
    blk_ext [iblk, index_0, index_6 t]
  · show V m c main_v7 _ = rr (m ((c : Thread nD τ).loc main_arg0)) _
    rw [host_r]
    refine congrArg (rr (m ((c : Thread nD τ).loc main_arg0))) ?_
    blk_ext [iblk, index_1, index_6 t]

/-! The reference's derivative, written out. -/

theorem len_eq : len = ((2048 : ℝ) : EReal) := by
  unfold len
  simp [Ideal.ofBits, Ideal.ieee, -EReal.coe_mul]; norm_num

theorem half_word : Ideal.ofBits .f32 0xBF000000#32 = ((-(1 / 2) : ℝ) : EReal) := by
  simp [Ideal.ofBits, Ideal.ieee, -EReal.coe_mul, -EReal.coe_neg]; norm_num

theorem eps_word : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

theorem mul_self_nonneg (x : EReal) : 0 ≤ x * x := by
  induction x with
  | bot => simp
  | top => simp
  | coe r => exact_mod_cast _root_.mul_self_nonneg r

theorem div_len (a : EReal) : Ideal.div a len = a * ((1 / 2048 : ℝ) : EReal) := by
  rw [len_eq]
  unfold Ideal.div
  rw [if_neg (by norm_num), one_div, EReal.coe_inv]

/-- The mean of a row's squares with the constant added, and its scaling. -/
theorem scale_cases (x : Fin 2048 → EReal) (v : EReal) (hv : v = Ideal.div (0 + ∑ k : Fin 2048, x k * x k) len + Ideal.ofBits .f32 0x358637BD#32) :
    v = ⊤ ∨ ∃ M : ℝ, 0 < M ∧ v = (M : EReal) := by
  obtain ⟨e, he, hw⟩ := eps_word
  have hs : 0 ≤ ∑ k : Fin 2048, x k * x k := Finset.sum_nonneg fun k _ => mul_self_nonneg _
  rw [zero_add, div_len, hw] at hv
  generalize ∑ k : Fin 2048, x k * x k = s at hs hv
  induction s with
  | bot => simp at hs
  | top =>
    left
    rw [hv, EReal.top_mul_coe_of_pos (by norm_num), EReal.top_add_coe]
  | coe a =>
    right
    have ha : 0 ≤ a := by exact_mod_cast hs
    exact ⟨a * (1 / 2048) + e, by positivity, by rw [hv, EReal.coe_add, EReal.coe_mul]⟩

theorem rsqrt_coe (M : ℝ) (h : 0 < M) : Ideal.rsqrt (M : EReal) = (((Real.sqrt M)⁻¹ : ℝ) : EReal) := by
  show (if M < 0 then (⊥ : EReal) else if M = 0 then ⊤ else (((Real.sqrt M)⁻¹ : ℝ) : EReal)) = _
  rw [if_neg (not_lt.mpr h.le), if_neg h.ne']

theorem sum_mul_coe {n : ℕ} (f : Fin n → EReal) (r : ℝ) (hr : 0 ≤ r) : ∑ k : Fin n, f k * (r : EReal) = (∑ k : Fin n, f k) * (r : EReal) := by
  induction (Finset.univ : Finset (Fin n)) using Finset.induction_on with
  | empty => simp
  | insert a s ha ih =>
    rw [Finset.sum_insert ha, Finset.sum_insert ha, ih,
      EReal.right_distrib_of_nonneg_of_ne_top (by exact_mod_cast hr) (EReal.coe_ne_top r)]

/-- The derivative written out is the kernel's expression: the scaling is a real number, or zero. -/
theorem row_of (x d g : Fin 2048 → EReal) (v6 v7 z : EReal) (j : Fin 2048)
    (h6 : v6 = Ideal.div (0 + ∑ k : Fin 2048, x k * x k) len + Ideal.ofBits .f32 0x358637BD#32) (h7 : v7 = Ideal.rsqrt v6) :
    z + (d j * g j) * v7
        + x j * Ideal.div ((0 + ∑ k : Fin 2048, x k * (d k * g k)) * (((-(1 / 2) : ℝ) : EReal) * Ideal.div v7 v6)) len
        + Ideal.div ((0 + ∑ k : Fin 2048, x k * (d k * g k)) * (((-(1 / 2) : ℝ) : EReal) * Ideal.div v7 v6)) len * x j
      = rowGrad x d g v7 z j := by
  unfold rowGrad
  rcases scale_cases x v6 h6 with h | ⟨M, hM, h⟩
  · have h0 : v7 = 0 := by rw [h7, h]; rfl
    have hd : Ideal.div 0 (⊤ : EReal) = 0 := by unfold Ideal.div; rw [if_neg (by simp), zero_mul]
    rw [h, h0, hd]
    simp only [mul_zero, zero_mul, div_len, add_zero]
  · rw [h, rsqrt_coe M hM] at h7
    have hs : Real.sqrt M * Real.sqrt M = M := Real.mul_self_sqrt hM.le
    have hp : 0 < Real.sqrt M := Real.sqrt_pos.mpr hM
    have hr : (Real.sqrt M)⁻¹ / M = (Real.sqrt M)⁻¹ * (Real.sqrt M)⁻¹ * (Real.sqrt M)⁻¹ := by
      rw [div_eq_mul_inv]
      conv_lhs => rw [← hs]
      rw [mul_inv]; simp only [hs]; ring
    have hd : Ideal.div (((Real.sqrt M)⁻¹ : ℝ) : EReal) (M : EReal) = (((Real.sqrt M)⁻¹ * (Real.sqrt M)⁻¹ * (Real.sqrt M)⁻¹ : ℝ) : EReal) := by
      rw [← hr]
      unfold Ideal.div
      rw [if_neg (by exact_mod_cast hM.ne'), div_eq_mul_inv, EReal.coe_mul, EReal.coe_inv M]
    have hq : 0 < (Real.sqrt M)⁻¹ := inv_pos.mpr hp
    rw [h7, h, hd]
    generalize (Real.sqrt M)⁻¹ = r at hq
    have hS : ∑ k : Fin 2048, d k * g k * (x k * (r : EReal)) = (∑ k : Fin 2048, x k * (d k * g k)) * (r : EReal) := by
      rw [← sum_mul_coe _ r hq.le]
      exact Finset.sum_congr rfl fun k _ => by rw [← mul_assoc, mul_comm (d k * g k)]
    rw [hS, zero_add]
    generalize ∑ k : Fin 2048, x k * (d k * g k) = S
    generalize d j * g j = G
    generalize x j = a
    have hu : 0 ≤ ((1 / 4096 * (r * r * r) : ℝ) : EReal) := by exact_mod_cast (by positivity : (0 : ℝ) ≤ 1 / 4096 * (r * r * r))
    have e1 : Ideal.div (S * (((-(1 / 2) : ℝ) : EReal) * ((r * r * r : ℝ) : EReal))) len = -S * ((1 / 4096 * (r * r * r) : ℝ) : EReal) := by
      refine Eq.trans ?_ ((mul_neg _ _).trans (neg_mul _ _).symm)
      rw [div_len, ← EReal.coe_mul, mul_assoc, ← EReal.coe_mul, ← EReal.coe_neg]
      exact congrArg (fun b : ℝ => S * (b : EReal)) (by ring)
    have e2 : (r : EReal) * (G - a * (r : EReal) * Ideal.div (S * (r : EReal)) len)
        = G * (r : EReal) + (-S * a) * ((1 / 4096 * (r * r * r) + 1 / 4096 * (r * r * r) : ℝ) : EReal) := by
      rw [sub_eq_add_neg, EReal.left_distrib_of_nonneg_of_ne_top (by exact_mod_cast hq.le) (EReal.coe_ne_top r), mul_comm (r : EReal) G, div_len]
      refine congrArg (G * (r : EReal) + ·) ?_
      have e3 : ((1 / 4096 * (r * r * r) + 1 / 4096 * (r * r * r) : ℝ) : EReal) = (r : EReal) * ((r : EReal) * ((r : EReal) * ((1 / 2048 : ℝ) : EReal))) := by
        rw [← EReal.coe_mul, ← EReal.coe_mul, ← EReal.coe_mul]
        exact congrArg (fun b : ℝ => (b : EReal)) (by ring)
      rw [e3, mul_neg, neg_mul, neg_mul]
      exact congrArg (fun b : EReal => -b) (by ac_rfl)
    rw [e1, e2, EReal.coe_add, EReal.left_distrib_of_nonneg hu hu, add_assoc, add_assoc]
    refine congrArg (fun b : EReal => z + b) (congrArg (fun b : EReal => G * (r : EReal) + b) (congrArg₂ (fun b e : EReal => b + e) ?_ ?_))
    · rw [← mul_assoc, mul_comm a]
    · rw [mul_assoc, mul_comm _ a, ← mul_assoc]

section Reference

open Cert.RmsBwdReferenceIdeal.Read

variable (x d z : FVec Ideal S8192x2048 .f32) (g : FVec Ideal S1x2048 .f32) (a : Fin 8192) (b : Fin 2048)

theorem mean_at : val_main_v6 (F := Ideal) x (ix2 a 0)
    = Ideal.div (0 + ∑ k : Fin 2048, x (ix2 a k) * x (ix2 a k)) len + Ideal.ofBits .f32 0x358637BD#32 := by
  rw [val_main_v6_apply, val_main_v4_apply, val_main_v2_apply, val_main_v1_apply, val_main_v3_apply, val_main_v5_apply]
  refine congrArg (fun s : EReal => Ideal.div s len + Ideal.ofBits .f32 0x358637BD#32)
    (congrArg₂ (fun s u : EReal => s + u) Ideal.ofBits_zero_f32 (Finset.sum_congr rfl fun k _ => ?_))
  exact congrArg (fun j => x j * x j) (funext fun a => match a with | ⟨0, _⟩ => rfl | ⟨1, _⟩ => rfl)

theorem scale_at : val_main_v7 (F := Ideal) x (ix2 a 0) = Ideal.rsqrt (val_main_v6 (F := Ideal) x (ix2 a 0)) := rfl

theorem coef_at : val_main_v30 (F := Ideal) x d g (ix2 a b)
    = Ideal.div ((0 + ∑ k : Fin 2048, x (ix2 a k) * (d (ix2 a k) * g (ix2 0 k)))
      * (((-(1 / 2) : ℝ) : EReal) * Ideal.div (val_main_v7 (F := Ideal) x (ix2 a 0)) (val_main_v6 (F := Ideal) x (ix2 a 0)))) len := by
  rw [val_main_v30_apply, val_main_v29_apply, Fin.sum_univ_one]
  refine (congrArg₂ (fun s u : EReal => s + u) Ideal.ofBits_zero_f32 ?_).trans (zero_add _)
  have hi : idx_main_v29 (idx_main_v30 (ix2 a b)) 0 = ix2 a 0 := funext fun a => match a with | ⟨0, _⟩ => rfl | ⟨1, _⟩ => rfl
  rw [hi, val_main_v28_apply, val_main_v26_apply, val_main_v22_apply, val_main_v21_apply, val_main_v10_apply, val_main_v9_apply, val_main_v8_apply,
    val_main_v27_apply]
  refine congrArg (fun s : EReal => Ideal.div s len) (congrArg₂ (fun s u : EReal => s * u)
    (congrArg₂ (fun s u : EReal => s + u) Ideal.ofBits_zero_f32 (Finset.sum_congr rfl fun k _ => ?_))
    (congrArg (fun s : EReal => s * Ideal.div (val_main_v7 (F := Ideal) x (ix2 a 0)) (val_main_v6 (F := Ideal) x (ix2 a 0))) half_word))
  rw [val_main_v20_apply, val_main_v19_apply, val_main_v18_apply]
  refine congrArg₂ (fun s u : EReal => s * u) ?_ (congrArg₂ (fun s u : EReal => s * u) ?_ ?_)
  · exact congrArg x (funext fun n => match n with | ⟨0, _⟩ => Fin.ext (by show a.val * 1 + 0 = a.val; omega) | ⟨1, _⟩ => rfl)
  · exact congrArg d (funext fun n => match n with | ⟨0, _⟩ => Fin.ext (by show a.val * 1 + 0 = a.val; omega) | ⟨1, _⟩ => rfl)
  · exact congrArg g (funext fun a => match a with | ⟨0, _⟩ => rfl | ⟨1, _⟩ => rfl)

theorem reference_gx_at : val_main_v34 (F := Ideal) x d z g (ix2 a b) = gx x d z g (ix2 a b) := by
  have h23 : idx_main_v23 (ix2 a b) = ix2 a 0 := funext fun n => match n with | ⟨0, _⟩ => rfl | ⟨1, _⟩ => rfl
  have h18 : idx_main_v18 (ix2 a b) = ix2 0 b := funext fun n => match n with | ⟨0, _⟩ => rfl | ⟨1, _⟩ => rfl
  rw [val_main_v34_apply, val_main_v32_apply, val_main_v33_apply, val_main_v25_apply, val_main_v31_apply, val_main_v24_apply, val_main_v19_apply,
    val_main_v18_apply, val_main_v23_apply, h23, h18, coef_at]
  exact row_of (fun k => x (ix2 a k)) (fun k => d (ix2 a k)) (fun k => g (ix2 0 k))
    (val_main_v6 (F := Ideal) x (ix2 a 0)) (val_main_v7 (F := Ideal) x (ix2 a 0)) (z (ix2 a b)) b (mean_at x a) (scale_at x a)

theorem reference_gx : val_main_v34 (F := Ideal) x d z g = gx x d z g := by
  funext i
  have hi : i = ix2 (i 0) (i 1) := funext fun n => match n with | ⟨0, _⟩ => rfl | ⟨1, _⟩ => rfl
  exact (congrArg (val_main_v34 (F := Ideal) x d z g) hi).trans ((reference_gx_at x d z g (i 0) (i 1)).trans (congrArg (gx x d z g) hi.symm))

theorem column (i : S1x2048.Idx) : (i 0).val * 2048 + (i 1).val = (i 1).val := by
  have h : (i 0).val < 1 := (i 0).isLt
  omega

theorem reference_gg : val_main_v17 (F := Ideal) x d = gg x d := by
  funext i
  rw [val_main_v17_apply, val_main_v16_apply]
  refine (congrArg₂ (fun s u : EReal => s + u) Ideal.ofBits_zero_f32 (Finset.sum_congr rfl fun k _ => ?_)).trans (zero_add _)
  rw [val_main_v15_apply, val_main_v12_apply, val_main_v11_apply]
  refine (mul_comm _ _).trans (congrArg₂ (fun s u : EReal => s * u) ?_ (congrArg₂ (fun s u : EReal => s * u) ?_ ?_))
  · exact congrArg d (funext fun a => match a with | ⟨0, _⟩ => rfl | ⟨1, _⟩ => Fin.ext (column i))
  · exact congrArg x (funext fun a => match a with | ⟨0, _⟩ => rfl | ⟨1, _⟩ => Fin.ext (column i))
  · show rr x _ = rr x _
    exact congrArg (rr x) (funext fun a => match a with | ⟨0, _⟩ => rfl | ⟨1, _⟩ => rfl)

end Reference

/-- The reference leaves its arguments and its counters. -/
theorem frame_reference : Cert.quiescent_RmsBwdReferenceIdeal (hRmsBwdReferenceIdeal := Cert.RmsBwdReferenceIdeal.Gen.facts) :=
  fun m ρ _ => (θ_run Cert.RmsBwdReferenceIdeal.defs _ _).mono (fun r h => ⟨fun c => (h c).2.2,
    sem_eq_zero_of_no_sems (by decide) r.2⟩) (Cert.RmsBwdReferenceIdeal.Value.run (F := Ideal) m ρ)

/-- The kernel computes what the reference computes. -/
theorem value : Cert.algebraic_RmsBwdIdeal_RmsBwdReferenceIdeal (hRmsBwdIdeal := Cert.RmsBwdIdeal.Gen.facts)
    (hRmsBwdReferenceIdeal := Cert.RmsBwdReferenceIdeal.Gen.facts) := by
  intro m g m' g' _ hm
  refine ⟨fun c => gx (m ((c.tc : Thread nD τ).loc main_arg0)) (m ((c.tc : Thread nD τ).loc main_arg1)) (m ((c.tc : Thread nD τ).loc main_arg2))
      (m ((c.tc : Thread nD τ).loc main_arg3)),
    fun c => gg (m ((c.tc : Thread nD τ).loc main_arg0)) (m ((c.tc : Thread nD τ).loc main_arg1)), ?_, ?_⟩
  · exact (θ_run defs _ _).mono (fun r h c => ⟨(h c).1.trans (arr5 m c), (h c).2.1.trans (arr6 m c), (h c).2.2⟩) (Cert.RmsBwdIdeal.Value.run_blocks m g)
  · refine (θ_run Cert.RmsBwdReferenceIdeal.defs _ _).mono (fun r h c => ⟨(h c).1.trans ?_, (h c).2.1.trans ?_, (h c).2.2⟩)
      (Cert.RmsBwdReferenceIdeal.Value.run (F := Ideal) m' g')
    · rw [Cert.RmsBwdReferenceIdeal.Read.val_main_v34_eq, (hm c).1, (hm c).2.1, (hm c).2.2.1, (hm c).2.2.2]
      exact reference_gx _ _ _ _
    · rw [Cert.RmsBwdReferenceIdeal.Read.val_main_v17_eq, (hm c).1, (hm c).2.1]
      exact reference_gg _ _

end Cert.RmsBwdIdeal.Norm

end
-- ==== Proof.Norms.MemKvBwd.lean ====
/-
  The gradients of the memory's weight and of its normalisation's scale: the call has one point, so each result is the
  body's value of the whole arrays.
-/
module

public import proofs.«01_k».proof.Proof.Gen.MemKvBwdIdeal.Value
public import proofs.«01_k».proof.Proof.Gen.MemKvBwdIdeal
public import proofs.«01_k».proof.Proof.Gen.MemKvBwdReferenceIdeal
public import proofs.«01_k».proof.Proof.Gen.MemKvBwdReferenceIdeal.Run
public import proofs.«01_k».proof.Proof.Gen.MemKvBwdReferenceIdeal.Read
public import proofs.«01_k».proof.Defs
public import Idealize.ShloMosaic.Lib.Pipeline.ValueKit
public import Idealize.ShloMosaic.Lib.Pipeline.ReadBack
public import Idealize.ShloMosaic.Lib.StableHlo.ReadAt
public import Idealize.ShloMosaic.Lib.Quiescent

@[expose] public section

set_option maxRecDepth 16384

noncomputable section

namespace Cert.MemKvBwdIdeal.Norm

open Idealize.ShloMosaic Idealize.ShloMosaic.TcCoe Idealize.SL.Sem
open Cert.MemKvBwdIdeal Cert.MemKvBwdIdeal.Gen

theorem index_0 : ∀ t : Fin grid0.N, win0_0.index t = ![0, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![0, 0] := by decide +kernel
theorem index_5 : ∀ t : Fin grid0.N, win0_5.index t = ![0, 0] := by decide +kernel

/-- The normalised memory. -/
def hat (x : FVec Ideal S256x2048 .f32) : FVec Ideal S256x2048 .f32 :=
  mulf x (broadcastInDim S256x2048 ![0, 1] bcast_S256x1_S256x2048_0_1
    (Host.rsqrt (addf
      (Host.divf
        (broadcastInDim S256x1 ![0] bcast_S256_S256x1_0
          (Host.reduceAdd (mulf x x) (constant S_ .f32 0x00000000#32) reducesTo_S256x2048_S256_d1 h_S_))
        (broadcastInDim S256x1 ![] bcast_S_S256x1 (constant S_ .f32 0x45000000#32)))
      (broadcastInDim S256x1 ![] bcast_S_S256x1 (constant S_ .f32 0x358637BD#32)))))

/-- The weight's gradient, of the normalised memory. -/
def gw (d : FVec Ideal S256x1024 .f32) (h : FVec Ideal S256x2048 .f32) (g : FVec Ideal S1x2048 .f32) : FVec Ideal S2048x1024 .bf16 :=
  fun i => (∑ k : Fin 256, h (ix2 k (i 0)) * g (ix2 0 (i 0)) * d (ix2 k (i 1)) : EReal)

/-- The scale's gradient, of the normalised memory. -/
def gg (d : FVec Ideal S256x1024 .f32) (h : FVec Ideal S256x2048 .f32) (w : FVec Ideal S2048x1024 .bf16) : FVec Ideal S1x2048 .f32 :=
  fun i => (∑ k : Fin 256, (∑ j : Fin 1024, d (ix2 k j) * w (ix2 (i 1) j)) * h (ix2 k (i 1)) : EReal)

theorem pay3_apply (d : Vec Ideal S256x1024 .f32) (h : Vec Ideal S256x2048 .f32) (g : Vec Ideal S1x2048 .f32) (y : S2048x1024.Idx) :
    k0_pay3 (F := Ideal) d h g y = gw d h g y := by
  unfold gw
  pointwise [k0_pay3, k0_pay2, k0_pay1]

theorem pay4_apply (d : Vec Ideal S256x1024 .f32) (h : Vec Ideal S256x2048 .f32) (w : Vec Ideal S2048x1024 .bf16) (y : S1x2048.Idx) :
    k0_pay4 (F := Ideal) d h w y = gg d h w y := by
  unfold gg
  pointwise [k0_pay4, k0_pay2, k0_pay1]

variable (m : (ℓ : Loc nD τ sig) → Buf (Elt Ideal) ℓ) (c : Dev nD)

theorem host_hat : V m c main_v9 = hat (m ((c : Thread nD τ).loc main_arg1)) := by
  after_reads_simp
  all_goals try simp -implicitDefEqProofs only [StableHlo.TRef.toBuf, StableHlo.TRef.ofBuf, cast_cast, cast_eq]
  rfl

theorem blk0 (t : Fin cfg0.N) : iblk m c 0 t = m ((c : Thread nD τ).loc main_arg0) := by
  obtain rfl := fin_N0 t
  funext y
  show V m c main_arg0 _ = _
  rw [V_main_arg0]
  refine congrArg (m ((c : Thread nD τ).loc main_arg0)) ?_
  blk_ext [index_0]
theorem blk1 (t : Fin cfg0.N) : iblk m c 1 t = hat (m ((c : Thread nD τ).loc main_arg1)) := by
  obtain rfl := fin_N0 t
  funext y
  show V m c main_v9 _ = _
  rw [host_hat]
  refine congrArg (hat (m ((c : Thread nD τ).loc main_arg1))) ?_
  blk_ext [index_1]
theorem blk2 (t : Fin cfg0.N) : iblk m c 2 t = m ((c : Thread nD τ).loc main_arg2) := by
  obtain rfl := fin_N0 t
  funext y
  show V m c main_arg2 _ = _
  rw [V_main_arg2]
  refine congrArg (m ((c : Thread nD τ).loc main_arg2)) ?_
  blk_ext [index_2]
theorem blk3 (t : Fin cfg0.N) : iblk m c 3 t = m ((c : Thread nD τ).loc main_arg3) := by
  obtain rfl := fin_N0 t
  funext y
  show V m c main_arg3 _ = _
  rw [V_main_arg3]
  refine congrArg (m ((c : Thread nD τ).loc main_arg3)) ?_
  blk_ext [index_3]

theorem arr4 : (dats m 0 c).arrAt 4 cfg0.N = gw (m ((c : Thread nD τ).loc main_arg0)) (hat (m ((c : Thread nD τ).loc main_arg1))) (m ((c : Thread nD τ).loc main_arg2)) := by
  refine (dats m 0 c).arrAt_eq_of_covers 4 _ (by decide +kernel) fun t hf y => ?_
  blk_simp
  rw [after0_4]
  frame_out
  rw [pay3_apply, blk0, blk1, blk2]
  refine congrArg (gw _ _ _) ?_
  obtain rfl := fin_N0 t
  blk_ext [index_4]

theorem arr5 : (dats m 0 c).arrAt 5 cfg0.N = gg (m ((c : Thread nD τ).loc main_arg0)) (hat (m ((c : Thread nD τ).loc main_arg1))) (m ((c : Thread nD τ).loc main_arg3)) := by
  refine (dats m 0 c).arrAt_eq_of_covers 5 _ (by decide +kernel) fun t hf y => ?_
  blk_simp
  rw [after0_5]
  frame_out
  rw [pay4_apply, blk0, blk1, blk3]
  refine congrArg (gg _ _ _) ?_
  obtain rfl := fin_N0 t
  blk_ext [index_5]

theorem reference_hat (x : FVec Ideal S256x2048 .f32) : Cert.MemKvBwdReferenceIdeal.Read.val_main_v10 (F := Ideal) x = hat x := rfl

theorem reference_gw (d : FVec Ideal S256x1024 .f32) (x : FVec Ideal S256x2048 .f32) (g : FVec Ideal S1x2048 .f32) :
    Cert.MemKvBwdReferenceIdeal.Read.val_main_v20 (F := Ideal) d x g = gw d (hat x) g := by
  funext i
  rw [Cert.MemKvBwdReferenceIdeal.Read.val_main_v20_apply, Ideal.truncf_def, Cert.MemKvBwdReferenceIdeal.Read.val_main_v15_apply,
    Cert.MemKvBwdReferenceIdeal.Read.val_main_v14_apply]
  refine Finset.sum_congr rfl fun k _ => (mul_comm _ _).trans (congrArg₂ (fun a b : EReal => a * b) ?_ ?_)
  · rw [Cert.MemKvBwdReferenceIdeal.Read.val_main_v12_apply, Cert.MemKvBwdReferenceIdeal.Read.val_main_v11_apply, reference_hat]
    refine congrArg₂ (fun a b : EReal => a * b) ?_ ?_
    · exact congrArg (hat x) (funext fun a => match a with | ⟨0, _⟩ => rfl | ⟨1, _⟩ => rfl)
    · exact congrArg g (funext fun a => match a with | ⟨0, _⟩ => rfl | ⟨1, _⟩ => rfl)
  · exact congrArg d (funext fun a => match a with | ⟨0, _⟩ => rfl | ⟨1, _⟩ => rfl)

/-- The place of an entry of a one-row array in its row. -/
theorem column (i : S1x2048.Idx) : (i 0).val * 2048 + (i 1).val = (i 1).val := by
  have h : (i 0).val < 1 := (i 0).isLt
  omega

theorem reference_gg (d : FVec Ideal S256x1024 .f32) (x : FVec Ideal S256x2048 .f32) (w : FVec Ideal S2048x1024 .bf16) :
    Cert.MemKvBwdReferenceIdeal.Read.val_main_v19 (F := Ideal) d x w = gg d (hat x) w := by
  funext i
  rw [Cert.MemKvBwdReferenceIdeal.Read.val_main_v19_apply, Cert.MemKvBwdReferenceIdeal.Read.val_main_v18_apply]
  refine (congrArg (fun a : EReal => a + _) (Ideal.ofBits_zero (φ := .f32))).trans ((zero_add _).trans ?_)
  refine Finset.sum_congr rfl fun k _ => ?_
  rw [Cert.MemKvBwdReferenceIdeal.Read.val_main_v17_apply, reference_hat, Cert.MemKvBwdReferenceIdeal.Read.val_main_v16_apply]
  refine (mul_comm _ _).trans (congrArg₂ (fun a b : EReal => a * b) ?_ ?_)
  · refine Finset.sum_congr rfl fun j _ => congrArg₂ (fun a b : EReal => a * b) ?_ ?_
    · exact congrArg d (funext fun a => match a with | ⟨0, _⟩ => rfl | ⟨1, _⟩ => rfl)
    · exact congrArg w (funext fun a => match a with | ⟨0, _⟩ => Fin.ext (column i) | ⟨1, _⟩ => rfl)
  · exact congrArg (hat x) (funext fun a => match a with | ⟨0, _⟩ => rfl | ⟨1, _⟩ => Fin.ext (column i))

/-- The reference leaves its arguments and its counters. -/
theorem frame_reference : Cert.quiescent_MemKvBwdReferenceIdeal (hMemKvBwdReferenceIdeal := Cert.MemKvBwdReferenceIdeal.Gen.facts) :=
  fun m ρ _ => (θ_run Cert.MemKvBwdReferenceIdeal.defs _ _).mono (fun r h => ⟨fun c => (h c).2.2,
    sem_eq_zero_of_no_sems (by decide) r.2⟩) (Cert.MemKvBwdReferenceIdeal.Value.run (F := Ideal) m ρ)

/-- The kernel computes what the reference computes. -/
theorem value : Cert.algebraic_MemKvBwdIdeal_MemKvBwdReferenceIdeal (hMemKvBwdIdeal := Cert.MemKvBwdIdeal.Gen.facts)
    (hMemKvBwdReferenceIdeal := Cert.MemKvBwdReferenceIdeal.Gen.facts) := by
  intro m g m' g' _ hm
  refine ⟨fun c => gw (m ((c.tc : Thread nD τ).loc main_arg0)) (hat (m ((c.tc : Thread nD τ).loc main_arg1))) (m ((c.tc : Thread nD τ).loc main_arg2)),
    fun c => gg (m ((c.tc : Thread nD τ).loc main_arg0)) (hat (m ((c.tc : Thread nD τ).loc main_arg1))) (m ((c.tc : Thread nD τ).loc main_arg3)), ?_, ?_⟩
  · exact (θ_run defs _ _).mono (fun r h c => ⟨(h c).1.trans (arr4 m c), (h c).2.1.trans (arr5 m c), (h c).2.2⟩) (Cert.MemKvBwdIdeal.Value.run_blocks m g)
  · refine (θ_run Cert.MemKvBwdReferenceIdeal.defs _ _).mono (fun r h c => ⟨(h c).1.trans ?_, (h c).2.1.trans ?_, (h c).2.2⟩)
      (Cert.MemKvBwdReferenceIdeal.Value.run (F := Ideal) m' g')
    · rw [Cert.MemKvBwdReferenceIdeal.Read.val_main_v20_eq, (hm c).1, (hm c).2.1, (hm c).2.2.1]
      exact reference_gw _ _ _
    · rw [Cert.MemKvBwdReferenceIdeal.Read.val_main_v19_eq, (hm c).1, (hm c).2.1, (hm c).2.2.2]
      exact reference_gg _ _ _

end Cert.MemKvBwdIdeal.Norm

end
-- ==== Proof.Norms.Prep.lean ====
/-
  The step before the attention backward pass: the gradient past the gate and the gate's own gradient are the body's values
  at each block; the rows handed on to the attention backward pass are written a head at a time.
-/
module

public import proofs.«01_k».proof.Proof.Gen.PrepIdeal.Value
public import proofs.«01_k».proof.Proof.Gen.PrepIdeal
public import proofs.«01_k».proof.Proof.Gen.PrepReferenceIdeal
public import proofs.«01_k».proof.Proof.Gen.PrepReferenceIdeal.Run
public import proofs.«01_k».proof.Proof.Gen.PrepReferenceIdeal.Read
public import proofs.«01_k».proof.Proof.Gen.Pre_finite_prep
public import proofs.«01_k».proof.Defs
public import Idealize.ShloMosaic.Lib.Pipeline.ValueKit
public import Idealize.ShloMosaic.Lib.Pipeline.ReadBack
public import Idealize.ShloMosaic.Lib.StableHlo.ReadAt
public import Idealize.ShloMosaic.Lib.Quiescent

@[expose] public section

set_option maxRecDepth 16384

noncomputable section

namespace Cert.PrepIdeal.Norm

open Idealize.ShloMosaic Idealize.ShloMosaic.TcCoe Idealize.SL.Sem
open Cert.PrepIdeal Cert.PrepIdeal.Gen

theorem index_0 : ∀ t : Fin grid0.N, win0_0.index t = ![t.val % 16, 1 + t.val / 16] := by decide +kernel
theorem index_1 : ∀ t : Fin grid0.N, win0_1.index t = ![t.val % 16, 3 + t.val / 16] := by decide +kernel
theorem index_2 : ∀ t : Fin grid0.N, win0_2.index t = ![t.val % 16, t.val / 16] := by decide +kernel
theorem index_3 : ∀ t : Fin grid0.N, win0_3.index t = ![t.val / 16, t.val % 16, 0] := by decide +kernel
theorem index_4 : ∀ t : Fin grid0.N, win0_4.index t = ![t.val / 16, t.val % 16, 0] := by decide +kernel
theorem index_5 : ∀ t : Fin grid0.N, win0_5.index t = ![t.val % 16, t.val / 16] := by decide +kernel
theorem index_6 : ∀ t : Fin grid0.N, win0_6.index t = ![t.val % 16, 3 + t.val / 16] := by decide +kernel
theorem index_7 : ∀ t : Fin grid0.N, win0_7.index t = ![t.val / 16, 0, t.val % 16] := by decide +kernel

/-- The gradient past the gate at an entry. -/
def past (g d : EReal) : EReal := d * (g * Ideal.logistic g)

/-- The constant one, as the kernel writes it. -/
def unit : EReal := Ideal.ofBits .f32 0x3F800000#32

/-- The gate's gradient at an entry. -/
def gate (g d o : EReal) : EReal := d * o * (Ideal.logistic g * (unit + g * (unit - Ideal.logistic g)))

theorem pay5_apply (v0 v2 : Vec Ideal S512x512 .f32) (y : S512x512.Idx) : k0_pay5 (F := Ideal) v0 v2 y = past (v0 y) (v2 y) := by
  unfold past
  pointwise [k0_pay5, k0_pay4, k0_pay2]

theorem pay6_apply (v0 v2 : Vec Ideal S512x512 .f32) (v3 : Vec Ideal S512x512 .bf16) (y : S512x512.Idx) :
    k0_pay6 (F := Ideal) v0 v2 v3 y = gate (v0 y) (v2 y) (v3 y) := by
  unfold gate unit
  pointwise [k0_pay6, k0_pay3, k0_pay2]

theorem pay7_apply (v0 v2 : Vec Ideal S512x512 .f32) (v3 : Vec Ideal S512x512 .bf16) (y : S512x512.Idx) :
    k0_pay7 (F := Ideal) v0 v2 v3 y = past (v0 y) (v2 y) * v3 y := by
  unfold past
  pointwise [k0_pay7, k0_pay4, k0_pay3, k0_pay2]

/-- What a head's eight rows hold: two rows, and zeros below. -/
def rows (r : ℕ) (a d : EReal) : EReal := if r = 0 then a else if r = 1 then d else 0

theorem rows_word (r : ℕ) (h : r < 8) (a d : EReal) :
    (Scalar.select (IntOp.cmpi CmpIPredicate.eq (BitVec.ofNat 32 r) 0#32) a (Scalar.select (IntOp.cmpi CmpIPredicate.eq (BitVec.ofNat 32 r) 1#32) d 0) : EReal)
      = rows r a d := by
  interval_cases r <;> rfl

theorem pay12_apply (p q : Vec Ideal S1x512x1 .f32) (v0 v2 : Vec Ideal S512x512 .f32) (v3 : Vec Ideal S512x512 .bf16) (y : S1x8x512.Idx) :
    k0_pay12 (F := Ideal) (k0_pay8 p q) k0_pay9 k0_pay10 (Scalar.ofBits .f32 0x00000000#32) (k0_pay11 v0 v2 v3) y
      = rows (y 1).val (p (ix3 0 (y 2) 0) - q (ix3 0 (y 2) 0)) (∑ k : Fin 128, k0_pay7 (F := Ideal) v0 v2 v3 (ix2 (y 2) ⟨k.val, by omega⟩)) := by
  pointwise [k0_pay12, k0_pay8, k0_pay9, k0_pay10, k0_pay11]
  exact rows_word _ (y 1).isLt _ _

theorem pay13_apply (v : FVec Ideal S512x512 .f32) (p q : Vec Ideal S1x512x1 .f32) (y : S1x8x512.Idx) :
    k0_pay13 (F := Ideal) v (iota .tc S512x128 32 [1] iota_S512x128_d1_w32) p q y
      = rows (y 1).val (p (ix3 0 (y 2) 0) - q (ix3 0 (y 2) 0)) (∑ k : Fin 128, v (ix2 (y 2) ⟨128 + k.val, by omega⟩)) := by
  pointwise [k0_pay13]
  exact rows_word _ (y 1).isLt _ _

theorem pay15_apply (v : FVec Ideal S512x512 .f32) (p q : Vec Ideal S1x512x1 .f32) (y : S1x8x512.Idx) :
    k0_pay15 (F := Ideal) (iota .tc S512x128 32 [1] iota_S512x128_d1_w32) (k0_pay14 v) p q y
      = rows (y 1).val (p (ix3 0 (y 2) 0) - q (ix3 0 (y 2) 0)) (∑ k : Fin 128, v (ix2 (y 2) ⟨256 + k.val, by omega⟩)) := by
  pointwise [k0_pay15, k0_pay14]
  exact rows_word _ (y 1).isLt _ _

theorem pay1_apply (v : FVec Ideal S512x512 .f32) (p q : Vec Ideal S1x512x1 .f32) (y : S1x8x512.Idx) :
    k0_pay1 (F := Ideal) (k0_pay16 v (iota .tc S512x128 32 [1] iota_S512x128_d1_w32) p q) y
      = rows (y 1).val (p (ix3 0 (y 2) 0) - q (ix3 0 (y 2) 0)) (∑ k : Fin 128, v (ix2 (y 2) ⟨384 + k.val, by omega⟩)) := by
  pointwise [k0_pay1, k0_pay16]
  exact rows_word _ (y 1).isLt _ _

variable (m : (ℓ : Loc nD τ sig) → Buf (Elt Ideal) ℓ) (c : Dev nD)
variable (t : Fin cfg0.N)

/-- The rows of a block of four heads. -/
def blockRows (d p : FVec Ideal S512x512 .f32) (o : FVec Ideal S512x512 .bf16) (l b : FVec Ideal S4x512x1 .f32) (y : S4x8x512.Idx) : EReal :=
  rows (y 1).val (b (ix3 (y 0) (y 2) 0) - l (ix3 (y 0) (y 2) 0))
    (∑ k : Fin 128, k0_pay7 (F := Ideal) p d o (ix2 (y 2) ⟨128 * (y 0).val + k.val, by have h : (y 0).val < 4 := (y 0).isLt; omega⟩))

theorem piece_at (d p : FVec Ideal S512x512 .f32) (o : FVec Ideal S512x512 .bf16) (l b : FVec Ideal S4x512x1 .f32) (x : S1x8x512.Idx) (y : S4x8x512.Idx)
    (r : ℕ) (inb : ∀ a, (![r, 0, 0] : Fin 3 → ℕ) a + (![1, 512, 1] : Fin 3 → ℕ) a ≤ S4x512x1.size a) (u : Fin 128 → Fin 512)
    (hu : ∀ k, (u k).val = 128 * r + k.val) (h0 : (y 0).val = r) (h1 : (y 1).val = (x 1).val) (h2 : (y 2).val = (x 2).val) :
    rows (x 1).val
        ((View.ld (Val := Elt Ideal) (e' := .f32) b (Rect.unit (s := S4x512x1) ![r, 0, 0] ![1, 512, 1] inb) (ix3 0 (x 2) 0) : EReal)
          - (View.ld (Val := Elt Ideal) (e' := .f32) l (Rect.unit (s := S4x512x1) ![r, 0, 0] ![1, 512, 1] inb) (ix3 0 (x 2) 0) : EReal))
        (∑ k : Fin 128, (k0_pay7 (F := Ideal) p d o (ix2 (x 2) (u k)) : EReal))
      = blockRows d p o l b y := by
  unfold blockRows
  have e : (Rect.unit (s := S4x512x1) ![r, 0, 0] ![1, 512, 1] inb).idx (ix3 0 (x 2) 0) = ix3 (y 0) (y 2) 0 := by
    funext a
    refine Fin.ext ?_
    rw [Rect.idx_unit_val]
    fin_cases a
    · show r + 0 = (y 0).val
      omega
    · show 0 + (x 2).val = (y 2).val
      omega
    · rfl
  rw [View.ld_apply, View.ld_apply, e, h1]
  refine congrArg (rows (x 1).val _) (Finset.sum_congr rfl fun k _ => ?_)
  refine congrArg (k0_pay7 (F := Ideal) p d o) (funext fun n => match n with | ⟨0, _⟩ => Fin.ext h2.symm | ⟨1, _⟩ => Fin.ext ?_)
  show (u k).val = 128 * (y 0).val + k.val
  rw [hu, h0]

theorem rows_at (y : S4x8x512.Idx) : (outsAt0 m c t).2.2 y = blockRows (iblk m c 0 t) (iblk m c 1 t) (iblk m c 2 t) (iblk m c 3 t) (iblk m c 4 t) y := by
  unfold outsAt0
  frame_out
  canon_tiles x h
  · exact (pay1_apply _ _ _ x).trans (piece_at _ _ _ _ _ x y 3 _ _ (fun k => rfl) (by omega) h1 h2)
  · exact (pay15_apply _ _ _ x).trans (piece_at _ _ _ _ _ x y 2 _ _ (fun k => rfl) (by omega) h1 h2)
  · exact (pay13_apply _ _ _ x).trans (piece_at _ _ _ _ _ x y 1 _ _ (fun k => rfl) (by omega) h1 h2)
  · exact (pay12_apply _ _ _ _ _ x).trans (piece_at _ _ _ _ _ x y 0 _ _ (fun k => (Nat.zero_add _).symm) (by omega) h1 h2)

/-- The gradient past the gate. -/
def gPast (d : FVec Ideal S8192x2048 .f32) (p : FVec Ideal S8192x3584 .f32) : FVec Ideal S8192x1024 .bf16 :=
  fun i => past (p (ix2 (i 0) ⟨1536 + (i 1).val, by have h : (i 1).val < 1024 := (i 1).isLt; omega⟩))
    (d (ix2 (i 0) ⟨512 + (i 1).val, by have h : (i 1).val < 1024 := (i 1).isLt; omega⟩))

/-- The projection's gradient with the gate's columns filled in. -/
def gGate (d : FVec Ideal S8192x2048 .f32) (p : FVec Ideal S8192x3584 .f32) (o : FVec Ideal S8192x1024 .bf16) (z : FVec Ideal S8192x7168 .bf16) :
    FVec Ideal S8192x7168 .bf16 :=
  fun i => if h : 1536 ≤ (i 1).val ∧ (i 1).val < 2560 then
    gate (p (ix2 (i 0) ⟨(i 1).val, by omega⟩)) (d (ix2 (i 0) ⟨(i 1).val - 1024, by omega⟩)) (o (ix2 (i 0) ⟨(i 1).val - 1536, by omega⟩))
  else z i

theorem gGate_off (d : FVec Ideal S8192x2048 .f32) (p : FVec Ideal S8192x3584 .f32) (o : FVec Ideal S8192x1024 .bf16) (z : FVec Ideal S8192x7168 .bf16)
    (i : S8192x7168.Idx) (h : ¬(1536 ≤ (i 1).val ∧ (i 1).val < 2560)) : gGate d p o z i = z i := by
  unfold gGate
  rw [dif_neg h]

/-- The rows handed on. -/
def gRows (d : FVec Ideal S8192x2048 .f32) (p : FVec Ideal S8192x3584 .f32) (o : FVec Ideal S8192x1024 .bf16) (l b : FVec Ideal S8x8192x1 .f32) :
    FVec Ideal S8x8x8192 .f32 :=
  fun i => rows (i 1).val (b (ix3 (i 0) (i 2) 0) - l (ix3 (i 0) (i 2) 0))
    (∑ k : Fin 128, past (p (ix2 (i 2) ⟨1536 + (128 * (i 0).val + k.val), by have h : (i 0).val < 8 := (i 0).isLt; omega⟩))
      (d (ix2 (i 2) ⟨512 + (128 * (i 0).val + k.val), by have h : (i 0).val < 8 := (i 0).isLt; omega⟩))
      * o (ix2 (i 2) ⟨128 * (i 0).val + k.val, by have h : (i 0).val < 8 := (i 0).isLt; omega⟩))

theorem arr5 : (dats m 0 c).arrAt 5 cfg0.N = gPast (m ((c : Thread nD τ).loc main_arg0)) (m ((c : Thread nD τ).loc main_arg1)) := by
  refine (dats m 0 c).arrAt_eq_of_covers 5 _ (by decide +kernel) fun t hf y => ?_
  blk_simp
  rw [after0_5]
  unfold outsAt0
  frame_out
  refine (pay5_apply _ _ _).trans (congrArg₂ past ?_ ?_)
  · show V m c main_arg1 _ = m ((c : Thread nD τ).loc main_arg1) _
    rw [V_main_arg1]
    refine congrArg (m ((c : Thread nD τ).loc main_arg1)) ?_
    blk_ext [iblk, index_1, index_5 t]
  · show V m c main_arg0 _ = m ((c : Thread nD τ).loc main_arg0) _
    rw [V_main_arg0]
    refine congrArg (m ((c : Thread nD τ).loc main_arg0)) ?_
    blk_ext [iblk, index_0, index_5 t]

theorem host_z : V m c main_v0_1 = m ((c : Thread nD τ).loc main_arg5) := by
  after_reads_simp
  all_goals try simp -implicitDefEqProofs only [StableHlo.TRef.toBuf, StableHlo.TRef.ofBuf, cast_cast, cast_eq]
  rfl

theorem gate_congr {g g' d d' o o' : EReal} (hg : g = g') (hd : d = d') (ho : o = o') : gate g d o = gate g' d' o' := by rw [hg, hd, ho]

theorem arr6 : (dats m 0 c).arrAt 6 cfg0.N = gGate (m ((c : Thread nD τ).loc main_arg0)) (m ((c : Thread nD τ).loc main_arg1))
    (m ((c : Thread nD τ).loc main_arg2)) (m ((c : Thread nD τ).loc main_arg5)) := by
  refine (dats m 0 c).arrAt_eq_of_coversWhere_of_agree 6 _ (fun β => 3 ≤ β (1 : Fin 2) ∧ β (1 : Fin 2) < 5) (by decide +kernel) (fun t hf y => ?_) (fun j hj => ?_)
  · blk_simp
    rw [after0_6]
    unfold outsAt0
    frame_out
    refine (pay6_apply _ _ _ _).trans ?_
    have ht : t.val < 32 := t.isLt
    have hy : (y 1).val < 512 := (y 1).isLt
    refine Eq.trans ?_ (dif_pos ?_).symm
    · refine gate_congr ?_ ?_ ?_
      · show V m c main_arg1 _ = m ((c : Thread nD τ).loc main_arg1) _
        rw [V_main_arg1]
        refine congrArg (m ((c : Thread nD τ).loc main_arg1)) ?_
        blk_ext [iblk, index_1, index_6 t]
      · show V m c main_arg0 _ = m ((c : Thread nD τ).loc main_arg0) _
        rw [V_main_arg0]
        refine congrArg (m ((c : Thread nD τ).loc main_arg0)) ?_
        blk_ext [iblk, index_0, index_6 t]
        all_goals omega
      · show V m c main_arg2 _ = m ((c : Thread nD τ).loc main_arg2) _
        rw [V_main_arg2]
        refine congrArg (m ((c : Thread nD τ).loc main_arg2)) ?_
        blk_ext [iblk, index_2, index_6 t]
        all_goals omega
    · blk_simp [index_6 t]
      omega
  · blk_simp [Pipeline.Window.cell_apply] at hj
    show V m c main_v0_1 j = gGate _ _ _ _ j
    rw [host_z]
    have hn : ¬(1536 ≤ (j 1).val ∧ (j 1).val < 2560) := fun h => hj (by omega)
    exact (gGate_off _ _ _ _ j hn).symm

theorem rows_congr {r r' : ℕ} {a a' d d' : EReal} (hr : r = r') (ha : a = a') (hd : d = d') : rows r a d = rows r' a' d' := by rw [hr, ha, hd]

theorem arr7 : (dats m 0 c).arrAt 7 cfg0.N = gRows (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  refine (rows_at m c t _).trans ?_
  refine rows_congr ?_ (congrArg₂ (fun a b : EReal => a - b) ?_ ?_) (Finset.sum_congr rfl fun k _ =>
    (pay7_apply _ _ _ _).trans (congrArg₂ (fun a b : EReal => a * b) (congrArg₂ past ?_ ?_) ?_))
  · blk_simp [index_7 t]
  · show V m c main_arg4 _ = m ((c : Thread nD τ).loc main_arg4) _
    rw [V_main_arg4]
    refine congrArg (m ((c : Thread nD τ).loc main_arg4)) ?_
    blk_ext [iblk, index_4, index_7 t]
  · show V m c main_arg3 _ = m ((c : Thread nD τ).loc main_arg3) _
    rw [V_main_arg3]
    refine congrArg (m ((c : Thread nD τ).loc main_arg3)) ?_
    blk_ext [iblk, index_3, index_7 t]
  · show V m c main_arg1 _ = m ((c : Thread nD τ).loc main_arg1) _
    rw [V_main_arg1]
    refine congrArg (m ((c : Thread nD τ).loc main_arg1)) ?_
    blk_ext [iblk, index_1, index_7 t]
  · show V m c main_arg0 _ = m ((c : Thread nD τ).loc main_arg0) _
    rw [V_main_arg0]
    refine congrArg (m ((c : Thread nD τ).loc main_arg0)) ?_
    blk_ext [iblk, index_0, index_7 t]
  · show V m c main_arg2 _ = m ((c : Thread nD τ).loc main_arg2) _
    rw [V_main_arg2]
    refine congrArg (m ((c : Thread nD τ).loc main_arg2)) ?_
    blk_ext [iblk, index_2, index_7 t]

/-! The reference, written out. -/

theorem real_of {e : EReal} (h : e ≠ ⊤ ∧ e ≠ ⊥) : e = ((e.toReal : ℝ) : EReal) := (EReal.coe_toReal h.1 h.2).symm

theorem logistic_of (g : EReal) : Ideal.div (Ideal.ofBits .f32 0x3F800000#32) (Ideal.ofBits .f32 0x3F800000#32 + Ideal.exp (-g)) = Ideal.logistic g := by
  rw [Ideal.ofBits_one_f32]; rfl

/-- The gate's gradient as the reference's derivative writes it, for a real product of the gradient and the output. -/
theorem gate_of (g d o : EReal) (hd : d ≠ ⊤ ∧ d ≠ ⊥) (ho : o ≠ ⊤ ∧ o ≠ ⊥) :
    o * d * Ideal.logistic g + g * (o * d) * (Ideal.logistic g * (Ideal.ofBits .f32 0x3F800000#32 - Ideal.logistic g)) = gate g d o := by
  unfold gate unit
  rw [Ideal.ofBits_one_f32, real_of hd, real_of ho, mul_comm (o.toReal : EReal), ← EReal.coe_mul]
  generalize d.toReal * o.toReal = D
  induction g with
  | bot => simp
  | top =>
    have h : (1 : EReal) - 1 = 0 := by rw [← EReal.coe_one, ← EReal.coe_sub, sub_self, EReal.coe_zero]
    simp [h]
  | coe r =>
    rw [Ideal.logistic_coe, ← EReal.coe_one]
    generalize (1 + Real.exp (-r))⁻¹ = s
    simp only [← EReal.coe_mul, ← EReal.coe_sub, ← EReal.coe_add]
    exact congrArg (fun b : ℝ => (b : EReal)) (by ring)

section Reference

open Cert.PrepReferenceIdeal.Read

variable (d : FVec Ideal S8192x2048 .f32) (p : FVec Ideal S8192x3584 .f32) (o : FVec Ideal S8192x1024 .bf16) (l b : FVec Ideal S8x8192x1 .f32)
  (z : FVec Ideal S8192x7168 .bf16)

theorem gate_at (i : S8192x1024.Idx) : val_main_v1 (F := Ideal) p i = p (ix2 (i 0) ⟨1536 + (i 1).val, by have h : (i 1).val < 1024 := (i 1).isLt; omega⟩) := by
  rw [val_main_v1_apply]
  exact congrArg p (funext fun n => match n with | ⟨0, _⟩ => rfl | ⟨1, _⟩ => rfl)

theorem grad_at (i : S8192x1024.Idx) : val_main_v4 (F := Ideal) d i = d (ix2 (i 0) ⟨512 + (i 1).val, by have h : (i 1).val < 1024 := (i 1).isLt; omega⟩) := by
  rw [val_main_v4_apply]
  exact congrArg d (funext fun n => match n with | ⟨0, _⟩ => rfl | ⟨1, _⟩ => rfl)

theorem logistic_at (i : S8192x1024.Idx) : val_main_v2_2 (F := Ideal) p i = Ideal.logistic (val_main_v1 (F := Ideal) p i) := by
  rw [val_main_v2_2_apply, val_main_call0_v4_apply, val_main_call0_v3_apply, val_main_call0_v2_apply, val_main_call0_v1_apply, val_main_call0_v0_apply]
  exact logistic_of _

theorem past_at (i : S8192x1024.Idx) : val_main_v6 (F := Ideal) d p i = gPast d p i := by
  rw [val_main_v6_apply, val_main_v2_0_apply, logistic_at, gate_at, grad_at]
  rfl

theorem reference_past : val_main_v18 (F := Ideal) d p = gPast d p := by
  funext i
  rw [val_main_v18_apply, Ideal.truncf_def]
  exact past_at d p i

/-- The gradient and the output are real numbers at every entry. -/
structure Finite : Prop where
  d (i : S8192x1024.Idx) : val_main_v4 (F := Ideal) d i ≠ ⊤ ∧ val_main_v4 (F := Ideal) d i ≠ ⊥
  o (i : S8192x1024.Idx) : o i ≠ ⊤ ∧ o i ≠ ⊥

theorem gate_grad_at (hf : Finite d o) (i : S8192x1024.Idx) : val_main_v20 (F := Ideal) d p o i
    = gate (val_main_v1 (F := Ideal) p i) (val_main_v4 (F := Ideal) d i) (o i) := by
  rw [val_main_v20_apply, val_main_v7_apply, val_main_call1_v1_apply, val_main_call1_v2_apply, val_main_call1_v0_apply, val_main_v2_1_apply,
    val_main_call0_v7_apply, val_main_call0_v6_apply, val_main_v5_apply, val_main_v0_apply, logistic_at, Ideal.truncf_def]
  exact gate_of _ _ _ (hf.d i) (hf.o i)

theorem reference_gate (hf : Finite d o) : val_main_v22 (F := Ideal) d p o z = gGate d p o z := by
  funext i
  unfold val_main_v22 gGate
  pointwise []
  by_cases h1 : (i 1).val < 1536
  · rw [dif_pos h1, dif_neg (fun h => absurd h.1 (not_le.mpr h1)), val_main_v19_apply]
    exact congrArg z (funext fun n => match n with | ⟨0, _⟩ => rfl | ⟨1, _⟩ => rfl)
  · rw [dif_neg h1]
    by_cases h2 : (i 1).val < 2560
    · rw [dif_pos (show (i 1).val - 1536 < 1024 by omega), dif_pos ⟨not_lt.mp h1, h2⟩, gate_grad_at d p o hf, gate_at, grad_at]
      refine gate_congr (congrArg p (funext fun n => match n with | ⟨0, _⟩ => rfl | ⟨1, _⟩ => Fin.ext ?_))
        (congrArg d (funext fun n => match n with | ⟨0, _⟩ => rfl | ⟨1, _⟩ => Fin.ext ?_)) rfl
      · show 1536 + ((i 1).val - 1536) = (i 1).val
        omega
      · show 512 + ((i 1).val - 1536) = (i 1).val - 1024
        omega
    · rw [dif_neg (show ¬(i 1).val - 1536 < 1024 by omega), dif_neg (fun h => h2 h.2), val_main_v21_apply]
      refine congrArg z (funext fun n => match n with | ⟨0, _⟩ => rfl | ⟨1, _⟩ => Fin.ext ?_)
      show 2560 + ((i 1).val - 1536 - 1024) = (i 1).val
      omega

/-- The difference of the row's two saved quantities. -/
theorem diff_at (a : Fin 8) (c : Fin 8192) : val_main_v14 (F := Ideal) l b (ix3 a 0 c) = b (ix3 a c 0) - l (ix3 a c 0) := by
  have hi : idx_main_v13 (idx_main_v14 (ix3 a 0 c)) = ix3 a c 0 := funext fun n => match n with
    | ⟨0, _⟩ => Fin.ext (by show (a.val * 8192 + c.val) / 8192 = a.val; omega)
    | ⟨1, _⟩ => Fin.ext (by show (a.val * 8192 + c.val) / 1 % 8192 = c.val; omega)
    | ⟨2, _⟩ => rfl
  rw [val_main_v14_apply, val_main_v13_apply, val_main_v12_apply, hi]
  rfl

/-- The gradient past the gate against the output, summed over a head. -/
theorem delta_at (a : Fin 8) (c : Fin 8192) : val_main_v15 (F := Ideal) d p o (ix3 a 0 c)
    = ∑ k : Fin 128, past (p (ix2 c ⟨1536 + (128 * a.val + k.val), by omega⟩)) (d (ix2 c ⟨512 + (128 * a.val + k.val), by omega⟩))
      * o (ix2 c ⟨128 * a.val + k.val, by omega⟩) := by
  rw [val_main_v15_apply, val_main_v11_apply, val_main_v10_apply]
  refine (congrArg₂ (fun s u : EReal => s + u) Ideal.ofBits_zero_f32 (Finset.sum_congr rfl fun k _ => ?_)).trans (zero_add _)
  have hi : idx_main_v9 (idx_main_v10 (idx_main_v11 (idx_main_v15 (ix3 a 0 c))) k) = ix2 c ⟨128 * a.val + k.val, by omega⟩ := funext fun n => match n with
    | ⟨0, _⟩ => Fin.ext (by show ((c.val * 8 + a.val) * 128 + k.val) / 1024 = c.val; omega)
    | ⟨1, _⟩ => Fin.ext (by show ((c.val * 8 + a.val) * 128 + k.val) % 1024 = 128 * a.val + k.val; omega)
  rw [val_main_v9_apply, val_main_v8_apply, past_at, val_main_v0_apply, hi]
  rfl

theorem reference_rows : val_main_v17 (F := Ideal) d p o l b = gRows d p o l b := by
  funext i
  unfold val_main_v17 gRows
  pointwise []
  have h8 : (i 1).val < 8 := (i 1).isLt
  have e (q : ℕ) (hq : q < 1) : (⟨q, hq⟩ : Fin 1) = 0 := Fin.ext (by show q = 0; omega)
  by_cases h1 : (i 1).val < 1
  · rw [dif_pos h1, e]
    exact (diff_at l b (i 0) (i 2)).trans (if_pos (show (i 1).val = 0 by omega)).symm
  · rw [dif_neg h1]
    refine Eq.trans ?_ (if_neg (show ¬(i 1).val = 0 by omega)).symm
    by_cases h2 : (i 1).val - 1 < 1
    · rw [dif_pos h2, e]
      exact (delta_at d p o (i 0) (i 2)).trans (if_pos (show (i 1).val = 1 by omega)).symm
    · rw [dif_neg h2, val_main_v16_apply]
      exact Ideal.ofBits_zero_f32.trans (if_neg (show ¬(i 1).val = 1 by omega)).symm

theorem ne_of_abs_lt (x : EReal) (hx : max x (-x) < ⊤) : x ≠ ⊤ ∧ x ≠ ⊥ := by
  constructor
  · rintro rfl; simp at hx
  · rintro rfl; simp at hx

theorem inf_word : Ideal.ofBits FTy.f32 2139095040#32 = ⊤ := by
  simp [Ideal.ofBits, Ideal.ieee]

theorem of_word (b : Bool) (e : BitVec.ofBool b = 1#1) : b = true := by revert e; cases b <;> decide

attribute [local instance] Cert.Pre_finite_prep.Gen.facts

/-- The precondition at an entry of its array. -/
theorem pre_at (hp : Cert.Pre_finite_prep.fn (F := Ideal) d p o l b z = fun _ => 1#1) (t : Fin 16384) (y : Fin 1024) (w : EReal)
    (hw : (if h : t.val < 8192 then (d (ix2 ⟨t.val, h⟩ ⟨512 + y.val, by omega⟩) : EReal) else o (ix2 ⟨t.val - 8192, by omega⟩ y)) = w) : w ≠ ⊤ ∧ w ≠ ⊥ := by
  have e := congrFun hp (ix2 t y)
  unfold Cert.Pre_finite_prep.fn at e
  revert e
  pointwise []
  intro e
  have e' := of_decide_eq_true (of_word _ e)
  rw [hw, inf_word] at e'
  exact ne_of_abs_lt w e'

theorem finite_of_pre (hp : Cert.Pre_finite_prep.fn (F := Ideal) d p o l b z = fun _ => 1#1) : Finite d o where
  d i := pre_at d p o l b z hp ⟨(i 0).val, by have : (i 0).val < 8192 := (i 0).isLt; omega⟩ (i 1) _ (by
    rw [dif_pos (show (i 0).val < 8192 from (i 0).isLt), grad_at]
    rfl)
  o i := pre_at d p o l b z hp ⟨8192 + (i 0).val, by have : (i 0).val < 8192 := (i 0).isLt; omega⟩ (i 1) _ (by
    rw [dif_neg (by show ¬ 8192 + (i 0).val < 8192; omega)]
    exact congrArg o (funext fun a => match a with
      | ⟨0, _⟩ => Fin.ext (by show 8192 + (i 0).val - 8192 = (i 0).val; omega) | ⟨1, _⟩ => rfl))

end Reference

/-- The reference leaves its arguments and its counters. -/
theorem frame_reference : Cert.quiescent_PrepReferenceIdeal (hPrepReferenceIdeal := Cert.PrepReferenceIdeal.Gen.facts) :=
  fun m ρ _ => (θ_run Cert.PrepReferenceIdeal.defs _ _).mono (fun r h => ⟨fun c => (h c).2.2.2,
    sem_eq_zero_of_no_sems (by decide) r.2⟩) (Cert.PrepReferenceIdeal.Value.run (F := Ideal) m ρ)

/-- The kernel computes what the reference computes, where the gradient and the output are real numbers. -/
theorem value : Cert.algebraic_PrepIdeal_PrepReferenceIdeal_pre_finite_prep (hPrepIdeal := Cert.PrepIdeal.Gen.facts)
    (hPrepReferenceIdeal := Cert.PrepReferenceIdeal.Gen.facts) (hPre_finite_prep := Cert.Pre_finite_prep.Gen.facts) := by
  intro m g m' g' hp hm
  refine ⟨fun c => gPast (m ((c.tc : Thread nD τ).loc main_arg0)) (m ((c.tc : Thread nD τ).loc main_arg1)),
    fun c => gGate (m ((c.tc : Thread nD τ).loc main_arg0)) (m ((c.tc : Thread nD τ).loc main_arg1)) (m ((c.tc : Thread nD τ).loc main_arg2))
      (m ((c.tc : Thread nD τ).loc main_arg5)),
    fun c => gRows (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)), ?_, ?_⟩
  · exact (θ_run defs _ _).mono (fun r h c => ⟨(h c).1.trans (arr5 m c), (h c).2.1.trans (arr6 m c), (h c).2.2.1.trans (arr7 m c), (h c).2.2.2⟩)
      (Cert.PrepIdeal.Value.run_blocks m g)
  · refine (θ_run Cert.PrepReferenceIdeal.defs _ _).mono (fun r h c => ⟨(h c).1.trans ?_, (h c).2.1.trans ?_, (h c).2.2.1.trans ?_, (h c).2.2.2⟩)
      (Cert.PrepReferenceIdeal.Value.run (F := Ideal) m' g')
    · rw [Cert.PrepReferenceIdeal.Read.val_main_v18_eq, (hm c).1, (hm c).2.1]
      exact reference_past _ _
    · rw [Cert.PrepReferenceIdeal.Read.val_main_v22_eq, (hm c).1, (hm c).2.1, (hm c).2.2.1, (hm c).2.2.2.2.2]
      exact reference_gate _ _ _ _ (finite_of_pre _ _ _ _ _ _ (hp c))
    · rw [Cert.PrepReferenceIdeal.Read.val_main_v17_eq, (hm c).1, (hm c).2.1, (hm c).2.2.1, (hm c).2.2.2.1, (hm c).2.2.2.2.1]
      exact reference_rows _ _ _ _ _

end Cert.PrepIdeal.Norm

end
-- ==== Proof.Norms.MemBwd.lean ====
/-
  The gradient of the memory's attention: one row against the memory's 256 positions, four heads a block. The gradients of
  the query and of the gate are the body's values at each block; those of the memory's keys and values add up over the blocks.
-/
module

public import proofs.«01_k».proof.Proof.Gen.MemBwdIdeal.Value
public import proofs.«01_k».proof.Proof.Gen.MemBwdIdeal
public import proofs.«01_k».proof.Proof.Gen.MemBwdReferenceIdeal
public import proofs.«01_k».proof.Proof.Gen.MemBwdReferenceIdeal.Run
public import proofs.«01_k».proof.Proof.Gen.MemBwdReferenceIdeal.Read
public import proofs.«01_k».proof.Proof.Gen.Pre_finite_mem
public import proofs.«01_k».proof.Defs
public import proofs.«01_k».proof.Proof.Norms.Prep
public import Idealize.ShloMosaic.Lib.Pipeline.ValueKit
public import Idealize.ShloMosaic.Lib.Pipeline.ReadBack
public import Idealize.ShloMosaic.Lib.StableHlo.ReadAt
public import Idealize.ShloMosaic.Lib.Quiescent

@[expose] public section

set_option maxRecDepth 16384

noncomputable section

namespace Cert.MemBwdIdeal.Norm

open Idealize.ShloMosaic Idealize.ShloMosaic.TcCoe Idealize.SL.Sem
open Cert.MemBwdIdeal Cert.MemBwdIdeal.Gen
open Cert.PrepIdeal.Norm (past unit gate gate_of real_of logistic_of ne_of_abs_lt inf_word of_word)

theorem index_0 : ∀ t : Fin grid0.N, win0_0.index t = ![t.val, 6] := by decide +kernel
theorem index_1 : ∀ t : Fin grid0.N, win0_1.index t = ![0, 0] := by decide +kernel
theorem index_2 : ∀ t : Fin grid0.N, win0_2.index t = ![t.val, 5] := by decide +kernel
theorem index_3 : ∀ t : Fin grid0.N, win0_3.index t = ![t.val, 3] := by decide +kernel
theorem index_4 : ∀ t : Fin grid0.N, win0_4.index t = ![t.val, 0] := by decide +kernel
theorem index_5 : ∀ t : Fin grid0.N, win0_5.index t = ![t.val, 0] := by decide +kernel
theorem index_6 : ∀ t : Fin grid0.N, win0_6.index t = ![0, 0] := by decide +kernel
theorem index_7 : ∀ t : Fin grid0.N, win0_7.index t = ![0, 0] := by decide +kernel

/-! One row of queries against the memory, at its entries. -/

/-- The scale of the scores, as both programs write it. -/
def scale : EReal := Ideal.ofBits .f32 0x3DB504F3#32

/-- The score of a query and a key. -/
def score (q k : Fin 128 → EReal) : EReal := (∑ x, q x * k x) * scale

/-- A row's largest score. -/
def peak (s : Fin 256 → EReal) : EReal := Finset.univ.fold max (Ideal.ofBits .f32 0xFF800000#32) s

/-- A row's exponentials. -/
def num (s : Fin 256 → EReal) (j : Fin 256) : EReal := Ideal.exp (s j - peak s)

/-- A row's weights. -/
def weight (s : Fin 256 → EReal) (j : Fin 256) : EReal := Ideal.div (num s j) (∑ x, num s x)

/-- The weights' gradient. -/
def pull (v : Fin 256 → Fin 128 → EReal) (g d : Fin 128 → EReal) (j : Fin 256) : EReal := ∑ x, past (g x) (d x) * v j x

/-- The scores' gradient, from the weights and the weights' gradient. -/
def slope (p d : Fin 256 → EReal) (j : Fin 256) : EReal := p j * (d j - ∑ x, d x * p x) * scale

variable (q : Fin 128 → EReal) (k v : Fin 256 → Fin 128 → EReal) (g d : Fin 128 → EReal)

/-- The scores' gradient. -/
def ds (j : Fin 256) : EReal := slope (weight fun j => score q (k j)) (pull v g d) j

/-- The query's gradient. -/
def rq (x : Fin 128) : EReal := ∑ j, ds q k v g d j * k j x

/-- The gate's gradient. -/
def rg (x : Fin 128) : EReal := gate (g x) (d x) (∑ j, weight (fun j => score q (k j)) j * v j x)

/-- A row's share of a key's gradient. -/
def rk (j : Fin 256) (x : Fin 128) : EReal := ds q k v g d j * q x

/-- A row's share of a value's gradient. -/
def rv (j : Fin 256) (x : Fin 128) : EReal := weight (fun j => score q (k j)) j * past (g x) (d x)

section Payloads

variable (q : Vec Ideal S512x128 .bf16) (k v : Vec Ideal S256x128 .bf16) (g d : Vec Ideal S512x128 .f32) (a : Vec Ideal S256x128 .f32)

theorem pay6_apply (y : S512x256.Idx) :
    k0_pay6 (F := Ideal) q k y = weight (fun j => score (fun x => q (ix2 (y 0) x)) (fun x => k (ix2 j x))) (y 1) := by
  pointwise [k0_pay6]
  rfl

theorem pay10_apply (y : S512x128.Idx) : k0_pay10 (F := Ideal) g d y = past (g y) (d y) := by
  pointwise [k0_pay10, k0_pay8]
  rfl

theorem pay9_apply (y : S512x128.Idx) : k0_pay9 (F := Ideal) q k v g d y
    = rg (fun x => q (ix2 (y 0) x)) (fun j x => k (ix2 j x)) (fun j x => v (ix2 j x)) (fun x => g (ix2 (y 0) x)) (fun x => d (ix2 (y 0) x)) (y 1) := by
  pointwise [k0_pay9, k0_pay8, k0_pay7]
  simp only [pay6_apply]
  rw [show y = ix2 (y 0) (y 1) from funext fun n => match n with | ⟨0, _⟩ => rfl | ⟨1, _⟩ => rfl]
  unfold rg gate unit
  rw [Ideal.ofBits_one_f32]
  rfl

theorem pay12_apply (y : S512x128.Idx) : k0_pay12 (F := Ideal) k v (k0_pay6 q k) (k0_pay10 g d) y
    = rq (fun x => q (ix2 (y 0) x)) (fun j x => k (ix2 j x)) (fun j x => v (ix2 j x)) (fun x => g (ix2 (y 0) x)) (fun x => d (ix2 (y 0) x)) (y 1) := by
  pointwise [k0_pay12, k0_pay11]
  simp only [pay6_apply, pay10_apply]
  rfl

theorem pay13_apply (y : S256x128.Idx) : k0_pay13 (F := Ideal) q v (k0_pay6 q k) (k0_pay10 g d) a y
    = a y + ∑ s : Fin 512, rk (fun x => q (ix2 s x)) (fun j x => k (ix2 j x)) (fun j x => v (ix2 j x)) (fun x => g (ix2 s x)) (fun x => d (ix2 s x)) (y 0) (y 1) := by
  pointwise [k0_pay13, k0_pay11]
  simp only [pay6_apply, pay10_apply]
  rfl

theorem pay14_apply (y : S256x128.Idx) : k0_pay14 (F := Ideal) (k0_pay7 q k) (k0_pay10 g d) a y
    = a y + ∑ s : Fin 512, rv (fun x => q (ix2 s x)) (fun j x => k (ix2 j x)) (fun x => g (ix2 s x)) (fun x => d (ix2 s x)) (y 0) (y 1) := by
  pointwise [k0_pay14, k0_pay7]
  simp only [pay6_apply, pay10_apply]
  rfl

end Payloads

/-! A block of four heads. -/

/-- The head a column belongs to, and its place there. -/
def hd (x : Fin 512) : Fin 4 := ⟨x.val / 128, by omega⟩
def ln (x : Fin 512) : Fin 128 := ⟨x.val % 128, by omega⟩

/-- A row of a head. -/
def row {e : EltTy} (b : S512x512.Idx → Elt Ideal e) (s : Fin 512) (h : Fin 4) (x : Fin 128) : Elt Ideal e := b (ix2 s ⟨128 * h.val + x.val, by omega⟩)

/-- The memory's keys and values of a head. -/
def keys (b : S256x1024.Idx → Elt Ideal .bf16) (h : Fin 4) (j : Fin 256) (x : Fin 128) : EReal := b (ix2 j ⟨128 * h.val + x.val, by omega⟩)
def vals (b : S256x1024.Idx → Elt Ideal .bf16) (h : Fin 4) (j : Fin 256) (x : Fin 128) : EReal := b (ix2 j ⟨512 + (128 * h.val + x.val), by omega⟩)

variable (b0 : S512x512.Idx → Elt Ideal .bf16) (b1 : S256x1024.Idx → Elt Ideal .bf16) (b2 b3 : S512x512.Idx → Elt Ideal .f32)

def bq (s : Fin 512) (h : Fin 4) (x : Fin 128) : EReal := rq (row b0 s h) (keys b1 h) (vals b1 h) (row b2 s h) (row b3 s h) x
def bg (s : Fin 512) (h : Fin 4) (x : Fin 128) : EReal := rg (row b0 s h) (keys b1 h) (vals b1 h) (row b2 s h) (row b3 s h) x
def bk (j : Fin 256) (h : Fin 4) (x : Fin 128) : EReal := ∑ s, rk (row b0 s h) (keys b1 h) (vals b1 h) (row b2 s h) (row b3 s h) j x
def bv (j : Fin 256) (h : Fin 4) (x : Fin 128) : EReal := ∑ s, rv (row b0 s h) (keys b1 h) (row b2 s h) (row b3 s h) j x

theorem row_of {e : EltTy} (b : S512x512.Idx → Elt Ideal e) {o : ℕ} (inb : ∀ a, (![0, o] : Fin 2 → ℕ) a + (![512, 128] : Fin 2 → ℕ) a ≤ S512x512.size a)
    (h : Fin 4) (ho : o = 128 * h.val) (s : Fin 512) (x : Fin 128) :
    View.ld (Val := Elt Ideal) (e' := e) b (Rect.unit (s := S512x512) ![0, o] ![512, 128] inb) (ix2 s x) = row b s h x := by
  subst ho
  rw [View.ld_apply]
  refine congrArg b (funext fun n => Fin.ext ((Rect.idx_unit_val _ _ _ _ _).trans ?_))
  match n with
  | ⟨0, _⟩ => exact Nat.zero_add _
  | ⟨1, _⟩ => rfl

theorem keys_of (b : S256x1024.Idx → Elt Ideal .bf16) {o : ℕ} (inb : ∀ a, (![0, o] : Fin 2 → ℕ) a + (![256, 128] : Fin 2 → ℕ) a ≤ S256x1024.size a)
    (h : Fin 4) (ho : o = 128 * h.val) (s : Fin 256) (x : Fin 128) :
    View.ld (Val := Elt Ideal) (e' := .bf16) b (Rect.unit (s := S256x1024) ![0, o] ![256, 128] inb) (ix2 s x) = keys b h s x := by
  subst ho
  rw [View.ld_apply]
  refine congrArg b (funext fun n => Fin.ext ((Rect.idx_unit_val _ _ _ _ _).trans ?_))
  match n with
  | ⟨0, _⟩ => exact Nat.zero_add _
  | ⟨1, _⟩ => rfl

theorem vals_of (b : S256x1024.Idx → Elt Ideal .bf16) {o : ℕ} (inb : ∀ a, (![0, o] : Fin 2 → ℕ) a + (![256, 128] : Fin 2 → ℕ) a ≤ S256x1024.size a)
    (h : Fin 4) (ho : o = 512 + 128 * h.val) (s : Fin 256) (x : Fin 128) :
    View.ld (Val := Elt Ideal) (e' := .bf16) b (Rect.unit (s := S256x1024) ![0, o] ![256, 128] inb) (ix2 s x) = vals b h s x := by
  subst ho
  rw [View.ld_apply]
  refine congrArg b (funext fun n => Fin.ext ((Rect.idx_unit_val _ _ _ _ _).trans ?_))
  match n with
  | ⟨0, _⟩ => exact Nat.zero_add _
  | ⟨1, _⟩ => exact Nat.add_assoc _ _ _

section Pieces

variable (q : Vec Ideal S512x128 .bf16) (k v : Vec Ideal S256x128 .bf16) (g d : Vec Ideal S512x128 .f32) (a : Vec Ideal S256x128 .f32) (h : Fin 4)

theorem place (y x : ℕ) (hy : y < 512) (hx : x < 128) (h1 : y = 128 * h.val + x) : hd ⟨y, hy⟩ = h ∧ ln ⟨y, hy⟩ = ⟨x, hx⟩ :=
  ⟨Fin.ext (by show y / 128 = h.val; omega), Fin.ext (by show y % 128 = x; omega)⟩

/-- The arrays are a head's parts of the blocks. -/
structure Part : Prop where
  q s x : q (ix2 s x) = row b0 s h x
  k s x : k (ix2 s x) = keys b1 h s x
  v s x : v (ix2 s x) = vals b1 h s x
  g s x : g (ix2 s x) = row b2 s h x
  d s x : d (ix2 s x) = row b3 s h x

variable {b0 b1 b2 b3 q k v g d a h} (p : Part b0 b1 b2 b3 q k v g d h)

include p

theorem q_at (x : S512x128.Idx) (y : S512x512.Idx) (h0 : (y 0).val = (x 0).val) (h1 : (y 1).val = 128 * h.val + (x 1).val) :
    k0_pay12 (F := Ideal) k v (k0_pay6 q k) (k0_pay10 g d) x = bq b0 b1 b2 b3 (y 0) (hd (y 1)) (ln (y 1)) := by
  obtain ⟨e1, e2⟩ := place h (y 1).val (x 1).val (y 1).isLt (x 1).isLt h1
  refine (pay12_apply q k v g d x).trans ?_
  rw [show y 0 = x 0 from Fin.ext h0, show hd (y 1) = h from e1, show ln (y 1) = x 1 from e2]
  unfold bq
  congr 1
  exacts [funext (p.q _), funext fun j => funext (p.k j), funext fun j => funext (p.v j), funext (p.g _), funext (p.d _)]

theorem g_at (x : S512x128.Idx) (y : S512x512.Idx) (h0 : (y 0).val = (x 0).val) (h1 : (y 1).val = 128 * h.val + (x 1).val) :
    k0_pay9 (F := Ideal) q k v g d x = bg b0 b1 b2 b3 (y 0) (hd (y 1)) (ln (y 1)) := by
  obtain ⟨e1, e2⟩ := place h (y 1).val (x 1).val (y 1).isLt (x 1).isLt h1
  refine (pay9_apply q k v g d x).trans ?_
  rw [show y 0 = x 0 from Fin.ext h0, show hd (y 1) = h from e1, show ln (y 1) = x 1 from e2]
  unfold bg
  congr 1
  exacts [funext (p.q _), funext fun j => funext (p.k j), funext fun j => funext (p.v j), funext (p.g _), funext (p.d _)]

theorem k_at {z : EReal} (x : S256x128.Idx) (y : S256x512.Idx) (h0 : (y 0).val = (x 0).val) (h1 : (y 1).val = 128 * h.val + (x 1).val) (ha : a x = z) :
    k0_pay13 (F := Ideal) q v (k0_pay6 q k) (k0_pay10 g d) a x = z + bk b0 b1 b2 b3 (y 0) (hd (y 1)) (ln (y 1)) := by
  obtain ⟨e1, e2⟩ := place h (y 1).val (x 1).val (y 1).isLt (x 1).isLt h1
  refine (pay13_apply q k v g d a x).trans ?_
  simp only [p.q, p.k, p.v, p.g, p.d, ha]
  rw [show y 0 = x 0 from Fin.ext h0, show hd (y 1) = h from e1, show ln (y 1) = x 1 from e2]
  rfl

theorem v_at {z : EReal} (x : S256x128.Idx) (y : S256x512.Idx) (h0 : (y 0).val = (x 0).val) (h1 : (y 1).val = 128 * h.val + (x 1).val) (ha : a x = z) :
    k0_pay14 (F := Ideal) (k0_pay7 q k) (k0_pay10 g d) a x = z + bv b0 b1 b2 b3 (y 0) (hd (y 1)) (ln (y 1)) := by
  obtain ⟨e1, e2⟩ := place h (y 1).val (x 1).val (y 1).isLt (x 1).isLt h1
  refine (pay14_apply q k g d a x).trans ?_
  simp only [p.q, p.k, p.g, p.d, ha]
  rw [show y 0 = x 0 from Fin.ext h0, show hd (y 1) = h from e1, show ln (y 1) = x 1 from e2]
  rfl

end Pieces

theorem part_of {o u : ℕ} (h : Fin 4) (ho : o = 128 * h.val) (hu : u = 512 + 128 * h.val)
    (iq : ∀ a, (![0, o] : Fin 2 → ℕ) a + (![512, 128] : Fin 2 → ℕ) a ≤ S512x512.size a)
    (ik : ∀ a, (![0, o] : Fin 2 → ℕ) a + (![256, 128] : Fin 2 → ℕ) a ≤ S256x1024.size a)
    (iv : ∀ a, (![0, u] : Fin 2 → ℕ) a + (![256, 128] : Fin 2 → ℕ) a ≤ S256x1024.size a) :
    Part b0 b1 b2 b3 (View.ld (Val := Elt Ideal) (e' := .bf16) b0 (Rect.unit (s := S512x512) ![0, o] ![512, 128] iq))
      (View.ld (Val := Elt Ideal) (e' := .bf16) b1 (Rect.unit (s := S256x1024) ![0, o] ![256, 128] ik))
      (View.ld (Val := Elt Ideal) (e' := .bf16) b1 (Rect.unit (s := S256x1024) ![0, u] ![256, 128] iv))
      (View.ld (Val := Elt Ideal) (e' := .f32) b2 (Rect.unit (s := S512x512) ![0, o] ![512, 128] iq))
      (View.ld (Val := Elt Ideal) (e' := .f32) b3 (Rect.unit (s := S512x512) ![0, o] ![512, 128] iq)) h :=
  ⟨row_of b0 iq h ho, keys_of b1 ik h ho, vals_of b1 iv h hu, row_of b2 iq h ho, row_of b3 iq h ho⟩

/-! The body's blocks after a step. -/

variable (m : (ℓ : Loc nD τ sig) → Buf (Elt Ideal) ℓ) (c : Dev nD) (t : Fin cfg0.N)

theorem q_after (y : S512x512.Idx) : (outsAt0 m c t.val t.isLt).1 y
    = bq (iblk m c 0 t) (iblk m c 1 t) (iblk m c 2 t) (iblk m c 3 t) (y 0) (hd (y 1)) (ln (y 1)) := by
  by_cases hA : t.val % 16 = 0
  all_goals
    first | rw [outsAt0_A m c t hA] | rw [outsAt0_B m c t hA]
    frame_out
    canon_tiles x h
    · exact q_at (part_of _ _ _ _ 3 rfl rfl _ _ _) x y h0 h1
    · exact q_at (part_of _ _ _ _ 2 rfl rfl _ _ _) x y h0 h1
    · exact q_at (part_of _ _ _ _ 1 rfl rfl _ _ _) x y h0 h1
    · exact q_at (part_of _ _ _ _ 0 rfl rfl _ _ _) x y h0 (h1.trans (Nat.zero_add _).symm)

theorem g_after (y : S512x512.Idx) : (outsAt0 m c t.val t.isLt).2.1 y
    = bg (iblk m c 0 t) (iblk m c 1 t) (iblk m c 2 t) (iblk m c 3 t) (y 0) (hd (y 1)) (ln (y 1)) := by
  by_cases hA : t.val % 16 = 0
  all_goals
    first | rw [outsAt0_A m c t hA] | rw [outsAt0_B m c t hA]
    frame_out
    canon_tiles x h
    · exact g_at (part_of _ _ _ _ 3 rfl rfl _ _ _) x y h0 h1
    · exact g_at (part_of _ _ _ _ 2 rfl rfl _ _ _) x y h0 h1
    · exact g_at (part_of _ _ _ _ 1 rfl rfl _ _ _) x y h0 h1
    · exact g_at (part_of _ _ _ _ 0 rfl rfl _ _ _) x y h0 (h1.trans (Nat.zero_add _).symm)

/-- Of the pieces written, those that cover a place decide it. -/
theorem canon_drop {S : Shape} {e : EltTy} (L' : List (View.Piece (Elt Ideal) S e)) (y : S.Idx) :
    ∀ (L : List (View.Piece (Elt Ideal) S e)) (_ : ∃ p ∈ L, y ∈ p.1.set), View.canon (L ++ L') y = View.canon L y
  | [], hy => by obtain ⟨p, hp, _⟩ := hy; simp at hp
  | p :: L, hy => by
    by_cases hm : y ∈ p.1.set
    · obtain ⟨x, rfl⟩ := p.1.exists_idx_of_mem hm
      exact (View.canon_cons_emb p.1 p.2 (L ++ L') x).trans (View.canon_cons_emb p.1 p.2 L x).symm
    · refine (View.canon_cons_of_not_mem p (L ++ L') hm).trans (((canon_drop L' y L ?_)).trans (View.canon_cons_of_not_mem p L hm).symm)
      obtain ⟨q, hq, hyq⟩ := hy
      rcases List.mem_cons.mp hq with rfl | hq'
      · exact absurd hyq hm
      · exact ⟨q, hq', hyq⟩

theorem pay4_zero (y : S256x512.Idx) : k0_pay4 (F := Ideal) y = 0 := by
  pointwise [k0_pay4, Ideal.ofBits_zero_f32]

theorem pay5_zero (y : S256x512.Idx) : k0_pay5 (F := Ideal) y = 0 := by
  pointwise [k0_pay5, Ideal.ofBits_zero_f32]

theorem acc_of (b : S256x512.Idx → Elt Ideal .f32) {o : ℕ} (inb : ∀ a, (![0, o] : Fin 2 → ℕ) a + (![256, 128] : Fin 2 → ℕ) a ≤ S256x512.size a)
    (x : S256x128.Idx) (y : S256x512.Idx) (h0 : (y 0).val = (x 0).val) (h1 : (y 1).val = o + (x 1).val) :
    View.ld (Val := Elt Ideal) (e' := .f32) b (Rect.unit (s := S256x512) ![0, o] ![256, 128] inb) x = b y := by
  rw [View.ld_apply]
  refine congrArg b (funext fun n => Fin.ext ((Rect.idx_unit_val _ _ _ _ _).trans ?_))
  match n with
  | ⟨0, _⟩ => exact (Nat.zero_add _).trans h0.symm
  | ⟨1, _⟩ => exact h1.symm

theorem k_first (h0 : t.val % 16 = 0) (y : S256x512.Idx) : (outsAt0 m c t.val t.isLt).2.2.1 y
    = (0 : EReal) + bk (iblk m c 0 t) (iblk m c 1 t) (iblk m c 2 t) (iblk m c 3 t) (y 0) (hd (y 1)) (ln (y 1)) := by
  rw [outsAt0_A m c t h0]
  frame_out
  simp (disch := decide) only [↓ View.readCov_skip, ↓ View.readCov_cons_toLoadRect, ↓ View.readCov_fill]
  refine (canon_drop _ y [_, _, _, _] (View.cover_of_tiled_head _ _ _ rfl y)).trans ?_
  canon_tiles x h
  · exact k_at (part_of _ _ _ _ 3 rfl rfl _ _ _) x y h0 h1 ((View.ld_apply _ _ _).trans (pay4_zero _))
  · exact k_at (part_of _ _ _ _ 2 rfl rfl _ _ _) x y h0 h1 ((View.ld_apply _ _ _).trans (pay4_zero _))
  · exact k_at (part_of _ _ _ _ 1 rfl rfl _ _ _) x y h0 h1 ((View.ld_apply _ _ _).trans (pay4_zero _))
  · exact k_at (part_of _ _ _ _ 0 rfl rfl _ _ _) x y h0 (h1.trans (Nat.zero_add _).symm) ((View.ld_apply _ _ _).trans (pay4_zero _))

theorem k_next (h0 : ¬ t.val % 16 = 0) (y : S256x512.Idx) : (outsAt0 m c t.val t.isLt).2.2.1 y
    = (outsAt0 m c (t.val - 1) (by have := t.isLt; omega)).2.2.1 y + bk (iblk m c 0 t) (iblk m c 1 t) (iblk m c 2 t) (iblk m c 3 t) (y 0) (hd (y 1)) (ln (y 1)) := by
  rw [outsAt0_B m c t h0]
  frame_out
  canon_tiles x h
  · exact k_at (part_of _ _ _ _ 3 rfl rfl _ _ _) x y h0 h1 (acc_of _ _ x y h0 h1)
  · exact k_at (part_of _ _ _ _ 2 rfl rfl _ _ _) x y h0 h1 (acc_of _ _ x y h0 h1)
  · exact k_at (part_of _ _ _ _ 1 rfl rfl _ _ _) x y h0 h1 (acc_of _ _ x y h0 h1)
  · exact k_at (part_of _ _ _ _ 0 rfl rfl _ _ _) x y h0 (h1.trans (Nat.zero_add _).symm) (acc_of _ _ x y h0 (h1.trans (Nat.zero_add _).symm))

theorem v_first (h0 : t.val % 16 = 0) (y : S256x512.Idx) : (outsAt0 m c t.val t.isLt).2.2.2 y
    = (0 : EReal) + bv (iblk m c 0 t) (iblk m c 1 t) (iblk m c 2 t) (iblk m c 3 t) (y 0) (hd (y 1)) (ln (y 1)) := by
  rw [outsAt0_A m c t h0]
  frame_out
  simp (disch := decide) only [↓ View.readCov_skip, ↓ View.readCov_cons_toLoadRect, ↓ View.readCov_fill]
  refine (canon_drop _ y [_, _, _, _] (View.cover_of_tiled_head _ _ _ rfl y)).trans ?_
  canon_tiles x h
  · exact v_at (part_of _ _ _ _ 3 rfl rfl _ _ (by decide)) x y h0 h1 ((View.ld_apply _ _ _).trans (pay5_zero _))
  · exact v_at (part_of _ _ _ _ 2 rfl rfl _ _ (by decide)) x y h0 h1 ((View.ld_apply _ _ _).trans (pay5_zero _))
  · exact v_at (part_of _ _ _ _ 1 rfl rfl _ _ (by decide)) x y h0 h1 ((View.ld_apply _ _ _).trans (pay5_zero _))
  · exact v_at (part_of _ _ _ _ 0 rfl rfl _ _ (by decide)) x y h0 (h1.trans (Nat.zero_add _).symm) ((View.ld_apply _ _ _).trans (pay5_zero _))

theorem v_next (h0 : ¬ t.val % 16 = 0) (y : S256x512.Idx) : (outsAt0 m c t.val t.isLt).2.2.2 y
    = (outsAt0 m c (t.val - 1) (by have := t.isLt; omega)).2.2.2 y + bv (iblk m c 0 t) (iblk m c 1 t) (iblk m c 2 t) (iblk m c 3 t) (y 0) (hd (y 1)) (ln (y 1)) := by
  rw [outsAt0_B m c t h0]
  frame_out
  canon_tiles x h
  · exact v_at (part_of _ _ _ _ 3 rfl rfl _ _ (by decide)) x y h0 h1 (acc_of _ _ x y h0 h1)
  · exact v_at (part_of _ _ _ _ 2 rfl rfl _ _ (by decide)) x y h0 h1 (acc_of _ _ x y h0 h1)
  · exact v_at (part_of _ _ _ _ 1 rfl rfl _ _ (by decide)) x y h0 h1 (acc_of _ _ x y h0 h1)
  · exact v_at (part_of _ _ _ _ 0 rfl rfl _ _ (by decide)) x y h0 (h1.trans (Nat.zero_add _).symm) (acc_of _ _ x y h0 (h1.trans (Nat.zero_add _).symm))

/-! The results. -/

theorem flush_last (h : t.val % 16 = 15) (s : Fin 16) : 16 * (t.val / 16) + s.val < cfg0.N := Pipeline.run_point_lt_of_flush t h s

theorem k_sum (h : t.val % 16 = 15) (y : S256x512.Idx) : (outsAt0 m c t.val t.isLt).2.2.1 y
    = ∑ s : Fin 16, bk (iblk m c 0 ⟨16 * (t.val / 16) + s.val, flush_last t h s⟩) (iblk m c 1 ⟨16 * (t.val / 16) + s.val, flush_last t h s⟩)
      (iblk m c 2 ⟨16 * (t.val / 16) + s.val, flush_last t h s⟩) (iblk m c 3 ⟨16 * (t.val / 16) + s.val, flush_last t h s⟩) (y 0) (hd (y 1)) (ln (y 1)) :=
  (Pipeline.eq_sum_fin_of_reset_step_apply_of_flush (fun n h y => (outsAt0 m c n h).2.2.1 y) 16 (fun _ => 0)
    (fun t y => bk (iblk m c 0 t) (iblk m c 1 t) (iblk m c 2 t) (iblk m c 3 t) (y 0) (hd (y 1)) (ln (y 1)))
    (k_first m c) (k_next m c) t h y).trans (zero_add _)

theorem v_sum (h : t.val % 16 = 15) (y : S256x512.Idx) : (outsAt0 m c t.val t.isLt).2.2.2 y
    = ∑ s : Fin 16, bv (iblk m c 0 ⟨16 * (t.val / 16) + s.val, flush_last t h s⟩) (iblk m c 1 ⟨16 * (t.val / 16) + s.val, flush_last t h s⟩)
      (iblk m c 2 ⟨16 * (t.val / 16) + s.val, flush_last t h s⟩) (iblk m c 3 ⟨16 * (t.val / 16) + s.val, flush_last t h s⟩) (y 0) (hd (y 1)) (ln (y 1)) :=
  (Pipeline.eq_sum_fin_of_reset_step_apply_of_flush (fun n h y => (outsAt0 m c n h).2.2.2 y) 16 (fun _ => 0)
    (fun t y => bv (iblk m c 0 t) (iblk m c 1 t) (iblk m c 2 t) (iblk m c 3 t) (y 0) (hd (y 1)) (ln (y 1)))
    (v_first m c) (v_next m c) t h y).trans (zero_add _)

section Whole

variable (x0 : FVec Ideal S8192x3584 .bf16) (x1 : FVec Ideal S8192x3584 .f32) (x2 : FVec Ideal S256x1024 .bf16) (x3 : FVec Ideal S8192x2048 .f32)

/-- A row's query, gate and gradient of a head, and the head's keys and values. -/
def aq (r : Fin 8192) (h : Fin 4) (x : Fin 128) : EReal := x0 (ix2 r ⟨3072 + (128 * h.val + x.val), by omega⟩)
def ag (r : Fin 8192) (h : Fin 4) (x : Fin 128) : EReal := x1 (ix2 r ⟨2560 + (128 * h.val + x.val), by omega⟩)
def ad (r : Fin 8192) (h : Fin 4) (x : Fin 128) : EReal := x3 (ix2 r ⟨1536 + (128 * h.val + x.val), by omega⟩)

def outQ : FVec Ideal S8192x512 .bf16 := fun i =>
  rq (aq x0 (i 0) (hd (i 1))) (keys x2 (hd (i 1))) (vals x2 (hd (i 1))) (ag x1 (i 0) (hd (i 1))) (ad x3 (i 0) (hd (i 1))) (ln (i 1))

def outG : FVec Ideal S8192x512 .bf16 := fun i =>
  rg (aq x0 (i 0) (hd (i 1))) (keys x2 (hd (i 1))) (vals x2 (hd (i 1))) (ag x1 (i 0) (hd (i 1))) (ad x3 (i 0) (hd (i 1))) (ln (i 1))

def outK : FVec Ideal S256x512 .f32 := fun i => (∑ r : Fin 8192,
  rk (aq x0 r (hd (i 1))) (keys x2 (hd (i 1))) (vals x2 (hd (i 1))) (ag x1 r (hd (i 1))) (ad x3 r (hd (i 1))) (i 0) (ln (i 1)) : EReal)

def outV : FVec Ideal S256x512 .f32 := fun i => (∑ r : Fin 8192,
  rv (aq x0 r (hd (i 1))) (keys x2 (hd (i 1))) (ag x1 r (hd (i 1))) (ad x3 r (hd (i 1))) (i 0) (ln (i 1)) : EReal)

end Whole

theorem rows_q (s : Fin 512) (r : Fin 8192) (hr : r.val = 512 * t.val + s.val) (h : Fin 4) :
    row (iblk m c 0 t) s h = aq (m ((c : Thread nD τ).loc main_arg0)) r h := funext fun x => by
  show V m c main_arg0 _ = m ((c : Thread nD τ).loc main_arg0) _
  rw [V_main_arg0]
  refine congrArg (m ((c : Thread nD τ).loc main_arg0)) ?_
  blk_ext [iblk, index_0, hr]

theorem rows_g (s : Fin 512) (r : Fin 8192) (hr : r.val = 512 * t.val + s.val) (h : Fin 4) :
    row (iblk m c 2 t) s h = ag (m ((c : Thread nD τ).loc main_arg1)) r h := funext fun x => by
  show V m c main_arg1 _ = m ((c : Thread nD τ).loc main_arg1) _
  rw [V_main_arg1]
  refine congrArg (m ((c : Thread nD τ).loc main_arg1)) ?_
  blk_ext [iblk, index_2, hr]

theorem rows_d (s : Fin 512) (r : Fin 8192) (hr : r.val = 512 * t.val + s.val) (h : Fin 4) :
    row (iblk m c 3 t) s h = ad (m ((c : Thread nD τ).loc main_arg3)) r h := funext fun x => by
  show V m c main_arg3 _ = m ((c : Thread nD τ).loc main_arg3) _
  rw [V_main_arg3]
  refine congrArg (m ((c : Thread nD τ).loc main_arg3)) ?_
  blk_ext [iblk, index_3, hr]

theorem mem_kv : iblk m c 1 t = m ((c : Thread nD τ).loc main_arg2) := funext fun y => by
  show V m c main_arg2 _ = m ((c : Thread nD τ).loc main_arg2) _
  rw [V_main_arg2]
  refine congrArg (m ((c : Thread nD τ).loc main_arg2)) ?_
  blk_ext [iblk, index_1]

theorem q_row (s : Fin 512) (r : Fin 8192) (hr : r.val = 512 * t.val + s.val) (a b : Fin 512) (hb : b.val = a.val) :
    bq (iblk m c 0 t) (iblk m c 1 t) (iblk m c 2 t) (iblk m c 3 t) s (hd a) (ln a)
      = rq (aq (m ((c : Thread nD τ).loc main_arg0)) r (hd b)) (keys (m ((c : Thread nD τ).loc main_arg2)) (hd b)) (vals (m ((c : Thread nD τ).loc main_arg2)) (hd b))
        (ag (m ((c : Thread nD τ).loc main_arg1)) r (hd b)) (ad (m ((c : Thread nD τ).loc main_arg3)) r (hd b)) (ln b) := by
  obtain rfl : b = a := Fin.ext hb
  unfold bq
  rw [rows_q m c t s r hr, rows_g m c t s r hr, rows_d m c t s r hr, mem_kv m c t]

theorem g_row (s : Fin 512) (r : Fin 8192) (hr : r.val = 512 * t.val + s.val) (a b : Fin 512) (hb : b.val = a.val) :
    bg (iblk m c 0 t) (iblk m c 1 t) (iblk m c 2 t) (iblk m c 3 t) s (hd a) (ln a)
      = rg (aq (m ((c : Thread nD τ).loc main_arg0)) r (hd b)) (keys (m ((c : Thread nD τ).loc main_arg2)) (hd b)) (vals (m ((c : Thread nD τ).loc main_arg2)) (hd b))
        (ag (m ((c : Thread nD τ).loc main_arg1)) r (hd b)) (ad (m ((c : Thread nD τ).loc main_arg3)) r (hd b)) (ln b) := by
  obtain rfl : b = a := Fin.ext hb
  unfold bg
  rw [rows_q m c t s r hr, rows_g m c t s r hr, rows_d m c t s r hr, mem_kv m c t]

theorem k_row (s : Fin 512) (r : Fin 8192) (hr : r.val = 512 * t.val + s.val) (a b : Fin 512) (hb : b.val = a.val) (j l : Fin 256) (hl : l.val = j.val) :
    rk (row (iblk m c 0 t) s (hd a)) (keys (iblk m c 1 t) (hd a)) (vals (iblk m c 1 t) (hd a)) (row (iblk m c 2 t) s (hd a)) (row (iblk m c 3 t) s (hd a)) j (ln a)
      = rk (aq (m ((c : Thread nD τ).loc main_arg0)) r (hd b)) (keys (m ((c : Thread nD τ).loc main_arg2)) (hd b)) (vals (m ((c : Thread nD τ).loc main_arg2)) (hd b))
        (ag (m ((c : Thread nD τ).loc main_arg1)) r (hd b)) (ad (m ((c : Thread nD τ).loc main_arg3)) r (hd b)) l (ln b) := by
  obtain rfl : b = a := Fin.ext hb
  obtain rfl : l = j := Fin.ext hl
  rw [rows_q m c t s r hr, rows_g m c t s r hr, rows_d m c t s r hr, mem_kv m c t]

theorem v_row (s : Fin 512) (r : Fin 8192) (hr : r.val = 512 * t.val + s.val) (a b : Fin 512) (hb : b.val = a.val) (j l : Fin 256) (hl : l.val = j.val) :
    rv (row (iblk m c 0 t) s (hd a)) (keys (iblk m c 1 t) (hd a)) (row (iblk m c 2 t) s (hd a)) (row (iblk m c 3 t) s (hd a)) j (ln a)
      = rv (aq (m ((c : Thread nD τ).loc main_arg0)) r (hd b)) (keys (m ((c : Thread nD τ).loc main_arg2)) (hd b))
        (ag (m ((c : Thread nD τ).loc main_arg1)) r (hd b)) (ad (m ((c : Thread nD τ).loc main_arg3)) r (hd b)) l (ln b) := by
  obtain rfl : b = a := Fin.ext hb
  obtain rfl : l = j := Fin.ext hl
  rw [rows_q m c t s r hr, rows_g m c t s r hr, rows_d m c t s r hr, mem_kv m c t]

theorem arr4 : (dats m 0 c).arrAt 4 cfg0.N = outQ (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  refine (q_after m c t _).trans (q_row m c t _ _ ?_ _ _ ?_)
  · blk_simp [index_4 t]
    omega
  · blk_simp [index_4 t]

theorem arr5 : (dats m 0 c).arrAt 5 cfg0.N = outG (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after0_5]
  refine (g_after m c t _).trans (g_row m c t _ _ ?_ _ _ ?_)
  · blk_simp [index_5 t]
    omega
  · blk_simp [index_5 t]

theorem arr6 : (dats m 0 c).arrAt 6 cfg0.N = outK (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  blk_simp
  rw [after0_6]
  have h := (flush0_6 t).mp hf
  refine (k_sum m c t h _).trans ?_
  refine Fin.sum_mul_add_congr fun s k hl => ?_
  refine k_row m c _ _ _ ?_ _ _ ?_ _ _ ?_
  · have := t.isLt
    have : cfg0.N = 16 := rfl
    show s.val * 512 + k.val = 512 * (16 * (t.val / 16) + s.val) + k.val
    omega
  · blk_simp [index_6 t]
  · blk_simp [index_6 t]

theorem arr7 : (dats m 0 c).arrAt 7 cfg0.N = outV (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t hf y => ?_
  blk_simp
  rw [after0_7]
  have h := (flush0_7 t).mp hf
  refine (v_sum m c t h _).trans ?_
  refine Fin.sum_mul_add_congr fun s k hl => ?_
  refine v_row m c _ _ _ ?_ _ _ ?_ _ _ ?_
  · have := t.isLt
    have : cfg0.N = 16 := rfl
    show s.val * 512 + k.val = 512 * (16 * (t.val / 16) + s.val) + k.val
    omega
  · blk_simp [index_7 t]
  · blk_simp [index_7 t]

/-! The reference's derivative, written out. -/

theorem ne_of_coe (r : ℝ) : ((r : ℝ) : EReal) ≠ ⊤ ∧ ((r : ℝ) : EReal) ≠ ⊥ := ⟨EReal.coe_ne_top r, EReal.coe_ne_bot r⟩

theorem sum_coe {n : ℕ} (f : Fin n → ℝ) : (∑ x, ((f x : ℝ) : EReal)) = ((∑ x, f x : ℝ) : EReal) :=
  (map_sum (⟨⟨fun r : ℝ => (r : EReal), EReal.coe_zero⟩, EReal.coe_add⟩ : ℝ →+ EReal) f Finset.univ).symm

theorem dot_ne {n : ℕ} (f g : Fin n → EReal) (hf : ∀ x, f x ≠ ⊤ ∧ f x ≠ ⊥) (hg : ∀ x, g x ≠ ⊤ ∧ g x ≠ ⊥) : (∑ x, f x * g x) ≠ ⊤ ∧ (∑ x, f x * g x) ≠ ⊥ := by
  have h : (∑ x, f x * g x) = ((∑ x, (f x).toReal * (g x).toReal : ℝ) : EReal) := by
    rw [← sum_coe]
    exact Finset.sum_congr rfl fun x _ => by rw [EReal.coe_mul, ← real_of (hf x), ← real_of (hg x)]
  rw [h]
  exact ne_of_coe _

theorem scale_ne : scale ≠ ⊤ ∧ scale ≠ ⊥ := by
  unfold scale
  simp [Ideal.ofBits, Ideal.ieee, -EReal.coe_mul]

theorem score_ne (q k : Fin 128 → EReal) (hq : ∀ x, q x ≠ ⊤ ∧ q x ≠ ⊥) (hk : ∀ x, k x ≠ ⊤ ∧ k x ≠ ⊥) : score q k ≠ ⊤ ∧ score q k ≠ ⊥ := by
  unfold score
  rw [real_of (dot_ne q k hq hk), real_of scale_ne, ← EReal.coe_mul]
  exact ne_of_coe _

theorem low_word : Ideal.ofBits FTy.f32 0xFF800000#32 = ⊥ := by
  simp [Ideal.ofBits, Ideal.ieee]

theorem peak_ne (s : Fin 256 → EReal) (hs : ∀ j, s j ≠ ⊤ ∧ s j ≠ ⊥) : peak s ≠ ⊤ ∧ peak s ≠ ⊥ := by
  unfold peak
  rw [low_word]
  constructor
  · exact ((Finset.fold_max_lt ⊤).mpr ⟨bot_lt_top, fun x _ => lt_top_iff_ne_top.mpr (hs x).1⟩).ne
  · exact (lt_of_lt_of_le (bot_lt_iff_ne_bot.mpr (hs 0).2) ((Finset.le_fold_max (s 0)).mpr (Or.inr ⟨0, Finset.mem_univ _, le_rfl⟩))).ne'

theorem num_real (s : Fin 256 → EReal) (hs : ∀ j, s j ≠ ⊤ ∧ s j ≠ ⊥) : ∃ e : Fin 256 → ℝ, (∀ j, 0 < e j) ∧ ∀ j, num s j = ((e j : ℝ) : EReal) :=
  ⟨fun j => Real.exp ((s j).toReal - (peak s).toReal), fun j => Real.exp_pos _, fun j => by
    unfold num
    rw [real_of (hs j), real_of (peak_ne s hs), ← EReal.coe_sub, Ideal.exp_coe]
    rfl⟩

theorem mul_sum_of_nonneg {a : ℝ} (ha : 0 ≤ a) {n : ℕ} (f : Fin n → EReal) : (∑ x, (a : EReal) * f x) = (a : EReal) * ∑ x, f x := by
  induction n with
  | zero => simp
  | succ n ih =>
    rw [Fin.sum_univ_succ, Fin.sum_univ_succ, ih, EReal.left_distrib_of_nonneg_of_ne_top (by exact_mod_cast ha) (EReal.coe_ne_top a)]

/-- The scores' gradient as the reference's derivative writes it. -/
def back (e d : Fin 256 → EReal) (j : Fin 256) : EReal :=
  (Ideal.div (d j) (∑ x, e x) + (0 + ∑ _ : Fin 1, -(0 + ∑ x, d x * Ideal.div (Ideal.ofBits .f32 0x3F800000#32) ((∑ x, e x) * ∑ x, e x) * e x))) * e j * scale

theorem weight_ne (s : Fin 256 → EReal) (hs : ∀ j, s j ≠ ⊤ ∧ s j ≠ ⊥) (j : Fin 256) : weight s j ≠ ⊤ ∧ weight s j ≠ ⊥ := by
  obtain ⟨e, he, hn⟩ := num_real s hs
  unfold weight
  simp only [hn]
  rw [sum_coe, Ideal.div_coe (Finset.sum_pos (fun x _ => he x) ⟨0, Finset.mem_univ _⟩).ne', ← EReal.coe_mul]
  exact ne_of_coe _

theorem back_of (s d : Fin 256 → EReal) (hs : ∀ j, s j ≠ ⊤ ∧ s j ≠ ⊥) (j : Fin 256) : back (num s) d j = slope (weight s) d j := by
  obtain ⟨e, he, hn⟩ := num_real s hs
  have hc : 0 < ∑ x, e x := Finset.sum_pos (fun x _ => he x) ⟨0, Finset.mem_univ _⟩
  unfold back slope weight
  simp only [hn]
  rw [sum_coe]
  generalize (∑ x, e x) = c at hc
  have ha : 0 ≤ 1 / c := by positivity
  have hw (x : Fin 256) : d x * Ideal.div (Ideal.ofBits .f32 0x3F800000#32) ((c : EReal) * (c : EReal)) * (e x : EReal)
      = ((1 / c : ℝ) : EReal) * (d x * ((e x : EReal) * ((1 / c : ℝ) : EReal))) := by
    rw [← EReal.coe_mul, Ideal.div_coe (by positivity), Ideal.ofBits_one_f32, one_mul, show (1 / (c * c) : ℝ) = 1 / c * (1 / c) by field_simp, EReal.coe_mul]
    ac_rfl
  simp only [hw, Ideal.div_coe hc.ne']
  rw [mul_sum_of_nonneg ha]
  generalize (∑ x, d x * ((e x : EReal) * ((1 / c : ℝ) : EReal))) = T
  rw [Fin.sum_univ_one, zero_add, zero_add, ← mul_neg, mul_comm (d j), ← EReal.left_distrib_of_nonneg_of_ne_top (by exact_mod_cast ha) (EReal.coe_ne_top _),
    ← sub_eq_add_neg]
  ac_rfl

section Reference

open Cert.MemBwdReferenceIdeal.Read

variable (x0 : FVec Ideal S8192x3584 .bf16) (x1 : FVec Ideal S8192x3584 .f32) (x2 : FVec Ideal S256x1024 .bf16) (x3 : FVec Ideal S8192x2048 .f32)

theorem at2 {n0 n1 : ℕ} {i : (⟨2, ![n0, n1]⟩ : Shape).Idx} {a : Fin n0} {b : Fin n1} (h0 : i 0 = a) (h1 : i 1 = b) : i = ix2 a b :=
  funext fun n => match n with | ⟨0, _⟩ => h0 | ⟨1, _⟩ => h1

theorem at3 {n0 n1 n2 : ℕ} {i : (⟨3, ![n0, n1, n2]⟩ : Shape).Idx} {a : Fin n0} {b : Fin n1} {c : Fin n2} (h0 : i 0 = a) (h1 : i 1 = b) (h2 : i 2 = c) : i = ix3 a b c :=
  funext fun n => match n with | ⟨0, _⟩ => h0 | ⟨1, _⟩ => h1 | ⟨2, _⟩ => h2

/-- The column of a head's place. -/
def col (h : Fin 4) (x : Fin 128) : Fin 512 := ⟨128 * h.val + x.val, by omega⟩

theorem col_of (y : Fin 512) : y = col (hd y) (ln y) := Fin.ext (by show y.val = 128 * (y.val / 128) + y.val % 128; omega)
theorem hd_col (h : Fin 4) (x : Fin 128) : hd (col h x) = h := Fin.ext (by show (128 * h.val + x.val) / 128 = h.val; omega)
theorem ln_col (h : Fin 4) (x : Fin 128) : ln (col h x) = x := Fin.ext (by show (128 * h.val + x.val) % 128 = x.val; omega)

theorem query_at (r : Fin 8192) (h : Fin 4) (x : Fin 128) : val_main_v2 (F := Ideal) x0 (ix3 r h x) = aq x0 r h x := by
  rw [val_main_v2_apply, val_main_v1_apply, val_main_v0_apply]
  exact congrArg x0 (funext fun n => match n with
    | ⟨0, _⟩ => Fin.ext (by show ((r.val * 4 + h.val) * 128 + x.val) / 512 = r.val; omega)
    | ⟨1, _⟩ => Fin.ext (by show 3072 + ((r.val * 4 + h.val) * 128 + x.val) % 512 = 3072 + (128 * h.val + x.val); omega))

theorem key_at (j : Fin 256) (h : Fin 4) (x : Fin 128) : val_main_v6 (F := Ideal) x2 (ix3 j h x) = keys x2 h j x := by
  rw [val_main_v6_apply, val_main_v4_apply, val_main_v3_apply]
  exact congrArg x2 (funext fun n => match n with
    | ⟨0, _⟩ => Fin.ext (by show ((j.val * 4 + h.val) * 128 + x.val) / 512 = j.val; omega)
    | ⟨1, _⟩ => Fin.ext (by show ((j.val * 4 + h.val) * 128 + x.val) % 512 = 128 * h.val + x.val; omega))

theorem value_at (j : Fin 256) (h : Fin 4) (x : Fin 128) : val_main_v7 (F := Ideal) x2 (ix3 j h x) = vals x2 h j x := by
  rw [val_main_v7_apply, val_main_v5_apply, val_main_v3_apply]
  exact congrArg x2 (funext fun n => match n with
    | ⟨0, _⟩ => Fin.ext (by show ((j.val * 4 + h.val) * 128 + x.val) / 512 = j.val; omega)
    | ⟨1, _⟩ => Fin.ext (by show 512 + ((j.val * 4 + h.val) * 128 + x.val) % 512 = 512 + (128 * h.val + x.val); omega))

theorem gate_at (r : Fin 8192) (h : Fin 4) (x : Fin 128) : val_main_v8 (F := Ideal) x1 (ix2 r (col h x)) = ag x1 r h x := by
  rw [val_main_v8_apply]
  exact congrArg x1 (funext fun n => match n with | ⟨0, _⟩ => rfl | ⟨1, _⟩ => rfl)

theorem grad_at (r : Fin 8192) (h : Fin 4) (x : Fin 128) : val_main_v45 (F := Ideal) x3 (ix2 r (col h x)) = ad x3 r h x := by
  rw [val_main_v45_apply]
  exact congrArg x3 (funext fun n => match n with | ⟨0, _⟩ => rfl | ⟨1, _⟩ => rfl)

/-- The scores of a row. -/
def scores (r : Fin 8192) (h : Fin 4) (j : Fin 256) : EReal := score (aq x0 r h) (keys x2 h j)

theorem score_at (h : Fin 4) (r : Fin 8192) (j : Fin 256) : val_main_v11 (F := Ideal) x0 x2 (ix3 h r j) = scores x0 x2 r h j := by
  have hl (k : Fin 128) : lidx_main_v9 (ix3 h r j) k = ix3 r h k := at3 rfl rfl rfl
  have hr (k : Fin 128) : ridx_main_v9 (ix3 h r j) k = ix3 j h k := at3 rfl rfl rfl
  rw [val_main_v11_apply, val_main_v9_apply, val_main_v10_apply]
  simp only [hl, hr, query_at, key_at]
  rfl

theorem peak_at (h : Fin 4) (r : Fin 8192) : val_main_v12 (F := Ideal) x0 x2 (ix2 h r) = peak (scores x0 x2 r h) := by
  unfold val_main_v12
  pointwise []
  simp only [score_at]
  rfl

theorem num_at (h : Fin 4) (r : Fin 8192) (j : Fin 256) : val_main_v32 (F := Ideal) x0 x2 (ix3 h r j) = num (scores x0 x2 r h) j := by
  have hi : idx_main_v29 (idx_main_v30 (ix3 h r j)) = ix2 h r := at2 rfl rfl
  rw [val_main_v32_apply, val_main_v31_apply, val_main_v30_apply, val_main_v29_apply, val_main_v19_apply, val_main_v18_apply, score_at, hi, peak_at]
  show Ideal.exp (scores x0 x2 r h j - max (Ideal.ofBits .f32 0xFF800000#32) (peak (scores x0 x2 r h))) = _
  rw [low_word, max_eq_right bot_le]
  rfl

theorem total_at (h : Fin 4) (r : Fin 8192) : val_main_v33 (F := Ideal) x0 x2 (ix2 h r) = ∑ j, num (scores x0 x2 r h) j := by
  have hi (k : Fin 256) : idx_main_v33 (ix2 h r) k = ix3 h r k := at3 rfl rfl rfl
  rw [val_main_v33_apply]
  simp only [hi, num_at]
  exact (congrArg (fun z : EReal => z + _) Ideal.ofBits_zero_f32).trans (zero_add _)

theorem total3_at (h : Fin 4) (r : Fin 8192) (z : Fin 1) : val_main_v34 (F := Ideal) x0 x2 (ix3 h r z) = ∑ j, num (scores x0 x2 r h) j := by
  have hi : idx_main_v34 (ix3 h r z) = ix2 h r := at2 rfl rfl
  rw [val_main_v34_apply, hi, total_at]

theorem weight_at (h : Fin 4) (r : Fin 8192) (j : Fin 256) : val_main_v36 (F := Ideal) x0 x2 (ix3 h r j) = weight (scores x0 x2 r h) j := by
  have hi : idx_main_v35 (ix3 h r j) = ix3 h r 0 := at3 rfl rfl rfl
  rw [val_main_v36_apply, val_main_v35_apply, hi, num_at, total3_at]
  rfl

theorem out_at (r : Fin 8192) (h : Fin 4) (x : Fin 128) : val_main_v42 (F := Ideal) x0 x2 (ix2 r (col h x)) = ∑ j, weight (scores x0 x2 r h) j * vals x2 h j x := by
  have hi : idx_main_v41 (idx_main_v42 (ix2 r (col h x))) = ix3 h x r := funext fun n => match n with
    | ⟨0, _⟩ => Fin.ext (by show (r.val * 512 + (128 * h.val + x.val)) / 128 % 4 = h.val; omega)
    | ⟨1, _⟩ => Fin.ext (by show (r.val * 512 + (128 * h.val + x.val)) % 128 = x.val; omega)
    | ⟨2, _⟩ => Fin.ext (by show (r.val * 512 + (128 * h.val + x.val)) / 512 = r.val; omega)
  have hl (k : Fin 256) : lidx_main_v40 (ix3 h x r) k = ix3 k h x := at3 rfl rfl rfl
  have hr (k : Fin 256) : ridx_main_v40 (ix3 h x r) k = ix3 h r k := at3 rfl rfl rfl
  rw [val_main_v42_apply, val_main_v41_apply, hi, val_main_v40_apply]
  simp only [hl, hr, value_at, weight_at]
  exact Finset.sum_congr rfl fun j _ => mul_comm _ _

theorem logistic_at (i : S8192x512.Idx) : val_main_v43_2 (F := Ideal) x1 i = Ideal.logistic (val_main_v8 (F := Ideal) x1 i) := by
  rw [val_main_v43_2_apply, val_main_call0_v4_apply, val_main_call0_v3_apply, val_main_call0_v2_apply, val_main_call0_v1_apply, val_main_call0_v0_apply]
  exact logistic_of _

theorem past_at (r : Fin 8192) (h : Fin 4) (x : Fin 128) : val_main_v50 (F := Ideal) x1 x3 (ix3 h x r) = past (ag x1 r h x) (ad x3 r h x) := by
  have hi : idx_main_v49 (idx_main_v50 (ix3 h x r)) = ix2 r (col h x) := funext fun n => match n with
    | ⟨0, _⟩ => Fin.ext (by show ((r.val * 4 + h.val) * 128 + x.val) / 512 = r.val; omega)
    | ⟨1, _⟩ => Fin.ext (by show ((r.val * 4 + h.val) * 128 + x.val) % 512 = 128 * h.val + x.val; omega)
  rw [val_main_v50_apply, val_main_v49_apply, hi, val_main_v47_apply, val_main_v43_0_apply, logistic_at, gate_at, grad_at]
  rfl

theorem pull_at (h : Fin 4) (r : Fin 8192) (j : Fin 256) : val_main_v51 (F := Ideal) x1 x2 x3 (ix3 h r j) = pull (vals x2 h) (ag x1 r h) (ad x3 r h) j := by
  have hl (k : Fin 128) : lidx_main_v51 (ix3 h r j) k = ix3 h k r := at3 rfl rfl rfl
  have hr (k : Fin 128) : ridx_main_v51 (ix3 h r j) k = ix3 j h k := at3 rfl rfl rfl
  rw [val_main_v51_apply]
  simp only [hl, hr, past_at, value_at]
  rfl

theorem inv_at (h : Fin 4) (r : Fin 8192) (j : Fin 256) : val_main_v54 (F := Ideal) x0 x2 (ix3 h r j)
    = Ideal.div (Ideal.ofBits .f32 0x3F800000#32) ((∑ x, num (scores x0 x2 r h) x) * ∑ x, num (scores x0 x2 r h) x) := by
  have hi : idx_main_v54 (ix3 h r j) = ix3 h r 0 := at3 rfl rfl rfl
  rw [val_main_v54_apply, hi, val_main_v39_apply, val_main_v38_apply, val_main_v37_apply, total3_at]
  rfl

theorem minus_at (h : Fin 4) (r : Fin 8192) (z : Fin 1) : val_main_v59 (F := Ideal) x0 x1 x2 x3 (ix3 h r z)
    = -(0 + ∑ x, pull (vals x2 h) (ag x1 r h) (ad x3 r h) x * Ideal.div (Ideal.ofBits .f32 0x3F800000#32) ((∑ x, num (scores x0 x2 r h) x) * ∑ x, num (scores x0 x2 r h) x)
      * num (scores x0 x2 r h) x) := by
  have hi : idx_main_v58 (ix3 h r z) = ix2 h r := funext fun n => match n with
    | ⟨0, _⟩ => Fin.ext (by show ((h.val * 8192 + r.val) * 1 + z.val) / 8192 = h.val; omega)
    | ⟨1, _⟩ => Fin.ext (by show ((h.val * 8192 + r.val) * 1 + z.val) % 8192 = r.val; omega)
  have hk (k : Fin 256) : idx_main_v57 (ix2 h r) k = ix3 h r k := at3 rfl rfl rfl
  rw [val_main_v59_apply, val_main_v58_apply, hi, val_main_v57_apply]
  simp only [hk, val_main_v56_apply, val_main_v55_apply, num_at, pull_at, inv_at]
  exact congrArg (fun a : EReal => -(a + _)) Ideal.ofBits_zero_f32

/-- The queries, keys, values and the gradient are real numbers at every entry. -/
structure Finite : Prop where
  q (r : Fin 8192) (h : Fin 4) (x : Fin 128) : aq x0 r h x ≠ ⊤ ∧ aq x0 r h x ≠ ⊥
  k (h : Fin 4) (j : Fin 256) (x : Fin 128) : keys x2 h j x ≠ ⊤ ∧ keys x2 h j x ≠ ⊥
  v (h : Fin 4) (j : Fin 256) (x : Fin 128) : vals x2 h j x ≠ ⊤ ∧ vals x2 h j x ≠ ⊥
  d (r : Fin 8192) (h : Fin 4) (x : Fin 128) : ad x3 r h x ≠ ⊤ ∧ ad x3 r h x ≠ ⊥

variable (hf : Finite x0 x2 x3)

include hf in
theorem scores_ne (r : Fin 8192) (h : Fin 4) (j : Fin 256) : scores x0 x2 r h j ≠ ⊤ ∧ scores x0 x2 r h j ≠ ⊥ := score_ne _ _ (hf.q r h) (hf.k h j)

include hf in
theorem slope_at (h : Fin 4) (r : Fin 8192) (j : Fin 256) : val_main_v67 (F := Ideal) x0 x1 x2 x3 (ix3 h r j)
    = ds (aq x0 r h) (keys x2 h) (vals x2 h) (ag x1 r h) (ad x3 r h) j := by
  have h60 : idx_main_v60 (ix3 h r j) = ix3 h r 0 := at3 rfl rfl rfl
  have h63 : idx_main_v63 (ix3 h r j) = ix2 h r := at2 rfl rfl
  have h62 (k : Fin 1) : idx_main_v62 (ix2 h r) k = ix3 h r k := at3 rfl rfl rfl
  refine Eq.trans ?_ (back_of (scores x0 x2 r h) (pull (vals x2 h) (ag x1 r h) (ad x3 r h)) (scores_ne x0 x2 x3 hf r h) j)
  rw [val_main_v67_apply, val_main_v66_apply, val_main_v65_apply, val_main_v64_apply, val_main_v61_apply, val_main_v60_apply, val_main_v63_apply, h60, h63,
    val_main_v62_apply, pull_at, num_at, total3_at]
  simp only [h62, minus_at]
  unfold back
  rw [← Ideal.ofBits_zero_f32]
  rfl

include hf in
theorem reference_q : val_main_v73 (F := Ideal) x0 x1 x2 x3 = outQ x0 x1 x2 x3 := by
  funext i
  have hi : idx_main_v71 (idx_main_v72 i) = ix3 (hd (i 1)) (i 0) (ln (i 1)) := funext fun n => by
    have h1 : (i 1).val < 512 := (i 1).isLt
    exact match n with
    | ⟨0, _⟩ => Fin.ext (by show ((i 0).val * 512 + (i 1).val) / 128 % 4 = (i 1).val / 128; omega)
    | ⟨1, _⟩ => Fin.ext (by show ((i 0).val * 512 + (i 1).val) / 512 = (i 0).val; omega)
    | ⟨2, _⟩ => Fin.ext (by show ((i 0).val * 512 + (i 1).val) % 128 = (i 1).val % 128; omega)
  have hl (h : Fin 4) (r : Fin 8192) (x : Fin 128) (k : Fin 256) : lidx_main_v70 (ix3 h r x) k = ix3 h r k := at3 rfl rfl rfl
  have hr (h : Fin 4) (r : Fin 8192) (x : Fin 128) (k : Fin 256) : ridx_main_v70 (ix3 h r x) k = ix3 k h x := at3 rfl rfl rfl
  rw [val_main_v73_apply, Ideal.truncf_def, val_main_v72_apply, val_main_v71_apply, hi]
  refine (val_main_v70_apply _ _ _ _ _).trans ?_
  show _ = rq _ _ _ _ _ _
  unfold rq
  refine Finset.sum_congr rfl fun j _ => congrArg₂ (fun a b : EReal => a * b) ?_ ?_
  · exact (congrArg _ (hl _ _ _ j)).trans (slope_at x0 x1 x2 x3 hf _ _ j)
  · exact (congrArg _ (hr _ _ _ j)).trans (key_at x2 j _ _)

include hf in
theorem reference_g : val_main_v74 (F := Ideal) x0 x1 x2 x3 = outG x0 x1 x2 x3 := by
  funext i
  have hi : i = ix2 (i 0) (col (hd (i 1)) (ln (i 1))) := funext fun n => match n with | ⟨0, _⟩ => rfl | ⟨1, _⟩ => col_of (i 1)
  have e (r : Fin 8192) (h : Fin 4) (x : Fin 128) : val_main_v48 (F := Ideal) x0 x1 x2 x3 (ix2 r (col h x))
      = rg (aq x0 r h) (keys x2 h) (vals x2 h) (ag x1 r h) (ad x3 r h) x := by
    rw [val_main_v48_apply, val_main_call1_v1_apply, val_main_call1_v2_apply, val_main_call1_v0_apply, val_main_v43_1_apply,
      val_main_call0_v7_apply, val_main_call0_v6_apply, val_main_v46_apply, logistic_at, gate_at, grad_at, out_at]
    exact gate_of _ _ _ (hf.d r h x) (dot_ne _ _ (weight_ne _ (scores_ne x0 x2 x3 hf r h)) fun j => hf.v h j x)
  rw [val_main_v74_apply, Ideal.truncf_def]
  exact (congrArg _ hi).trans (e _ _ _)

include hf in
theorem reference_k : val_main_v75 (F := Ideal) x0 x1 x2 x3 = outK x0 x1 x2 x3 := by
  funext i
  have hi : idx_main_v69 (idx_main_v75 i) = ix3 (hd (i 1)) (i 0) (ln (i 1)) := funext fun n => by
    have h1 : (i 1).val < 512 := (i 1).isLt
    exact match n with
    | ⟨0, _⟩ => Fin.ext (by show ((i 0).val * 512 + (i 1).val) / 128 % 4 = (i 1).val / 128; omega)
    | ⟨1, _⟩ => Fin.ext (by show ((i 0).val * 512 + (i 1).val) / 512 = (i 0).val; omega)
    | ⟨2, _⟩ => Fin.ext (by show ((i 0).val * 512 + (i 1).val) % 128 = (i 1).val % 128; omega)
  have hl (h : Fin 4) (j : Fin 256) (x : Fin 128) (k : Fin 8192) : lidx_main_v68 (ix3 h j x) k = ix3 h k j := at3 rfl rfl rfl
  have hr (h : Fin 4) (j : Fin 256) (x : Fin 128) (k : Fin 8192) : ridx_main_v68 (ix3 h j x) k = ix3 k h x := at3 rfl rfl rfl
  rw [val_main_v75_apply, val_main_v69_apply, hi]
  refine (val_main_v68_apply _ _ _ _ _).trans ?_
  refine Finset.sum_congr rfl fun r _ => congrArg₂ (fun a b : EReal => a * b) ?_ ?_
  · exact (congrArg _ (hl _ _ _ r)).trans (slope_at x0 x1 x2 x3 hf _ r _)
  · exact (congrArg _ (hr _ _ _ r)).trans (query_at x0 r _ _)

theorem reference_v : val_main_v76 (F := Ideal) x0 x1 x2 x3 = outV x0 x1 x2 x3 := by
  funext i
  have hi : idx_main_v53 (idx_main_v76 i) = ix3 (hd (i 1)) (ln (i 1)) (i 0) := funext fun n => by
    have h1 : (i 1).val < 512 := (i 1).isLt
    exact match n with
    | ⟨0, _⟩ => Fin.ext (by show ((i 0).val * 512 + (i 1).val) / 128 % 4 = (i 1).val / 128; omega)
    | ⟨1, _⟩ => Fin.ext (by show ((i 0).val * 512 + (i 1).val) % 128 = (i 1).val % 128; omega)
    | ⟨2, _⟩ => Fin.ext (by show ((i 0).val * 512 + (i 1).val) / 512 = (i 0).val; omega)
  have hl (h : Fin 4) (x : Fin 128) (j : Fin 256) (k : Fin 8192) : lidx_main_v52 (ix3 h x j) k = ix3 h x k := at3 rfl rfl rfl
  have hr (h : Fin 4) (x : Fin 128) (j : Fin 256) (k : Fin 8192) : ridx_main_v52 (ix3 h x j) k = ix3 h k j := at3 rfl rfl rfl
  rw [val_main_v76_apply, val_main_v53_apply, hi]
  refine (val_main_v52_apply _ _ _ _ _).trans ?_
  refine Finset.sum_congr rfl fun r _ => (congrArg₂ (fun a b : EReal => a * b) ?_ ?_).trans (mul_comm _ _)
  · exact (congrArg _ (hl _ _ _ r)).trans (past_at x1 x3 r _ _)
  · exact (congrArg _ (hr _ _ _ r)).trans (weight_at x0 x2 _ r _)

attribute [local instance] Cert.Pre_finite_mem.Gen.facts

/-- The precondition at an entry of its array. -/
theorem pre_at (hp : Cert.Pre_finite_mem.fn (F := Ideal) x0 x1 x2 x3 = fun _ => 1#1) (t : Fin 8448) (y : Fin 1024) (w : EReal)
    (hw : (if h : t.val < 8192 then (if h' : y.val < 512 then (x0 (ix2 ⟨t.val, h⟩ ⟨3072 + y.val, by omega⟩) : EReal)
      else x3 (ix2 ⟨t.val, h⟩ ⟨1536 + (y.val - 512), by omega⟩)) else x2 (ix2 ⟨t.val - 8192, by omega⟩ y)) = w) : w ≠ ⊤ ∧ w ≠ ⊥ := by
  have e := congrFun hp (ix2 t y)
  unfold Cert.Pre_finite_mem.fn at e
  revert e
  pointwise []
  intro e
  have e' := of_decide_eq_true (of_word _ e)
  rw [hw, inf_word] at e'
  exact ne_of_abs_lt w e'

theorem memory_at (hp : Cert.Pre_finite_mem.fn (F := Ideal) x0 x1 x2 x3 = fun _ => 1#1) (j : Fin 256) (y : Fin 1024) :
    (x2 (ix2 j y) : EReal) ≠ ⊤ ∧ (x2 (ix2 j y) : EReal) ≠ ⊥ :=
  pre_at x0 x1 x2 x3 hp ⟨8192 + j.val, by omega⟩ y _ (by
    rw [dif_neg (by show ¬ 8192 + j.val < 8192; omega)]
    exact congrArg (fun a : Fin 256 => (x2 (ix2 a y) : EReal)) (Fin.ext (Nat.add_sub_cancel_left (n := 8192) (m := j.val))))

theorem finite_of_pre (hp : Cert.Pre_finite_mem.fn (F := Ideal) x0 x1 x2 x3 = fun _ => 1#1) : Finite x0 x2 x3 where
  q r h x := pre_at x0 x1 x2 x3 hp ⟨r.val, by omega⟩ ⟨128 * h.val + x.val, by omega⟩ _ (by
    rw [dif_pos (show r.val < 8192 from r.isLt), dif_pos (show 128 * h.val + x.val < 512 by omega)]
    rfl)
  k h j x := memory_at x0 x1 x2 x3 hp j _
  v h j x := memory_at x0 x1 x2 x3 hp j _
  d r h x := pre_at x0 x1 x2 x3 hp ⟨r.val, by omega⟩ ⟨512 + (128 * h.val + x.val), by omega⟩ _ (by
    rw [dif_pos (show r.val < 8192 from r.isLt), dif_neg (show ¬512 + (128 * h.val + x.val) < 512 by omega)]
    exact congrArg x3 (funext fun n => match n with
      | ⟨0, _⟩ => rfl | ⟨1, _⟩ => Fin.ext (by show 1536 + (512 + (128 * h.val + x.val) - 512) = 1536 + (128 * h.val + x.val); omega)))

end Reference

/-- The reference leaves its arguments and its counters. -/
theorem frame_reference : Cert.quiescent_MemBwdReferenceIdeal (hMemBwdReferenceIdeal := Cert.MemBwdReferenceIdeal.Gen.facts) :=
  fun m ρ _ => (θ_run Cert.MemBwdReferenceIdeal.defs _ _).mono (fun r h => ⟨fun c => (h c).2.2.2.2,
    sem_eq_zero_of_no_sems (by decide) r.2⟩) (Cert.MemBwdReferenceIdeal.Value.run (F := Ideal) m ρ)

/-- The kernel computes what the reference computes, where the queries, the keys, the values and the gradient are real numbers. -/
theorem value : Cert.algebraic_MemBwdIdeal_MemBwdReferenceIdeal_pre_finite_mem (hMemBwdIdeal := Cert.MemBwdIdeal.Gen.facts)
    (hMemBwdReferenceIdeal := Cert.MemBwdReferenceIdeal.Gen.facts) (hPre_finite_mem := Cert.Pre_finite_mem.Gen.facts) := by
  intro m g m' g' hp hm
  refine ⟨fun c => outQ (m ((c.tc : Thread nD τ).loc main_arg0)) (m ((c.tc : Thread nD τ).loc main_arg1)) (m ((c.tc : Thread nD τ).loc main_arg2)) (m ((c.tc : Thread nD τ).loc main_arg3)),
    fun c => outG (m ((c.tc : Thread nD τ).loc main_arg0)) (m ((c.tc : Thread nD τ).loc main_arg1)) (m ((c.tc : Thread nD τ).loc main_arg2)) (m ((c.tc : Thread nD τ).loc main_arg3)),
    fun c => outK (m ((c.tc : Thread nD τ).loc main_arg0)) (m ((c.tc : Thread nD τ).loc main_arg1)) (m ((c.tc : Thread nD τ).loc main_arg2)) (m ((c.tc : Thread nD τ).loc main_arg3)),
    fun c => outV (m ((c.tc : Thread nD τ).loc main_arg0)) (m ((c.tc : Thread nD τ).loc main_arg1)) (m ((c.tc : Thread nD τ).loc main_arg2)) (m ((c.tc : Thread nD τ).loc main_arg3)), ?_, ?_⟩
  · exact (θ_run defs _ _).mono (fun r h c => ⟨(h c).1.trans (arr4 m c), (h c).2.1.trans (arr5 m c), (h c).2.2.1.trans (arr6 m c), (h c).2.2.2.1.trans (arr7 m c), (h c).2.2.2.2⟩)
      (Cert.MemBwdIdeal.Value.run_blocks m g)
  · refine (θ_run Cert.MemBwdReferenceIdeal.defs _ _).mono (fun r h c => ⟨(h c).1.trans ?_, (h c).2.1.trans ?_, (h c).2.2.1.trans ?_, (h c).2.2.2.1.trans ?_, (h c).2.2.2.2⟩)
      (Cert.MemBwdReferenceIdeal.Value.run (F := Ideal) m' g')
    · rw [Cert.MemBwdReferenceIdeal.Read.val_main_v73_eq, (hm c).1, (hm c).2.1, (hm c).2.2.1, (hm c).2.2.2]
      exact reference_q _ _ _ _ (finite_of_pre _ _ _ _ (hp c))
    · rw [Cert.MemBwdReferenceIdeal.Read.val_main_v74_eq, (hm c).1, (hm c).2.1, (hm c).2.2.1, (hm c).2.2.2]
      exact reference_g _ _ _ _ (finite_of_pre _ _ _ _ (hp c))
    · rw [Cert.MemBwdReferenceIdeal.Read.val_main_v75_eq, (hm c).1, (hm c).2.1, (hm c).2.2.1, (hm c).2.2.2]
      exact reference_k _ _ _ _ (finite_of_pre _ _ _ _ (hp c))
    · rw [Cert.MemBwdReferenceIdeal.Read.val_main_v76_eq, (hm c).1, (hm c).2.1, (hm c).2.2.1, (hm c).2.2.2]
      exact reference_v _ _ _ _

end Cert.MemBwdIdeal.Norm
end
-- ==== Proof.Norms.RmsFwd.lean ====
/-
  The normalised input and its rows' scaling: each is the body's value at each block of rows.
-/
module

public import proofs.«01_k».proof.Proof.Gen.RmsFwdIdeal.Value
public import proofs.«01_k».proof.Proof.Gen.RmsFwdIdeal
public import proofs.«01_k».proof.Proof.Gen.RmsFwdReferenceIdeal
public import proofs.«01_k».proof.Proof.Gen.RmsFwdReferenceIdeal.Run
public import proofs.«01_k».proof.Proof.Gen.RmsFwdReferenceIdeal.Read
public import proofs.«01_k».proof.Defs
public import Idealize.ShloMosaic.Lib.Pipeline.ValueKit
public import Idealize.ShloMosaic.Lib.Pipeline.ReadBack
public import Idealize.ShloMosaic.Lib.StableHlo.ReadAt
public import Idealize.ShloMosaic.Lib.Quiescent

@[expose] public section

set_option maxRecDepth 16384

noncomputable section

namespace Cert.RmsFwdIdeal.Norm

open Idealize.ShloMosaic Idealize.ShloMosaic.TcCoe Idealize.SL.Sem
open Cert.RmsFwdIdeal Cert.RmsFwdIdeal.Gen

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem index_3 : ∀ t : Fin grid0.N, win0_3.index t = ![t.val, 0] := by decide +kernel

/-- A row's scaling. -/
def scale (x : Fin 2048 → EReal) : EReal :=
  Ideal.rsqrt (Ideal.div (∑ k : Fin 2048, x k * x k) (Ideal.ofBits .f32 0x45000000#32) + Ideal.ofBits .f32 0x358637BD#32)

theorem pay1_apply (x : Vec Ideal S256x2048 .f32) (y : S256x1.Idx) : k0_pay1 (F := Ideal) x y = scale (fun k => x (ix2 (y 0) k)) := by
  unfold scale
  pointwise [k0_pay1]

theorem pay2_apply (x : Vec Ideal S256x2048 .f32) (g : Vec Ideal S1x2048 .f32) (y : S256x2048.Idx) :
    k0_pay2 (F := Ideal) x g y = x (ix2 (y 0) (y 1)) * scale (fun k => x (ix2 (y 0) k)) * g (ix2 0 (y 1)) := by
  unfold scale
  pointwise [k0_pay2, k0_pay1]

/-- The rows' scaling. -/
def rr (x : FVec Ideal S8192x2048 .f32) : FVec Ideal S8192x1 .f32 := fun i => scale (fun k => x (ix2 (i 0) k))

/-- The normalised rows. -/
def hh (x : FVec Ideal S8192x2048 .f32) (g : FVec Ideal S1x2048 .f32) : FVec Ideal S8192x2048 .bf16 :=
  fun i => (x (ix2 (i 0) (i 1)) * scale (fun k => x (ix2 (i 0) k)) * g (ix2 0 (i 1)) : EReal)

variable (m : (ℓ : Loc nD τ sig) → Buf (Elt Ideal) ℓ) (c : Dev nD) (t : Fin cfg0.N)

theorem rows (s : Fin 256) (r : Fin 8192) (hr : r.val = 256 * t.val + s.val) (k l : Fin 2048) (hk : k.val = l.val) :
    iblk m c 0 t (ix2 s k) = m ((c : Thread nD τ).loc main_arg0) (ix2 r l) := by
  show V m c main_arg0 _ = m ((c : Thread nD τ).loc main_arg0) _
  rw [V_main_arg0]
  refine congrArg (m ((c : Thread nD τ).loc main_arg0)) ?_
  blk_ext [iblk, index_0, hr, hk]

theorem factor : iblk m c 1 t = m ((c : Thread nD τ).loc main_arg1) := funext fun y => by
  show V m c main_arg1 _ = m ((c : Thread nD τ).loc main_arg1) _
  rw [V_main_arg1]
  refine congrArg (m ((c : Thread nD τ).loc main_arg1)) ?_
  blk_ext [iblk, index_1]

theorem arr2 : (dats m 0 c).arrAt 2 cfg0.N = hh (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay2_apply, factor]
  refine congrArg₂ (fun a b : EReal => a * b) (congrArg₂ (fun a b : EReal => a * b) (rows m c t _ _ ?_ _ _ ?_)
    (congrArg scale (funext fun k => rows m c t _ _ ?_ k k rfl))) (congrArg (m ((c : Thread nD τ).loc main_arg1)) ?_)
  · blk_simp [index_2 t]
    omega
  · blk_simp [index_2 t]
  · blk_simp [index_2 t]
    omega
  · blk_ext [index_2 t]

theorem arr3 : (dats m 0 c).arrAt 3 cfg0.N = rr (m ((c : Thread nD τ).loc main_arg0)) := by
  refine (dats m 0 c).arrAt_eq_of_covers 3 _ (by decide +kernel) fun t hf y => ?_
  blk_simp
  rw [after0_3]
  frame_out
  rw [pay1_apply]
  refine congrArg scale (funext fun k => rows m c t _ _ ?_ k k rfl)
  blk_simp [index_3 t]
  omega

section Reference

open Cert.RmsFwdReferenceIdeal.Read

variable (x : FVec Ideal S8192x2048 .f32) (g : FVec Ideal S1x2048 .f32)

theorem reference_1 : val_main_v7 (F := Ideal) x = rr x := by
  funext i
  rw [val_main_v7_apply, val_main_v6_apply, val_main_v4_apply, val_main_v2_apply, val_main_v1_apply, val_main_v3_apply, val_main_v5_apply]
  refine congrArg (fun s : EReal => Ideal.rsqrt (Ideal.div s (Ideal.ofBits .f32 0x45000000#32) + Ideal.ofBits .f32 0x358637BD#32))
    ((congrArg₂ (fun s u : EReal => s + u) Ideal.ofBits_zero_f32 (Finset.sum_congr rfl fun k _ => ?_)).trans (zero_add _))
  exact congrArg (fun j => x j * x j) (funext fun a => match a with | ⟨0, _⟩ => rfl | ⟨1, _⟩ => rfl)

theorem reference_0 : val_main_v20 (F := Ideal) x g = hh x g := by
  funext i
  rw [val_main_v20_apply, Ideal.truncf_def, val_main_v19_apply, val_main_v18_apply, val_main_v17_apply, val_main_v16_apply,
    show val_main_v15 (F := Ideal) x = val_main_v7 (F := Ideal) x from rfl, reference_1]
  refine congrArg₂ (fun s u : EReal => s * u) (congrArg₂ (fun s u : EReal => s * u) ?_ rfl) ?_
  · exact congrArg x (funext fun a => match a with | ⟨0, _⟩ => rfl | ⟨1, _⟩ => rfl)
  · exact congrArg g (funext fun a => match a with | ⟨0, _⟩ => rfl | ⟨1, _⟩ => rfl)

end Reference

/-- The reference leaves its arguments and its counters. -/
theorem frame_reference : Cert.quiescent_RmsFwdReferenceIdeal (hRmsFwdReferenceIdeal := Cert.RmsFwdReferenceIdeal.Gen.facts) :=
  fun m ρ _ => (θ_run Cert.RmsFwdReferenceIdeal.defs _ _).mono (fun r h => ⟨fun c => (h c).2.2,
    sem_eq_zero_of_no_sems (by decide) r.2⟩) (Cert.RmsFwdReferenceIdeal.Value.run (F := Ideal) m ρ)

/-- The kernel computes what the reference computes. -/
theorem value : Cert.algebraic_RmsFwdIdeal_RmsFwdReferenceIdeal (hRmsFwdIdeal := Cert.RmsFwdIdeal.Gen.facts)
    (hRmsFwdReferenceIdeal := Cert.RmsFwdReferenceIdeal.Gen.facts) := by
  intro m g m' g' _ hm
  refine ⟨fun c => hh (m ((c.tc : Thread nD τ).loc main_arg0)) (m ((c.tc : Thread nD τ).loc main_arg1)), fun c => rr (m ((c.tc : Thread nD τ).loc main_arg0)), ?_, ?_⟩
  · exact (θ_run defs _ _).mono (fun r h c => ⟨(h c).1.trans (arr2 m c), (h c).2.1.trans (arr3 m c), (h c).2.2⟩) (Cert.RmsFwdIdeal.Value.run_blocks m g)
  · refine (θ_run Cert.RmsFwdReferenceIdeal.defs _ _).mono (fun r h c => ⟨(h c).1.trans ?_, (h c).2.1.trans ?_, (h c).2.2⟩)
      (Cert.RmsFwdReferenceIdeal.Value.run (F := Ideal) m' g')
    · rw [Cert.RmsFwdReferenceIdeal.Read.val_main_v20_eq, (hm c).1, (hm c).2]
      exact reference_0 _ _
    · rw [Cert.RmsFwdReferenceIdeal.Read.val_main_v7_eq, (hm c).1]
      exact reference_1 _

end Cert.RmsFwdIdeal.Norm

end
-- ==== Proof.Norms.MemKvFwd.lean ====
/-
  The memory's keys and values and its normalisation: the call has one point, so each result is the body's value of the
  whole arrays.
-/
module

public import proofs.«01_k».proof.Proof.Gen.MemKvFwdIdeal.Value
public import proofs.«01_k».proof.Proof.Gen.MemKvFwdIdeal
public import proofs.«01_k».proof.Proof.Gen.MemKvFwdReferenceIdeal
public import proofs.«01_k».proof.Proof.Gen.MemKvFwdReferenceIdeal.Run
public import proofs.«01_k».proof.Proof.Gen.MemKvFwdReferenceIdeal.Read
public import proofs.«01_k».proof.Proof.Norms.RmsFwd
public import proofs.«01_k».proof.Defs
public import Idealize.ShloMosaic.Lib.Pipeline.ValueKit
public import Idealize.ShloMosaic.Lib.Pipeline.ReadBack
public import Idealize.ShloMosaic.Lib.StableHlo.ReadAt
public import Idealize.ShloMosaic.Lib.Quiescent

@[expose] public section

set_option maxRecDepth 16384

noncomputable section

namespace Cert.MemKvFwdIdeal.Norm

open Idealize.ShloMosaic Idealize.ShloMosaic.TcCoe Idealize.SL.Sem
open Cert.RmsFwdIdeal.Norm (scale)
open Cert.MemKvFwdIdeal Cert.MemKvFwdIdeal.Gen

theorem index_0 : ∀ t : Fin grid0.N, win0_0.index t = ![0, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![0, 0] := by decide +kernel

/-- The normalised memory. -/
def hat (x : FVec Ideal S256x2048 .f32) : FVec Ideal S256x2048 .f32 := fun i => x (ix2 (i 0) (i 1)) * scale (fun k => x (ix2 (i 0) k))

/-- Its keys and values. -/
def kv (x : FVec Ideal S256x2048 .f32) (g : FVec Ideal S1x2048 .f32) (w : FVec Ideal S2048x1024 .bf16) : FVec Ideal S256x1024 .bf16 :=
  fun i => (∑ k : Fin 2048, hat x (ix2 (i 0) k) * g (ix2 0 k) * w (ix2 k (i 1)) : EReal)

theorem pay1_apply (x : Vec Ideal S256x2048 .f32) (y : S256x2048.Idx) : k0_pay1 (F := Ideal) x y = hat x y := by
  unfold hat scale
  pointwise [k0_pay1]

theorem pay2_apply (x : Vec Ideal S256x2048 .f32) (g : Vec Ideal S1x2048 .f32) (w : Vec Ideal S2048x1024 .bf16) (y : S256x1024.Idx) :
    k0_pay2 (F := Ideal) x g w y = kv x g w y := by
  unfold kv
  simp only [← pay1_apply]
  pointwise [k0_pay2]

variable (m : (ℓ : Loc nD τ sig) → Buf (Elt Ideal) ℓ) (c : Dev nD) (t : Fin cfg0.N)

theorem blk0 : iblk m c 0 t = m ((c : Thread nD τ).loc main_arg0) := by
  obtain rfl := fin_N0 t
  funext y
  show V m c main_arg0 _ = _
  rw [V_main_arg0]
  refine congrArg (m ((c : Thread nD τ).loc main_arg0)) ?_
  blk_ext [index_0]
theorem blk1 : iblk m c 1 t = m ((c : Thread nD τ).loc main_arg1) := by
  obtain rfl := fin_N0 t
  funext y
  show V m c main_arg1 _ = _
  rw [V_main_arg1]
  refine congrArg (m ((c : Thread nD τ).loc main_arg1)) ?_
  blk_ext [index_1]
theorem blk2 : iblk m c 2 t = m ((c : Thread nD τ).loc main_arg2) := by
  obtain rfl := fin_N0 t
  funext y
  show V m c main_arg2 _ = _
  rw [V_main_arg2]
  refine congrArg (m ((c : Thread nD τ).loc main_arg2)) ?_
  blk_ext [index_2]

theorem arr3 : (dats m 0 c).arrAt 3 cfg0.N = kv (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [pay2_apply, blk0, blk1, blk2]
  refine congrArg (kv _ _ _) ?_
  obtain rfl := fin_N0 t
  blk_ext [index_3]

theorem arr4 : (dats m 0 c).arrAt 4 cfg0.N = hat (m ((c : Thread nD τ).loc main_arg0)) := by
  refine (dats m 0 c).arrAt_eq_of_covers 4 _ (by decide +kernel) fun t hf y => ?_
  blk_simp
  rw [after0_4]
  frame_out
  rw [pay1_apply, blk0]
  refine congrArg (hat _) ?_
  obtain rfl := fin_N0 t
  blk_ext [index_4]

section Reference

open Cert.MemKvFwdReferenceIdeal.Read

variable (x : FVec Ideal S256x2048 .f32) (g : FVec Ideal S1x2048 .f32) (w : FVec Ideal S2048x1024 .bf16)

theorem reference_1 : val_main_v9 (F := Ideal) x = hat x := by
  funext i
  rw [val_main_v9_apply, val_main_v8_apply, val_main_v7_apply, val_main_v6_apply, val_main_v4_apply, val_main_v2_apply, val_main_v1_apply,
    val_main_v3_apply, val_main_v5_apply]
  refine congrArg₂ (fun a b : EReal => a * b) (congrArg x (funext fun a => match a with | ⟨0, _⟩ => rfl | ⟨1, _⟩ => rfl))
    (congrArg (fun s : EReal => Ideal.rsqrt (Ideal.div s (Ideal.ofBits .f32 0x45000000#32) + Ideal.ofBits .f32 0x358637BD#32))
      ((congrArg₂ (fun s u : EReal => s + u) Ideal.ofBits_zero_f32 (Finset.sum_congr rfl fun k _ => ?_)).trans (zero_add _)))
  exact congrArg (fun j => x j * x j) (funext fun a => match a with | ⟨0, _⟩ => rfl | ⟨1, _⟩ => rfl)

theorem reference_0 : val_main_v24 (F := Ideal) x g w = kv x g w := by
  funext i
  rw [val_main_v24_apply, Ideal.truncf_def, val_main_v23_apply]
  refine Finset.sum_congr rfl fun k _ => congrArg₂ (fun a b : EReal => a * b) ?_ ?_
  · rw [val_main_v21_apply, val_main_v20_apply, show val_main_v19 (F := Ideal) x = val_main_v9 (F := Ideal) x from rfl, reference_1]
    refine congrArg₂ (fun a b : EReal => a * b) ?_ ?_
    · exact congrArg (hat x) (funext fun a => match a with | ⟨0, _⟩ => rfl | ⟨1, _⟩ => rfl)
    · exact congrArg g (funext fun a => match a with | ⟨0, _⟩ => rfl | ⟨1, _⟩ => rfl)
  · exact congrArg w (funext fun a => match a with | ⟨0, _⟩ => rfl | ⟨1, _⟩ => rfl)

end Reference

/-- The reference leaves its arguments and its counters. -/
theorem frame_reference : Cert.quiescent_MemKvFwdReferenceIdeal (hMemKvFwdReferenceIdeal := Cert.MemKvFwdReferenceIdeal.Gen.facts) :=
  fun m ρ _ => (θ_run Cert.MemKvFwdReferenceIdeal.defs _ _).mono (fun r h => ⟨fun c => (h c).2.2,
    sem_eq_zero_of_no_sems (by decide) r.2⟩) (Cert.MemKvFwdReferenceIdeal.Value.run (F := Ideal) m ρ)

/-- The kernel computes what the reference computes. -/
theorem value : Cert.algebraic_MemKvFwdIdeal_MemKvFwdReferenceIdeal (hMemKvFwdIdeal := Cert.MemKvFwdIdeal.Gen.facts)
    (hMemKvFwdReferenceIdeal := Cert.MemKvFwdReferenceIdeal.Gen.facts) := by
  intro m g m' g' _ hm
  refine ⟨fun c => kv (m ((c.tc : Thread nD τ).loc main_arg0)) (m ((c.tc : Thread nD τ).loc main_arg1)) (m ((c.tc : Thread nD τ).loc main_arg2)), fun c => hat (m ((c.tc : Thread nD τ).loc main_arg0)), ?_, ?_⟩
  · exact (θ_run defs _ _).mono (fun r h c => ⟨(h c).1.trans (arr3 m c), (h c).2.1.trans (arr4 m c), (h c).2.2⟩) (Cert.MemKvFwdIdeal.Value.run_blocks m g)
  · refine (θ_run Cert.MemKvFwdReferenceIdeal.defs _ _).mono (fun r h c => ⟨(h c).1.trans ?_, (h c).2.1.trans ?_, (h c).2.2⟩)
      (Cert.MemKvFwdReferenceIdeal.Value.run (F := Ideal) m' g')
    · rw [Cert.MemKvFwdReferenceIdeal.Read.val_main_v24_eq, (hm c).1, (hm c).2.1, (hm c).2.2]
      exact reference_0 _ _ _
    · rw [Cert.MemKvFwdReferenceIdeal.Read.val_main_v9_eq, (hm c).1]
      exact reference_1 _

end Cert.MemKvFwdIdeal.Norm

end
-- ==== Proof.Norms.MemFwd.lean ====
/-
  The memory's attention: one row against the memory's 256 positions, four heads a block, each written past its gate into the
  last columns of the mixed heads.
-/
module

public import proofs.«01_k».proof.Proof.Gen.MemFwdIdeal.Value
public import proofs.«01_k».proof.Proof.Gen.MemFwdIdeal
public import proofs.«01_k».proof.Proof.Gen.MemFwdReferenceIdeal
public import proofs.«01_k».proof.Proof.Gen.MemFwdReferenceIdeal.Run
public import proofs.«01_k».proof.Proof.Gen.MemFwdReferenceIdeal.Read
public import proofs.«01_k».proof.Proof.Norms.MemBwd

@[expose] public section

set_option maxRecDepth 16384

noncomputable section

namespace Cert.MemFwdIdeal.Norm

open Idealize.ShloMosaic Idealize.ShloMosaic.TcCoe Idealize.SL.Sem
open Cert.MemFwdIdeal Cert.MemFwdIdeal.Gen
open Cert.MemBwdIdeal.Norm (score peak num weight hd ln row keys vals Part part_of place aq ag col col_of scores)

theorem index_0 : ∀ t : Fin grid0.N, win0_0.index t = ![t.val, 6] := by decide +kernel
theorem index_1 : ∀ t : Fin grid0.N, win0_1.index t = ![0, 0] := by decide +kernel
theorem index_2 : ∀ t : Fin grid0.N, win0_2.index t = ![t.val, 5] := by decide +kernel
theorem index_3 : ∀ t : Fin grid0.N, win0_3.index t = ![t.val, 3] := by decide +kernel

/-- A row of a head past its gate. -/
def ro (q : Fin 128 → EReal) (k v : Fin 256 → Fin 128 → EReal) (g : Fin 128 → EReal) (x : Fin 128) : EReal :=
  (∑ j, weight (fun j => score q (k j)) j * v j x) * (g x * Ideal.logistic (g x))

section Payloads

variable (q : Vec Ideal S512x128 .bf16) (k v : Vec Ideal S256x128 .bf16) (g : Vec Ideal S512x128 .f32) (y : S512x128.Idx)

theorem arg_of : y = ix2 (y 0) (y 1) := funext fun n => match n with | ⟨0, _⟩ => rfl | ⟨1, _⟩ => rfl

/-- A row of a head's arrays. -/
def rv : EReal := ro (fun x => q (ix2 (y 0) x)) (fun j x => k (ix2 j x)) (fun j x => v (ix2 j x)) (fun x => g (ix2 (y 0) x)) (y 1)

theorem pay1_apply : k0_pay1 (F := Ideal) q k v g y = rv q k v g y := by
  pointwise [k0_pay1]
  rw [arg_of y]
  rfl

theorem pay2_apply : k0_pay2 (F := Ideal) q k v g y = rv q k v g y := by
  pointwise [k0_pay2]
  rw [arg_of y]
  rfl

theorem pay5_apply : k0_pay5 (F := Ideal) (k0_pay3 q k) (k0_pay4 q k) v g y = rv q k v g y := by
  pointwise [k0_pay5, k0_pay4, k0_pay3]
  rw [arg_of y]
  rfl

theorem pay6_apply : k0_pay6 (F := Ideal) q k v g y = rv q k v g y := by
  pointwise [k0_pay6]
  rw [arg_of y]
  rfl

end Payloads

/-- A row of a block of four heads. -/
def bo (b0 : S512x512.Idx → Elt Ideal .bf16) (b1 : S256x1024.Idx → Elt Ideal .bf16) (b2 : S512x512.Idx → Elt Ideal .f32) (s : Fin 512) (h : Fin 4) (x : Fin 128) : EReal :=
  ro (row b0 s h) (keys b1 h) (vals b1 h) (row b2 s h) x

theorem o_at {b0 : S512x512.Idx → Elt Ideal .bf16} {b1 : S256x1024.Idx → Elt Ideal .bf16} {b2 : S512x512.Idx → Elt Ideal .f32}
    {q : Vec Ideal S512x128 .bf16} {k v : Vec Ideal S256x128 .bf16} {g : Vec Ideal S512x128 .f32} {h : Fin 4} (p : Part b0 b1 b2 b2 q k v g g h)
    (x : S512x128.Idx) (y : S512x512.Idx) (h0 : (y 0).val = (x 0).val) (h1 : (y 1).val = 128 * h.val + (x 1).val) :
    rv q k v g x = bo b0 b1 b2 (y 0) (hd (y 1)) (ln (y 1)) := by
  obtain ⟨e1, e2⟩ := place h (y 1).val (x 1).val (y 1).isLt (x 1).isLt h1
  rw [show y 0 = x 0 from Fin.ext h0, show hd (y 1) = h from e1, show ln (y 1) = x 1 from e2]
  unfold rv bo
  congr 1
  exacts [funext (p.q _), funext fun j => funext (p.k j), funext fun j => funext (p.v j), funext (p.g _)]

variable (m : (ℓ : Loc nD τ sig) → Buf (Elt Ideal) ℓ) (c : Dev nD) (t : Fin cfg0.N)

theorem o_after (y : S512x512.Idx) : outsAt0 m c t y = bo (iblk m c 0 t) (iblk m c 1 t) (iblk m c 2 t) (y 0) (hd (y 1)) (ln (y 1)) := by
  unfold outsAt0
  frame_out
  canon_tiles x h
  · exact (pay1_apply _ _ _ _ x).trans (o_at (part_of _ _ _ _ 3 rfl rfl _ _ _) x y h0 h1)
  · exact (pay6_apply _ _ _ _ x).trans (o_at (part_of _ _ _ _ 2 rfl rfl _ _ _) x y h0 h1)
  · exact (pay5_apply _ _ _ _ x).trans (o_at (part_of _ _ _ _ 1 rfl rfl _ _ _) x y h0 h1)
  · exact (pay2_apply _ _ _ _ x).trans (o_at (part_of _ _ _ _ 0 rfl rfl _ _ _) x y h0 (h1.trans (Nat.zero_add _).symm))

/-- The mixed heads with the memory's columns filled in. -/
def outY (x0 : FVec Ideal S8192x3584 .bf16) (x1 : FVec Ideal S8192x3584 .f32) (x2 : FVec Ideal S256x1024 .bf16) (x3 : FVec Ideal S8192x2048 .bf16) :
    FVec Ideal S8192x2048 .bf16 := fun i =>
  if 1536 ≤ (i 1).val then
    let u : Fin 512 := ⟨(i 1).val - 1536, by have h : (i 1).val < 2048 := (i 1).isLt; omega⟩
    ro (aq x0 (i 0) (hd u)) (keys x2 (hd u)) (vals x2 (hd u)) (ag x1 (i 0) (hd u)) (ln u)
  else x3 i

theorem rows_q (s : Fin 512) (r : Fin 8192) (hr : r.val = 512 * t.val + s.val) (h : Fin 4) :
    row (iblk m c 0 t) s h = aq (m ((c : Thread nD τ).loc main_arg0)) r h := funext fun x => by
  show V m c main_arg0 _ = m ((c : Thread nD τ).loc main_arg0) _
  rw [V_main_arg0]
  refine congrArg (m ((c : Thread nD τ).loc main_arg0)) ?_
  blk_ext [iblk, index_0, hr]

theorem rows_g (s : Fin 512) (r : Fin 8192) (hr : r.val = 512 * t.val + s.val) (h : Fin 4) :
    row (iblk m c 2 t) s h = ag (m ((c : Thread nD τ).loc main_arg1)) r h := funext fun x => by
  show V m c main_arg1 _ = m ((c : Thread nD τ).loc main_arg1) _
  rw [V_main_arg1]
  refine congrArg (m ((c : Thread nD τ).loc main_arg1)) ?_
  blk_ext [iblk, index_2, hr]

theorem mem_kv : iblk m c 1 t = m ((c : Thread nD τ).loc main_arg2) := funext fun y => by
  show V m c main_arg2 _ = m ((c : Thread nD τ).loc main_arg2) _
  rw [V_main_arg2]
  refine congrArg (m ((c : Thread nD τ).loc main_arg2)) ?_
  blk_ext [iblk, index_1]

theorem o_row (s : Fin 512) (r : Fin 8192) (hr : r.val = 512 * t.val + s.val) (a b : Fin 512) (hb : b.val = a.val) :
    bo (iblk m c 0 t) (iblk m c 1 t) (iblk m c 2 t) s (hd a) (ln a)
      = ro (aq (m ((c : Thread nD τ).loc main_arg0)) r (hd b)) (keys (m ((c : Thread nD τ).loc main_arg2)) (hd b)) (vals (m ((c : Thread nD τ).loc main_arg2)) (hd b))
        (ag (m ((c : Thread nD τ).loc main_arg1)) r (hd b)) (ln b) := by
  obtain rfl : b = a := Fin.ext hb
  unfold bo
  rw [rows_q m c t s r hr, rows_g m c t s r hr, mem_kv m c t]

theorem host_y : V m c main_v0 = m ((c : Thread nD τ).loc main_arg3) := by
  after_reads_simp
  all_goals try simp -implicitDefEqProofs only [StableHlo.TRef.toBuf, StableHlo.TRef.ofBuf, cast_cast, cast_eq]
  rfl

theorem arr3 : (dats m 0 c).arrAt 3 cfg0.N = outY (m ((c : Thread nD τ).loc main_arg0)) (m ((c : Thread nD τ).loc main_arg1))
    (m ((c : Thread nD τ).loc main_arg2)) (m ((c : Thread nD τ).loc main_arg3)) := by
  refine (dats m 0 c).arrAt_eq_of_coversWhere_of_agree 3 _ (fun β => 3 ≤ β (1 : Fin 2) ∧ β (1 : Fin 2) < 4) (by decide +kernel) (fun t hf y => ?_) (fun j hj => ?_)
  · blk_simp
    rw [after0_3]
    refine (o_after m c t _).trans (Eq.trans (o_row m c t _ _ ?_ _ _ ?_) (if_pos ?_).symm)
    · blk_simp [index_3 t]
      omega
    · blk_simp [index_3 t]
      dsimp only
      omega
    · blk_simp [index_3 t]
      omega
  · blk_simp [Pipeline.Window.cell_apply] at hj
    show V m c main_v0 j = outY _ _ _ _ j
    rw [host_y]
    have h : (j 1).val < 2048 := (j 1).isLt
    exact (if_neg (show ¬ 1536 ≤ (j 1).val from fun h => hj (by omega))).symm

section Reference

open Cert.MemFwdReferenceIdeal.Read

variable (x0 : FVec Ideal S8192x3584 .bf16) (x1 : FVec Ideal S8192x3584 .f32) (x2 : FVec Ideal S256x1024 .bf16) (x3 : FVec Ideal S8192x2048 .bf16)

/-- The rows before the gate are those of which the gradient is taken. -/
theorem same_rows : val_main_v24 (F := Ideal) x0 x2 = Cert.MemBwdReferenceIdeal.Read.val_main_v42 (F := Ideal) x0 x2 := rfl

theorem same_gate : val_main_v26 (F := Ideal) x1 = Cert.MemBwdReferenceIdeal.Read.val_main_v43_0 (F := Ideal) x1 := rfl

theorem past_at (r : Fin 8192) (h : Fin 4) (x : Fin 128) : val_main_v29 (F := Ideal) x0 x1 x2 (ix2 r (col h x))
    = ro (aq x0 r h) (keys x2 h) (vals x2 h) (ag x1 r h) x := by
  rw [val_main_v29_apply, Ideal.truncf_def, val_main_v27_apply, same_rows, same_gate, Cert.MemBwdReferenceIdeal.Read.val_main_v43_0_apply,
    Cert.MemBwdIdeal.Norm.out_at, Cert.MemBwdIdeal.Norm.logistic_at, Cert.MemBwdIdeal.Norm.gate_at]
  rfl

theorem reference_y : val_main_v30 (F := Ideal) x0 x1 x2 x3 = outY x0 x1 x2 x3 := by
  funext i
  unfold val_main_v30 outY
  pointwise []
  by_cases h : (i 1).val < 1536
  · rw [dif_pos h, if_neg (not_le.mpr h), val_main_v28_apply]
    exact congrArg x3 (funext fun n => match n with | ⟨0, _⟩ => rfl | ⟨1, _⟩ => rfl)
  · rw [dif_neg h, if_pos (not_lt.mp h)]
    exact (congrArg _ (funext fun n => match n with | ⟨0, _⟩ => rfl | ⟨1, _⟩ => col_of _)).trans (past_at x0 x1 x2 (i 0) _ _)

end Reference

/-- The reference leaves its arguments and its counters. -/
theorem frame_reference : Cert.quiescent_MemFwdReferenceIdeal (hMemFwdReferenceIdeal := Cert.MemFwdReferenceIdeal.Gen.facts) :=
  fun m ρ _ => (θ_run Cert.MemFwdReferenceIdeal.defs _ _).mono (fun r h => ⟨fun c => (h c).2,
    sem_eq_zero_of_no_sems (by decide) r.2⟩) (Cert.MemFwdReferenceIdeal.Value.run (F := Ideal) m ρ)

/-- The kernel computes what the reference computes. -/
theorem value : Cert.algebraic_MemFwdIdeal_MemFwdReferenceIdeal (hMemFwdIdeal := Cert.MemFwdIdeal.Gen.facts)
    (hMemFwdReferenceIdeal := Cert.MemFwdReferenceIdeal.Gen.facts) := by
  intro m g m' g' _ hm
  refine ⟨fun c => outY (m ((c.tc : Thread nD τ).loc main_arg0)) (m ((c.tc : Thread nD τ).loc main_arg1)) (m ((c.tc : Thread nD τ).loc main_arg2))
    (m ((c.tc : Thread nD τ).loc main_arg3)), ?_, ?_⟩
  · exact (θ_run defs _ _).mono (fun r h c => ⟨(h c).1.trans (arr3 m c), (h c).2⟩) (Cert.MemFwdIdeal.Value.run_blocks m g)
  · refine (θ_run Cert.MemFwdReferenceIdeal.defs _ _).mono (fun r h c => ⟨(h c).1.trans ?_, (h c).2⟩) (Cert.MemFwdReferenceIdeal.Value.run (F := Ideal) m' g')
    rw [Cert.MemFwdReferenceIdeal.Read.val_main_v30_eq, (hm c).1, (hm c).2.1, (hm c).2.2.1, (hm c).2.2.2]
    exact reference_y _ _ _ _

end Cert.MemFwdIdeal.Norm

end
-- ==== Proof.lean ====
/-
  The claims about the gradient of the forgetting attention, about the seven products of the layer and about the further
  calls of the backward and of the forward pass, assembled: the frames of each kernel, of its idealised reading and of its reference; the
  named constant; and the equations of the results.
-/
module

public import proofs.«01_k».proof.Proof.FoxValue.Arrays
public import proofs.«01_k».proof.Defs
public import proofs.«01_k».proof.Proof.FoxBwd.Region
public import proofs.«01_k».proof.Proof.FoxBwdBits.Region
public import proofs.«01_k».proof.Proof.Gen.Kernel
public import proofs.«01_k».proof.Proof.Gen.KernelIdeal
public import proofs.«01_k».proof.Proof.Gen.GwIn.Frame
public import proofs.«01_k».proof.Proof.Gen.GwIn
public import proofs.«01_k».proof.Proof.Gen.GwInIdeal.Frame
public import proofs.«01_k».proof.Proof.Products.GwIn
public import proofs.«01_k».proof.Proof.Gen.DH.Frame
public import proofs.«01_k».proof.Proof.Gen.DH
public import proofs.«01_k».proof.Proof.Gen.DHIdeal.Frame
public import proofs.«01_k».proof.Proof.Products.DH
public import proofs.«01_k».proof.Proof.Gen.GwOut.Frame
public import proofs.«01_k».proof.Proof.Gen.GwOut
public import proofs.«01_k».proof.Proof.Gen.GwOutIdeal.Frame
public import proofs.«01_k».proof.Proof.Products.GwOut
public import proofs.«01_k».proof.Proof.Gen.DY.Frame
public import proofs.«01_k».proof.Proof.Gen.DY
public import proofs.«01_k».proof.Proof.Gen.DYIdeal.Frame
public import proofs.«01_k».proof.Proof.Products.DY
public import proofs.«01_k».proof.Proof.Gen.ProjF.Frame
public import proofs.«01_k».proof.Proof.Gen.ProjF
public import proofs.«01_k».proof.Proof.Gen.ProjFIdeal.Frame
public import proofs.«01_k».proof.Proof.Products.ProjF
public import proofs.«01_k».proof.Proof.Gen.ProjB.Frame
public import proofs.«01_k».proof.Proof.Gen.ProjB
public import proofs.«01_k».proof.Proof.Gen.ProjBIdeal.Frame
public import proofs.«01_k».proof.Proof.Products.ProjB
public import proofs.«01_k».proof.Proof.Gen.OutProj.Frame
public import proofs.«01_k».proof.Proof.Gen.OutProj
public import proofs.«01_k».proof.Proof.Gen.OutProjIdeal.Frame
public import proofs.«01_k».proof.Proof.Products.OutProj
public import proofs.«01_k».proof.Proof.Gen.RmsBwd.Frame
public import proofs.«01_k».proof.Proof.Gen.RmsBwd
public import proofs.«01_k».proof.Proof.Gen.RmsBwdIdeal.Frame
public import proofs.«01_k».proof.Proof.Norms.RmsBwd
public import proofs.«01_k».proof.Proof.Gen.MemKvBwd.Frame
public import proofs.«01_k».proof.Proof.Gen.MemKvBwd
public import proofs.«01_k».proof.Proof.Gen.MemKvBwdIdeal.Frame
public import proofs.«01_k».proof.Proof.Norms.MemKvBwd
public import proofs.«01_k».proof.Proof.Gen.MemBwd.Frame
public import proofs.«01_k».proof.Proof.Gen.MemBwd
public import proofs.«01_k».proof.Proof.Gen.MemBwdIdeal.Frame
public import proofs.«01_k».proof.Proof.Norms.MemBwd
public import proofs.«01_k».proof.Proof.Gen.Prep.Frame
public import proofs.«01_k».proof.Proof.Gen.Prep
public import proofs.«01_k».proof.Proof.Gen.PrepIdeal.Frame
public import proofs.«01_k».proof.Proof.Norms.Prep
public import proofs.«01_k».proof.Proof.Gen.MemFwd.Frame
public import proofs.«01_k».proof.Proof.Gen.MemFwd
public import proofs.«01_k».proof.Proof.Gen.MemFwdIdeal.Frame
public import proofs.«01_k».proof.Proof.Gen.RmsFwd.Frame
public import proofs.«01_k».proof.Proof.Gen.RmsFwd
public import proofs.«01_k».proof.Proof.Gen.RmsFwdIdeal.Frame
public import proofs.«01_k».proof.Proof.Norms.RmsFwd
public import proofs.«01_k».proof.Proof.Gen.MemKvFwd.Frame
public import proofs.«01_k».proof.Proof.Gen.MemKvFwd
public import proofs.«01_k».proof.Proof.Gen.MemKvFwdIdeal.Frame
public import proofs.«01_k».proof.Proof.Norms.MemKvFwd
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Norms.MemFwd

@[expose] public section

noncomputable section

namespace Cert.Proof

open Idealize.ShloMosaic Idealize.SL.Sem

/-- The reference leaves its arguments and its counters. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2.2.2,
    sem_eq_zero_of_no_sems (by decide) r.2⟩) (Cert.ReferenceIdeal.Value.run (F := Ideal) m ρ)

/-- Of finite arguments the kernel computes what the reference computes. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hm
  have hx := fun c => Cert.Fox.finite_of_pre (hp c)
  refine ⟨Cert.KernelIdeal.Fox.refQ m, Cert.KernelIdeal.Fox.refK m, Cert.KernelIdeal.Fox.refV m, Cert.KernelIdeal.Fox.refR m, ?_, ?_⟩
  · exact Cert.KernelIdeal.Fox.run_value m g hx
  · refine (θ_run Cert.ReferenceIdeal.defs _ _).mono (fun r h c => ⟨(h c).1.trans ?_, (h c).2.1.trans ?_, (h c).2.2.1.trans ?_, (h c).2.2.2.1.trans ?_, (h c).2.2.2.2⟩)
      (Cert.ReferenceIdeal.Value.run (F := Ideal) m' g')
    · rw [Cert.ReferenceIdeal.Read.val_main_v93_eq, (hm c).1, (hm c).2.1, (hm c).2.2]; rfl
    · rw [Cert.ReferenceIdeal.Read.val_main_v95_eq, (hm c).1, (hm c).2.1, (hm c).2.2]; rfl
    · rw [Cert.ReferenceIdeal.Read.val_main_v97_eq, (hm c).1, (hm c).2.1, (hm c).2.2]; rfl
    · rw [Cert.ReferenceIdeal.Read.val_main_v91_eq, (hm c).1, (hm c).2.1, (hm c).2.2]; rfl

theorem claim : Cert.Claim :=
  ⟨Cert.Kernel.Gen.facts, Cert.KernelIdeal.Gen.facts, Cert.ReferenceIdeal.Gen.facts,
    Cert.GwIn.Gen.facts, Cert.GwInIdeal.Gen.facts, Cert.GwInReferenceIdeal.Gen.facts,
    Cert.DH.Gen.facts, Cert.DHIdeal.Gen.facts, Cert.DHReferenceIdeal.Gen.facts,
    Cert.GwOut.Gen.facts, Cert.GwOutIdeal.Gen.facts, Cert.GwOutReferenceIdeal.Gen.facts,
    Cert.DY.Gen.facts, Cert.DYIdeal.Gen.facts, Cert.DYReferenceIdeal.Gen.facts,
    Cert.ProjF.Gen.facts, Cert.ProjFIdeal.Gen.facts, Cert.ProjFReferenceIdeal.Gen.facts,
    Cert.ProjB.Gen.facts, Cert.ProjBIdeal.Gen.facts, Cert.ProjBReferenceIdeal.Gen.facts,
    Cert.OutProj.Gen.facts, Cert.OutProjIdeal.Gen.facts, Cert.OutProjReferenceIdeal.Gen.facts,
    Cert.RmsBwd.Gen.facts, Cert.RmsBwdIdeal.Gen.facts, Cert.RmsBwdReferenceIdeal.Gen.facts,
    Cert.MemKvBwd.Gen.facts, Cert.MemKvBwdIdeal.Gen.facts, Cert.MemKvBwdReferenceIdeal.Gen.facts,
    Cert.MemBwd.Gen.facts, Cert.MemBwdIdeal.Gen.facts, Cert.MemBwdReferenceIdeal.Gen.facts,
    Cert.Prep.Gen.facts, Cert.PrepIdeal.Gen.facts, Cert.PrepReferenceIdeal.Gen.facts,
    Cert.MemFwd.Gen.facts, Cert.MemFwdIdeal.Gen.facts, Cert.MemFwdReferenceIdeal.Gen.facts,
    Cert.RmsFwd.Gen.facts, Cert.RmsFwdIdeal.Gen.facts, Cert.RmsFwdReferenceIdeal.Gen.facts,
    Cert.MemKvFwd.Gen.facts, Cert.MemKvFwdIdeal.Gen.facts, Cert.MemKvFwdReferenceIdeal.Gen.facts,
    Cert.Pre_finite.Gen.facts, Cert.Pre_finite_mem.Gen.facts, Cert.Pre_finite_prep.Gen.facts,
    fun m ρ _ => Cert.Kernel.Fox.frame_main m ρ, fun m ρ _ => Cert.KernelIdeal.Fox.frame_main m ρ,
    fun m ρ _ => Cert.KernelIdeal.Fox.frame_main m ρ,
    fun m ρ _ => frame_reference m ρ, fun m ρ _ => frame_reference m ρ,
    fun m ρ _ => Cert.GwIn.Gen.frame m ρ, fun m ρ _ => Cert.GwInIdeal.Gen.frame m ρ, Cert.GwInIdeal.Product.frame_reference,
    fun m ρ _ => Cert.DH.Gen.frame m ρ, fun m ρ _ => Cert.DHIdeal.Gen.frame m ρ, Cert.DHIdeal.Product.frame_reference,
    fun m ρ _ => Cert.GwOut.Gen.frame m ρ, fun m ρ _ => Cert.GwOutIdeal.Gen.frame m ρ, Cert.GwOutIdeal.Product.frame_reference,
    fun m ρ _ => Cert.DY.Gen.frame m ρ, fun m ρ _ => Cert.DYIdeal.Gen.frame m ρ, Cert.DYIdeal.Product.frame_reference,
    fun m ρ _ => Cert.ProjF.Gen.frame m ρ, fun m ρ _ => Cert.ProjFIdeal.Gen.frame m ρ, Cert.ProjFIdeal.Product.frame_reference,
    fun m ρ _ => Cert.ProjB.Gen.frame m ρ, fun m ρ _ => Cert.ProjBIdeal.Gen.frame m ρ, Cert.ProjBIdeal.Product.frame_reference,
    fun m ρ _ => Cert.OutProj.Gen.frame m ρ, fun m ρ _ => Cert.OutProjIdeal.Gen.frame m ρ, Cert.OutProjIdeal.Product.frame_reference,
    fun m ρ _ => Cert.RmsBwd.Gen.frame m ρ, fun m ρ _ => Cert.RmsBwdIdeal.Gen.frame m ρ, Cert.RmsBwdIdeal.Norm.frame_reference,
    fun m ρ _ => Cert.MemKvBwd.Gen.frame m ρ, fun m ρ _ => Cert.MemKvBwdIdeal.Gen.frame m ρ, Cert.MemKvBwdIdeal.Norm.frame_reference,
    fun m ρ _ => Cert.MemBwd.Gen.frame m ρ, fun m ρ _ => Cert.MemBwdIdeal.Gen.frame m ρ, fun m ρ _ => Cert.MemBwdIdeal.Gen.frame m ρ,
    Cert.MemBwdIdeal.Norm.frame_reference, fun m ρ _ => Cert.MemBwdIdeal.Norm.frame_reference m ρ trivial,
    fun m ρ _ => Cert.Prep.Gen.frame m ρ, fun m ρ _ => Cert.PrepIdeal.Gen.frame m ρ, fun m ρ _ => Cert.PrepIdeal.Gen.frame m ρ,
    Cert.PrepIdeal.Norm.frame_reference, fun m ρ _ => Cert.PrepIdeal.Norm.frame_reference m ρ trivial,
    fun m ρ _ => Cert.MemFwd.Gen.frame m ρ, fun m ρ _ => Cert.MemFwdIdeal.Gen.frame m ρ, Cert.MemFwdIdeal.Norm.frame_reference,
    fun m ρ _ => Cert.RmsFwd.Gen.frame m ρ, fun m ρ _ => Cert.RmsFwdIdeal.Gen.frame m ρ, Cert.RmsFwdIdeal.Norm.frame_reference,
    fun m ρ _ => Cert.MemKvFwd.Gen.frame m ρ, fun m ρ _ => Cert.MemKvFwdIdeal.Gen.frame m ρ, Cert.MemKvFwdIdeal.Norm.frame_reference,
    IdealRules.named_const.statement Cert.KernelIdeal.κ "mask" .f32 0xF149F2CA#32 ⊥ rfl, value,
    trivial, Cert.GwInIdeal.Product.value,
    trivial, Cert.DHIdeal.Product.value,
    trivial, Cert.GwOutIdeal.Product.value,
    trivial, Cert.DYIdeal.Product.value,
    trivial, Cert.ProjFIdeal.Product.value,
    trivial, Cert.ProjBIdeal.Product.value,
    trivial, Cert.OutProjIdeal.Product.value,
    trivial, Cert.RmsBwdIdeal.Norm.value,
    trivial, Cert.MemKvBwdIdeal.Norm.value,
    trivial, Cert.MemBwdIdeal.Norm.value,
    trivial, Cert.PrepIdeal.Norm.value,
    trivial, Cert.MemFwdIdeal.Norm.value,
    trivial, Cert.RmsFwdIdeal.Norm.value,
    trivial, Cert.MemKvFwdIdeal.Norm.value⟩

end Cert.Proof

end
